-- ==== Defs.lean ====
def Pre_Kernel [hPre_batches_exist : Cert.Pre_batches_exist.Facts] (m : (ℓ : Loc Cert.Kernel.nD Cert.Kernel.τ Cert.Kernel.sig) → Buf (Elt Bits) ℓ) : Prop :=
  ∀ c : Dev Cert.Kernel.nD,
    (Cert.Pre_batches_exist.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_batches_exist : Cert.Pre_batches_exist.Facts] (m : (ℓ : Loc Cert.KernelIdeal.nD Cert.KernelIdeal.τ Cert.KernelIdeal.sig) → Buf (Elt Ideal) ℓ) : Prop :=
  ∀ c : Dev Cert.KernelIdeal.nD,
    (Cert.Pre_batches_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rois_fit [hPre_rois_fit : Cert.Pre_rois_fit.Facts] (m : (ℓ : Loc Cert.KernelIdeal.nD Cert.KernelIdeal.τ Cert.KernelIdeal.sig) → Buf (Elt Ideal) ℓ) : Prop :=
  ∀ c : Dev Cert.KernelIdeal.nD,
    (Cert.Pre_rois_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rois_fit [hPre_rois_fit : Cert.Pre_rois_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_batches_exist : Cert.Pre_batches_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_batches_exist : Cert.Pre_batches_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rois_fit [hKernelIdeal : Cert.KernelIdeal.Facts] [hPre_rois_fit : Cert.Pre_rois_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rois_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rois_fit [hReferenceIdeal : Cert.ReferenceIdeal.Facts] [hPre_rois_fit : Cert.Pre_rois_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rois_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rois_fit [hKernelIdeal : Cert.KernelIdeal.Facts] [hReferenceIdeal : Cert.ReferenceIdeal.Facts] [hPre_rois_fit : Cert.Pre_rois_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rois_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v151)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v151) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_batches_exist : Cert.Pre_batches_exist.Facts) (hPre_rois_fit : Cert.Pre_rois_fit.Facts),
    quiescent_Kernel (hKernel := hKernel) (hPre_batches_exist := hPre_batches_exist)
    ∧ quiescent_KernelIdeal (hKernelIdeal := hKernelIdeal) (hPre_batches_exist := hPre_batches_exist)
    ∧ quiescent_KernelIdeal_pre_rois_fit (hKernelIdeal := hKernelIdeal) (hPre_rois_fit := hPre_rois_fit)
    ∧ quiescent_ReferenceIdeal (hReferenceIdeal := hReferenceIdeal)
    ∧ quiescent_ReferenceIdeal_pre_rois_fit (hReferenceIdeal := hReferenceIdeal) (hPre_rois_fit := hPre_rois_fit)
    ∧ preserves_Kernel_KernelIdeal
    ∧ algebraic_KernelIdeal_ReferenceIdeal_pre_rois_fit (hKernelIdeal := hKernelIdeal) (hReferenceIdeal := hReferenceIdeal) (hPre_rois_fit := hPre_rois_fit)
-- ==== Pre_batches_exist.lean ====
abbrev S2x256x30x40 : Shape := ⟨4, ![2, 256, 30, 40]⟩
abbrev S256x5 : Shape := ⟨2, ![256, 5]⟩
abbrev S256x1 : Shape := ⟨2, ![256, 1]⟩
abbrev S256 : Shape := ⟨1, ![256]⟩
abbrev S_ : Shape := ⟨0, ![]⟩

class Facts : Prop where
  slices_S256x5_S256x1_0_0 : S256x5.Slices ![0, 0] S256x1
  shapeCasts_S256x1_S256 : S256x1.ShapeCasts S256
  bcast_S_S256 : S_.BroadcastsInDim S256 (![] : Fin 0 → Fin S256.rank)

variable [Facts]

def fn {F : FTy → Type} [FloatOps F] (main_arg0 : FVec F S2x256x30x40 .f32) (main_arg1 : FVec F S256x5 .f32) : IVec S256 1 :=
  let main_v0 : FVec F S256x1 .f32 := (extractStridedSlice S256x1 ![0, 0] · slices_S256x5_S256x1_0_0) main_arg1
  let main_v1 : FVec F S256 .f32 := shapeCast S256 main_v0 shapeCasts_S256x1_S256
  let main_v2 : IVec S256 32 := fptosi 32 main_v1
  let main_c : IVec S_ 32 := constantI S_ 32 0#32
  let main_v3 : IVec S256 32 := broadcastInDim S256 ![] bcast_S_S256 main_c
  let main_v4 : IVec S256 1 := cmpi .sge main_v2 main_v3
  let main_c_0 : IVec S_ 32 := constantI S_ 32 2#32
  let main_v5 : IVec S256 32 := broadcastInDim S256 ![] bcast_S_S256 main_c_0
  let main_v6 : IVec S256 1 := cmpi .slt main_v2 main_v5
  let main_v7 : IVec S256 1 := andi main_v4 main_v6
  main_v7
-- ==== Pre_rois_fit.lean ====
abbrev S2x256x30x40 : Shape := ⟨4, ![2, 256, 30, 40]⟩
abbrev S256x5 : Shape := ⟨2, ![256, 5]⟩
abbrev S256x1 : Shape := ⟨2, ![256, 1]⟩
abbrev S256 : Shape := ⟨1, ![256]⟩
abbrev S_ : Shape := ⟨0, ![]⟩

class Facts : Prop where
  slices_S256x5_S256x1_0_0 : S256x5.Slices ![0, 0] S256x1
  shapeCasts_S256x1_S256 : S256x1.ShapeCasts S256
  slices_S256x5_S256x1_0_3 : S256x5.Slices ![0, 3] S256x1
  bcast_S_S256 : S_.BroadcastsInDim S256 (![] : Fin 0 → Fin S256.rank)
  slices_S256x5_S256x1_0_1 : S256x5.Slices ![0, 1] S256x1
  slices_S256x5_S256x1_0_4 : S256x5.Slices ![0, 4] S256x1
  slices_S256x5_S256x1_0_2 : S256x5.Slices ![0, 2] S256x1
  bcast_S_S2x256x30x40 : S_.BroadcastsInDim S2x256x30x40 (![] : Fin 0 → Fin S2x256x30x40.rank)
  reducesTo_S256_S_d0 : S256.ReducesTo [0] S_
  h_S_ : 0 < S_.numel
  reducesTo_S2x256x30x40_S_d0_1_2_3 : S2x256x30x40.ReducesTo [0, 1, 2, 3] S_

variable [Facts]

def fn_round {F : FTy → Type} [FloatOps F] (arg0 : FVec F S256 .f32) : FVec F S256 .f32 :=
  let v0 : FVec F S256 .f32 := Host.roundeven arg0
  v0

def fn_part2 {F : FTy → Type} [FloatOps F] (main_arg0 : FVec F S2x256x30x40 .f32) (main_v35 : IVec S256 1) (main_v37 : IVec S2x256x30x40 1) (main_cst_7 : FVec F S_ .f32) : IVec S_ 1 :=
  let main_v38 : FVec F S2x256x30x40 .f32 := broadcastInDim S2x256x30x40 ![] bcast_S_S2x256x30x40 main_cst_7
  let main_v39 : IVec S2x256x30x40 1 := cmpf .olt main_arg0 main_v38
  let main_v40 : IVec S2x256x30x40 1 := andi main_v37 main_v39
  let main_c_8 : IVec S_ 1 := constantI S_ 1 1#1
  let main_v41 : IVec S_ 1 := (fun x v => Host.reduce IntOp.andi x v reducesTo_S256_S_d0 h_S_) main_v35 main_c_8
  let main_c_9 : IVec S_ 1 := constantI S_ 1 1#1
  let main_v42 : IVec S_ 1 := (fun x v => Host.reduce IntOp.andi x v reducesTo_S2x256x30x40_S_d0_1_2_3 h_S_) main_v40 main_c_9
  let main_v43 : IVec S_ 1 := andi main_v41 main_v42
  main_v43

def fn_part1 {F : FTy → Type} [FloatOps F] (main_arg0 : FVec F S2x256x30x40 .f32) (main_v2 : IVec S256 32) (main_v13 : FVec F S256 .f32) (main_v18 : FVec F S256 .f32) (main_v20 : FVec F S256 .f32) : IVec S_ 1 :=
  let main_cst_2 : FVec F S_ .f32 := constant S_ .f32 0x3D800000#32
  let main_v21 : FVec F S256 .f32 := broadcastInDim S256 ![] bcast_S_S256 main_cst_2
  let main_v22 : FVec F S256 .f32 := mulf main_v20 main_v21
  let main_v23 : FVec F S256 .f32 := fn_round (F := F) main_v22
  let main_v24 : FVec F S256 .f32 := subf main_v18 main_v23
  let main_c : IVec S_ 32 := constantI S_ 32 0#32
  let main_v25 : IVec S256 32 := broadcastInDim S256 ![] bcast_S_S256 main_c
  let main_v26 : IVec S256 1 := cmpi .sge main_v2 main_v25
  let main_c_3 : IVec S_ 32 := constantI S_ 32 2#32
  let main_v27 : IVec S256 32 := broadcastInDim S256 ![] bcast_S_S256 main_c_3
  let main_v28 : IVec S256 1 := cmpi .slt main_v2 main_v27
  let main_v29 : IVec S256 1 := andi main_v26 main_v28
  let main_cst_4 : FVec F S_ .f32 := constant S_ .f32 0x41800000#32
  let main_v30 : FVec F S256 .f32 := broadcastInDim S256 ![] bcast_S_S256 main_cst_4
  let main_v31 : IVec S256 1 := cmpf .ole main_v13 main_v30
  let main_v32 : IVec S256 1 := andi main_v29 main_v31
  let main_cst_5 : FVec F S_ .f32 := constant S_ .f32 0x41A80000#32
  let main_v33 : FVec F S256 .f32 := broadcastInDim S256 ![] bcast_S_S256 main_cst_5
  let main_v34 : IVec S256 1 := cmpf .ole main_v24 main_v33
  let main_v35 : IVec S256 1 := andi main_v32 main_v34
  let main_cst_6 : FVec F S_ .f32 := constant S_ .f32 0xFCF0BDC2#32
  let main_v36 : FVec F S2x256x30x40 .f32 := broadcastInDim S2x256x30x40 ![] bcast_S_S2x256x30x40 main_cst_6
  let main_v37 : IVec S2x256x30x40 1 := cmpf .ogt main_arg0 main_v36
  let main_cst_7 : FVec F S_ .f32 := constant S_ .f32 0x7F800000#32
  fn_part2 (F := F) main_arg0 main_v35 main_v37 main_cst_7

def fn {F : FTy → Type} [FloatOps F] (main_arg0 : FVec F S2x256x30x40 .f32) (main_arg1 : FVec F S256x5 .f32) : IVec S_ 1 :=
  let main_v0 : FVec F S256x1 .f32 := (extractStridedSlice S256x1 ![0, 0] · slices_S256x5_S256x1_0_0) main_arg1
  let main_v1 : FVec F S256 .f32 := shapeCast S256 main_v0 shapeCasts_S256x1_S256
  let main_v2 : IVec S256 32 := fptosi 32 main_v1
  let main_v3 : FVec F S256x1 .f32 := (extractStridedSlice S256x1 ![0, 3] · slices_S256x5_S256x1_0_3) main_arg1
  let main_v4 : FVec F S256 .f32 := shapeCast S256 main_v3 shapeCasts_S256x1_S256
  let main_cst : FVec F S_ .f32 := constant S_ .f32 0x3D800000#32
  let main_v5 : FVec F S256 .f32 := broadcastInDim S256 ![] bcast_S_S256 main_cst
  let main_v6 : FVec F S256 .f32 := mulf main_v4 main_v5
  let main_v7 : FVec F S256 .f32 := fn_round (F := F) main_v6
  let main_v8 : FVec F S256x1 .f32 := (extractStridedSlice S256x1 ![0, 1] · slices_S256x5_S256x1_0_1) main_arg1
  let main_v9 : FVec F S256 .f32 := shapeCast S256 main_v8 shapeCasts_S256x1_S256
  let main_cst_0 : FVec F S_ .f32 := constant S_ .f32 0x3D800000#32
  let main_v10 : FVec F S256 .f32 := broadcastInDim S256 ![] bcast_S_S256 main_cst_0
  let main_v11 : FVec F S256 .f32 := mulf main_v9 main_v10
  let main_v12 : FVec F S256 .f32 := fn_round (F := F) main_v11
  let main_v13 : FVec F S256 .f32 := subf main_v7 main_v12
  let main_v14 : FVec F S256x1 .f32 := (extractStridedSlice S256x1 ![0, 4] · slices_S256x5_S256x1_0_4) main_arg1
  let main_v15 : FVec F S256 .f32 := shapeCast S256 main_v14 shapeCasts_S256x1_S256
  let main_cst_1 : FVec F S_ .f32 := constant S_ .f32 0x3D800000#32
  let main_v16 : FVec F S256 .f32 := broadcastInDim S256 ![] bcast_S_S256 main_cst_1
  let main_v17 : FVec F S256 .f32 := mulf main_v15 main_v16
  let main_v18 : FVec F S256 .f32 := fn_round (F := F) main_v17
  let main_v19 : FVec F S256x1 .f32 := (extractStridedSlice S256x1 ![0, 2] · slices_S256x5_S256x1_0_2) main_arg1
  let main_v20 : FVec F S256 .f32 := shapeCast S256 main_v19 shapeCasts_S256x1_S256
  fn_part1 (F := F) main_arg0 main_v2 main_v13 main_v18 main_v20
-- ==== Kernel.lean ====
abbrev S2x256x30x40 : Shape := ⟨4, ![2, 256, 30, 40]⟩
abbrev S256x5 : Shape := ⟨2, ![256, 5]⟩
abbrev S2x30x40x256 : Shape := ⟨4, ![2, 30, 40, 256]⟩
abbrev S256x1 : Shape := ⟨2, ![256, 1]⟩
abbrev S256 : Shape := ⟨1, ![256]⟩
abbrev S_ : Shape := ⟨0, ![]⟩
abbrev S7 : Shape := ⟨1, ![7]⟩
abbrev S1x7 : Shape := ⟨2, ![1, 7]⟩
abbrev S256x7 : Shape := ⟨2, ![256, 7]⟩
abbrev S32 : Shape := ⟨1, ![32]⟩
abbrev S32x1 : Shape := ⟨2, ![32, 1]⟩
abbrev S256x32 : Shape := ⟨2, ![256, 32]⟩
abbrev S1x32 : Shape := ⟨2, ![1, 32]⟩
abbrev S256x32x1 : Shape := ⟨3, ![256, 32, 1]⟩
abbrev S24 : Shape := ⟨1, ![24]⟩
abbrev S1x1x24 : Shape := ⟨3, ![1, 1, 24]⟩
abbrev S256x32x24 : Shape := ⟨3, ![256, 32, 24]⟩
abbrev S1792 : Shape := ⟨1, ![1792]⟩
abbrev S256x49x256 : Shape := ⟨3, ![256, 49, 256]⟩
abbrev S32x32x24 : Shape := ⟨3, ![32, 32, 24]⟩
abbrev S32x49x256 : Shape := ⟨3, ![32, 49, 256]⟩
abbrev S4x1x1 : Shape := ⟨3, ![4, 1, 1]⟩
abbrev S1 : Shape := ⟨1, ![1]⟩
abbrev S1x32x24 : Shape := ⟨3, ![1, 32, 24]⟩
abbrev S32x24 : Shape := ⟨2, ![32, 24]⟩
abbrev S1x4x24x256 : Shape := ⟨4, ![1, 4, 24, 256]⟩
abbrev S4x24x256 : Shape := ⟨3, ![4, 24, 256]⟩
abbrev S24x256 : Shape := ⟨2, ![24, 256]⟩
abbrev S32x256 : Shape := ⟨2, ![32, 256]⟩
abbrev S8x256 : Shape := ⟨2, ![8, 256]⟩
abbrev S7x256 : Shape := ⟨2, ![7, 256]⟩
abbrev S49x256 : Shape := ⟨2, ![49, 256]⟩
abbrev S1x49x256 : Shape := ⟨3, ![1, 49, 256]⟩
abbrev S256x7x7x256 : Shape := ⟨4, ![256, 7, 7, 256]⟩
abbrev S256x256x7x7 : Shape := ⟨4, ![256, 256, 7, 7]⟩

abbrev nBuf : Space → Nat
  | .hbm => 259
  | .vmem => 5
  | .smem => 5
  | _ => 0

abbrev hbmTy0_0 (i : Nat) : BufTy := match i % 128 with
  | 0 => ⟨S2x256x30x40, .f32⟩
  | 1 => ⟨S256x5, .f32⟩
  | 2 => ⟨S2x30x40x256, .f32⟩
  | 3 => ⟨S2x30x40x256, .bf16⟩
  | 4 => ⟨S256x1, .f32⟩
  | 5 => ⟨S256, .f32⟩
  | 6 => ⟨S256x1, .f32⟩
  | 7 => ⟨S256, .f32⟩
  | 8 => ⟨S_, .f32⟩
  | 9 => ⟨S256, .f32⟩
  | 10 => ⟨S256, .f32⟩
  | 11 => ⟨S256, .f32⟩
  | 12 => ⟨S256x1, .f32⟩
  | 13 => ⟨S256, .f32⟩
  | 14 => ⟨S_, .f32⟩
  | 15 => ⟨S256, .f32⟩
  | 16 => ⟨S256, .f32⟩
  | 17 => ⟨S256, .f32⟩
  | 18 => ⟨S256x1, .f32⟩
  | 19 => ⟨S256, .f32⟩
  | 20 => ⟨S_, .f32⟩
  | 21 => ⟨S256, .f32⟩
  | 22 => ⟨S256, .f32⟩
  | 23 => ⟨S256, .f32⟩
  | 24 => ⟨S256x1, .f32⟩
  | 25 => ⟨S256, .f32⟩
  | 26 => ⟨S_, .f32⟩
  | 27 => ⟨S256, .f32⟩
  | 28 => ⟨S256, .f32⟩
  | 29 => ⟨S256, .f32⟩
  | 30 => ⟨S256, .f32⟩
  | 31 => ⟨S_, .f32⟩
  | 32 => ⟨S256, .f32⟩
  | 33 => ⟨S256, .f32⟩
  | 34 => ⟨S_, .f32⟩
  | 35 => ⟨S256, .f32⟩
  | 36 => ⟨S256, .f32⟩
  | 37 => ⟨S256, .f32⟩
  | 38 => ⟨S_, .f32⟩
  | 39 => ⟨S256, .f32⟩
  | 40 => ⟨S256, .f32⟩
  | 41 => ⟨S_, .f32⟩
  | 42 => ⟨S256, .f32⟩
  | 43 => ⟨S256, .f32⟩
  | 44 => ⟨S_, .f32⟩
  | 45 => ⟨S256, .f32⟩
  | 46 => ⟨S256, .f32⟩
  | 47 => ⟨S_, .f32⟩
  | 48 => ⟨S256, .f32⟩
  | 49 => ⟨S256, .f32⟩
  | 50 => ⟨S7, .f32⟩
  | 51 => ⟨S1x7, .f32⟩
  | 52 => ⟨S256x1, .f32⟩
  | 53 => ⟨S256x7, .f32⟩
  | 54 => ⟨S256x7, .f32⟩
  | 55 => ⟨S256x7, .f32⟩
  | 56 => ⟨S256x7, .f32⟩
  | 57 => ⟨S256x1, .f32⟩
  | 58 => ⟨S256x7, .f32⟩
  | 59 => ⟨S256x7, .f32⟩
  | 60 => ⟨S_, .f32⟩
  | 61 => ⟨S_, .i32⟩
  | 62 => ⟨S_, .f32⟩
  | 63 => ⟨S256x7, .f32⟩
  | 64 => ⟨S256x7, .f32⟩
  | 65 => ⟨S_, .f32⟩
  | 66 => ⟨S256x7, .f32⟩
  | 67 => ⟨S256x7, .f32⟩
  | 68 => ⟨S1x7, .f32⟩
  | 69 => ⟨S_, .f32⟩
  | 70 => ⟨S1x7, .f32⟩
  | 71 => ⟨S1x7, .f32⟩
  | 72 => ⟨S256x1, .f32⟩
  | 73 => ⟨S256x7, .f32⟩
  | 74 => ⟨S256x7, .f32⟩
  | 75 => ⟨S256x7, .f32⟩
  | 76 => ⟨S256x7, .f32⟩
  | 77 => ⟨S256x1, .f32⟩
  | 78 => ⟨S256x7, .f32⟩
  | 79 => ⟨S256x7, .f32⟩
  | 80 => ⟨S_, .f32⟩
  | 81 => ⟨S_, .i32⟩
  | 82 => ⟨S_, .f32⟩
  | 83 => ⟨S256x7, .f32⟩
  | 84 => ⟨S256x7, .f32⟩
  | 85 => ⟨S_, .f32⟩
  | 86 => ⟨S256x7, .f32⟩
  | 87 => ⟨S256x7, .f32⟩
  | 88 => ⟨S1x7, .f32⟩
  | 89 => ⟨S256x1, .f32⟩
  | 90 => ⟨S256x7, .f32⟩
  | 91 => ⟨S256x7, .f32⟩
  | 92 => ⟨S256x7, .f32⟩
  | 93 => ⟨S256x7, .f32⟩
  | 94 => ⟨S256x1, .f32⟩
  | 95 => ⟨S256x7, .f32⟩
  | 96 => ⟨S256x7, .f32⟩
  | 97 => ⟨S_, .f32⟩
  | 98 => ⟨S_, .i32⟩
  | 99 => ⟨S_, .f32⟩
  | 100 => ⟨S256x7, .f32⟩
  | 101 => ⟨S256x7, .f32⟩
  | 102 => ⟨S_, .f32⟩
  | 103 => ⟨S256x7, .f32⟩
  | 104 => ⟨S256x7, .f32⟩
  | 105 => ⟨S1x7, .f32⟩
  | 106 => ⟨S_, .f32⟩
  | 107 => ⟨S1x7, .f32⟩
  | 108 => ⟨S1x7, .f32⟩
  | 109 => ⟨S256x1, .f32⟩
  | 110 => ⟨S256x7, .f32⟩
  | 111 => ⟨S256x7, .f32⟩
  | 112 => ⟨S256x7, .f32⟩
  | 113 => ⟨S256x7, .f32⟩
  | 114 => ⟨S256x1, .f32⟩
  | 115 => ⟨S256x7, .f32⟩
  | 116 => ⟨S256x7, .f32⟩
  | 117 => ⟨S_, .f32⟩
  | 118 => ⟨S_, .i32⟩
  | 119 => ⟨S_, .f32⟩
  | 120 => ⟨S256x7, .f32⟩
  | 121 => ⟨S256x7, .f32⟩
  | 122 => ⟨S_, .f32⟩
  | 123 => ⟨S256x7, .f32⟩
  | 124 => ⟨S256x7, .f32⟩
  | 125 => ⟨S256x7, .i32⟩
  | 126 => ⟨S256x7, .i32⟩
  | 127 => ⟨S256x7, .i32⟩
  | _ => ⟨S2x256x30x40, .f32⟩

abbrev hbmTy0_1 (i : Nat) : BufTy := match i % 128 with
  | 0 => ⟨S256x7, .i32⟩
  | 1 => ⟨S_, .i32⟩
  | 2 => ⟨S_, .i32⟩
  | 3 => ⟨S_, .i32⟩
  | 4 => ⟨S256x7, .i32⟩
  | 5 => ⟨S256x7, .i32⟩
  | 6 => ⟨S_, .i32⟩
  | 7 => ⟨S256x7, .i32⟩
  | 8 => ⟨S256x7, .i32⟩
  | 9 => ⟨S256, .i32⟩
  | 10 => ⟨S_, .i32⟩
  | 11 => ⟨S_, .i32⟩
  | 12 => ⟨S_, .i32⟩
  | 13 => ⟨S256, .i32⟩
  | 14 => ⟨S256, .i32⟩
  | 15 => ⟨S_, .i32⟩
  | 16 => ⟨S256, .i32⟩
  | 17 => ⟨S256, .i32⟩
  | 18 => ⟨S_, .i32⟩
  | 19 => ⟨S256, .i32⟩
  | 20 => ⟨S256, .i32⟩
  | 21 => ⟨S_, .i32⟩
  | 22 => ⟨S256, .i32⟩
  | 23 => ⟨S256, .i32⟩
  | 24 => ⟨S_, .i32⟩
  | 25 => ⟨S_, .i32⟩
  | 26 => ⟨S_, .i32⟩
  | 27 => ⟨S256, .i32⟩
  | 28 => ⟨S256, .i32⟩
  | 29 => ⟨S_, .i32⟩
  | 30 => ⟨S256, .i32⟩
  | 31 => ⟨S256x1, .i32⟩
  | 32 => ⟨S256x7, .i32⟩
  | 33 => ⟨S256x7, .i32⟩
  | 34 => ⟨S256x1, .i32⟩
  | 35 => ⟨S256x7, .i32⟩
  | 36 => ⟨S256x7, .i32⟩
  | 37 => ⟨S32, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S32, .i32⟩
  | 45 => ⟨S32, .i32⟩
  | 46 => ⟨S_, .i32⟩
  | 47 => ⟨S32, .i32⟩
  | 48 => ⟨S32, .i1⟩
  | 49 => ⟨S_, .i32⟩
  | 50 => ⟨S32, .i32⟩
  | 51 => ⟨S32, .i1⟩
  | 52 => ⟨S_, .i32⟩
  | 53 => ⟨S_, .i1⟩
  | 54 => ⟨S32, .i1⟩
  | 55 => ⟨S32, .i1⟩
  | 56 => ⟨S32, .i1⟩
  | 57 => ⟨S32, .i32⟩
  | 58 => ⟨S32, .i32⟩
  | 59 => ⟨S32, .i32⟩
  | 60 => ⟨S_, .i32⟩
  | 61 => ⟨S_, .i32⟩
  | 62 => ⟨S32, .i32⟩
  | 63 => ⟨S32, .i32⟩
  | 64 => ⟨S32, .i32⟩
  | 65 => ⟨S_, .i32⟩
  | 66 => ⟨S32, .i32⟩
  | 67 => ⟨S32, .i1⟩
  | 68 => ⟨S32, .i32⟩
  | 69 => ⟨S32, .i32⟩
  | 70 => ⟨S_, .i32⟩
  | 71 => ⟨S32, .i32⟩
  | 72 => ⟨S32, .i1⟩
  | 73 => ⟨S32, .i1⟩
  | 74 => ⟨S_, .i32⟩
  | 75 => ⟨S32, .i32⟩
  | 76 => ⟨S32, .i32⟩
  | 77 => ⟨S32, .i32⟩
  | 78 => ⟨S_, .i32⟩
  | 79 => ⟨S32, .i32⟩
  | 80 => ⟨S32, .i32⟩
  | 81 => ⟨S_, .i32⟩
  | 82 => ⟨S32, .i32⟩
  | 83 => ⟨S32, .i1⟩
  | 84 => ⟨S_, .i32⟩
  | 85 => ⟨S32, .i32⟩
  | 86 => ⟨S32, .i32⟩
  | 87 => ⟨S32, .i32⟩
  | 88 => ⟨S32x1, .i32⟩
  | 89 => ⟨S256x32, .i32⟩
  | 90 => ⟨S_, .i32⟩
  | 91 => ⟨S32, .i32⟩
  | 92 => ⟨S32, .i1⟩
  | 93 => ⟨S_, .i32⟩
  | 94 => ⟨S32, .i32⟩
  | 95 => ⟨S32, .i32⟩
  | 96 => ⟨S32, .i32⟩
  | 97 => ⟨S32x1, .i32⟩
  | 98 => ⟨S256x32, .i32⟩
  | 99 => ⟨S1x32, .i32⟩
  | 100 => ⟨S256x32, .i32⟩
  | 101 => ⟨S256x32, .i32⟩
  | 102 => ⟨S256x32, .i1⟩
  | 103 => ⟨S1x32, .i32⟩
  | 104 => ⟨S256x32, .i32⟩
  | 105 => ⟨S256x32, .i32⟩
  | 106 => ⟨S256x32, .i32⟩
  | 107 => ⟨S256x32, .i1⟩
  | 108 => ⟨S_, .i32⟩
  | 109 => ⟨S32, .i32⟩
  | 110 => ⟨S32, .i1⟩
  | 111 => ⟨S1x32, .i1⟩
  | 112 => ⟨S256x32, .i1⟩
  | 113 => ⟨S256x32, .i1⟩
  | 114 => ⟨S_, .i32⟩
  | 115 => ⟨S_, .i32⟩
  | 116 => ⟨S256x32, .i32⟩
  | 117 => ⟨S256x32, .i32⟩
  | 118 => ⟨S256x32x1, .i32⟩
  | 119 => ⟨S24, .i32⟩
  | 120 => ⟨S1x1x24, .i32⟩
  | 121 => ⟨S256x32x24, .i32⟩
  | 122 => ⟨S256x32x24, .i32⟩
  | 123 => ⟨S256x32x24, .i1⟩
  | 124 => ⟨S256x32x24, .bf16⟩
  | 125 => ⟨S256x7, .i32⟩
  | 126 => ⟨S256x7, .i32⟩
  | 127 => ⟨S256x49x256, .bf16⟩
  | _ => ⟨S2x256x30x40, .f32⟩

abbrev hbmTy0_2 (i : Nat) : BufTy := match i % 128 with
  | 0 => ⟨S256x7x7x256, .bf16⟩
  | 1 => ⟨S256x256x7x7, .bf16⟩
  | 2 => ⟨S256x256x7x7, .f32⟩
  | _ => ⟨S2x256x30x40, .f32⟩

abbrev hbmTy (i : Nat) : BufTy := match i / 128 with
  | 0 => hbmTy0_0 i
  | 1 => hbmTy0_1 i
  | 2 => hbmTy0_2 i
  | _ => ⟨S2x256x30x40, .f32⟩

abbrev bufTy : (tb : Table) → Fin (tcTables nBuf tb) → BufTy
  | .hbm, ⟨i, _⟩ => hbmTy i
  | .local _ .vmem, ⟨0, _⟩ => ⟨S2x30x40x256, .bf16⟩
  | .local _ .vmem, ⟨1, _⟩ => ⟨S32x32x24, .bf16⟩
  | .local _ .vmem, ⟨2, _⟩ => ⟨S32x32x24, .bf16⟩
  | .local _ .vmem, ⟨3, _⟩ => ⟨S32x49x256, .bf16⟩
  | .local _ .vmem, ⟨4, _⟩ => ⟨S32x49x256, .bf16⟩
  | .local _ .smem, ⟨0, _⟩ => ⟨S256, .i32⟩
  | .local _ .smem, ⟨1, _⟩ => ⟨S1792, .i32⟩
  | .local _ .smem, ⟨2, _⟩ => ⟨S1792, .i32⟩
  | .local _ .smem, ⟨3, _⟩ => ⟨S1792, .i32⟩
  | .local _ .smem, ⟨4, _⟩ => ⟨S256, .i32⟩
  | _, _ => ⟨S2x256x30x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_3 : Ref sig .tc := ⟨.hbm, 31, rfl⟩
abbrev main_v26 : Ref sig .tc := ⟨.hbm, 32, rfl⟩
abbrev main_v27 : Ref sig .tc := ⟨.hbm, 33, rfl⟩
abbrev main_cst_4 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_5 : Ref sig .tc := ⟨.hbm, 38, rfl⟩
abbrev main_v31 : Ref sig .tc := ⟨.hbm, 39, rfl⟩
abbrev main_v32 : Ref sig .tc := ⟨.hbm, 40, rfl⟩
abbrev main_cst_6 : Ref sig .tc := ⟨.hbm, 41, rfl⟩
abbrev main_v33 : Ref sig .tc := ⟨.hbm, 42, rfl⟩
abbrev main_v34 : Ref sig .tc := ⟨.hbm, 43, rfl⟩
abbrev main_cst_7 : Ref sig .tc := ⟨.hbm, 44, rfl⟩
abbrev main_v35 : Ref sig .tc := ⟨.hbm, 45, rfl⟩
abbrev main_v36 : Ref sig .tc := ⟨.hbm, 46, rfl⟩
abbrev main_cst_8 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_9 : Ref sig .tc := ⟨.hbm, 60, rfl⟩
abbrev main_c : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_c_12 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_c_14 : Ref sig .tc := ⟨.hbm, 98, rfl⟩
abbrev main_call6_v0 : Ref sig .tc := ⟨.hbm, 99, rfl⟩
abbrev main_call6_v1 : Ref sig .tc := ⟨.hbm, 100, rfl⟩
abbrev main_call6_v2 : Ref sig .tc := ⟨.hbm, 101, rfl⟩
abbrev main_call6_v3 : Ref sig .tc := ⟨.hbm, 102, rfl⟩
abbrev main_call6_v4 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_c_17 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_call7_v3 : Ref sig .tc := ⟨.hbm, 122, rfl⟩
abbrev main_call7_v4 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_18 : Ref sig .tc := ⟨.hbm, 129, rfl⟩
abbrev main_c_19 : Ref sig .tc := ⟨.hbm, 130, rfl⟩
abbrev main_call8_v0 : Ref sig .tc := ⟨.hbm, 131, rfl⟩
abbrev main_call8_v1 : Ref sig .tc := ⟨.hbm, 132, rfl⟩
abbrev main_call8_v2 : Ref sig .tc := ⟨.hbm, 133, rfl⟩
abbrev main_call8_v3 : Ref sig .tc := ⟨.hbm, 134, rfl⟩
abbrev main_call8_v4 : Ref sig .tc := ⟨.hbm, 135, rfl⟩
abbrev main_v88 : Ref sig .tc := ⟨.hbm, 136, rfl⟩
abbrev main_v89 : Ref sig .tc := ⟨.hbm, 137, rfl⟩
abbrev main_c_20 : Ref sig .tc := ⟨.hbm, 138, rfl⟩
abbrev main_c_21 : Ref sig .tc := ⟨.hbm, 139, rfl⟩
abbrev main_call9_v0 : Ref sig .tc := ⟨.hbm, 140, rfl⟩
abbrev main_call9_v1 : Ref sig .tc := ⟨.hbm, 141, rfl⟩
abbrev main_call9_v2 : Ref sig .tc := ⟨.hbm, 142, rfl⟩
abbrev main_call9_v3 : Ref sig .tc := ⟨.hbm, 143, rfl⟩
abbrev main_call9_v4 : Ref sig .tc := ⟨.hbm, 144, rfl⟩
abbrev main_v90 : Ref sig .tc := ⟨.hbm, 145, rfl⟩
abbrev main_c_22 : Ref sig .tc := ⟨.hbm, 146, rfl⟩
abbrev main_v91 : Ref sig .tc := ⟨.hbm, 147, rfl⟩
abbrev main_v92 : Ref sig .tc := ⟨.hbm, 148, rfl⟩
abbrev main_c_23 : Ref sig .tc := ⟨.hbm, 149, rfl⟩
abbrev main_v93 : Ref sig .tc := ⟨.hbm, 150, rfl⟩
abbrev main_v94 : Ref sig .tc := ⟨.hbm, 151, rfl⟩
abbrev main_c_24 : Ref sig .tc := ⟨.hbm, 152, rfl⟩
abbrev main_c_25 : Ref sig .tc := ⟨.hbm, 153, rfl⟩
abbrev main_call10_v0 : Ref sig .tc := ⟨.hbm, 154, rfl⟩
abbrev main_call10_v1 : Ref sig .tc := ⟨.hbm, 155, rfl⟩
abbrev main_call10_v2 : Ref sig .tc := ⟨.hbm, 156, rfl⟩
abbrev main_call10_v3 : Ref sig .tc := ⟨.hbm, 157, rfl⟩
abbrev main_call10_v4 : Ref sig .tc := ⟨.hbm, 158, rfl⟩
abbrev main_v96 : Ref sig .tc := ⟨.hbm, 159, rfl⟩
abbrev main_v97 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_c_26 : Ref sig .tc := ⟨.hbm, 166, rfl⟩
abbrev main_call11_v0 : Ref sig .tc := ⟨.hbm, 167, rfl⟩
abbrev main_call11_c : Ref sig .tc := ⟨.hbm, 168, rfl⟩
abbrev main_call11_v1 : Ref sig .tc := ⟨.hbm, 169, rfl⟩
abbrev main_call11_c_0 : Ref sig .tc := ⟨.hbm, 170, rfl⟩
abbrev main_call11_v2 : Ref sig .tc := ⟨.hbm, 171, rfl⟩
abbrev main_call11_v3 : Ref sig .tc := ⟨.hbm, 172, rfl⟩
abbrev main_call11_v4 : Ref sig .tc := ⟨.hbm, 173, rfl⟩
abbrev main_call11_c_1 : Ref sig .tc := ⟨.hbm, 174, rfl⟩
abbrev main_call11_v5 : Ref sig .tc := ⟨.hbm, 175, rfl⟩
abbrev main_call11_v6 : Ref sig .tc := ⟨.hbm, 176, rfl⟩
abbrev main_call11_c_2 : Ref sig .tc := ⟨.hbm, 177, rfl⟩
abbrev main_call11_v7 : Ref sig .tc := ⟨.hbm, 178, rfl⟩
abbrev main_call11_v8 : Ref sig .tc := ⟨.hbm, 179, rfl⟩
abbrev main_call11_c_3 : Ref sig .tc := ⟨.hbm, 180, rfl⟩
abbrev main_call11_v9 : Ref sig .tc := ⟨.hbm, 181, rfl⟩
abbrev main_call11_v10 : Ref sig .tc := ⟨.hbm, 182, rfl⟩
abbrev main_call11_v11 : Ref sig .tc := ⟨.hbm, 183, rfl⟩
abbrev main_call11_v12 : Ref sig .tc := ⟨.hbm, 184, rfl⟩
abbrev main_call11_v13 : Ref sig .tc := ⟨.hbm, 185, rfl⟩
abbrev main_call11_v14 : Ref sig .tc := ⟨.hbm, 186, rfl⟩
abbrev main_v103 : Ref sig .tc := ⟨.hbm, 187, rfl⟩
abbrev main_c_27 : Ref sig .tc := ⟨.hbm, 188, rfl⟩
abbrev main_call12_v0 : Ref sig .tc := ⟨.hbm, 189, rfl⟩
abbrev main_call12_v1 : Ref sig .tc := ⟨.hbm, 190, rfl⟩
abbrev main_call12_v2 : Ref sig .tc := ⟨.hbm, 191, rfl⟩
abbrev main_call12_v3 : Ref sig .tc := ⟨.hbm, 192, rfl⟩
abbrev main_call12_v4 : Ref sig .tc := ⟨.hbm, 193, rfl⟩
abbrev main_call12_v5 : Ref sig .tc := ⟨.hbm, 194, rfl⟩
abbrev main_call12_v6 : Ref sig .tc := ⟨.hbm, 195, rfl⟩
abbrev main_call12_v7 : Ref sig .tc := ⟨.hbm, 196, rfl⟩
abbrev main_call12_v8 : Ref sig .tc := ⟨.hbm, 197, rfl⟩
abbrev main_call12_c : Ref sig .tc := ⟨.hbm, 198, rfl⟩
abbrev main_call12_v9 : Ref sig .tc := ⟨.hbm, 199, rfl⟩
abbrev main_call12_v10 : Ref sig .tc := ⟨.hbm, 200, rfl⟩
abbrev main_call12_v11 : Ref sig .tc := ⟨.hbm, 201, rfl⟩
abbrev main_call12_c_0 : Ref sig .tc := ⟨.hbm, 202, rfl⟩
abbrev main_call12_v12 : Ref sig .tc := ⟨.hbm, 203, rfl⟩
abbrev main_call12_v13 : Ref sig .tc := ⟨.hbm, 204, rfl⟩
abbrev main_v104 : Ref sig .tc := ⟨.hbm, 205, rfl⟩
abbrev main_c_28 : Ref sig .tc := ⟨.hbm, 206, rfl⟩
abbrev main_v105 : Ref sig .tc := ⟨.hbm, 207, rfl⟩
abbrev main_v106 : Ref sig .tc := ⟨.hbm, 208, rfl⟩
abbrev main_c_29 : Ref sig .tc := ⟨.hbm, 209, rfl⟩
abbrev main_v107 : Ref sig .tc := ⟨.hbm, 210, rfl⟩
abbrev main_v108 : Ref sig .tc := ⟨.hbm, 211, rfl⟩
abbrev main_c_30 : Ref sig .tc := ⟨.hbm, 212, rfl⟩
abbrev main_v109 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_c_31 : Ref sig .tc := ⟨.hbm, 218, rfl⟩
abbrev main_v114 : Ref sig .tc := ⟨.hbm, 219, rfl⟩
abbrev main_v115 : Ref sig .tc := ⟨.hbm, 220, rfl⟩
abbrev main_c_32 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_c_33 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133 : Ref sig .tc := ⟨.hbm, 240, rfl⟩
abbrev main_v134 : Ref sig .tc := ⟨.hbm, 241, rfl⟩
abbrev main_c_34 : Ref sig .tc := ⟨.hbm, 242, rfl⟩
abbrev main_call14_v0 : Ref sig .tc := ⟨.hbm, 243, rfl⟩
abbrev main_call14_v1 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v144 : Ref sig .tc := ⟨.hbm, 253, rfl⟩
abbrev main_v146 : Ref sig .tc := ⟨.hbm, 254, rfl⟩
abbrev main_v148 : Ref sig .tc := ⟨.hbm, 255, rfl⟩
abbrev main_v149 : Ref sig .tc := ⟨.hbm, 256, rfl⟩
abbrev main_v150 : Ref sig .tc := ⟨.hbm, 257, rfl⟩
abbrev main_v151 : Ref sig .tc := ⟨.hbm, 258, rfl⟩
abbrev main_v4 : Ref sig .tc := ⟨.smem, 0, rfl⟩
abbrev main_v143 : Ref sig .tc := ⟨.smem, 1, rfl⟩
abbrev main_v145 : Ref sig .tc := ⟨.smem, 2, rfl⟩
abbrev main_v147 : Ref sig .tc := ⟨.smem, 3, rfl⟩
abbrev main_v95 : Ref sig .tc := ⟨.smem, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

abbrev pre0 : Pipeline.Prefetch sig := ⟨5, ![main_v4.idx, main_v143.idx, main_v145.idx, main_v147.idx, main_v95.idx], fun | 0 => main_v4.names | 1 => main_v143.names | 2 => main_v145.names | 3 => main_v147.names | 4 => main_v95.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v1 : BitVec 32 := Scalar.muli arg0 c32_i32
  let c0_i32 : BitVec 32 := 0#32
  let v2 : BitVec 32 := Scalar.addi v1 c0_i32
  let v3 : Index := Scalar.indexCast v2
  ![v3.toNat]
def k0_mult1 (v6 : BitVec 32) : BitVec 32 :=
  v6

def k0_chk1 (v6 : BitVec 32) : Prop :=
  (8 ∣ (k0_mult1 v6).toNat)
theorem k0_mult1_dvd : ∀ (v6 : BitVec 32) (k0_hw1 : k0_chk1 v6), 8 ∣ (k0_mult1 v6).toNat := fun v6 k0_hw1 => k0_hw1

def k0_off2 (i : grid0.Coords) : Fin 1 → Nat :=
  let arg0 : BitVec 32 := BitVec.ofNat 32 (i 0).val
  let c32_i32 : BitVec 32 := 32#32
  let v1 : BitVec 32 := Scalar.muli arg0 c32_i32
  let c0_i32 : BitVec 32 := 0#32
  let v2 : BitVec 32 := Scalar.addi v1 c0_i32
  let c7_i32 : BitVec 32 := 7#32
  let v10 : BitVec 32 := Scalar.muli v2 c7_i32
  let c0_i32_2 : BitVec 32 := 0#32
  let v11 : BitVec 32 := Scalar.addi v10 c0_i32_2
  let v12 : Index := Scalar.indexCast v11
  ![v12.toNat]
def k0_off3 (v4 : BitVec 32) (v6 : BitVec 32) (v13 : BitVec 32) : Fin 4 → Nat :=
  let v14 : Index := Scalar.indexCast v4
  let v15 : Index := Scalar.indexCast v13
  let v7 : BitVec 32 := v6
  let v16 : Index := Scalar.indexCast v7
  let c0_3 : Index := 0#32
  ![v14.toNat, v15.toNat, v16.toNat, 0]

def k0_chk2 (v4 : BitVec 32) (v6 : BitVec 32) (v13 : BitVec 32) : Prop :=
  (∀ a, (k0_off3 v4 v6 v13) a + S1x4x24x256.size a ≤ S2x30x40x256.size a)
theorem k0_off3_inb : ∀ (v4 : BitVec 32) (v6 : BitVec 32) (v13 : BitVec 32) (k0_hw2 : k0_chk2 v4 v6 v13), ∀ a, (k0_off3 v4 v6 v13) a + S1x4x24x256.size a ≤ S2x30x40x256.size a := fun v4 v6 v13 k0_hw2 => k0_hw2

def k0_off4 (i : grid0.Coords) (c0_i32_2 : BitVec 32) : Fin 1 → Nat :=
  let arg0 : BitVec 32 := BitVec.ofNat 32 (i 0).val
  let c32_i32 : BitVec 32 := 32#32
  let v1 : BitVec 32 := Scalar.muli arg0 c32_i32
  let c0_i32 : BitVec 32 := 0#32
  let v2 : BitVec 32 := Scalar.addi v1 c0_i32
  let c7_i32 : BitVec 32 := 7#32
  let v10 : BitVec 32 := Scalar.muli v2 c7_i32
  let v11 : BitVec 32 := Scalar.addi v10 c0_i32_2
  let v19 : Index := Scalar.indexCast v11
  ![v19.toNat]
def k0_off5 (v4 : BitVec 32) (v6 : BitVec 32) (v50 : BitVec 32) : Fin 4 → Nat :=
  let v51 : Index := Scalar.indexCast v4
  let v52 : Index := Scalar.indexCast v50
  let v7 : BitVec 32 := v6
  let v53 : Index := Scalar.indexCast v7
  let c0_9 : Index := 0#32
  ![v51.toNat, v52.toNat, v53.toNat, 0]

def k0_chk3 (v4 : BitVec 32) (v6 : BitVec 32) (v50 : BitVec 32) : Prop :=
  (∀ a, (k0_off5 v4 v6 v50) a + S1x4x24x256.size a ≤ S2x30x40x256.size a)
theorem k0_off5_inb : ∀ (v4 : BitVec 32) (v6 : BitVec 32) (v50 : BitVec 32) (k0_hw3 : k0_chk3 v4 v6 v50), ∀ a, (k0_off5 v4 v6 v50) a + S1x4x24x256.size a ≤ S2x30x40x256.size a := fun v4 v6 v50 k0_hw3 => k0_hw3

def k0_off6 (i : grid0.Coords) (c1_i32 : BitVec 32) : Fin 1 → Nat :=
  let arg0 : BitVec 32 := BitVec.ofNat 32 (i 0).val
  let c32_i32 : BitVec 32 := 32#32
  let v1 : BitVec 32 := Scalar.muli arg0 c32_i32
  let c0_i32 : BitVec 32 := 0#32
  let v2 : BitVec 32 := Scalar.addi v1 c0_i32
  let c7_i32_8 : BitVec 32 := 7#32
  let v47 : BitVec 32 := Scalar.muli v2 c7_i32_8
  let v48 : BitVec 32 := Scalar.addi v47 c1_i32
  let v56 : Index := Scalar.indexCast v48
  ![v56.toNat]
def k0_off7 (v4 : BitVec 32) (v6 : BitVec 32) (v87 : BitVec 32) : Fin 4 → Nat :=
  let v88 : Index := Scalar.indexCast v4
  let v89 : Index := Scalar.indexCast v87
  let v7 : BitVec 32 := v6
  let v90 : Index := Scalar.indexCast v7
  let c0_16 : Index := 0#32
  ![v88.toNat, v89.toNat, v90.toNat, 0]

def k0_chk4 (v4 : BitVec 32) (v6 : BitVec 32) (v87 : BitVec 32) : Prop :=
  (∀ a, (k0_off7 v4 v6 v87) a + S1x4x24x256.size a ≤ S2x30x40x256.size a)
theorem k0_off7_inb : ∀ (v4 : BitVec 32) (v6 : BitVec 32) (v87 : BitVec 32) (k0_hw4 : k0_chk4 v4 v6 v87), ∀ a, (k0_off7 v4 v6 v87) a + S1x4x24x256.size a ≤ S2x30x40x256.size a := fun v4 v6 v87 k0_hw4 => k0_hw4

def k0_off8 (i : grid0.Coords) (c2_i32 : BitVec 32) : Fin 1 → Nat :=
  let arg0 : BitVec 32 := BitVec.ofNat 32 (i 0).val
  let c32_i32 : BitVec 32 := 32#32
  let v1 : BitVec 32 := Scalar.muli arg0 c32_i32
  let c0_i32 : BitVec 32 := 0#32
  let v2 : BitVec 32 := Scalar.addi v1 c0_i32
  let c7_i32_15 : BitVec 32 := 7#32
  let v84 : BitVec 32 := Scalar.muli v2 c7_i32_15
  let v85 : BitVec 32 := Scalar.addi v84 c2_i32
  let v93 : Index := Scalar.indexCast v85
  ![v93.toNat]
def k0_off9 (v4 : BitVec 32) (v6 : BitVec 32) (v124 : BitVec 32) : Fin 4 → Nat :=
  let v125 : Index := Scalar.indexCast v4
  let v126 : Index := Scalar.indexCast v124
  let v7 : BitVec 32 := v6
  let v127 : Index := Scalar.indexCast v7
  let c0_23 : Index := 0#32
  ![v125.toNat, v126.toNat, v127.toNat, 0]

def k0_chk5 (v4 : BitVec 32) (v6 : BitVec 32) (v124 : BitVec 32) : Prop :=
  (∀ a, (k0_off9 v4 v6 v124) a + S1x4x24x256.size a ≤ S2x30x40x256.size a)
theorem k0_off9_inb : ∀ (v4 : BitVec 32) (v6 : BitVec 32) (v124 : BitVec 32) (k0_hw5 : k0_chk5 v4 v6 v124), ∀ a, (k0_off9 v4 v6 v124) a + S1x4x24x256.size a ≤ S2x30x40x256.size a := fun v4 v6 v124 k0_hw5 => k0_hw5

def k0_off10 (i : grid0.Coords) (c3_i32 : BitVec 32) : Fin 1 → Nat :=
  let arg0 : BitVec 32 := BitVec.ofNat 32 (i 0).val
  let c32_i32 : BitVec 32 := 32#32
  let v1 : BitVec 32 := Scalar.muli arg0 c32_i32
  let c0_i32 : BitVec 32 := 0#32
  let v2 : BitVec 32 := Scalar.addi v1 c0_i32
  let c7_i32_22 : BitVec 32 := 7#32
  let v121 : BitVec 32 := Scalar.muli v2 c7_i32_22
  let v122 : BitVec 32 := Scalar.addi v121 c3_i32
  let v130 : Index := Scalar.indexCast v122
  ![v130.toNat]
def k0_off11 (v4 : BitVec 32) (v6 : BitVec 32) (v161 : BitVec 32) : Fin 4 → Nat :=
  let v162 : Index := Scalar.indexCast v4
  let v163 : Index := Scalar.indexCast v161
  let v7 : BitVec 32 := v6
  let v164 : Index := Scalar.indexCast v7
  let c0_30 : Index := 0#32
  ![v162.toNat, v163.toNat, v164.toNat, 0]

def k0_chk6 (v4 : BitVec 32) (v6 : BitVec 32) (v161 : BitVec 32) : Prop :=
  (∀ a, (k0_off11 v4 v6 v161) a + S1x4x24x256.size a ≤ S2x30x40x256.size a)
theorem k0_off11_inb : ∀ (v4 : BitVec 32) (v6 : BitVec 32) (v161 : BitVec 32) (k0_hw6 : k0_chk6 v4 v6 v161), ∀ a, (k0_off11 v4 v6 v161) a + S1x4x24x256.size a ≤ S2x30x40x256.size a := fun v4 v6 v161 k0_hw6 => k0_hw6

def k0_off12 (i : grid0.Coords) (c4_i32 : BitVec 32) : Fin 1 → Nat :=
  let arg0 : BitVec 32 := BitVec.ofNat 32 (i 0).val
  let c32_i32 : BitVec 32 := 32#32
  let v1 : BitVec 32 := Scalar.muli arg0 c32_i32
  let c0_i32 : BitVec 32 := 0#32
  let v2 : BitVec 32 := Scalar.addi v1 c0_i32
  let c7_i32_29 : BitVec 32 := 7#32
  let v158 : BitVec 32 := Scalar.muli v2 c7_i32_29
  let v159 : BitVec 32 := Scalar.addi v158 c4_i32
  let v167 : Index := Scalar.indexCast v159
  ![v167.toNat]
def k0_off13 (v4 : BitVec 32) (v6 : BitVec 32) (v198 : BitVec 32) : Fin 4 → Nat :=
  let v199 : Index := Scalar.indexCast v4
  let v200 : Index := Scalar.indexCast v198
  let v7 : BitVec 32 := v6
  let v201 : Index := Scalar.indexCast v7
  let c0_37 : Index := 0#32
  ![v199.toNat, v200.toNat, v201.toNat, 0]

def k0_chk7 (v4 : BitVec 32) (v6 : BitVec 32) (v198 : BitVec 32) : Prop :=
  (∀ a, (k0_off13 v4 v6 v198) a + S1x4x24x256.size a ≤ S2x30x40x256.size a)
theorem k0_off13_inb : ∀ (v4 : BitVec 32) (v6 : BitVec 32) (v198 : BitVec 32) (k0_hw7 : k0_chk7 v4 v6 v198), ∀ a, (k0_off13 v4 v6 v198) a + S1x4x24x256.size a ≤ S2x30x40x256.size a := fun v4 v6 v198 k0_hw7 => k0_hw7

def k0_off14 (i : grid0.Coords) (c5_i32 : BitVec 32) : Fin 1 → Nat :=
  let arg0 : BitVec 32 := BitVec.ofNat 32 (i 0).val
  let c32_i32 : BitVec 32 := 32#32
  let v1 : BitVec 32 := Scalar.muli arg0 c32_i32
  let c0_i32 : BitVec 32 := 0#32
  let v2 : BitVec 32 := Scalar.addi v1 c0_i32
  let c7_i32_36 : BitVec 32 := 7#32
  let v195 : BitVec 32 := Scalar.muli v2 c7_i32_36
  let v196 : BitVec 32 := Scalar.addi v195 c5_i32
  let v204 : Index := Scalar.indexCast v196
  ![v204.toNat]
def k0_off15 (v4 : BitVec 32) (v6 : BitVec 32) (v235 : BitVec 32) : Fin 4 → Nat :=
  let v236 : Index := Scalar.indexCast v4
  let v237 : Index := Scalar.indexCast v235
  let v7 : BitVec 32 := v6
  let v238 : Index := Scalar.indexCast v7
  let c0_44 : Index := 0#32
  ![v236.toNat, v237.toNat, v238.toNat, 0]

def k0_chk8 (v4 : BitVec 32) (v6 : BitVec 32) (v235 : BitVec 32) : Prop :=
  (∀ a, (k0_off15 v4 v6 v235) a + S1x4x24x256.size a ≤ S2x30x40x256.size a)
theorem k0_off15_inb : ∀ (v4 : BitVec 32) (v6 : BitVec 32) (v235 : BitVec 32) (k0_hw8 : k0_chk8 v4 v6 v235), ∀ a, (k0_off15 v4 v6 v235) a + S1x4x24x256.size a ≤ S2x30x40x256.size a := fun v4 v6 v235 k0_hw8 => k0_hw8

def k0_off16 (i : grid0.Coords) : Fin 1 → Nat :=
  let arg0 : BitVec 32 := BitVec.ofNat 32 (i 0).val
  let c32_i32 : BitVec 32 := 32#32
  let v1 : BitVec 32 := Scalar.muli arg0 c32_i32
  let c0_i32 : BitVec 32 := 0#32
  let v2 : BitVec 32 := Scalar.addi v1 c0_i32
  let c7_i32_43 : BitVec 32 := 7#32
  let v232 : BitVec 32 := Scalar.muli v2 c7_i32_43
  let c6_i32 : BitVec 32 := 6#32
  let v233 : BitVec 32 := Scalar.addi v232 c6_i32
  let v241 : Index := Scalar.indexCast v233
  ![v241.toNat]
def k0_off17 (i : grid0.Coords) : Fin 1 → Nat :=
  let arg0 : BitVec 32 := BitVec.ofNat 32 (i 0).val
  let c32_i32_53 : BitVec 32 := 32#32
  let v273 : BitVec 32 := Scalar.muli arg0 c32_i32_53
  let c1_i32_54 : BitVec 32 := 1#32
  let v274 : BitVec 32 := Scalar.addi v273 c1_i32_54
  let v275 : Index := Scalar.indexCast v274
  ![v275.toNat]
def k0_mult2 (v278 : BitVec 32) : BitVec 32 :=
  v278

def k0_chk9 (v278 : BitVec 32) : Prop :=
  (8 ∣ (k0_mult2 v278).toNat)
theorem k0_mult2_dvd : ∀ (v278 : BitVec 32) (k0_hw9 : k0_chk9 v278), 8 ∣ (k0_mult2 v278).toNat := fun v278 k0_hw9 => k0_hw9

def k0_off18 (i : grid0.Coords) : Fin 1 → Nat :=
  let arg0 : BitVec 32 := BitVec.ofNat 32 (i 0).val
  let c32_i32_53 : BitVec 32 := 32#32
  let v273 : BitVec 32 := Scalar.muli arg0 c32_i32_53
  let c1_i32_54 : BitVec 32 := 1#32
  let v274 : BitVec 32 := Scalar.addi v273 c1_i32_54
  let c7_i32_57 : BitVec 32 := 7#32
  let v282 : BitVec 32 := Scalar.muli v274 c7_i32_57
  let c0_i32_58 : BitVec 32 := 0#32
  let v283 : BitVec 32 := Scalar.addi v282 c0_i32_58
  let v284 : Index := Scalar.indexCast v283
  ![v284.toNat]
def k0_off19 (v276 : BitVec 32) (v278 : BitVec 32) (v285 : BitVec 32) : Fin 4 → Nat :=
  let v286 : Index := Scalar.indexCast v276
  let v287 : Index := Scalar.indexCast v285
  let v279 : BitVec 32 := v278
  let v288 : Index := Scalar.indexCast v279
  let c0_59 : Index := 0#32
  ![v286.toNat, v287.toNat, v288.toNat, 0]

def k0_chk10 (v276 : BitVec 32) (v278 : BitVec 32) (v285 : BitVec 32) : Prop :=
  (∀ a, (k0_off19 v276 v278 v285) a + S1x4x24x256.size a ≤ S2x30x40x256.size a)
theorem k0_off19_inb : ∀ (v276 : BitVec 32) (v278 : BitVec 32) (v285 : BitVec 32) (k0_hw10 : k0_chk10 v276 v278 v285), ∀ a, (k0_off19 v276 v278 v285) a + S1x4x24x256.size a ≤ S2x30x40x256.size a := fun v276 v278 v285 k0_hw10 => k0_hw10

def k0_off20 (i : grid0.Coords) (c0_i32_58 : BitVec 32) : Fin 1 → Nat :=
  let arg0 : BitVec 32 := BitVec.ofNat 32 (i 0).val
  let c32_i32_53 : BitVec 32 := 32#32
  let v273 : BitVec 32 := Scalar.muli arg0 c32_i32_53
  let c1_i32_54 : BitVec 32 := 1#32
  let v274 : BitVec 32 := Scalar.addi v273 c1_i32_54
  let c7_i32_57 : BitVec 32 := 7#32
  let v282 : BitVec 32 := Scalar.muli v274 c7_i32_57
  let v283 : BitVec 32 := Scalar.addi v282 c0_i32_58
  let v291 : Index := Scalar.indexCast v283
  ![v291.toNat]
def k0_off21 (v276 : BitVec 32) (v278 : BitVec 32) (v322 : BitVec 32) : Fin 4 → Nat :=
  let v323 : Index := Scalar.indexCast v276
  let v324 : Index := Scalar.indexCast v322
  let v279 : BitVec 32 := v278
  let v325 : Index := Scalar.indexCast v279
  let c0_67 : Index := 0#32
  ![v323.toNat, v324.toNat, v325.toNat, 0]

def k0_chk11 (v276 : BitVec 32) (v278 : BitVec 32) (v322 : BitVec 32) : Prop :=
  (∀ a, (k0_off21 v276 v278 v322) a + S1x4x24x256.size a ≤ S2x30x40x256.size a)
theorem k0_off21_inb : ∀ (v276 : BitVec 32) (v278 : BitVec 32) (v322 : BitVec 32) (k0_hw11 : k0_chk11 v276 v278 v322), ∀ a, (k0_off21 v276 v278 v322) a + S1x4x24x256.size a ≤ S2x30x40x256.size a := fun v276 v278 v322 k0_hw11 => k0_hw11

def k0_off22 (i : grid0.Coords) (c1_i32_66 : BitVec 32) : Fin 1 → Nat :=
  let arg0 : BitVec 32 := BitVec.ofNat 32 (i 0).val
  let c32_i32_53 : BitVec 32 := 32#32
  let v273 : BitVec 32 := Scalar.muli arg0 c32_i32_53
  let c1_i32_54 : BitVec 32 := 1#32
  let v274 : BitVec 32 := Scalar.addi v273 c1_i32_54
  let c7_i32_65 : BitVec 32 := 7#32
  let v319 : BitVec 32 := Scalar.muli v274 c7_i32_65
  let v320 : BitVec 32 := Scalar.addi v319 c1_i32_66
  let v328 : Index := Scalar.indexCast v320
  ![v328.toNat]
def k0_off23 (v276 : BitVec 32) (v278 : BitVec 32) (v359 : BitVec 32) : Fin 4 → Nat :=
  let v360 : Index := Scalar.indexCast v276
  let v361 : Index := Scalar.indexCast v359
  let v279 : BitVec 32 := v278
  let v362 : Index := Scalar.indexCast v279
  let c0_75 : Index := 0#32
  ![v360.toNat, v361.toNat, v362.toNat, 0]

def k0_chk12 (v276 : BitVec 32) (v278 : BitVec 32) (v359 : BitVec 32) : Prop :=
  (∀ a, (k0_off23 v276 v278 v359) a + S1x4x24x256.size a ≤ S2x30x40x256.size a)
theorem k0_off23_inb : ∀ (v276 : BitVec 32) (v278 : BitVec 32) (v359 : BitVec 32) (k0_hw12 : k0_chk12 v276 v278 v359), ∀ a, (k0_off23 v276 v278 v359) a + S1x4x24x256.size a ≤ S2x30x40x256.size a := fun v276 v278 v359 k0_hw12 => k0_hw12

def k0_off24 (i : grid0.Coords) (c2_i32_74 : BitVec 32) : Fin 1 → Nat :=
  let arg0 : BitVec 32 := BitVec.ofNat 32 (i 0).val
  let c32_i32_53 : BitVec 32 := 32#32
  let v273 : BitVec 32 := Scalar.muli arg0 c32_i32_53
  let c1_i32_54 : BitVec 32 := 1#32
  let v274 : BitVec 32 := Scalar.addi v273 c1_i32_54
  let c7_i32_73 : BitVec 32 := 7#32
  let v356 : BitVec 32 := Scalar.muli v274 c7_i32_73
  let v357 : BitVec 32 := Scalar.addi v356 c2_i32_74
  let v365 : Index := Scalar.indexCast v357
  ![v365.toNat]
def k0_off25 (v276 : BitVec 32) (v278 : BitVec 32) (v396 : BitVec 32) : Fin 4 → Nat :=
  let v397 : Index := Scalar.indexCast v276
  let v398 : Index := Scalar.indexCast v396
  let v279 : BitVec 32 := v278
  let v399 : Index := Scalar.indexCast v279
  let c0_83 : Index := 0#32
  ![v397.toNat, v398.toNat, v399.toNat, 0]

def k0_chk13 (v276 : BitVec 32) (v278 : BitVec 32) (v396 : BitVec 32) : Prop :=
  (∀ a, (k0_off25 v276 v278 v396) a + S1x4x24x256.size a ≤ S2x30x40x256.size a)
theorem k0_off25_inb : ∀ (v276 : BitVec 32) (v278 : BitVec 32) (v396 : BitVec 32) (k0_hw13 : k0_chk13 v276 v278 v396), ∀ a, (k0_off25 v276 v278 v396) a + S1x4x24x256.size a ≤ S2x30x40x256.size a := fun v276 v278 v396 k0_hw13 => k0_hw13

def k0_off26 (i : grid0.Coords) (c3_i32_82 : BitVec 32) : Fin 1 → Nat :=
  let arg0 : BitVec 32 := BitVec.ofNat 32 (i 0).val
  let c32_i32_53 : BitVec 32 := 32#32
  let v273 : BitVec 32 := Scalar.muli arg0 c32_i32_53
  let c1_i32_54 : BitVec 32 := 1#32
  let v274 : BitVec 32 := Scalar.addi v273 c1_i32_54
  let c7_i32_81 : BitVec 32 := 7#32
  let v393 : BitVec 32 := Scalar.muli v274 c7_i32_81
  let v394 : BitVec 32 := Scalar.addi v393 c3_i32_82
  let v402 : Index := Scalar.indexCast v394
  ![v402.toNat]
def k0_off27 (v276 : BitVec 32) (v278 : BitVec 32) (v433 : BitVec 32) : Fin 4 → Nat :=
  let v434 : Index := Scalar.indexCast v276
  let v435 : Index := Scalar.indexCast v433
  let v279 : BitVec 32 := v278
  let v436 : Index := Scalar.indexCast v279
  let c0_91 : Index := 0#32
  ![v434.toNat, v435.toNat, v436.toNat, 0]

def k0_chk14 (v276 : BitVec 32) (v278 : BitVec 32) (v433 : BitVec 32) : Prop :=
  (∀ a, (k0_off27 v276 v278 v433) a + S1x4x24x256.size a ≤ S2x30x40x256.size a)
theorem k0_off27_inb : ∀ (v276 : BitVec 32) (v278 : BitVec 32) (v433 : BitVec 32) (k0_hw14 : k0_chk14 v276 v278 v433), ∀ a, (k0_off27 v276 v278 v433) a + S1x4x24x256.size a ≤ S2x30x40x256.size a := fun v276 v278 v433 k0_hw14 => k0_hw14

def k0_off28 (i : grid0.Coords) (c4_i32_90 : BitVec 32) : Fin 1 → Nat :=
  let arg0 : BitVec 32 := BitVec.ofNat 32 (i 0).val
  let c32_i32_53 : BitVec 32 := 32#32
  let v273 : BitVec 32 := Scalar.muli arg0 c32_i32_53
  let c1_i32_54 : BitVec 32 := 1#32
  let v274 : BitVec 32 := Scalar.addi v273 c1_i32_54
  let c7_i32_89 : BitVec 32 := 7#32
  let v430 : BitVec 32 := Scalar.muli v274 c7_i32_89
  let v431 : BitVec 32 := Scalar.addi v430 c4_i32_90
  let v439 : Index := Scalar.indexCast v431
  ![v439.toNat]
def k0_off29 (v276 : BitVec 32) (v278 : BitVec 32) (v470 : BitVec 32) : Fin 4 → Nat :=
  let v471 : Index := Scalar.indexCast v276
  let v472 : Index := Scalar.indexCast v470
  let v279 : BitVec 32 := v278
  let v473 : Index := Scalar.indexCast v279
  let c0_99 : Index := 0#32
  ![v471.toNat, v472.toNat, v473.toNat, 0]

def k0_chk15 (v276 : BitVec 32) (v278 : BitVec 32) (v470 : BitVec 32) : Prop :=
  (∀ a, (k0_off29 v276 v278 v470) a + S1x4x24x256.size a ≤ S2x30x40x256.size a)
theorem k0_off29_inb : ∀ (v276 : BitVec 32) (v278 : BitVec 32) (v470 : BitVec 32) (k0_hw15 : k0_chk15 v276 v278 v470), ∀ a, (k0_off29 v276 v278 v470) a + S1x4x24x256.size a ≤ S2x30x40x256.size a := fun v276 v278 v470 k0_hw15 => k0_hw15

def k0_off30 (i : grid0.Coords) (c5_i32_98 : BitVec 32) : Fin 1 → Nat :=
  let arg0 : BitVec 32 := BitVec.ofNat 32 (i 0).val
  let c32_i32_53 : BitVec 32 := 32#32
  let v273 : BitVec 32 := Scalar.muli arg0 c32_i32_53
  let c1_i32_54 : BitVec 32 := 1#32
  let v274 : BitVec 32 := Scalar.addi v273 c1_i32_54
  let c7_i32_97 : BitVec 32 := 7#32
  let v467 : BitVec 32 := Scalar.muli v274 c7_i32_97
  let v468 : BitVec 32 := Scalar.addi v467 c5_i32_98
  let v476 : Index := Scalar.indexCast v468
  ![v476.toNat]
def k0_off31 (v276 : BitVec 32) (v278 : BitVec 32) (v507 : BitVec 32) : Fin 4 → Nat :=
  let v508 : Index := Scalar.indexCast v276
  let v509 : Index := Scalar.indexCast v507
  let v279 : BitVec 32 := v278
  let v510 : Index := Scalar.indexCast v279
  let c0_107 : Index := 0#32
  ![v508.toNat, v509.toNat, v510.toNat, 0]

def k0_chk16 (v276 : BitVec 32) (v278 : BitVec 32) (v507 : BitVec 32) : Prop :=
  (∀ a, (k0_off31 v276 v278 v507) a + S1x4x24x256.size a ≤ S2x30x40x256.size a)
theorem k0_off31_inb : ∀ (v276 : BitVec 32) (v278 : BitVec 32) (v507 : BitVec 32) (k0_hw16 : k0_chk16 v276 v278 v507), ∀ a, (k0_off31 v276 v278 v507) a + S1x4x24x256.size a ≤ S2x30x40x256.size a := fun v276 v278 v507 k0_hw16 => k0_hw16

def k0_off32 (i : grid0.Coords) : Fin 1 → Nat :=
  let arg0 : BitVec 32 := BitVec.ofNat 32 (i 0).val
  let c32_i32_53 : BitVec 32 := 32#32
  let v273 : BitVec 32 := Scalar.muli arg0 c32_i32_53
  let c1_i32_54 : BitVec 32 := 1#32
  let v274 : BitVec 32 := Scalar.addi v273 c1_i32_54
  let c7_i32_105 : BitVec 32 := 7#32
  let v504 : BitVec 32 := Scalar.muli v274 c7_i32_105
  let c6_i32_106 : BitVec 32 := 6#32
  let v505 : BitVec 32 := Scalar.addi v504 c6_i32_106
  let v513 : Index := Scalar.indexCast v505
  ![v513.toNat]
def k0_off33 (i : grid0.Coords) : Fin 1 → Nat :=
  let arg0 : BitVec 32 := BitVec.ofNat 32 (i 0).val
  let c32_i32_116 : BitVec 32 := 32#32
  let v545 : BitVec 32 := Scalar.muli arg0 c32_i32_116
  let c2_i32_117 : BitVec 32 := 2#32
  let v546 : BitVec 32 := Scalar.addi v545 c2_i32_117
  let v547 : Index := Scalar.indexCast v546
  ![v547.toNat]
def k0_mult3 (v550 : BitVec 32) : BitVec 32 :=
  v550

def k0_chk17 (v550 : BitVec 32) : Prop :=
  (8 ∣ (k0_mult3 v550).toNat)
theorem k0_mult3_dvd : ∀ (v550 : BitVec 32) (k0_hw17 : k0_chk17 v550), 8 ∣ (k0_mult3 v550).toNat := fun v550 k0_hw17 => k0_hw17

def k0_off34 (i : grid0.Coords) : Fin 1 → Nat :=
  let arg0 : BitVec 32 := BitVec.ofNat 32 (i 0).val
  let c32_i32_116 : BitVec 32 := 32#32
  let v545 : BitVec 32 := Scalar.muli arg0 c32_i32_116
  let c2_i32_117 : BitVec 32 := 2#32
  let v546 : BitVec 32 := Scalar.addi v545 c2_i32_117
  let c7_i32_120 : BitVec 32 := 7#32
  let v554 : BitVec 32 := Scalar.muli v546 c7_i32_120
  let c0_i32_121 : BitVec 32 := 0#32
  let v555 : BitVec 32 := Scalar.addi v554 c0_i32_121
  let v556 : Index := Scalar.indexCast v555
  ![v556.toNat]
def k0_off35 (v548 : BitVec 32) (v550 : BitVec 32) (v557 : BitVec 32) : Fin 4 → Nat :=
  let v558 : Index := Scalar.indexCast v548
  let v559 : Index := Scalar.indexCast v557
  let v551 : BitVec 32 := v550
  let v560 : Index := Scalar.indexCast v551
  let c0_122 : Index := 0#32
  ![v558.toNat, v559.toNat, v560.toNat, 0]

def k0_chk18 (v548 : BitVec 32) (v550 : BitVec 32) (v557 : BitVec 32) : Prop :=
  (∀ a, (k0_off35 v548 v550 v557) a + S1x4x24x256.size a ≤ S2x30x40x256.size a)
theorem k0_off35_inb : ∀ (v548 : BitVec 32) (v550 : BitVec 32) (v557 : BitVec 32) (k0_hw18 : k0_chk18 v548 v550 v557), ∀ a, (k0_off35 v548 v550 v557) a + S1x4x24x256.size a ≤ S2x30x40x256.size a := fun v548 v550 v557 k0_hw18 => k0_hw18

def k0_off36 (i : grid0.Coords) (c0_i32_121 : BitVec 32) : Fin 1 → Nat :=
  let arg0 : BitVec 32 := BitVec.ofNat 32 (i 0).val
  let c32_i32_116 : BitVec 32 := 32#32
  let v545 : BitVec 32 := Scalar.muli arg0 c32_i32_116
  let c2_i32_117 : BitVec 32 := 2#32
  let v546 : BitVec 32 := Scalar.addi v545 c2_i32_117
  let c7_i32_120 : BitVec 32 := 7#32
  let v554 : BitVec 32 := Scalar.muli v546 c7_i32_120
  let v555 : BitVec 32 := Scalar.addi v554 c0_i32_121
  let v563 : Index := Scalar.indexCast v555
  ![v563.toNat]
def k0_off37 (v548 : BitVec 32) (v550 : BitVec 32) (v594 : BitVec 32) : Fin 4 → Nat :=
  let v595 : Index := Scalar.indexCast v548
  let v596 : Index := Scalar.indexCast v594
  let v551 : BitVec 32 := v550
  let v597 : Index := Scalar.indexCast v551
  let c0_130 : Index := 0#32
  ![v595.toNat, v596.toNat, v597.toNat, 0]

def k0_chk19 (v548 : BitVec 32) (v550 : BitVec 32) (v594 : BitVec 32) : Prop :=
  (∀ a, (k0_off37 v548 v550 v594) a + S1x4x24x256.size a ≤ S2x30x40x256.size a)
theorem k0_off37_inb : ∀ (v548 : BitVec 32) (v550 : BitVec 32) (v594 : BitVec 32) (k0_hw19 : k0_chk19 v548 v550 v594), ∀ a, (k0_off37 v548 v550 v594) a + S1x4x24x256.size a ≤ S2x30x40x256.size a := fun v548 v550 v594 k0_hw19 => k0_hw19

def k0_off38 (i : grid0.Coords) (c1_i32_129 : BitVec 32) : Fin 1 → Nat :=
  let arg0 : BitVec 32 := BitVec.ofNat 32 (i 0).val
  let c32_i32_116 : BitVec 32 := 32#32
  let v545 : BitVec 32 := Scalar.muli arg0 c32_i32_116
  let c2_i32_117 : BitVec 32 := 2#32
  let v546 : BitVec 32 := Scalar.addi v545 c2_i32_117
  let c7_i32_128 : BitVec 32 := 7#32
  let v591 : BitVec 32 := Scalar.muli v546 c7_i32_128
  let v592 : BitVec 32 := Scalar.addi v591 c1_i32_129
  let v600 : Index := Scalar.indexCast v592
  ![v600.toNat]
def k0_off39 (v548 : BitVec 32) (v550 : BitVec 32) (v631 : BitVec 32) : Fin 4 → Nat :=
  let v632 : Index := Scalar.indexCast v548
  let v633 : Index := Scalar.indexCast v631
  let v551 : BitVec 32 := v550
  let v634 : Index := Scalar.indexCast v551
  let c0_138 : Index := 0#32
  ![v632.toNat, v633.toNat, v634.toNat, 0]

def k0_chk20 (v548 : BitVec 32) (v550 : BitVec 32) (v631 : BitVec 32) : Prop :=
  (∀ a, (k0_off39 v548 v550 v631) a + S1x4x24x256.size a ≤ S2x30x40x256.size a)
theorem k0_off39_inb : ∀ (v548 : BitVec 32) (v550 : BitVec 32) (v631 : BitVec 32) (k0_hw20 : k0_chk20 v548 v550 v631), ∀ a, (k0_off39 v548 v550 v631) a + S1x4x24x256.size a ≤ S2x30x40x256.size a := fun v548 v550 v631 k0_hw20 => k0_hw20

def k0_off40 (i : grid0.Coords) (c2_i32_137 : BitVec 32) : Fin 1 → Nat :=
  let arg0 : BitVec 32 := BitVec.ofNat 32 (i 0).val
  let c32_i32_116 : BitVec 32 := 32#32
  let v545 : BitVec 32 := Scalar.muli arg0 c32_i32_116
  let c2_i32_117 : BitVec 32 := 2#32
  let v546 : BitVec 32 := Scalar.addi v545 c2_i32_117
  let c7_i32_136 : BitVec 32 := 7#32
  let v628 : BitVec 32 := Scalar.muli v546 c7_i32_136
  let v629 : BitVec 32 := Scalar.addi v628 c2_i32_137
  let v637 : Index := Scalar.indexCast v629
  ![v637.toNat]
def k0_off41 (v548 : BitVec 32) (v550 : BitVec 32) (v668 : BitVec 32) : Fin 4 → Nat :=
  let v669 : Index := Scalar.indexCast v548
  let v670 : Index := Scalar.indexCast v668
  let v551 : BitVec 32 := v550
  let v671 : Index := Scalar.indexCast v551
  let c0_146 : Index := 0#32
  ![v669.toNat, v670.toNat, v671.toNat, 0]

def k0_chk21 (v548 : BitVec 32) (v550 : BitVec 32) (v668 : BitVec 32) : Prop :=
  (∀ a, (k0_off41 v548 v550 v668) a + S1x4x24x256.size a ≤ S2x30x40x256.size a)
theorem k0_off41_inb : ∀ (v548 : BitVec 32) (v550 : BitVec 32) (v668 : BitVec 32) (k0_hw21 : k0_chk21 v548 v550 v668), ∀ a, (k0_off41 v548 v550 v668) a + S1x4x24x256.size a ≤ S2x30x40x256.size a := fun v548 v550 v668 k0_hw21 => k0_hw21

def k0_off42 (i : grid0.Coords) (c3_i32_145 : BitVec 32) : Fin 1 → Nat :=
  let arg0 : BitVec 32 := BitVec.ofNat 32 (i 0).val
  let c32_i32_116 : BitVec 32 := 32#32
  let v545 : BitVec 32 := Scalar.muli arg0 c32_i32_116
  let c2_i32_117 : BitVec 32 := 2#32
  let v546 : BitVec 32 := Scalar.addi v545 c2_i32_117
  let c7_i32_144 : BitVec 32 := 7#32
  let v665 : BitVec 32 := Scalar.muli v546 c7_i32_144
  let v666 : BitVec 32 := Scalar.addi v665 c3_i32_145
  let v674 : Index := Scalar.indexCast v666
  ![v674.toNat]
def k0_off43 (v548 : BitVec 32) (v550 : BitVec 32) (v705 : BitVec 32) : Fin 4 → Nat :=
  let v706 : Index := Scalar.indexCast v548
  let v707 : Index := Scalar.indexCast v705
  let v551 : BitVec 32 := v550
  let v708 : Index := Scalar.indexCast v551
  let c0_154 : Index := 0#32
  ![v706.toNat, v707.toNat, v708.toNat, 0]

def k0_chk22 (v548 : BitVec 32) (v550 : BitVec 32) (v705 : BitVec 32) : Prop :=
  (∀ a, (k0_off43 v548 v550 v705) a + S1x4x24x256.size a ≤ S2x30x40x256.size a)
theorem k0_off43_inb : ∀ (v548 : BitVec 32) (v550 : BitVec 32) (v705 : BitVec 32) (k0_hw22 : k0_chk22 v548 v550 v705), ∀ a, (k0_off43 v548 v550 v705) a + S1x4x24x256.size a ≤ S2x30x40x256.size a := fun v548 v550 v705 k0_hw22 => k0_hw22

def k0_off44 (i : grid0.Coords) (c4_i32_153 : BitVec 32) : Fin 1 → Nat :=
  let arg0 : BitVec 32 := BitVec.ofNat 32 (i 0).val
  let c32_i32_116 : BitVec 32 := 32#32
  let v545 : BitVec 32 := Scalar.muli arg0 c32_i32_116
  let c2_i32_117 : BitVec 32 := 2#32
  let v546 : BitVec 32 := Scalar.addi v545 c2_i32_117
  let c7_i32_152 : BitVec 32 := 7#32
  let v702 : BitVec 32 := Scalar.muli v546 c7_i32_152
  let v703 : BitVec 32 := Scalar.addi v702 c4_i32_153
  let v711 : Index := Scalar.indexCast v703
  ![v711.toNat]
def k0_off45 (v548 : BitVec 32) (v550 : BitVec 32) (v742 : BitVec 32) : Fin 4 → Nat :=
  let v743 : Index := Scalar.indexCast v548
  let v744 : Index := Scalar.indexCast v742
  let v551 : BitVec 32 := v550
  let v745 : Index := Scalar.indexCast v551
  let c0_162 : Index := 0#32
  ![v743.toNat, v744.toNat, v745.toNat, 0]

def k0_chk23 (v548 : BitVec 32) (v550 : BitVec 32) (v742 : BitVec 32) : Prop :=
  (∀ a, (k0_off45 v548 v550 v742) a + S1x4x24x256.size a ≤ S2x30x40x256.size a)
theorem k0_off45_inb : ∀ (v548 : BitVec 32) (v550 : BitVec 32) (v742 : BitVec 32) (k0_hw23 : k0_chk23 v548 v550 v742), ∀ a, (k0_off45 v548 v550 v742) a + S1x4x24x256.size a ≤ S2x30x40x256.size a := fun v548 v550 v742 k0_hw23 => k0_hw23

def k0_off46 (i : grid0.Coords) (c5_i32_161 : BitVec 32) : Fin 1 → Nat :=
  let arg0 : BitVec 32 := BitVec.ofNat 32 (i 0).val
  let c32_i32_116 : BitVec 32 := 32#32
  let v545 : BitVec 32 := Scalar.muli arg0 c32_i32_116
  let c2_i32_117 : BitVec 32 := 2#32
  let v546 : BitVec 32 := Scalar.addi v545 c2_i32_117
  let c7_i32_160 : BitVec 32 := 7#32
  let v739 : BitVec 32 := Scalar.muli v546 c7_i32_160
  let v740 : BitVec 32 := Scalar.addi v739 c5_i32_161
  let v748 : Index := Scalar.indexCast v740
  ![v748.toNat]
def k0_off47 (v548 : BitVec 32) (v550 : BitVec 32) (v779 : BitVec 32) : Fin 4 → Nat :=
  let v780 : Index := Scalar.indexCast v548
  let v781 : Index := Scalar.indexCast v779
  let v551 : BitVec 32 := v550
  let v782 : Index := Scalar.indexCast v551
  let c0_170 : Index := 0#32
  ![v780.toNat, v781.toNat, v782.toNat, 0]

def k0_chk24 (v548 : BitVec 32) (v550 : BitVec 32) (v779 : BitVec 32) : Prop :=
  (∀ a, (k0_off47 v548 v550 v779) a + S1x4x24x256.size a ≤ S2x30x40x256.size a)
theorem k0_off47_inb : ∀ (v548 : BitVec 32) (v550 : BitVec 32) (v779 : BitVec 32) (k0_hw24 : k0_chk24 v548 v550 v779), ∀ a, (k0_off47 v548 v550 v779) a + S1x4x24x256.size a ≤ S2x30x40x256.size a := fun v548 v550 v779 k0_hw24 => k0_hw24

def k0_off48 (i : grid0.Coords) : Fin 1 → Nat :=
  let arg0 : BitVec 32 := BitVec.ofNat 32 (i 0).val
  let c32_i32_116 : BitVec 32 := 32#32
  let v545 : BitVec 32 := Scalar.muli arg0 c32_i32_116
  let c2_i32_117 : BitVec 32 := 2#32
  let v546 : BitVec 32 := Scalar.addi v545 c2_i32_117
  let c7_i32_168 : BitVec 32 := 7#32
  let v776 : BitVec 32 := Scalar.muli v546 c7_i32_168
  let c6_i32_169 : BitVec 32 := 6#32
  let v777 : BitVec 32 := Scalar.addi v776 c6_i32_169
  let v785 : Index := Scalar.indexCast v777
  ![v785.toNat]
def k0_off49 (i : grid0.Coords) : Fin 1 → Nat :=
  let arg0 : BitVec 32 := BitVec.ofNat 32 (i 0).val
  let c32_i32_179 : BitVec 32 := 32#32
  let v817 : BitVec 32 := Scalar.muli arg0 c32_i32_179
  let c3_i32_180 : BitVec 32 := 3#32
  let v818 : BitVec 32 := Scalar.addi v817 c3_i32_180
  let v819 : Index := Scalar.indexCast v818
  ![v819.toNat]
def k0_mult4 (v822 : BitVec 32) : BitVec 32 :=
  v822

def k0_chk25 (v822 : BitVec 32) : Prop :=
  (8 ∣ (k0_mult4 v822).toNat)
theorem k0_mult4_dvd : ∀ (v822 : BitVec 32) (k0_hw25 : k0_chk25 v822), 8 ∣ (k0_mult4 v822).toNat := fun v822 k0_hw25 => k0_hw25

def k0_off50 (i : grid0.Coords) : Fin 1 → Nat :=
  let arg0 : BitVec 32 := BitVec.ofNat 32 (i 0).val
  let c32_i32_179 : BitVec 32 := 32#32
  let v817 : BitVec 32 := Scalar.muli arg0 c32_i32_179
  let c3_i32_180 : BitVec 32 := 3#32
  let v818 : BitVec 32 := Scalar.addi v817 c3_i32_180
  let c7_i32_183 : BitVec 32 := 7#32
  let v826 : BitVec 32 := Scalar.muli v818 c7_i32_183
  let c0_i32_184 : BitVec 32 := 0#32
  let v827 : BitVec 32 := Scalar.addi v826 c0_i32_184
  let v828 : Index := Scalar.indexCast v827
  ![v828.toNat]
def k0_off51 (v820 : BitVec 32) (v822 : BitVec 32) (v829 : BitVec 32) : Fin 4 → Nat :=
  let v830 : Index := Scalar.indexCast v820
  let v831 : Index := Scalar.indexCast v829
  let v823 : BitVec 32 := v822
  let v832 : Index := Scalar.indexCast v823
  let c0_185 : Index := 0#32
  ![v830.toNat, v831.toNat, v832.toNat, 0]

def k0_chk26 (v820 : BitVec 32) (v822 : BitVec 32) (v829 : BitVec 32) : Prop :=
  (∀ a, (k0_off51 v820 v822 v829) a + S1x4x24x256.size a ≤ S2x30x40x256.size a)
theorem k0_off51_inb : ∀ (v820 : BitVec 32) (v822 : BitVec 32) (v829 : BitVec 32) (k0_hw26 : k0_chk26 v820 v822 v829), ∀ a, (k0_off51 v820 v822 v829) a + S1x4x24x256.size a ≤ S2x30x40x256.size a := fun v820 v822 v829 k0_hw26 => k0_hw26

def k0_off52 (i : grid0.Coords) (c0_i32_184 : BitVec 32) : Fin 1 → Nat :=
  let arg0 : BitVec 32 := BitVec.ofNat 32 (i 0).val
  let c32_i32_179 : BitVec 32 := 32#32
  let v817 : BitVec 32 := Scalar.muli arg0 c32_i32_179
  let c3_i32_180 : BitVec 32 := 3#32
  let v818 : BitVec 32 := Scalar.addi v817 c3_i32_180
  let c7_i32_183 : BitVec 32 := 7#32
  let v826 : BitVec 32 := Scalar.muli v818 c7_i32_183
  let v827 : BitVec 32 := Scalar.addi v826 c0_i32_184
  let v835 : Index := Scalar.indexCast v827
  ![v835.toNat]
def k0_off53 (v820 : BitVec 32) (v822 : BitVec 32) (v866 : BitVec 32) : Fin 4 → Nat :=
  let v867 : Index := Scalar.indexCast v820
  let v868 : Index := Scalar.indexCast v866
  let v823 : BitVec 32 := v822
  let v869 : Index := Scalar.indexCast v823
  let c0_193 : Index := 0#32
  ![v867.toNat, v868.toNat, v869.toNat, 0]

def k0_chk27 (v820 : BitVec 32) (v822 : BitVec 32) (v866 : BitVec 32) : Prop :=
  (∀ a, (k0_off53 v820 v822 v866) a + S1x4x24x256.size a ≤ S2x30x40x256.size a)
theorem k0_off53_inb : ∀ (v820 : BitVec 32) (v822 : BitVec 32) (v866 : BitVec 32) (k0_hw27 : k0_chk27 v820 v822 v866), ∀ a, (k0_off53 v820 v822 v866) a + S1x4x24x256.size a ≤ S2x30x40x256.size a := fun v820 v822 v866 k0_hw27 => k0_hw27

def k0_off54 (i : grid0.Coords) (c1_i32_192 : BitVec 32) : Fin 1 → Nat :=
  let arg0 : BitVec 32 := BitVec.ofNat 32 (i 0).val
  let c32_i32_179 : BitVec 32 := 32#32
  let v817 : BitVec 32 := Scalar.muli arg0 c32_i32_179
  let c3_i32_180 : BitVec 32 := 3#32
  let v818 : BitVec 32 := Scalar.addi v817 c3_i32_180
  let c7_i32_191 : BitVec 32 := 7#32
  let v863 : BitVec 32 := Scalar.muli v818 c7_i32_191
  let v864 : BitVec 32 := Scalar.addi v863 c1_i32_192
  let v872 : Index := Scalar.indexCast v864
  ![v872.toNat]
def k0_off55 (v820 : BitVec 32) (v822 : BitVec 32) (v903 : BitVec 32) : Fin 4 → Nat :=
  let v904 : Index := Scalar.indexCast v820
  let v905 : Index := Scalar.indexCast v903
  let v823 : BitVec 32 := v822
  let v906 : Index := Scalar.indexCast v823
  let c0_201 : Index := 0#32
  ![v904.toNat, v905.toNat, v906.toNat, 0]

def k0_chk28 (v820 : BitVec 32) (v822 : BitVec 32) (v903 : BitVec 32) : Prop :=
  (∀ a, (k0_off55 v820 v822 v903) a + S1x4x24x256.size a ≤ S2x30x40x256.size a)
theorem k0_off55_inb : ∀ (v820 : BitVec 32) (v822 : BitVec 32) (v903 : BitVec 32) (k0_hw28 : k0_chk28 v820 v822 v903), ∀ a, (k0_off55 v820 v822 v903) a + S1x4x24x256.size a ≤ S2x30x40x256.size a := fun v820 v822 v903 k0_hw28 => k0_hw28

def k0_off56 (i : grid0.Coords) (c2_i32_200 : BitVec 32) : Fin 1 → Nat :=
  let arg0 : BitVec 32 := BitVec.ofNat 32 (i 0).val
  let c32_i32_179 : BitVec 32 := 32#32
  let v817 : BitVec 32 := Scalar.muli arg0 c32_i32_179
  let c3_i32_180 : BitVec 32 := 3#32
  let v818 : BitVec 32 := Scalar.addi v817 c3_i32_180
  let c7_i32_199 : BitVec 32 := 7#32
  let v900 : BitVec 32 := Scalar.muli v818 c7_i32_199
  let v901 : BitVec 32 := Scalar.addi v900 c2_i32_200
  let v909 : Index := Scalar.indexCast v901
  ![v909.toNat]
def k0_off57 (v820 : BitVec 32) (v822 : BitVec 32) (v940 : BitVec 32) : Fin 4 → Nat :=
  let v941 : Index := Scalar.indexCast v820
  let v942 : Index := Scalar.indexCast v940
  let v823 : BitVec 32 := v822
  let v943 : Index := Scalar.indexCast v823
  let c0_209 : Index := 0#32
  ![v941.toNat, v942.toNat, v943.toNat, 0]

def k0_chk29 (v820 : BitVec 32) (v822 : BitVec 32) (v940 : BitVec 32) : Prop :=
  (∀ a, (k0_off57 v820 v822 v940) a + S1x4x24x256.size a ≤ S2x30x40x256.size a)
theorem k0_off57_inb : ∀ (v820 : BitVec 32) (v822 : BitVec 32) (v940 : BitVec 32) (k0_hw29 : k0_chk29 v820 v822 v940), ∀ a, (k0_off57 v820 v822 v940) a + S1x4x24x256.size a ≤ S2x30x40x256.size a := fun v820 v822 v940 k0_hw29 => k0_hw29

def k0_off58 (i : grid0.Coords) (c3_i32_208 : BitVec 32) : Fin 1 → Nat :=
  let arg0 : BitVec 32 := BitVec.ofNat 32 (i 0).val
  let c32_i32_179 : BitVec 32 := 32#32
  let v817 : BitVec 32 := Scalar.muli arg0 c32_i32_179
  let c3_i32_180 : BitVec 32 := 3#32
  let v818 : BitVec 32 := Scalar.addi v817 c3_i32_180
  let c7_i32_207 : BitVec 32 := 7#32
  let v937 : BitVec 32 := Scalar.muli v818 c7_i32_207
  let v938 : BitVec 32 := Scalar.addi v937 c3_i32_208
  let v946 : Index := Scalar.indexCast v938
  ![v946.toNat]
def k0_off59 (v820 : BitVec 32) (v822 : BitVec 32) (v977 : BitVec 32) : Fin 4 → Nat :=
  let v978 : Index := Scalar.indexCast v820
  let v979 : Index := Scalar.indexCast v977
  let v823 : BitVec 32 := v822
  let v980 : Index := Scalar.indexCast v823
  let c0_217 : Index := 0#32
  ![v978.toNat, v979.toNat, v980.toNat, 0]

def k0_chk30 (v820 : BitVec 32) (v822 : BitVec 32) (v977 : BitVec 32) : Prop :=
  (∀ a, (k0_off59 v820 v822 v977) a + S1x4x24x256.size a ≤ S2x30x40x256.size a)
theorem k0_off59_inb : ∀ (v820 : BitVec 32) (v822 : BitVec 32) (v977 : BitVec 32) (k0_hw30 : k0_chk30 v820 v822 v977), ∀ a, (k0_off59 v820 v822 v977) a + S1x4x24x256.size a ≤ S2x30x40x256.size a := fun v820 v822 v977 k0_hw30 => k0_hw30

def k0_off60 (i : grid0.Coords) (c4_i32_216 : BitVec 32) : Fin 1 → Nat :=
  let arg0 : BitVec 32 := BitVec.ofNat 32 (i 0).val
  let c32_i32_179 : BitVec 32 := 32#32
  let v817 : BitVec 32 := Scalar.muli arg0 c32_i32_179
  let c3_i32_180 : BitVec 32 := 3#32
  let v818 : BitVec 32 := Scalar.addi v817 c3_i32_180
  let c7_i32_215 : BitVec 32 := 7#32
  let v974 : BitVec 32 := Scalar.muli v818 c7_i32_215
  let v975 : BitVec 32 := Scalar.addi v974 c4_i32_216
  let v983 : Index := Scalar.indexCast v975
  ![v983.toNat]
def k0_off61 (v820 : BitVec 32) (v822 : BitVec 32) (v1014 : BitVec 32) : Fin 4 → Nat :=
  let v1015 : Index := Scalar.indexCast v820
  let v1016 : Index := Scalar.indexCast v1014
  let v823 : BitVec 32 := v822
  let v1017 : Index := Scalar.indexCast v823
  let c0_225 : Index := 0#32
  ![v1015.toNat, v1016.toNat, v1017.toNat, 0]

def k0_chk31 (v820 : BitVec 32) (v822 : BitVec 32) (v1014 : BitVec 32) : Prop :=
  (∀ a, (k0_off61 v820 v822 v1014) a + S1x4x24x256.size a ≤ S2x30x40x256.size a)
theorem k0_off61_inb : ∀ (v820 : BitVec 32) (v822 : BitVec 32) (v1014 : BitVec 32) (k0_hw31 : k0_chk31 v820 v822 v1014), ∀ a, (k0_off61 v820 v822 v1014) a + S1x4x24x256.size a ≤ S2x30x40x256.size a := fun v820 v822 v1014 k0_hw31 => k0_hw31

def k0_off62 (i : grid0.Coords) (c5_i32_224 : BitVec 32) : Fin 1 → Nat :=
  let arg0 : BitVec 32 := BitVec.ofNat 32 (i 0).val
  let c32_i32_179 : BitVec 32 := 32#32
  let v817 : BitVec 32 := Scalar.muli arg0 c32_i32_179
  let c3_i32_180 : BitVec 32 := 3#32
  let v818 : BitVec 32 := Scalar.addi v817 c3_i32_180
  let c7_i32_223 : BitVec 32 := 7#32
  let v1011 : BitVec 32 := Scalar.muli v818 c7_i32_223
  let v1012 : BitVec 32 := Scalar.addi v1011 c5_i32_224
  let v1020 : Index := Scalar.indexCast v1012
  ![v1020.toNat]
def k0_off63 (v820 : BitVec 32) (v822 : BitVec 32) (v1051 : BitVec 32) : Fin 4 → Nat :=
  let v1052 : Index := Scalar.indexCast v820
  let v1053 : Index := Scalar.indexCast v1051
  let v823 : BitVec 32 := v822
  let v1054 : Index := Scalar.indexCast v823
  let c0_233 : Index := 0#32
  ![v1052.toNat, v1053.toNat, v1054.toNat, 0]

def k0_chk32 (v820 : BitVec 32) (v822 : BitVec 32) (v1051 : BitVec 32) : Prop :=
  (∀ a, (k0_off63 v820 v822 v1051) a + S1x4x24x256.size a ≤ S2x30x40x256.size a)
theorem k0_off63_inb : ∀ (v820 : BitVec 32) (v822 : BitVec 32) (v1051 : BitVec 32) (k0_hw32 : k0_chk32 v820 v822 v1051), ∀ a, (k0_off63 v820 v822 v1051) a + S1x4x24x256.size a ≤ S2x30x40x256.size a := fun v820 v822 v1051 k0_hw32 => k0_hw32

def k0_off64 (i : grid0.Coords) : Fin 1 → Nat :=
  let arg0 : BitVec 32 := BitVec.ofNat 32 (i 0).val
  let c32_i32_179 : BitVec 32 := 32#32
  let v817 : BitVec 32 := Scalar.muli arg0 c32_i32_179
  let c3_i32_180 : BitVec 32 := 3#32
  let v818 : BitVec 32 := Scalar.addi v817 c3_i32_180
  let c7_i32_231 : BitVec 32 := 7#32
  let v1048 : BitVec 32 := Scalar.muli v818 c7_i32_231
  let c6_i32_232 : BitVec 32 := 6#32
  let v1049 : BitVec 32 := Scalar.addi v1048 c6_i32_232
  let v1057 : Index := Scalar.indexCast v1049
  ![v1057.toNat]
def k0_off65 (i : grid0.Coords) : Fin 1 → Nat :=
  let arg0 : BitVec 32 := BitVec.ofNat 32 (i 0).val
  let c32_i32_242 : BitVec 32 := 32#32
  let v1089 : BitVec 32 := Scalar.muli arg0 c32_i32_242
  let c4_i32_243 : BitVec 32 := 4#32
  let v1090 : BitVec 32 := Scalar.addi v1089 c4_i32_243
  let v1091 : Index := Scalar.indexCast v1090
  ![v1091.toNat]
def k0_mult5 (v1094 : BitVec 32) : BitVec 32 :=
  v1094

def k0_chk33 (v1094 : BitVec 32) : Prop :=
  (8 ∣ (k0_mult5 v1094).toNat)
theorem k0_mult5_dvd : ∀ (v1094 : BitVec 32) (k0_hw33 : k0_chk33 v1094), 8 ∣ (k0_mult5 v1094).toNat := fun v1094 k0_hw33 => k0_hw33

def k0_off66 (i : grid0.Coords) : Fin 1 → Nat :=
  let arg0 : BitVec 32 := BitVec.ofNat 32 (i 0).val
  let c32_i32_242 : BitVec 32 := 32#32
  let v1089 : BitVec 32 := Scalar.muli arg0 c32_i32_242
  let c4_i32_243 : BitVec 32 := 4#32
  let v1090 : BitVec 32 := Scalar.addi v1089 c4_i32_243
  let c7_i32_246 : BitVec 32 := 7#32
  let v1098 : BitVec 32 := Scalar.muli v1090 c7_i32_246
  let c0_i32_247 : BitVec 32 := 0#32
  let v1099 : BitVec 32 := Scalar.addi v1098 c0_i32_247
  let v1100 : Index := Scalar.indexCast v1099
  ![v1100.toNat]
def k0_off67 (v1092 : BitVec 32) (v1094 : BitVec 32) (v1101 : BitVec 32) : Fin 4 → Nat :=
  let v1102 : Index := Scalar.indexCast v1092
  let v1103 : Index := Scalar.indexCast v1101
  let v1095 : BitVec 32 := v1094
  let v1104 : Index := Scalar.indexCast v1095
  let c0_248 : Index := 0#32
  ![v1102.toNat, v1103.toNat, v1104.toNat, 0]

def k0_chk34 (v1092 : BitVec 32) (v1094 : BitVec 32) (v1101 : BitVec 32) : Prop :=
  (∀ a, (k0_off67 v1092 v1094 v1101) a + S1x4x24x256.size a ≤ S2x30x40x256.size a)
theorem k0_off67_inb : ∀ (v1092 : BitVec 32) (v1094 : BitVec 32) (v1101 : BitVec 32) (k0_hw34 : k0_chk34 v1092 v1094 v1101), ∀ a, (k0_off67 v1092 v1094 v1101) a + S1x4x24x256.size a ≤ S2x30x40x256.size a := fun v1092 v1094 v1101 k0_hw34 => k0_hw34

def k0_off68 (i : grid0.Coords) (c0_i32_247 : BitVec 32) : Fin 1 → Nat :=
  let arg0 : BitVec 32 := BitVec.ofNat 32 (i 0).val
  let c32_i32_242 : BitVec 32 := 32#32
  let v1089 : BitVec 32 := Scalar.muli arg0 c32_i32_242
  let c4_i32_243 : BitVec 32 := 4#32
  let v1090 : BitVec 32 := Scalar.addi v1089 c4_i32_243
  let c7_i32_246 : BitVec 32 := 7#32
  let v1098 : BitVec 32 := Scalar.muli v1090 c7_i32_246
  let v1099 : BitVec 32 := Scalar.addi v1098 c0_i32_247
  let v1107 : Index := Scalar.indexCast v1099
  ![v1107.toNat]
def k0_off69 (v1092 : BitVec 32) (v1094 : BitVec 32) (v1138 : BitVec 32) : Fin 4 → Nat :=
  let v1139 : Index := Scalar.indexCast v1092
  let v1140 : Index := Scalar.indexCast v1138
  let v1095 : BitVec 32 := v1094
  let v1141 : Index := Scalar.indexCast v1095
  let c0_256 : Index := 0#32
  ![v1139.toNat, v1140.toNat, v1141.toNat, 0]

def k0_chk35 (v1092 : BitVec 32) (v1094 : BitVec 32) (v1138 : BitVec 32) : Prop :=
  (∀ a, (k0_off69 v1092 v1094 v1138) a + S1x4x24x256.size a ≤ S2x30x40x256.size a)
theorem k0_off69_inb : ∀ (v1092 : BitVec 32) (v1094 : BitVec 32) (v1138 : BitVec 32) (k0_hw35 : k0_chk35 v1092 v1094 v1138), ∀ a, (k0_off69 v1092 v1094 v1138) a + S1x4x24x256.size a ≤ S2x30x40x256.size a := fun v1092 v1094 v1138 k0_hw35 => k0_hw35

def k0_off70 (i : grid0.Coords) (c1_i32_255 : BitVec 32) : Fin 1 → Nat :=
  let arg0 : BitVec 32 := BitVec.ofNat 32 (i 0).val
  let c32_i32_242 : BitVec 32 := 32#32
  let v1089 : BitVec 32 := Scalar.muli arg0 c32_i32_242
  let c4_i32_243 : BitVec 32 := 4#32
  let v1090 : BitVec 32 := Scalar.addi v1089 c4_i32_243
  let c7_i32_254 : BitVec 32 := 7#32
  let v1135 : BitVec 32 := Scalar.muli v1090 c7_i32_254
  let v1136 : BitVec 32 := Scalar.addi v1135 c1_i32_255
  let v1144 : Index := Scalar.indexCast v1136
  ![v1144.toNat]
def k0_off71 (v1092 : BitVec 32) (v1094 : BitVec 32) (v1175 : BitVec 32) : Fin 4 → Nat :=
  let v1176 : Index := Scalar.indexCast v1092
  let v1177 : Index := Scalar.indexCast v1175
  let v1095 : BitVec 32 := v1094
  let v1178 : Index := Scalar.indexCast v1095
  let c0_264 : Index := 0#32
  ![v1176.toNat, v1177.toNat, v1178.toNat, 0]

def k0_chk36 (v1092 : BitVec 32) (v1094 : BitVec 32) (v1175 : BitVec 32) : Prop :=
  (∀ a, (k0_off71 v1092 v1094 v1175) a + S1x4x24x256.size a ≤ S2x30x40x256.size a)
theorem k0_off71_inb : ∀ (v1092 : BitVec 32) (v1094 : BitVec 32) (v1175 : BitVec 32) (k0_hw36 : k0_chk36 v1092 v1094 v1175), ∀ a, (k0_off71 v1092 v1094 v1175) a + S1x4x24x256.size a ≤ S2x30x40x256.size a := fun v1092 v1094 v1175 k0_hw36 => k0_hw36

def k0_off72 (i : grid0.Coords) (c2_i32_263 : BitVec 32) : Fin 1 → Nat :=
  let arg0 : BitVec 32 := BitVec.ofNat 32 (i 0).val
  let c32_i32_242 : BitVec 32 := 32#32
  let v1089 : BitVec 32 := Scalar.muli arg0 c32_i32_242
  let c4_i32_243 : BitVec 32 := 4#32
  let v1090 : BitVec 32 := Scalar.addi v1089 c4_i32_243
  let c7_i32_262 : BitVec 32 := 7#32
  let v1172 : BitVec 32 := Scalar.muli v1090 c7_i32_262
  let v1173 : BitVec 32 := Scalar.addi v1172 c2_i32_263
  let v1181 : Index := Scalar.indexCast v1173
  ![v1181.toNat]
def k0_off73 (v1092 : BitVec 32) (v1094 : BitVec 32) (v1212 : BitVec 32) : Fin 4 → Nat :=
  let v1213 : Index := Scalar.indexCast v1092
  let v1214 : Index := Scalar.indexCast v1212
  let v1095 : BitVec 32 := v1094
  let v1215 : Index := Scalar.indexCast v1095
  let c0_272 : Index := 0#32
  ![v1213.toNat, v1214.toNat, v1215.toNat, 0]

def k0_chk37 (v1092 : BitVec 32) (v1094 : BitVec 32) (v1212 : BitVec 32) : Prop :=
  (∀ a, (k0_off73 v1092 v1094 v1212) a + S1x4x24x256.size a ≤ S2x30x40x256.size a)
theorem k0_off73_inb : ∀ (v1092 : BitVec 32) (v1094 : BitVec 32) (v1212 : BitVec 32) (k0_hw37 : k0_chk37 v1092 v1094 v1212), ∀ a, (k0_off73 v1092 v1094 v1212) a + S1x4x24x256.size a ≤ S2x30x40x256.size a := fun v1092 v1094 v1212 k0_hw37 => k0_hw37

def k0_off74 (i : grid0.Coords) (c3_i32_271 : BitVec 32) : Fin 1 → Nat :=
  let arg0 : BitVec 32 := BitVec.ofNat 32 (i 0).val
  let c32_i32_242 : BitVec 32 := 32#32
  let v1089 : BitVec 32 := Scalar.muli arg0 c32_i32_242
  let c4_i32_243 : BitVec 32 := 4#32
  let v1090 : BitVec 32 := Scalar.addi v1089 c4_i32_243
  let c7_i32_270 : BitVec 32 := 7#32
  let v1209 : BitVec 32 := Scalar.muli v1090 c7_i32_270
  let v1210 : BitVec 32 := Scalar.addi v1209 c3_i32_271
  let v1218 : Index := Scalar.indexCast v1210
  ![v1218.toNat]
def k0_off75 (v1092 : BitVec 32) (v1094 : BitVec 32) (v1249 : BitVec 32) : Fin 4 → Nat :=
  let v1250 : Index := Scalar.indexCast v1092
  let v1251 : Index := Scalar.indexCast v1249
  let v1095 : BitVec 32 := v1094
  let v1252 : Index := Scalar.indexCast v1095
  let c0_280 : Index := 0#32
  ![v1250.toNat, v1251.toNat, v1252.toNat, 0]

def k0_chk38 (v1092 : BitVec 32) (v1094 : BitVec 32) (v1249 : BitVec 32) : Prop :=
  (∀ a, (k0_off75 v1092 v1094 v1249) a + S1x4x24x256.size a ≤ S2x30x40x256.size a)
theorem k0_off75_inb : ∀ (v1092 : BitVec 32) (v1094 : BitVec 32) (v1249 : BitVec 32) (k0_hw38 : k0_chk38 v1092 v1094 v1249), ∀ a, (k0_off75 v1092 v1094 v1249) a + S1x4x24x256.size a ≤ S2x30x40x256.size a := fun v1092 v1094 v1249 k0_hw38 => k0_hw38

def k0_off76 (i : grid0.Coords) (c4_i32_279 : BitVec 32) : Fin 1 → Nat :=
  let arg0 : BitVec 32 := BitVec.ofNat 32 (i 0).val
  let c32_i32_242 : BitVec 32 := 32#32
  let v1089 : BitVec 32 := Scalar.muli arg0 c32_i32_242
  let c4_i32_243 : BitVec 32 := 4#32
  let v1090 : BitVec 32 := Scalar.addi v1089 c4_i32_243
  let c7_i32_278 : BitVec 32 := 7#32
  let v1246 : BitVec 32 := Scalar.muli v1090 c7_i32_278
  let v1247 : BitVec 32 := Scalar.addi v1246 c4_i32_279
  let v1255 : Index := Scalar.indexCast v1247
  ![v1255.toNat]
def k0_off77 (v1092 : BitVec 32) (v1094 : BitVec 32) (v1286 : BitVec 32) : Fin 4 → Nat :=
  let v1287 : Index := Scalar.indexCast v1092
  let v1288 : Index := Scalar.indexCast v1286
  let v1095 : BitVec 32 := v1094
  let v1289 : Index := Scalar.indexCast v1095
  let c0_288 : Index := 0#32
  ![v1287.toNat, v1288.toNat, v1289.toNat, 0]

def k0_chk39 (v1092 : BitVec 32) (v1094 : BitVec 32) (v1286 : BitVec 32) : Prop :=
  (∀ a, (k0_off77 v1092 v1094 v1286) a + S1x4x24x256.size a ≤ S2x30x40x256.size a)
theorem k0_off77_inb : ∀ (v1092 : BitVec 32) (v1094 : BitVec 32) (v1286 : BitVec 32) (k0_hw39 : k0_chk39 v1092 v1094 v1286), ∀ a, (k0_off77 v1092 v1094 v1286) a + S1x4x24x256.size a ≤ S2x30x40x256.size a := fun v1092 v1094 v1286 k0_hw39 => k0_hw39

def k0_off78 (i : grid0.Coords) (c5_i32_287 : BitVec 32) : Fin 1 → Nat :=
  let arg0 : BitVec 32 := BitVec.ofNat 32 (i 0).val
  let c32_i32_242 : BitVec 32 := 32#32
  let v1089 : BitVec 32 := Scalar.muli arg0 c32_i32_242
  let c4_i32_243 : BitVec 32 := 4#32
  let v1090 : BitVec 32 := Scalar.addi v1089 c4_i32_243
  let c7_i32_286 : BitVec 32 := 7#32
  let v1283 : BitVec 32 := Scalar.muli v1090 c7_i32_286
  let v1284 : BitVec 32 := Scalar.addi v1283 c5_i32_287
  let v1292 : Index := Scalar.indexCast v1284
  ![v1292.toNat]
def k0_off79 (v1092 : BitVec 32) (v1094 : BitVec 32) (v1323 : BitVec 32) : Fin 4 → Nat :=
  let v1324 : Index := Scalar.indexCast v1092
  let v1325 : Index := Scalar.indexCast v1323
  let v1095 : BitVec 32 := v1094
  let v1326 : Index := Scalar.indexCast v1095
  let c0_296 : Index := 0#32
  ![v1324.toNat, v1325.toNat, v1326.toNat, 0]

def k0_chk40 (v1092 : BitVec 32) (v1094 : BitVec 32) (v1323 : BitVec 32) : Prop :=
  (∀ a, (k0_off79 v1092 v1094 v1323) a + S1x4x24x256.size a ≤ S2x30x40x256.size a)
theorem k0_off79_inb : ∀ (v1092 : BitVec 32) (v1094 : BitVec 32) (v1323 : BitVec 32) (k0_hw40 : k0_chk40 v1092 v1094 v1323), ∀ a, (k0_off79 v1092 v1094 v1323) a + S1x4x24x256.size a ≤ S2x30x40x256.size a := fun v1092 v1094 v1323 k0_hw40 => k0_hw40

def k0_off80 (i : grid0.Coords) : Fin 1 → Nat :=
  let arg0 : BitVec 32 := BitVec.ofNat 32 (i 0).val
  let c32_i32_242 : BitVec 32 := 32#32
  let v1089 : BitVec 32 := Scalar.muli arg0 c32_i32_242
  let c4_i32_243 : BitVec 32 := 4#32
  let v1090 : BitVec 32 := Scalar.addi v1089 c4_i32_243
  let c7_i32_294 : BitVec 32 := 7#32
  let v1320 : BitVec 32 := Scalar.muli v1090 c7_i32_294
  let c6_i32_295 : BitVec 32 := 6#32
  let v1321 : BitVec 32 := Scalar.addi v1320 c6_i32_295
  let v1329 : Index := Scalar.indexCast v1321
  ![v1329.toNat]
def k0_off81 (i : grid0.Coords) : Fin 1 → Nat :=
  let arg0 : BitVec 32 := BitVec.ofNat 32 (i 0).val
  let c32_i32_305 : BitVec 32 := 32#32
  let v1361 : BitVec 32 := Scalar.muli arg0 c32_i32_305
  let c5_i32_306 : BitVec 32 := 5#32
  let v1362 : BitVec 32 := Scalar.addi v1361 c5_i32_306
  let v1363 : Index := Scalar.indexCast v1362
  ![v1363.toNat]
def k0_mult6 (v1366 : BitVec 32) : BitVec 32 :=
  v1366

def k0_chk41 (v1366 : BitVec 32) : Prop :=
  (8 ∣ (k0_mult6 v1366).toNat)
theorem k0_mult6_dvd : ∀ (v1366 : BitVec 32) (k0_hw41 : k0_chk41 v1366), 8 ∣ (k0_mult6 v1366).toNat := fun v1366 k0_hw41 => k0_hw41

def k0_off82 (i : grid0.Coords) : Fin 1 → Nat :=
  let arg0 : BitVec 32 := BitVec.ofNat 32 (i 0).val
  let c32_i32_305 : BitVec 32 := 32#32
  let v1361 : BitVec 32 := Scalar.muli arg0 c32_i32_305
  let c5_i32_306 : BitVec 32 := 5#32
  let v1362 : BitVec 32 := Scalar.addi v1361 c5_i32_306
  let c7_i32_309 : BitVec 32 := 7#32
  let v1370 : BitVec 32 := Scalar.muli v1362 c7_i32_309
  let c0_i32_310 : BitVec 32 := 0#32
  let v1371 : BitVec 32 := Scalar.addi v1370 c0_i32_310
  let v1372 : Index := Scalar.indexCast v1371
  ![v1372.toNat]
def k0_off83 (v1364 : BitVec 32) (v1366 : BitVec 32) (v1373 : BitVec 32) : Fin 4 → Nat :=
  let v1374 : Index := Scalar.indexCast v1364
  let v1375 : Index := Scalar.indexCast v1373
  let v1367 : BitVec 32 := v1366
  let v1376 : Index := Scalar.indexCast v1367
  let c0_311 : Index := 0#32
  ![v1374.toNat, v1375.toNat, v1376.toNat, 0]

def k0_chk42 (v1364 : BitVec 32) (v1366 : BitVec 32) (v1373 : BitVec 32) : Prop :=
  (∀ a, (k0_off83 v1364 v1366 v1373) a + S1x4x24x256.size a ≤ S2x30x40x256.size a)
theorem k0_off83_inb : ∀ (v1364 : BitVec 32) (v1366 : BitVec 32) (v1373 : BitVec 32) (k0_hw42 : k0_chk42 v1364 v1366 v1373), ∀ a, (k0_off83 v1364 v1366 v1373) a + S1x4x24x256.size a ≤ S2x30x40x256.size a := fun v1364 v1366 v1373 k0_hw42 => k0_hw42

def k0_off84 (i : grid0.Coords) (c0_i32_310 : BitVec 32) : Fin 1 → Nat :=
  let arg0 : BitVec 32 := BitVec.ofNat 32 (i 0).val
  let c32_i32_305 : BitVec 32 := 32#32
  let v1361 : BitVec 32 := Scalar.muli arg0 c32_i32_305
  let c5_i32_306 : BitVec 32 := 5#32
  let v1362 : BitVec 32 := Scalar.addi v1361 c5_i32_306
  let c7_i32_309 : BitVec 32 := 7#32
  let v1370 : BitVec 32 := Scalar.muli v1362 c7_i32_309
  let v1371 : BitVec 32 := Scalar.addi v1370 c0_i32_310
  let v1379 : Index := Scalar.indexCast v1371
  ![v1379.toNat]
def k0_off85 (v1364 : BitVec 32) (v1366 : BitVec 32) (v1410 : BitVec 32) : Fin 4 → Nat :=
  let v1411 : Index := Scalar.indexCast v1364
  let v1412 : Index := Scalar.indexCast v1410
  let v1367 : BitVec 32 := v1366
  let v1413 : Index := Scalar.indexCast v1367
  let c0_319 : Index := 0#32
  ![v1411.toNat, v1412.toNat, v1413.toNat, 0]

def k0_chk43 (v1364 : BitVec 32) (v1366 : BitVec 32) (v1410 : BitVec 32) : Prop :=
  (∀ a, (k0_off85 v1364 v1366 v1410) a + S1x4x24x256.size a ≤ S2x30x40x256.size a)
theorem k0_off85_inb : ∀ (v1364 : BitVec 32) (v1366 : BitVec 32) (v1410 : BitVec 32) (k0_hw43 : k0_chk43 v1364 v1366 v1410), ∀ a, (k0_off85 v1364 v1366 v1410) a + S1x4x24x256.size a ≤ S2x30x40x256.size a := fun v1364 v1366 v1410 k0_hw43 => k0_hw43

def k0_off86 (i : grid0.Coords) (c1_i32_318 : BitVec 32) : Fin 1 → Nat :=
  let arg0 : BitVec 32 := BitVec.ofNat 32 (i 0).val
  let c32_i32_305 : BitVec 32 := 32#32
  let v1361 : BitVec 32 := Scalar.muli arg0 c32_i32_305
  let c5_i32_306 : BitVec 32 := 5#32
  let v1362 : BitVec 32 := Scalar.addi v1361 c5_i32_306
  let c7_i32_317 : BitVec 32 := 7#32
  let v1407 : BitVec 32 := Scalar.muli v1362 c7_i32_317
  let v1408 : BitVec 32 := Scalar.addi v1407 c1_i32_318
  let v1416 : Index := Scalar.indexCast v1408
  ![v1416.toNat]
def k0_off87 (v1364 : BitVec 32) (v1366 : BitVec 32) (v1447 : BitVec 32) : Fin 4 → Nat :=
  let v1448 : Index := Scalar.indexCast v1364
  let v1449 : Index := Scalar.indexCast v1447
  let v1367 : BitVec 32 := v1366
  let v1450 : Index := Scalar.indexCast v1367
  let c0_327 : Index := 0#32
  ![v1448.toNat, v1449.toNat, v1450.toNat, 0]

def k0_chk44 (v1364 : BitVec 32) (v1366 : BitVec 32) (v1447 : BitVec 32) : Prop :=
  (∀ a, (k0_off87 v1364 v1366 v1447) a + S1x4x24x256.size a ≤ S2x30x40x256.size a)
theorem k0_off87_inb : ∀ (v1364 : BitVec 32) (v1366 : BitVec 32) (v1447 : BitVec 32) (k0_hw44 : k0_chk44 v1364 v1366 v1447), ∀ a, (k0_off87 v1364 v1366 v1447) a + S1x4x24x256.size a ≤ S2x30x40x256.size a := fun v1364 v1366 v1447 k0_hw44 => k0_hw44

def k0_off88 (i : grid0.Coords) (c2_i32_326 : BitVec 32) : Fin 1 → Nat :=
  let arg0 : BitVec 32 := BitVec.ofNat 32 (i 0).val
  let c32_i32_305 : BitVec 32 := 32#32
  let v1361 : BitVec 32 := Scalar.muli arg0 c32_i32_305
  let c5_i32_306 : BitVec 32 := 5#32
  let v1362 : BitVec 32 := Scalar.addi v1361 c5_i32_306
  let c7_i32_325 : BitVec 32 := 7#32
  let v1444 : BitVec 32 := Scalar.muli v1362 c7_i32_325
  let v1445 : BitVec 32 := Scalar.addi v1444 c2_i32_326
  let v1453 : Index := Scalar.indexCast v1445
  ![v1453.toNat]
def k0_off89 (v1364 : BitVec 32) (v1366 : BitVec 32) (v1484 : BitVec 32) : Fin 4 → Nat :=
  let v1485 : Index := Scalar.indexCast v1364
  let v1486 : Index := Scalar.indexCast v1484
  let v1367 : BitVec 32 := v1366
  let v1487 : Index := Scalar.indexCast v1367
  let c0_335 : Index := 0#32
  ![v1485.toNat, v1486.toNat, v1487.toNat, 0]

def k0_chk45 (v1364 : BitVec 32) (v1366 : BitVec 32) (v1484 : BitVec 32) : Prop :=
  (∀ a, (k0_off89 v1364 v1366 v1484) a + S1x4x24x256.size a ≤ S2x30x40x256.size a)
theorem k0_off89_inb : ∀ (v1364 : BitVec 32) (v1366 : BitVec 32) (v1484 : BitVec 32) (k0_hw45 : k0_chk45 v1364 v1366 v1484), ∀ a, (k0_off89 v1364 v1366 v1484) a + S1x4x24x256.size a ≤ S2x30x40x256.size a := fun v1364 v1366 v1484 k0_hw45 => k0_hw45

def k0_off90 (i : grid0.Coords) (c3_i32_334 : BitVec 32) : Fin 1 → Nat :=
  let arg0 : BitVec 32 := BitVec.ofNat 32 (i 0).val
  let c32_i32_305 : BitVec 32 := 32#32
  let v1361 : BitVec 32 := Scalar.muli arg0 c32_i32_305
  let c5_i32_306 : BitVec 32 := 5#32
  let v1362 : BitVec 32 := Scalar.addi v1361 c5_i32_306
  let c7_i32_333 : BitVec 32 := 7#32
  let v1481 : BitVec 32 := Scalar.muli v1362 c7_i32_333
  let v1482 : BitVec 32 := Scalar.addi v1481 c3_i32_334
  let v1490 : Index := Scalar.indexCast v1482
  ![v1490.toNat]
def k0_off91 (v1364 : BitVec 32) (v1366 : BitVec 32) (v1521 : BitVec 32) : Fin 4 → Nat :=
  let v1522 : Index := Scalar.indexCast v1364
  let v1523 : Index := Scalar.indexCast v1521
  let v1367 : BitVec 32 := v1366
  let v1524 : Index := Scalar.indexCast v1367
  let c0_343 : Index := 0#32
  ![v1522.toNat, v1523.toNat, v1524.toNat, 0]

def k0_chk46 (v1364 : BitVec 32) (v1366 : BitVec 32) (v1521 : BitVec 32) : Prop :=
  (∀ a, (k0_off91 v1364 v1366 v1521) a + S1x4x24x256.size a ≤ S2x30x40x256.size a)
theorem k0_off91_inb : ∀ (v1364 : BitVec 32) (v1366 : BitVec 32) (v1521 : BitVec 32) (k0_hw46 : k0_chk46 v1364 v1366 v1521), ∀ a, (k0_off91 v1364 v1366 v1521) a + S1x4x24x256.size a ≤ S2x30x40x256.size a := fun v1364 v1366 v1521 k0_hw46 => k0_hw46

def k0_off92 (i : grid0.Coords) (c4_i32_342 : BitVec 32) : Fin 1 → Nat :=
  let arg0 : BitVec 32 := BitVec.ofNat 32 (i 0).val
  let c32_i32_305 : BitVec 32 := 32#32
  let v1361 : BitVec 32 := Scalar.muli arg0 c32_i32_305
  let c5_i32_306 : BitVec 32 := 5#32
  let v1362 : BitVec 32 := Scalar.addi v1361 c5_i32_306
  let c7_i32_341 : BitVec 32 := 7#32
  let v1518 : BitVec 32 := Scalar.muli v1362 c7_i32_341
  let v1519 : BitVec 32 := Scalar.addi v1518 c4_i32_342
  let v1527 : Index := Scalar.indexCast v1519
  ![v1527.toNat]
def k0_off93 (v1364 : BitVec 32) (v1366 : BitVec 32) (v1558 : BitVec 32) : Fin 4 → Nat :=
  let v1559 : Index := Scalar.indexCast v1364
  let v1560 : Index := Scalar.indexCast v1558
  let v1367 : BitVec 32 := v1366
  let v1561 : Index := Scalar.indexCast v1367
  let c0_351 : Index := 0#32
  ![v1559.toNat, v1560.toNat, v1561.toNat, 0]

def k0_chk47 (v1364 : BitVec 32) (v1366 : BitVec 32) (v1558 : BitVec 32) : Prop :=
  (∀ a, (k0_off93 v1364 v1366 v1558) a + S1x4x24x256.size a ≤ S2x30x40x256.size a)
theorem k0_off93_inb : ∀ (v1364 : BitVec 32) (v1366 : BitVec 32) (v1558 : BitVec 32) (k0_hw47 : k0_chk47 v1364 v1366 v1558), ∀ a, (k0_off93 v1364 v1366 v1558) a + S1x4x24x256.size a ≤ S2x30x40x256.size a := fun v1364 v1366 v1558 k0_hw47 => k0_hw47

def k0_off94 (i : grid0.Coords) (c5_i32_350 : BitVec 32) : Fin 1 → Nat :=
  let arg0 : BitVec 32 := BitVec.ofNat 32 (i 0).val
  let c32_i32_305 : BitVec 32 := 32#32
  let v1361 : BitVec 32 := Scalar.muli arg0 c32_i32_305
  let c5_i32_306 : BitVec 32 := 5#32
  let v1362 : BitVec 32 := Scalar.addi v1361 c5_i32_306
  let c7_i32_349 : BitVec 32 := 7#32
  let v1555 : BitVec 32 := Scalar.muli v1362 c7_i32_349
  let v1556 : BitVec 32 := Scalar.addi v1555 c5_i32_350
  let v1564 : Index := Scalar.indexCast v1556
  ![v1564.toNat]
def k0_off95 (v1364 : BitVec 32) (v1366 : BitVec 32) (v1595 : BitVec 32) : Fin 4 → Nat :=
  let v1596 : Index := Scalar.indexCast v1364
  let v1597 : Index := Scalar.indexCast v1595
  let v1367 : BitVec 32 := v1366
  let v1598 : Index := Scalar.indexCast v1367
  let c0_359 : Index := 0#32
  ![v1596.toNat, v1597.toNat, v1598.toNat, 0]

def k0_chk48 (v1364 : BitVec 32) (v1366 : BitVec 32) (v1595 : BitVec 32) : Prop :=
  (∀ a, (k0_off95 v1364 v1366 v1595) a + S1x4x24x256.size a ≤ S2x30x40x256.size a)
theorem k0_off95_inb : ∀ (v1364 : BitVec 32) (v1366 : BitVec 32) (v1595 : BitVec 32) (k0_hw48 : k0_chk48 v1364 v1366 v1595), ∀ a, (k0_off95 v1364 v1366 v1595) a + S1x4x24x256.size a ≤ S2x30x40x256.size a := fun v1364 v1366 v1595 k0_hw48 => k0_hw48

def k0_off96 (i : grid0.Coords) : Fin 1 → Nat :=
  let arg0 : BitVec 32 := BitVec.ofNat 32 (i 0).val
  let c32_i32_305 : BitVec 32 := 32#32
  let v1361 : BitVec 32 := Scalar.muli arg0 c32_i32_305
  let c5_i32_306 : BitVec 32 := 5#32
  let v1362 : BitVec 32 := Scalar.addi v1361 c5_i32_306
  let c7_i32_357 : BitVec 32 := 7#32
  let v1592 : BitVec 32 := Scalar.muli v1362 c7_i32_357
  let c6_i32_358 : BitVec 32 := 6#32
  let v1593 : BitVec 32 := Scalar.addi v1592 c6_i32_358
  let v1601 : Index := Scalar.indexCast v1593
  ![v1601.toNat]
def k0_off97 (i : grid0.Coords) : Fin 1 → Nat :=
  let arg0 : BitVec 32 := BitVec.ofNat 32 (i 0).val
  let c32_i32_368 : BitVec 32 := 32#32
  let v1633 : BitVec 32 := Scalar.muli arg0 c32_i32_368
  let c6_i32_369 : BitVec 32 := 6#32
  let v1634 : BitVec 32 := Scalar.addi v1633 c6_i32_369
  let v1635 : Index := Scalar.indexCast v1634
  ![v1635.toNat]
def k0_mult7 (v1638 : BitVec 32) : BitVec 32 :=
  v1638

def k0_chk49 (v1638 : BitVec 32) : Prop :=
  (8 ∣ (k0_mult7 v1638).toNat)
theorem k0_mult7_dvd : ∀ (v1638 : BitVec 32) (k0_hw49 : k0_chk49 v1638), 8 ∣ (k0_mult7 v1638).toNat := fun v1638 k0_hw49 => k0_hw49

def k0_off98 (i : grid0.Coords) : Fin 1 → Nat :=
  let arg0 : BitVec 32 := BitVec.ofNat 32 (i 0).val
  let c32_i32_368 : BitVec 32 := 32#32
  let v1633 : BitVec 32 := Scalar.muli arg0 c32_i32_368
  let c6_i32_369 : BitVec 32 := 6#32
  let v1634 : BitVec 32 := Scalar.addi v1633 c6_i32_369
  let c7_i32_372 : BitVec 32 := 7#32
  let v1642 : BitVec 32 := Scalar.muli v1634 c7_i32_372
  let c0_i32_373 : BitVec 32 := 0#32
  let v1643 : BitVec 32 := Scalar.addi v1642 c0_i32_373
  let v1644 : Index := Scalar.indexCast v1643
  ![v1644.toNat]
def k0_off99 (v1636 : BitVec 32) (v1638 : BitVec 32) (v1645 : BitVec 32) : Fin 4 → Nat :=
  let v1646 : Index := Scalar.indexCast v1636
  let v1647 : Index := Scalar.indexCast v1645
  let v1639 : BitVec 32 := v1638
  let v1648 : Index := Scalar.indexCast v1639
  let c0_374 : Index := 0#32
  ![v1646.toNat, v1647.toNat, v1648.toNat, 0]

def k0_chk50 (v1636 : BitVec 32) (v1638 : BitVec 32) (v1645 : BitVec 32) : Prop :=
  (∀ a, (k0_off99 v1636 v1638 v1645) a + S1x4x24x256.size a ≤ S2x30x40x256.size a)
theorem k0_off99_inb : ∀ (v1636 : BitVec 32) (v1638 : BitVec 32) (v1645 : BitVec 32) (k0_hw50 : k0_chk50 v1636 v1638 v1645), ∀ a, (k0_off99 v1636 v1638 v1645) a + S1x4x24x256.size a ≤ S2x30x40x256.size a := fun v1636 v1638 v1645 k0_hw50 => k0_hw50

def k0_off100 (i : grid0.Coords) (c0_i32_373 : BitVec 32) : Fin 1 → Nat :=
  let arg0 : BitVec 32 := BitVec.ofNat 32 (i 0).val
  let c32_i32_368 : BitVec 32 := 32#32
  let v1633 : BitVec 32 := Scalar.muli arg0 c32_i32_368
  let c6_i32_369 : BitVec 32 := 6#32
  let v1634 : BitVec 32 := Scalar.addi v1633 c6_i32_369
  let c7_i32_372 : BitVec 32 := 7#32
  let v1642 : BitVec 32 := Scalar.muli v1634 c7_i32_372
  let v1643 : BitVec 32 := Scalar.addi v1642 c0_i32_373
  let v1651 : Index := Scalar.indexCast v1643
  ![v1651.toNat]
def k0_off101 (v1636 : BitVec 32) (v1638 : BitVec 32) (v1682 : BitVec 32) : Fin 4 → Nat :=
  let v1683 : Index := Scalar.indexCast v1636
  let v1684 : Index := Scalar.indexCast v1682
  let v1639 : BitVec 32 := v1638
  let v1685 : Index := Scalar.indexCast v1639
  let c0_382 : Index := 0#32
  ![v1683.toNat, v1684.toNat, v1685.toNat, 0]

def k0_chk51 (v1636 : BitVec 32) (v1638 : BitVec 32) (v1682 : BitVec 32) : Prop :=
  (∀ a, (k0_off101 v1636 v1638 v1682) a + S1x4x24x256.size a ≤ S2x30x40x256.size a)
theorem k0_off101_inb : ∀ (v1636 : BitVec 32) (v1638 : BitVec 32) (v1682 : BitVec 32) (k0_hw51 : k0_chk51 v1636 v1638 v1682), ∀ a, (k0_off101 v1636 v1638 v1682) a + S1x4x24x256.size a ≤ S2x30x40x256.size a := fun v1636 v1638 v1682 k0_hw51 => k0_hw51

def k0_off102 (i : grid0.Coords) (c1_i32_381 : BitVec 32) : Fin 1 → Nat :=
  let arg0 : BitVec 32 := BitVec.ofNat 32 (i 0).val
  let c32_i32_368 : BitVec 32 := 32#32
  let v1633 : BitVec 32 := Scalar.muli arg0 c32_i32_368
  let c6_i32_369 : BitVec 32 := 6#32
  let v1634 : BitVec 32 := Scalar.addi v1633 c6_i32_369
  let c7_i32_380 : BitVec 32 := 7#32
  let v1679 : BitVec 32 := Scalar.muli v1634 c7_i32_380
  let v1680 : BitVec 32 := Scalar.addi v1679 c1_i32_381
  let v1688 : Index := Scalar.indexCast v1680
  ![v1688.toNat]
def k0_off103 (v1636 : BitVec 32) (v1638 : BitVec 32) (v1719 : BitVec 32) : Fin 4 → Nat :=
  let v1720 : Index := Scalar.indexCast v1636
  let v1721 : Index := Scalar.indexCast v1719
  let v1639 : BitVec 32 := v1638
  let v1722 : Index := Scalar.indexCast v1639
  let c0_390 : Index := 0#32
  ![v1720.toNat, v1721.toNat, v1722.toNat, 0]

def k0_chk52 (v1636 : BitVec 32) (v1638 : BitVec 32) (v1719 : BitVec 32) : Prop :=
  (∀ a, (k0_off103 v1636 v1638 v1719) a + S1x4x24x256.size a ≤ S2x30x40x256.size a)
theorem k0_off103_inb : ∀ (v1636 : BitVec 32) (v1638 : BitVec 32) (v1719 : BitVec 32) (k0_hw52 : k0_chk52 v1636 v1638 v1719), ∀ a, (k0_off103 v1636 v1638 v1719) a + S1x4x24x256.size a ≤ S2x30x40x256.size a := fun v1636 v1638 v1719 k0_hw52 => k0_hw52

def k0_off104 (i : grid0.Coords) (c2_i32_389 : BitVec 32) : Fin 1 → Nat :=
  let arg0 : BitVec 32 := BitVec.ofNat 32 (i 0).val
  let c32_i32_368 : BitVec 32 := 32#32
  let v1633 : BitVec 32 := Scalar.muli arg0 c32_i32_368
  let c6_i32_369 : BitVec 32 := 6#32
  let v1634 : BitVec 32 := Scalar.addi v1633 c6_i32_369
  let c7_i32_388 : BitVec 32 := 7#32
  let v1716 : BitVec 32 := Scalar.muli v1634 c7_i32_388
  let v1717 : BitVec 32 := Scalar.addi v1716 c2_i32_389
  let v1725 : Index := Scalar.indexCast v1717
  ![v1725.toNat]
def k0_off105 (v1636 : BitVec 32) (v1638 : BitVec 32) (v1756 : BitVec 32) : Fin 4 → Nat :=
  let v1757 : Index := Scalar.indexCast v1636
  let v1758 : Index := Scalar.indexCast v1756
  let v1639 : BitVec 32 := v1638
  let v1759 : Index := Scalar.indexCast v1639
  let c0_398 : Index := 0#32
  ![v1757.toNat, v1758.toNat, v1759.toNat, 0]

def k0_chk53 (v1636 : BitVec 32) (v1638 : BitVec 32) (v1756 : BitVec 32) : Prop :=
  (∀ a, (k0_off105 v1636 v1638 v1756) a + S1x4x24x256.size a ≤ S2x30x40x256.size a)
theorem k0_off105_inb : ∀ (v1636 : BitVec 32) (v1638 : BitVec 32) (v1756 : BitVec 32) (k0_hw53 : k0_chk53 v1636 v1638 v1756), ∀ a, (k0_off105 v1636 v1638 v1756) a + S1x4x24x256.size a ≤ S2x30x40x256.size a := fun v1636 v1638 v1756 k0_hw53 => k0_hw53

def k0_off106 (i : grid0.Coords) (c3_i32_397 : BitVec 32) : Fin 1 → Nat :=
  let arg0 : BitVec 32 := BitVec.ofNat 32 (i 0).val
  let c32_i32_368 : BitVec 32 := 32#32
  let v1633 : BitVec 32 := Scalar.muli arg0 c32_i32_368
  let c6_i32_369 : BitVec 32 := 6#32
  let v1634 : BitVec 32 := Scalar.addi v1633 c6_i32_369
  let c7_i32_396 : BitVec 32 := 7#32
  let v1753 : BitVec 32 := Scalar.muli v1634 c7_i32_396
  let v1754 : BitVec 32 := Scalar.addi v1753 c3_i32_397
  let v1762 : Index := Scalar.indexCast v1754
  ![v1762.toNat]
def k0_off107 (v1636 : BitVec 32) (v1638 : BitVec 32) (v1793 : BitVec 32) : Fin 4 → Nat :=
  let v1794 : Index := Scalar.indexCast v1636
  let v1795 : Index := Scalar.indexCast v1793
  let v1639 : BitVec 32 := v1638
  let v1796 : Index := Scalar.indexCast v1639
  let c0_406 : Index := 0#32
  ![v1794.toNat, v1795.toNat, v1796.toNat, 0]

def k0_chk54 (v1636 : BitVec 32) (v1638 : BitVec 32) (v1793 : BitVec 32) : Prop :=
  (∀ a, (k0_off107 v1636 v1638 v1793) a + S1x4x24x256.size a ≤ S2x30x40x256.size a)
theorem k0_off107_inb : ∀ (v1636 : BitVec 32) (v1638 : BitVec 32) (v1793 : BitVec 32) (k0_hw54 : k0_chk54 v1636 v1638 v1793), ∀ a, (k0_off107 v1636 v1638 v1793) a + S1x4x24x256.size a ≤ S2x30x40x256.size a := fun v1636 v1638 v1793 k0_hw54 => k0_hw54

def k0_off108 (i : grid0.Coords) (c4_i32_405 : BitVec 32) : Fin 1 → Nat :=
  let arg0 : BitVec 32 := BitVec.ofNat 32 (i 0).val
  let c32_i32_368 : BitVec 32 := 32#32
  let v1633 : BitVec 32 := Scalar.muli arg0 c32_i32_368
  let c6_i32_369 : BitVec 32 := 6#32
  let v1634 : BitVec 32 := Scalar.addi v1633 c6_i32_369
  let c7_i32_404 : BitVec 32 := 7#32
  let v1790 : BitVec 32 := Scalar.muli v1634 c7_i32_404
  let v1791 : BitVec 32 := Scalar.addi v1790 c4_i32_405
  let v1799 : Index := Scalar.indexCast v1791
  ![v1799.toNat]
def k0_off109 (v1636 : BitVec 32) (v1638 : BitVec 32) (v1830 : BitVec 32) : Fin 4 → Nat :=
  let v1831 : Index := Scalar.indexCast v1636
  let v1832 : Index := Scalar.indexCast v1830
  let v1639 : BitVec 32 := v1638
  let v1833 : Index := Scalar.indexCast v1639
  let c0_414 : Index := 0#32
  ![v1831.toNat, v1832.toNat, v1833.toNat, 0]

def k0_chk55 (v1636 : BitVec 32) (v1638 : BitVec 32) (v1830 : BitVec 32) : Prop :=
  (∀ a, (k0_off109 v1636 v1638 v1830) a + S1x4x24x256.size a ≤ S2x30x40x256.size a)
theorem k0_off109_inb : ∀ (v1636 : BitVec 32) (v1638 : BitVec 32) (v1830 : BitVec 32) (k0_hw55 : k0_chk55 v1636 v1638 v1830), ∀ a, (k0_off109 v1636 v1638 v1830) a + S1x4x24x256.size a ≤ S2x30x40x256.size a := fun v1636 v1638 v1830 k0_hw55 => k0_hw55

def k0_off110 (i : grid0.Coords) (c5_i32_413 : BitVec 32) : Fin 1 → Nat :=
  let arg0 : BitVec 32 := BitVec.ofNat 32 (i 0).val
  let c32_i32_368 : BitVec 32 := 32#32
  let v1633 : BitVec 32 := Scalar.muli arg0 c32_i32_368
  let c6_i32_369 : BitVec 32 := 6#32
  let v1634 : BitVec 32 := Scalar.addi v1633 c6_i32_369
  let c7_i32_412 : BitVec 32 := 7#32
  let v1827 : BitVec 32 := Scalar.muli v1634 c7_i32_412
  let v1828 : BitVec 32 := Scalar.addi v1827 c5_i32_413
  let v1836 : Index := Scalar.indexCast v1828
  ![v1836.toNat]
def k0_off111 (v1636 : BitVec 32) (v1638 : BitVec 32) (v1867 : BitVec 32) : Fin 4 → Nat :=
  let v1868 : Index := Scalar.indexCast v1636
  let v1869 : Index := Scalar.indexCast v1867
  let v1639 : BitVec 32 := v1638
  let v1870 : Index := Scalar.indexCast v1639
  let c0_422 : Index := 0#32
  ![v1868.toNat, v1869.toNat, v1870.toNat, 0]

def k0_chk56 (v1636 : BitVec 32) (v1638 : BitVec 32) (v1867 : BitVec 32) : Prop :=
  (∀ a, (k0_off111 v1636 v1638 v1867) a + S1x4x24x256.size a ≤ S2x30x40x256.size a)
theorem k0_off111_inb : ∀ (v1636 : BitVec 32) (v1638 : BitVec 32) (v1867 : BitVec 32) (k0_hw56 : k0_chk56 v1636 v1638 v1867), ∀ a, (k0_off111 v1636 v1638 v1867) a + S1x4x24x256.size a ≤ S2x30x40x256.size a := fun v1636 v1638 v1867 k0_hw56 => k0_hw56

def k0_off112 (i : grid0.Coords) : Fin 1 → Nat :=
  let arg0 : BitVec 32 := BitVec.ofNat 32 (i 0).val
  let c32_i32_368 : BitVec 32 := 32#32
  let v1633 : BitVec 32 := Scalar.muli arg0 c32_i32_368
  let c6_i32_369 : BitVec 32 := 6#32
  let v1634 : BitVec 32 := Scalar.addi v1633 c6_i32_369
  let c7_i32_420 : BitVec 32 := 7#32
  let v1864 : BitVec 32 := Scalar.muli v1634 c7_i32_420
  let c6_i32_421 : BitVec 32 := 6#32
  let v1865 : BitVec 32 := Scalar.addi v1864 c6_i32_421
  let v1873 : Index := Scalar.indexCast v1865
  ![v1873.toNat]
def k0_off113 (i : grid0.Coords) : Fin 1 → Nat :=
  let arg0 : BitVec 32 := BitVec.ofNat 32 (i 0).val
  let c32_i32_431 : BitVec 32 := 32#32
  let v1905 : BitVec 32 := Scalar.muli arg0 c32_i32_431
  let c7_i32_432 : BitVec 32 := 7#32
  let v1906 : BitVec 32 := Scalar.addi v1905 c7_i32_432
  let v1907 : Index := Scalar.indexCast v1906
  ![v1907.toNat]
def k0_mult8 (v1910 : BitVec 32) : BitVec 32 :=
  v1910

def k0_chk57 (v1910 : BitVec 32) : Prop :=
  (8 ∣ (k0_mult8 v1910).toNat)
theorem k0_mult8_dvd : ∀ (v1910 : BitVec 32) (k0_hw57 : k0_chk57 v1910), 8 ∣ (k0_mult8 v1910).toNat := fun v1910 k0_hw57 => k0_hw57

def k0_off114 (i : grid0.Coords) : Fin 1 → Nat :=
  let arg0 : BitVec 32 := BitVec.ofNat 32 (i 0).val
  let c32_i32_431 : BitVec 32 := 32#32
  let v1905 : BitVec 32 := Scalar.muli arg0 c32_i32_431
  let c7_i32_432 : BitVec 32 := 7#32
  let v1906 : BitVec 32 := Scalar.addi v1905 c7_i32_432
  let c7_i32_435 : BitVec 32 := 7#32
  let v1914 : BitVec 32 := Scalar.muli v1906 c7_i32_435
  let c0_i32_436 : BitVec 32 := 0#32
  let v1915 : BitVec 32 := Scalar.addi v1914 c0_i32_436
  let v1916 : Index := Scalar.indexCast v1915
  ![v1916.toNat]
def k0_off115 (v1908 : BitVec 32) (v1910 : BitVec 32) (v1917 : BitVec 32) : Fin 4 → Nat :=
  let v1918 : Index := Scalar.indexCast v1908
  let v1919 : Index := Scalar.indexCast v1917
  let v1911 : BitVec 32 := v1910
  let v1920 : Index := Scalar.indexCast v1911
  let c0_437 : Index := 0#32
  ![v1918.toNat, v1919.toNat, v1920.toNat, 0]

def k0_chk58 (v1908 : BitVec 32) (v1910 : BitVec 32) (v1917 : BitVec 32) : Prop :=
  (∀ a, (k0_off115 v1908 v1910 v1917) a + S1x4x24x256.size a ≤ S2x30x40x256.size a)
theorem k0_off115_inb : ∀ (v1908 : BitVec 32) (v1910 : BitVec 32) (v1917 : BitVec 32) (k0_hw58 : k0_chk58 v1908 v1910 v1917), ∀ a, (k0_off115 v1908 v1910 v1917) a + S1x4x24x256.size a ≤ S2x30x40x256.size a := fun v1908 v1910 v1917 k0_hw58 => k0_hw58

def k0_off116 (i : grid0.Coords) (c0_i32_436 : BitVec 32) : Fin 1 → Nat :=
  let arg0 : BitVec 32 := BitVec.ofNat 32 (i 0).val
  let c32_i32_431 : BitVec 32 := 32#32
  let v1905 : BitVec 32 := Scalar.muli arg0 c32_i32_431
  let c7_i32_432 : BitVec 32 := 7#32
  let v1906 : BitVec 32 := Scalar.addi v1905 c7_i32_432
  let c7_i32_435 : BitVec 32 := 7#32
  let v1914 : BitVec 32 := Scalar.muli v1906 c7_i32_435
  let v1915 : BitVec 32 := Scalar.addi v1914 c0_i32_436
  let v1923 : Index := Scalar.indexCast v1915
  ![v1923.toNat]
def k0_off117 (v1908 : BitVec 32) (v1910 : BitVec 32) (v1954 : BitVec 32) : Fin 4 → Nat :=
  let v1955 : Index := Scalar.indexCast v1908
  let v1956 : Index := Scalar.indexCast v1954
  let v1911 : BitVec 32 := v1910
  let v1957 : Index := Scalar.indexCast v1911
  let c0_445 : Index := 0#32
  ![v1955.toNat, v1956.toNat, v1957.toNat, 0]

def k0_chk59 (v1908 : BitVec 32) (v1910 : BitVec 32) (v1954 : BitVec 32) : Prop :=
  (∀ a, (k0_off117 v1908 v1910 v1954) a + S1x4x24x256.size a ≤ S2x30x40x256.size a)
theorem k0_off117_inb : ∀ (v1908 : BitVec 32) (v1910 : BitVec 32) (v1954 : BitVec 32) (k0_hw59 : k0_chk59 v1908 v1910 v1954), ∀ a, (k0_off117 v1908 v1910 v1954) a + S1x4x24x256.size a ≤ S2x30x40x256.size a := fun v1908 v1910 v1954 k0_hw59 => k0_hw59

def k0_off118 (i : grid0.Coords) (c1_i32_444 : BitVec 32) : Fin 1 → Nat :=
  let arg0 : BitVec 32 := BitVec.ofNat 32 (i 0).val
  let c32_i32_431 : BitVec 32 := 32#32
  let v1905 : BitVec 32 := Scalar.muli arg0 c32_i32_431
  let c7_i32_432 : BitVec 32 := 7#32
  let v1906 : BitVec 32 := Scalar.addi v1905 c7_i32_432
  let c7_i32_443 : BitVec 32 := 7#32
  let v1951 : BitVec 32 := Scalar.muli v1906 c7_i32_443
  let v1952 : BitVec 32 := Scalar.addi v1951 c1_i32_444
  let v1960 : Index := Scalar.indexCast v1952
  ![v1960.toNat]
def k0_off119 (v1908 : BitVec 32) (v1910 : BitVec 32) (v1991 : BitVec 32) : Fin 4 → Nat :=
  let v1992 : Index := Scalar.indexCast v1908
  let v1993 : Index := Scalar.indexCast v1991
  let v1911 : BitVec 32 := v1910
  let v1994 : Index := Scalar.indexCast v1911
  let c0_453 : Index := 0#32
  ![v1992.toNat, v1993.toNat, v1994.toNat, 0]

def k0_chk60 (v1908 : BitVec 32) (v1910 : BitVec 32) (v1991 : BitVec 32) : Prop :=
  (∀ a, (k0_off119 v1908 v1910 v1991) a + S1x4x24x256.size a ≤ S2x30x40x256.size a)
theorem k0_off119_inb : ∀ (v1908 : BitVec 32) (v1910 : BitVec 32) (v1991 : BitVec 32) (k0_hw60 : k0_chk60 v1908 v1910 v1991), ∀ a, (k0_off119 v1908 v1910 v1991) a + S1x4x24x256.size a ≤ S2x30x40x256.size a := fun v1908 v1910 v1991 k0_hw60 => k0_hw60

def k0_off120 (i : grid0.Coords) (c2_i32_452 : BitVec 32) : Fin 1 → Nat :=
  let arg0 : BitVec 32 := BitVec.ofNat 32 (i 0).val
  let c32_i32_431 : BitVec 32 := 32#32
  let v1905 : BitVec 32 := Scalar.muli arg0 c32_i32_431
  let c7_i32_432 : BitVec 32 := 7#32
  let v1906 : BitVec 32 := Scalar.addi v1905 c7_i32_432
  let c7_i32_451 : BitVec 32 := 7#32
  let v1988 : BitVec 32 := Scalar.muli v1906 c7_i32_451
  let v1989 : BitVec 32 := Scalar.addi v1988 c2_i32_452
  let v1997 : Index := Scalar.indexCast v1989
  ![v1997.toNat]
def k0_off121 (v1908 : BitVec 32) (v1910 : BitVec 32) (v2028 : BitVec 32) : Fin 4 → Nat :=
  let v2029 : Index := Scalar.indexCast v1908
  let v2030 : Index := Scalar.indexCast v2028
  let v1911 : BitVec 32 := v1910
  let v2031 : Index := Scalar.indexCast v1911
  let c0_461 : Index := 0#32
  ![v2029.toNat, v2030.toNat, v2031.toNat, 0]

def k0_chk61 (v1908 : BitVec 32) (v1910 : BitVec 32) (v2028 : BitVec 32) : Prop :=
  (∀ a, (k0_off121 v1908 v1910 v2028) a + S1x4x24x256.size a ≤ S2x30x40x256.size a)
theorem k0_off121_inb : ∀ (v1908 : BitVec 32) (v1910 : BitVec 32) (v2028 : BitVec 32) (k0_hw61 : k0_chk61 v1908 v1910 v2028), ∀ a, (k0_off121 v1908 v1910 v2028) a + S1x4x24x256.size a ≤ S2x30x40x256.size a := fun v1908 v1910 v2028 k0_hw61 => k0_hw61

def k0_off122 (i : grid0.Coords) (c3_i32_460 : BitVec 32) : Fin 1 → Nat :=
  let arg0 : BitVec 32 := BitVec.ofNat 32 (i 0).val
  let c32_i32_431 : BitVec 32 := 32#32
  let v1905 : BitVec 32 := Scalar.muli arg0 c32_i32_431
  let c7_i32_432 : BitVec 32 := 7#32
  let v1906 : BitVec 32 := Scalar.addi v1905 c7_i32_432
  let c7_i32_459 : BitVec 32 := 7#32
  let v2025 : BitVec 32 := Scalar.muli v1906 c7_i32_459
  let v2026 : BitVec 32 := Scalar.addi v2025 c3_i32_460
  let v2034 : Index := Scalar.indexCast v2026
  ![v2034.toNat]
def k0_off123 (v1908 : BitVec 32) (v1910 : BitVec 32) (v2065 : BitVec 32) : Fin 4 → Nat :=
  let v2066 : Index := Scalar.indexCast v1908
  let v2067 : Index := Scalar.indexCast v2065
  let v1911 : BitVec 32 := v1910
  let v2068 : Index := Scalar.indexCast v1911
  let c0_469 : Index := 0#32
  ![v2066.toNat, v2067.toNat, v2068.toNat, 0]

def k0_chk62 (v1908 : BitVec 32) (v1910 : BitVec 32) (v2065 : BitVec 32) : Prop :=
  (∀ a, (k0_off123 v1908 v1910 v2065) a + S1x4x24x256.size a ≤ S2x30x40x256.size a)
theorem k0_off123_inb : ∀ (v1908 : BitVec 32) (v1910 : BitVec 32) (v2065 : BitVec 32) (k0_hw62 : k0_chk62 v1908 v1910 v2065), ∀ a, (k0_off123 v1908 v1910 v2065) a + S1x4x24x256.size a ≤ S2x30x40x256.size a := fun v1908 v1910 v2065 k0_hw62 => k0_hw62

def k0_off124 (i : grid0.Coords) (c4_i32_468 : BitVec 32) : Fin 1 → Nat :=
  let arg0 : BitVec 32 := BitVec.ofNat 32 (i 0).val
  let c32_i32_431 : BitVec 32 := 32#32
  let v1905 : BitVec 32 := Scalar.muli arg0 c32_i32_431
  let c7_i32_432 : BitVec 32 := 7#32
  let v1906 : BitVec 32 := Scalar.addi v1905 c7_i32_432
  let c7_i32_467 : BitVec 32 := 7#32
  let v2062 : BitVec 32 := Scalar.muli v1906 c7_i32_467
  let v2063 : BitVec 32 := Scalar.addi v2062 c4_i32_468
  let v2071 : Index := Scalar.indexCast v2063
  ![v2071.toNat]
def k0_off125 (v1908 : BitVec 32) (v1910 : BitVec 32) (v2102 : BitVec 32) : Fin 4 → Nat :=
  let v2103 : Index := Scalar.indexCast v1908
  let v2104 : Index := Scalar.indexCast v2102
  let v1911 : BitVec 32 := v1910
  let v2105 : Index := Scalar.indexCast v1911
  let c0_477 : Index := 0#32
  ![v2103.toNat, v2104.toNat, v2105.toNat, 0]

def k0_chk63 (v1908 : BitVec 32) (v1910 : BitVec 32) (v2102 : BitVec 32) : Prop :=
  (∀ a, (k0_off125 v1908 v1910 v2102) a + S1x4x24x256.size a ≤ S2x30x40x256.size a)
theorem k0_off125_inb : ∀ (v1908 : BitVec 32) (v1910 : BitVec 32) (v2102 : BitVec 32) (k0_hw63 : k0_chk63 v1908 v1910 v2102), ∀ a, (k0_off125 v1908 v1910 v2102) a + S1x4x24x256.size a ≤ S2x30x40x256.size a := fun v1908 v1910 v2102 k0_hw63 => k0_hw63

def k0_off126 (i : grid0.Coords) (c5_i32_476 : BitVec 32) : Fin 1 → Nat :=
  let arg0 : BitVec 32 := BitVec.ofNat 32 (i 0).val
  let c32_i32_431 : BitVec 32 := 32#32
  let v1905 : BitVec 32 := Scalar.muli arg0 c32_i32_431
  let c7_i32_432 : BitVec 32 := 7#32
  let v1906 : BitVec 32 := Scalar.addi v1905 c7_i32_432
  let c7_i32_475 : BitVec 32 := 7#32
  let v2099 : BitVec 32 := Scalar.muli v1906 c7_i32_475
  let v2100 : BitVec 32 := Scalar.addi v2099 c5_i32_476
  let v2108 : Index := Scalar.indexCast v2100
  ![v2108.toNat]
def k0_off127 (v1908 : BitVec 32) (v1910 : BitVec 32) (v2139 : BitVec 32) : Fin 4 → Nat :=
  let v2140 : Index := Scalar.indexCast v1908
  let v2141 : Index := Scalar.indexCast v2139
  let v1911 : BitVec 32 := v1910
  let v2142 : Index := Scalar.indexCast v1911
  let c0_485 : Index := 0#32
  ![v2140.toNat, v2141.toNat, v2142.toNat, 0]

def k0_chk64 (v1908 : BitVec 32) (v1910 : BitVec 32) (v2139 : BitVec 32) : Prop :=
  (∀ a, (k0_off127 v1908 v1910 v2139) a + S1x4x24x256.size a ≤ S2x30x40x256.size a)
theorem k0_off127_inb : ∀ (v1908 : BitVec 32) (v1910 : BitVec 32) (v2139 : BitVec 32) (k0_hw64 : k0_chk64 v1908 v1910 v2139), ∀ a, (k0_off127 v1908 v1910 v2139) a + S1x4x24x256.size a ≤ S2x30x40x256.size a := fun v1908 v1910 v2139 k0_hw64 => k0_hw64

def k0_off128 (i : grid0.Coords) : Fin 1 → Nat :=
  let arg0 : BitVec 32 := BitVec.ofNat 32 (i 0).val
  let c32_i32_431 : BitVec 32 := 32#32
  let v1905 : BitVec 32 := Scalar.muli arg0 c32_i32_431
  let c7_i32_432 : BitVec 32 := 7#32
  let v1906 : BitVec 32 := Scalar.addi v1905 c7_i32_432
  let c7_i32_483 : BitVec 32 := 7#32
  let v2136 : BitVec 32 := Scalar.muli v1906 c7_i32_483
  let c6_i32_484 : BitVec 32 := 6#32
  let v2137 : BitVec 32 := Scalar.addi v2136 c6_i32_484
  let v2145 : Index := Scalar.indexCast v2137
  ![v2145.toNat]
def k0_off129 (i : grid0.Coords) : Fin 1 → Nat :=
  let arg0 : BitVec 32 := BitVec.ofNat 32 (i 0).val
  let c32_i32_494 : BitVec 32 := 32#32
  let v2177 : BitVec 32 := Scalar.muli arg0 c32_i32_494
  let c8_i32 : BitVec 32 := 8#32
  let v2178 : BitVec 32 := Scalar.addi v2177 c8_i32
  let v2179 : Index := Scalar.indexCast v2178
  ![v2179.toNat]
def k0_mult9 (v2182 : BitVec 32) : BitVec 32 :=
  v2182

def k0_chk65 (v2182 : BitVec 32) : Prop :=
  (8 ∣ (k0_mult9 v2182).toNat)
theorem k0_mult9_dvd : ∀ (v2182 : BitVec 32) (k0_hw65 : k0_chk65 v2182), 8 ∣ (k0_mult9 v2182).toNat := fun v2182 k0_hw65 => k0_hw65

def k0_off130 (i : grid0.Coords) : Fin 1 → Nat :=
  let arg0 : BitVec 32 := BitVec.ofNat 32 (i 0).val
  let c32_i32_494 : BitVec 32 := 32#32
  let v2177 : BitVec 32 := Scalar.muli arg0 c32_i32_494
  let c8_i32 : BitVec 32 := 8#32
  let v2178 : BitVec 32 := Scalar.addi v2177 c8_i32
  let c7_i32_497 : BitVec 32 := 7#32
  let v2186 : BitVec 32 := Scalar.muli v2178 c7_i32_497
  let c0_i32_498 : BitVec 32 := 0#32
  let v2187 : BitVec 32 := Scalar.addi v2186 c0_i32_498
  let v2188 : Index := Scalar.indexCast v2187
  ![v2188.toNat]
def k0_off131 (v2180 : BitVec 32) (v2182 : BitVec 32) (v2189 : BitVec 32) : Fin 4 → Nat :=
  let v2190 : Index := Scalar.indexCast v2180
  let v2191 : Index := Scalar.indexCast v2189
  let v2183 : BitVec 32 := v2182
  let v2192 : Index := Scalar.indexCast v2183
  let c0_499 : Index := 0#32
  ![v2190.toNat, v2191.toNat, v2192.toNat, 0]

def k0_chk66 (v2180 : BitVec 32) (v2182 : BitVec 32) (v2189 : BitVec 32) : Prop :=
  (∀ a, (k0_off131 v2180 v2182 v2189) a + S1x4x24x256.size a ≤ S2x30x40x256.size a)
theorem k0_off131_inb : ∀ (v2180 : BitVec 32) (v2182 : BitVec 32) (v2189 : BitVec 32) (k0_hw66 : k0_chk66 v2180 v2182 v2189), ∀ a, (k0_off131 v2180 v2182 v2189) a + S1x4x24x256.size a ≤ S2x30x40x256.size a := fun v2180 v2182 v2189 k0_hw66 => k0_hw66

def k0_off132 (i : grid0.Coords) (c0_i32_498 : BitVec 32) : Fin 1 → Nat :=
  let arg0 : BitVec 32 := BitVec.ofNat 32 (i 0).val
  let c32_i32_494 : BitVec 32 := 32#32
  let v2177 : BitVec 32 := Scalar.muli arg0 c32_i32_494
  let c8_i32 : BitVec 32 := 8#32
  let v2178 : BitVec 32 := Scalar.addi v2177 c8_i32
  let c7_i32_497 : BitVec 32 := 7#32
  let v2186 : BitVec 32 := Scalar.muli v2178 c7_i32_497
  let v2187 : BitVec 32 := Scalar.addi v2186 c0_i32_498
  let v2195 : Index := Scalar.indexCast v2187
  ![v2195.toNat]
def k0_off133 (v2180 : BitVec 32) (v2182 : BitVec 32) (v2226 : BitVec 32) : Fin 4 → Nat :=
  let v2227 : Index := Scalar.indexCast v2180
  let v2228 : Index := Scalar.indexCast v2226
  let v2183 : BitVec 32 := v2182
  let v2229 : Index := Scalar.indexCast v2183
  let c0_507 : Index := 0#32
  ![v2227.toNat, v2228.toNat, v2229.toNat, 0]

def k0_chk67 (v2180 : BitVec 32) (v2182 : BitVec 32) (v2226 : BitVec 32) : Prop :=
  (∀ a, (k0_off133 v2180 v2182 v2226) a + S1x4x24x256.size a ≤ S2x30x40x256.size a)
theorem k0_off133_inb : ∀ (v2180 : BitVec 32) (v2182 : BitVec 32) (v2226 : BitVec 32) (k0_hw67 : k0_chk67 v2180 v2182 v2226), ∀ a, (k0_off133 v2180 v2182 v2226) a + S1x4x24x256.size a ≤ S2x30x40x256.size a := fun v2180 v2182 v2226 k0_hw67 => k0_hw67

def k0_off134 (i : grid0.Coords) (c1_i32_506 : BitVec 32) : Fin 1 → Nat :=
  let arg0 : BitVec 32 := BitVec.ofNat 32 (i 0).val
  let c32_i32_494 : BitVec 32 := 32#32
  let v2177 : BitVec 32 := Scalar.muli arg0 c32_i32_494
  let c8_i32 : BitVec 32 := 8#32
  let v2178 : BitVec 32 := Scalar.addi v2177 c8_i32
  let c7_i32_505 : BitVec 32 := 7#32
  let v2223 : BitVec 32 := Scalar.muli v2178 c7_i32_505
  let v2224 : BitVec 32 := Scalar.addi v2223 c1_i32_506
  let v2232 : Index := Scalar.indexCast v2224
  ![v2232.toNat]
def k0_off135 (v2180 : BitVec 32) (v2182 : BitVec 32) (v2263 : BitVec 32) : Fin 4 → Nat :=
  let v2264 : Index := Scalar.indexCast v2180
  let v2265 : Index := Scalar.indexCast v2263
  let v2183 : BitVec 32 := v2182
  let v2266 : Index := Scalar.indexCast v2183
  let c0_515 : Index := 0#32
  ![v2264.toNat, v2265.toNat, v2266.toNat, 0]

def k0_chk68 (v2180 : BitVec 32) (v2182 : BitVec 32) (v2263 : BitVec 32) : Prop :=
  (∀ a, (k0_off135 v2180 v2182 v2263) a + S1x4x24x256.size a ≤ S2x30x40x256.size a)
theorem k0_off135_inb : ∀ (v2180 : BitVec 32) (v2182 : BitVec 32) (v2263 : BitVec 32) (k0_hw68 : k0_chk68 v2180 v2182 v2263), ∀ a, (k0_off135 v2180 v2182 v2263) a + S1x4x24x256.size a ≤ S2x30x40x256.size a := fun v2180 v2182 v2263 k0_hw68 => k0_hw68

def k0_off136 (i : grid0.Coords) (c2_i32_514 : BitVec 32) : Fin 1 → Nat :=
  let arg0 : BitVec 32 := BitVec.ofNat 32 (i 0).val
  let c32_i32_494 : BitVec 32 := 32#32
  let v2177 : BitVec 32 := Scalar.muli arg0 c32_i32_494
  let c8_i32 : BitVec 32 := 8#32
  let v2178 : BitVec 32 := Scalar.addi v2177 c8_i32
  let c7_i32_513 : BitVec 32 := 7#32
  let v2260 : BitVec 32 := Scalar.muli v2178 c7_i32_513
  let v2261 : BitVec 32 := Scalar.addi v2260 c2_i32_514
  let v2269 : Index := Scalar.indexCast v2261
  ![v2269.toNat]
def k0_off137 (v2180 : BitVec 32) (v2182 : BitVec 32) (v2300 : BitVec 32) : Fin 4 → Nat :=
  let v2301 : Index := Scalar.indexCast v2180
  let v2302 : Index := Scalar.indexCast v2300
  let v2183 : BitVec 32 := v2182
  let v2303 : Index := Scalar.indexCast v2183
  let c0_523 : Index := 0#32
  ![v2301.toNat, v2302.toNat, v2303.toNat, 0]

def k0_chk69 (v2180 : BitVec 32) (v2182 : BitVec 32) (v2300 : BitVec 32) : Prop :=
  (∀ a, (k0_off137 v2180 v2182 v2300) a + S1x4x24x256.size a ≤ S2x30x40x256.size a)
theorem k0_off137_inb : ∀ (v2180 : BitVec 32) (v2182 : BitVec 32) (v2300 : BitVec 32) (k0_hw69 : k0_chk69 v2180 v2182 v2300), ∀ a, (k0_off137 v2180 v2182 v2300) a + S1x4x24x256.size a ≤ S2x30x40x256.size a := fun v2180 v2182 v2300 k0_hw69 => k0_hw69

def k0_off138 (i : grid0.Coords) (c3_i32_522 : BitVec 32) : Fin 1 → Nat :=
  let arg0 : BitVec 32 := BitVec.ofNat 32 (i 0).val
  let c32_i32_494 : BitVec 32 := 32#32
  let v2177 : BitVec 32 := Scalar.muli arg0 c32_i32_494
  let c8_i32 : BitVec 32 := 8#32
  let v2178 : BitVec 32 := Scalar.addi v2177 c8_i32
  let c7_i32_521 : BitVec 32 := 7#32
  let v2297 : BitVec 32 := Scalar.muli v2178 c7_i32_521
  let v2298 : BitVec 32 := Scalar.addi v2297 c3_i32_522
  let v2306 : Index := Scalar.indexCast v2298
  ![v2306.toNat]
def k0_off139 (v2180 : BitVec 32) (v2182 : BitVec 32) (v2337 : BitVec 32) : Fin 4 → Nat :=
  let v2338 : Index := Scalar.indexCast v2180
  let v2339 : Index := Scalar.indexCast v2337
  let v2183 : BitVec 32 := v2182
  let v2340 : Index := Scalar.indexCast v2183
  let c0_531 : Index := 0#32
  ![v2338.toNat, v2339.toNat, v2340.toNat, 0]

def k0_chk70 (v2180 : BitVec 32) (v2182 : BitVec 32) (v2337 : BitVec 32) : Prop :=
  (∀ a, (k0_off139 v2180 v2182 v2337) a + S1x4x24x256.size a ≤ S2x30x40x256.size a)
theorem k0_off139_inb : ∀ (v2180 : BitVec 32) (v2182 : BitVec 32) (v2337 : BitVec 32) (k0_hw70 : k0_chk70 v2180 v2182 v2337), ∀ a, (k0_off139 v2180 v2182 v2337) a + S1x4x24x256.size a ≤ S2x30x40x256.size a := fun v2180 v2182 v2337 k0_hw70 => k0_hw70

def k0_off140 (i : grid0.Coords) (c4_i32_530 : BitVec 32) : Fin 1 → Nat :=
  let arg0 : BitVec 32 := BitVec.ofNat 32 (i 0).val
  let c32_i32_494 : BitVec 32 := 32#32
  let v2177 : BitVec 32 := Scalar.muli arg0 c32_i32_494
  let c8_i32 : BitVec 32 := 8#32
  let v2178 : BitVec 32 := Scalar.addi v2177 c8_i32
  let c7_i32_529 : BitVec 32 := 7#32
  let v2334 : BitVec 32 := Scalar.muli v2178 c7_i32_529
  let v2335 : BitVec 32 := Scalar.addi v2334 c4_i32_530
  let v2343 : Index := Scalar.indexCast v2335
  ![v2343.toNat]
def k0_off141 (v2180 : BitVec 32) (v2182 : BitVec 32) (v2374 : BitVec 32) : Fin 4 → Nat :=
  let v2375 : Index := Scalar.indexCast v2180
  let v2376 : Index := Scalar.indexCast v2374
  let v2183 : BitVec 32 := v2182
  let v2377 : Index := Scalar.indexCast v2183
  let c0_539 : Index := 0#32
  ![v2375.toNat, v2376.toNat, v2377.toNat, 0]

def k0_chk71 (v2180 : BitVec 32) (v2182 : BitVec 32) (v2374 : BitVec 32) : Prop :=
  (∀ a, (k0_off141 v2180 v2182 v2374) a + S1x4x24x256.size a ≤ S2x30x40x256.size a)
theorem k0_off141_inb : ∀ (v2180 : BitVec 32) (v2182 : BitVec 32) (v2374 : BitVec 32) (k0_hw71 : k0_chk71 v2180 v2182 v2374), ∀ a, (k0_off141 v2180 v2182 v2374) a + S1x4x24x256.size a ≤ S2x30x40x256.size a := fun v2180 v2182 v2374 k0_hw71 => k0_hw71

def k0_off142 (i : grid0.Coords) (c5_i32_538 : BitVec 32) : Fin 1 → Nat :=
  let arg0 : BitVec 32 := BitVec.ofNat 32 (i 0).val
  let c32_i32_494 : BitVec 32 := 32#32
  let v2177 : BitVec 32 := Scalar.muli arg0 c32_i32_494
  let c8_i32 : BitVec 32 := 8#32
  let v2178 : BitVec 32 := Scalar.addi v2177 c8_i32
  let c7_i32_537 : BitVec 32 := 7#32
  let v2371 : BitVec 32 := Scalar.muli v2178 c7_i32_537
  let v2372 : BitVec 32 := Scalar.addi v2371 c5_i32_538
  let v2380 : Index := Scalar.indexCast v2372
  ![v2380.toNat]
def k0_off143 (v2180 : BitVec 32) (v2182 : BitVec 32) (v2411 : BitVec 32) : Fin 4 → Nat :=
  let v2412 : Index := Scalar.indexCast v2180
  let v2413 : Index := Scalar.indexCast v2411
  let v2183 : BitVec 32 := v2182
  let v2414 : Index := Scalar.indexCast v2183
  let c0_547 : Index := 0#32
  ![v2412.toNat, v2413.toNat, v2414.toNat, 0]

def k0_chk72 (v2180 : BitVec 32) (v2182 : BitVec 32) (v2411 : BitVec 32) : Prop :=
  (∀ a, (k0_off143 v2180 v2182 v2411) a + S1x4x24x256.size a ≤ S2x30x40x256.size a)
theorem k0_off143_inb : ∀ (v2180 : BitVec 32) (v2182 : BitVec 32) (v2411 : BitVec 32) (k0_hw72 : k0_chk72 v2180 v2182 v2411), ∀ a, (k0_off143 v2180 v2182 v2411) a + S1x4x24x256.size a ≤ S2x30x40x256.size a := fun v2180 v2182 v2411 k0_hw72 => k0_hw72

def k0_off144 (i : grid0.Coords) : Fin 1 → Nat :=
  let arg0 : BitVec 32 := BitVec.ofNat 32 (i 0).val
  let c32_i32_494 : BitVec 32 := 32#32
  let v2177 : BitVec 32 := Scalar.muli arg0 c32_i32_494
  let c8_i32 : BitVec 32 := 8#32
  let v2178 : BitVec 32 := Scalar.addi v2177 c8_i32
  let c7_i32_545 : BitVec 32 := 7#32
  let v2408 : BitVec 32 := Scalar.muli v2178 c7_i32_545
  let c6_i32_546 : BitVec 32 := 6#32
  let v2409 : BitVec 32 := Scalar.addi v2408 c6_i32_546
  let v2417 : Index := Scalar.indexCast v2409
  ![v2417.toNat]
def k0_off145 (i : grid0.Coords) : Fin 1 → Nat :=
  let arg0 : BitVec 32 := BitVec.ofNat 32 (i 0).val
  let c32_i32_556 : BitVec 32 := 32#32
  let v2449 : BitVec 32 := Scalar.muli arg0 c32_i32_556
  let c9_i32 : BitVec 32 := 9#32
  let v2450 : BitVec 32 := Scalar.addi v2449 c9_i32
  let v2451 : Index := Scalar.indexCast v2450
  ![v2451.toNat]
def k0_mult10 (v2454 : BitVec 32) : BitVec 32 :=
  v2454

def k0_chk73 (v2454 : BitVec 32) : Prop :=
  (8 ∣ (k0_mult10 v2454).toNat)
theorem k0_mult10_dvd : ∀ (v2454 : BitVec 32) (k0_hw73 : k0_chk73 v2454), 8 ∣ (k0_mult10 v2454).toNat := fun v2454 k0_hw73 => k0_hw73

def k0_off146 (i : grid0.Coords) : Fin 1 → Nat :=
  let arg0 : BitVec 32 := BitVec.ofNat 32 (i 0).val
  let c32_i32_556 : BitVec 32 := 32#32
  let v2449 : BitVec 32 := Scalar.muli arg0 c32_i32_556
  let c9_i32 : BitVec 32 := 9#32
  let v2450 : BitVec 32 := Scalar.addi v2449 c9_i32
  let c7_i32_559 : BitVec 32 := 7#32
  let v2458 : BitVec 32 := Scalar.muli v2450 c7_i32_559
  let c0_i32_560 : BitVec 32 := 0#32
  let v2459 : BitVec 32 := Scalar.addi v2458 c0_i32_560
  let v2460 : Index := Scalar.indexCast v2459
  ![v2460.toNat]
def k0_off147 (v2452 : BitVec 32) (v2454 : BitVec 32) (v2461 : BitVec 32) : Fin 4 → Nat :=
  let v2462 : Index := Scalar.indexCast v2452
  let v2463 : Index := Scalar.indexCast v2461
  let v2455 : BitVec 32 := v2454
  let v2464 : Index := Scalar.indexCast v2455
  let c0_561 : Index := 0#32
  ![v2462.toNat, v2463.toNat, v2464.toNat, 0]

def k0_chk74 (v2452 : BitVec 32) (v2454 : BitVec 32) (v2461 : BitVec 32) : Prop :=
  (∀ a, (k0_off147 v2452 v2454 v2461) a + S1x4x24x256.size a ≤ S2x30x40x256.size a)
theorem k0_off147_inb : ∀ (v2452 : BitVec 32) (v2454 : BitVec 32) (v2461 : BitVec 32) (k0_hw74 : k0_chk74 v2452 v2454 v2461), ∀ a, (k0_off147 v2452 v2454 v2461) a + S1x4x24x256.size a ≤ S2x30x40x256.size a := fun v2452 v2454 v2461 k0_hw74 => k0_hw74

def k0_off148 (i : grid0.Coords) (c0_i32_560 : BitVec 32) : Fin 1 → Nat :=
  let arg0 : BitVec 32 := BitVec.ofNat 32 (i 0).val
  let c32_i32_556 : BitVec 32 := 32#32
  let v2449 : BitVec 32 := Scalar.muli arg0 c32_i32_556
  let c9_i32 : BitVec 32 := 9#32
  let v2450 : BitVec 32 := Scalar.addi v2449 c9_i32
  let c7_i32_559 : BitVec 32 := 7#32
  let v2458 : BitVec 32 := Scalar.muli v2450 c7_i32_559
  let v2459 : BitVec 32 := Scalar.addi v2458 c0_i32_560
  let v2467 : Index := Scalar.indexCast v2459
  ![v2467.toNat]
def k0_off149 (v2452 : BitVec 32) (v2454 : BitVec 32) (v2498 : BitVec 32) : Fin 4 → Nat :=
  let v2499 : Index := Scalar.indexCast v2452
  let v2500 : Index := Scalar.indexCast v2498
  let v2455 : BitVec 32 := v2454
  let v2501 : Index := Scalar.indexCast v2455
  let c0_569 : Index := 0#32
  ![v2499.toNat, v2500.toNat, v2501.toNat, 0]

def k0_chk75 (v2452 : BitVec 32) (v2454 : BitVec 32) (v2498 : BitVec 32) : Prop :=
  (∀ a, (k0_off149 v2452 v2454 v2498) a + S1x4x24x256.size a ≤ S2x30x40x256.size a)
theorem k0_off149_inb : ∀ (v2452 : BitVec 32) (v2454 : BitVec 32) (v2498 : BitVec 32) (k0_hw75 : k0_chk75 v2452 v2454 v2498), ∀ a, (k0_off149 v2452 v2454 v2498) a + S1x4x24x256.size a ≤ S2x30x40x256.size a := fun v2452 v2454 v2498 k0_hw75 => k0_hw75

def k0_off150 (i : grid0.Coords) (c1_i32_568 : BitVec 32) : Fin 1 → Nat :=
  let arg0 : BitVec 32 := BitVec.ofNat 32 (i 0).val
  let c32_i32_556 : BitVec 32 := 32#32
  let v2449 : BitVec 32 := Scalar.muli arg0 c32_i32_556
  let c9_i32 : BitVec 32 := 9#32
  let v2450 : BitVec 32 := Scalar.addi v2449 c9_i32
  let c7_i32_567 : BitVec 32 := 7#32
  let v2495 : BitVec 32 := Scalar.muli v2450 c7_i32_567
  let v2496 : BitVec 32 := Scalar.addi v2495 c1_i32_568
  let v2504 : Index := Scalar.indexCast v2496
  ![v2504.toNat]
def k0_off151 (v2452 : BitVec 32) (v2454 : BitVec 32) (v2535 : BitVec 32) : Fin 4 → Nat :=
  let v2536 : Index := Scalar.indexCast v2452
  let v2537 : Index := Scalar.indexCast v2535
  let v2455 : BitVec 32 := v2454
  let v2538 : Index := Scalar.indexCast v2455
  let c0_577 : Index := 0#32
  ![v2536.toNat, v2537.toNat, v2538.toNat, 0]

def k0_chk76 (v2452 : BitVec 32) (v2454 : BitVec 32) (v2535 : BitVec 32) : Prop :=
  (∀ a, (k0_off151 v2452 v2454 v2535) a + S1x4x24x256.size a ≤ S2x30x40x256.size a)
theorem k0_off151_inb : ∀ (v2452 : BitVec 32) (v2454 : BitVec 32) (v2535 : BitVec 32) (k0_hw76 : k0_chk76 v2452 v2454 v2535), ∀ a, (k0_off151 v2452 v2454 v2535) a + S1x4x24x256.size a ≤ S2x30x40x256.size a := fun v2452 v2454 v2535 k0_hw76 => k0_hw76

def k0_off152 (i : grid0.Coords) (c2_i32_576 : BitVec 32) : Fin 1 → Nat :=
  let arg0 : BitVec 32 := BitVec.ofNat 32 (i 0).val
  let c32_i32_556 : BitVec 32 := 32#32
  let v2449 : BitVec 32 := Scalar.muli arg0 c32_i32_556
  let c9_i32 : BitVec 32 := 9#32
  let v2450 : BitVec 32 := Scalar.addi v2449 c9_i32
  let c7_i32_575 : BitVec 32 := 7#32
  let v2532 : BitVec 32 := Scalar.muli v2450 c7_i32_575
  let v2533 : BitVec 32 := Scalar.addi v2532 c2_i32_576
  let v2541 : Index := Scalar.indexCast v2533
  ![v2541.toNat]
def k0_off153 (v2452 : BitVec 32) (v2454 : BitVec 32) (v2572 : BitVec 32) : Fin 4 → Nat :=
  let v2573 : Index := Scalar.indexCast v2452
  let v2574 : Index := Scalar.indexCast v2572
  let v2455 : BitVec 32 := v2454
  let v2575 : Index := Scalar.indexCast v2455
  let c0_585 : Index := 0#32
  ![v2573.toNat, v2574.toNat, v2575.toNat, 0]

def k0_chk77 (v2452 : BitVec 32) (v2454 : BitVec 32) (v2572 : BitVec 32) : Prop :=
  (∀ a, (k0_off153 v2452 v2454 v2572) a + S1x4x24x256.size a ≤ S2x30x40x256.size a)
theorem k0_off153_inb : ∀ (v2452 : BitVec 32) (v2454 : BitVec 32) (v2572 : BitVec 32) (k0_hw77 : k0_chk77 v2452 v2454 v2572), ∀ a, (k0_off153 v2452 v2454 v2572) a + S1x4x24x256.size a ≤ S2x30x40x256.size a := fun v2452 v2454 v2572 k0_hw77 => k0_hw77

def k0_off154 (i : grid0.Coords) (c3_i32_584 : BitVec 32) : Fin 1 → Nat :=
  let arg0 : BitVec 32 := BitVec.ofNat 32 (i 0).val
  let c32_i32_556 : BitVec 32 := 32#32
  let v2449 : BitVec 32 := Scalar.muli arg0 c32_i32_556
  let c9_i32 : BitVec 32 := 9#32
  let v2450 : BitVec 32 := Scalar.addi v2449 c9_i32
  let c7_i32_583 : BitVec 32 := 7#32
  let v2569 : BitVec 32 := Scalar.muli v2450 c7_i32_583
  let v2570 : BitVec 32 := Scalar.addi v2569 c3_i32_584
  let v2578 : Index := Scalar.indexCast v2570
  ![v2578.toNat]
def k0_off155 (v2452 : BitVec 32) (v2454 : BitVec 32) (v2609 : BitVec 32) : Fin 4 → Nat :=
  let v2610 : Index := Scalar.indexCast v2452
  let v2611 : Index := Scalar.indexCast v2609
  let v2455 : BitVec 32 := v2454
  let v2612 : Index := Scalar.indexCast v2455
  let c0_593 : Index := 0#32
  ![v2610.toNat, v2611.toNat, v2612.toNat, 0]

def k0_chk78 (v2452 : BitVec 32) (v2454 : BitVec 32) (v2609 : BitVec 32) : Prop :=
  (∀ a, (k0_off155 v2452 v2454 v2609) a + S1x4x24x256.size a ≤ S2x30x40x256.size a)
theorem k0_off155_inb : ∀ (v2452 : BitVec 32) (v2454 : BitVec 32) (v2609 : BitVec 32) (k0_hw78 : k0_chk78 v2452 v2454 v2609), ∀ a, (k0_off155 v2452 v2454 v2609) a + S1x4x24x256.size a ≤ S2x30x40x256.size a := fun v2452 v2454 v2609 k0_hw78 => k0_hw78

def k0_off156 (i : grid0.Coords) (c4_i32_592 : BitVec 32) : Fin 1 → Nat :=
  let arg0 : BitVec 32 := BitVec.ofNat 32 (i 0).val
  let c32_i32_556 : BitVec 32 := 32#32
  let v2449 : BitVec 32 := Scalar.muli arg0 c32_i32_556
  let c9_i32 : BitVec 32 := 9#32
  let v2450 : BitVec 32 := Scalar.addi v2449 c9_i32
  let c7_i32_591 : BitVec 32 := 7#32
  let v2606 : BitVec 32 := Scalar.muli v2450 c7_i32_591
  let v2607 : BitVec 32 := Scalar.addi v2606 c4_i32_592
  let v2615 : Index := Scalar.indexCast v2607
  ![v2615.toNat]
def k0_off157 (v2452 : BitVec 32) (v2454 : BitVec 32) (v2646 : BitVec 32) : Fin 4 → Nat :=
  let v2647 : Index := Scalar.indexCast v2452
  let v2648 : Index := Scalar.indexCast v2646
  let v2455 : BitVec 32 := v2454
  let v2649 : Index := Scalar.indexCast v2455
  let c0_601 : Index := 0#32
  ![v2647.toNat, v2648.toNat, v2649.toNat, 0]

def k0_chk79 (v2452 : BitVec 32) (v2454 : BitVec 32) (v2646 : BitVec 32) : Prop :=
  (∀ a, (k0_off157 v2452 v2454 v2646) a + S1x4x24x256.size a ≤ S2x30x40x256.size a)
theorem k0_off157_inb : ∀ (v2452 : BitVec 32) (v2454 : BitVec 32) (v2646 : BitVec 32) (k0_hw79 : k0_chk79 v2452 v2454 v2646), ∀ a, (k0_off157 v2452 v2454 v2646) a + S1x4x24x256.size a ≤ S2x30x40x256.size a := fun v2452 v2454 v2646 k0_hw79 => k0_hw79

def k0_off158 (i : grid0.Coords) (c5_i32_600 : BitVec 32) : Fin 1 → Nat :=
  let arg0 : BitVec 32 := BitVec.ofNat 32 (i 0).val
  let c32_i32_556 : BitVec 32 := 32#32
  let v2449 : BitVec 32 := Scalar.muli arg0 c32_i32_556
  let c9_i32 : BitVec 32 := 9#32
  let v2450 : BitVec 32 := Scalar.addi v2449 c9_i32
  let c7_i32_599 : BitVec 32 := 7#32
  let v2643 : BitVec 32 := Scalar.muli v2450 c7_i32_599
  let v2644 : BitVec 32 := Scalar.addi v2643 c5_i32_600
  let v2652 : Index := Scalar.indexCast v2644
  ![v2652.toNat]
def k0_off159 (v2452 : BitVec 32) (v2454 : BitVec 32) (v2683 : BitVec 32) : Fin 4 → Nat :=
  let v2684 : Index := Scalar.indexCast v2452
  let v2685 : Index := Scalar.indexCast v2683
  let v2455 : BitVec 32 := v2454
  let v2686 : Index := Scalar.indexCast v2455
  let c0_609 : Index := 0#32
  ![v2684.toNat, v2685.toNat, v2686.toNat, 0]

def k0_chk80 (v2452 : BitVec 32) (v2454 : BitVec 32) (v2683 : BitVec 32) : Prop :=
  (∀ a, (k0_off159 v2452 v2454 v2683) a + S1x4x24x256.size a ≤ S2x30x40x256.size a)
theorem k0_off159_inb : ∀ (v2452 : BitVec 32) (v2454 : BitVec 32) (v2683 : BitVec 32) (k0_hw80 : k0_chk80 v2452 v2454 v2683), ∀ a, (k0_off159 v2452 v2454 v2683) a + S1x4x24x256.size a ≤ S2x30x40x256.size a := fun v2452 v2454 v2683 k0_hw80 => k0_hw80

def k0_off160 (i : grid0.Coords) : Fin 1 → Nat :=
  let arg0 : BitVec 32 := BitVec.ofNat 32 (i 0).val
  let c32_i32_556 : BitVec 32 := 32#32
  let v2449 : BitVec 32 := Scalar.muli arg0 c32_i32_556
  let c9_i32 : BitVec 32 := 9#32
  let v2450 : BitVec 32 := Scalar.addi v2449 c9_i32
  let c7_i32_607 : BitVec 32 := 7#32
  let v2680 : BitVec 32 := Scalar.muli v2450 c7_i32_607
  let c6_i32_608 : BitVec 32 := 6#32
  let v2681 : BitVec 32 := Scalar.addi v2680 c6_i32_608
  let v2689 : Index := Scalar.indexCast v2681
  ![v2689.toNat]
def k0_off161 (i : grid0.Coords) : Fin 1 → Nat :=
  let arg0 : BitVec 32 := BitVec.ofNat 32 (i 0).val
  let c32_i32_618 : BitVec 32 := 32#32
  let v2721 : BitVec 32 := Scalar.muli arg0 c32_i32_618
  let c10_i32 : BitVec 32 := 10#32
  let v2722 : BitVec 32 := Scalar.addi v2721 c10_i32
  let v2723 : Index := Scalar.indexCast v2722
  ![v2723.toNat]
def k0_mult11 (v2726 : BitVec 32) : BitVec 32 :=
  v2726

def k0_chk81 (v2726 : BitVec 32) : Prop :=
  (8 ∣ (k0_mult11 v2726).toNat)
theorem k0_mult11_dvd : ∀ (v2726 : BitVec 32) (k0_hw81 : k0_chk81 v2726), 8 ∣ (k0_mult11 v2726).toNat := fun v2726 k0_hw81 => k0_hw81

def k0_off162 (i : grid0.Coords) : Fin 1 → Nat :=
  let arg0 : BitVec 32 := BitVec.ofNat 32 (i 0).val
  let c32_i32_618 : BitVec 32 := 32#32
  let v2721 : BitVec 32 := Scalar.muli arg0 c32_i32_618
  let c10_i32 : BitVec 32 := 10#32
  let v2722 : BitVec 32 := Scalar.addi v2721 c10_i32
  let c7_i32_621 : BitVec 32 := 7#32
  let v2730 : BitVec 32 := Scalar.muli v2722 c7_i32_621
  let c0_i32_622 : BitVec 32 := 0#32
  let v2731 : BitVec 32 := Scalar.addi v2730 c0_i32_622
  let v2732 : Index := Scalar.indexCast v2731
  ![v2732.toNat]
def k0_off163 (v2724 : BitVec 32) (v2726 : BitVec 32) (v2733 : BitVec 32) : Fin 4 → Nat :=
  let v2734 : Index := Scalar.indexCast v2724
  let v2735 : Index := Scalar.indexCast v2733
  let v2727 : BitVec 32 := v2726
  let v2736 : Index := Scalar.indexCast v2727
  let c0_623 : Index := 0#32
  ![v2734.toNat, v2735.toNat, v2736.toNat, 0]

def k0_chk82 (v2724 : BitVec 32) (v2726 : BitVec 32) (v2733 : BitVec 32) : Prop :=
  (∀ a, (k0_off163 v2724 v2726 v2733) a + S1x4x24x256.size a ≤ S2x30x40x256.size a)
theorem k0_off163_inb : ∀ (v2724 : BitVec 32) (v2726 : BitVec 32) (v2733 : BitVec 32) (k0_hw82 : k0_chk82 v2724 v2726 v2733), ∀ a, (k0_off163 v2724 v2726 v2733) a + S1x4x24x256.size a ≤ S2x30x40x256.size a := fun v2724 v2726 v2733 k0_hw82 => k0_hw82

def k0_off164 (i : grid0.Coords) (c0_i32_622 : BitVec 32) : Fin 1 → Nat :=
  let arg0 : BitVec 32 := BitVec.ofNat 32 (i 0).val
  let c32_i32_618 : BitVec 32 := 32#32
  let v2721 : BitVec 32 := Scalar.muli arg0 c32_i32_618
  let c10_i32 : BitVec 32 := 10#32
  let v2722 : BitVec 32 := Scalar.addi v2721 c10_i32
  let c7_i32_621 : BitVec 32 := 7#32
  let v2730 : BitVec 32 := Scalar.muli v2722 c7_i32_621
  let v2731 : BitVec 32 := Scalar.addi v2730 c0_i32_622
  let v2739 : Index := Scalar.indexCast v2731
  ![v2739.toNat]
def k0_off165 (v2724 : BitVec 32) (v2726 : BitVec 32) (v2770 : BitVec 32) : Fin 4 → Nat :=
  let v2771 : Index := Scalar.indexCast v2724
  let v2772 : Index := Scalar.indexCast v2770
  let v2727 : BitVec 32 := v2726
  let v2773 : Index := Scalar.indexCast v2727
  let c0_631 : Index := 0#32
  ![v2771.toNat, v2772.toNat, v2773.toNat, 0]

def k0_chk83 (v2724 : BitVec 32) (v2726 : BitVec 32) (v2770 : BitVec 32) : Prop :=
  (∀ a, (k0_off165 v2724 v2726 v2770) a + S1x4x24x256.size a ≤ S2x30x40x256.size a)
theorem k0_off165_inb : ∀ (v2724 : BitVec 32) (v2726 : BitVec 32) (v2770 : BitVec 32) (k0_hw83 : k0_chk83 v2724 v2726 v2770), ∀ a, (k0_off165 v2724 v2726 v2770) a + S1x4x24x256.size a ≤ S2x30x40x256.size a := fun v2724 v2726 v2770 k0_hw83 => k0_hw83

def k0_off166 (i : grid0.Coords) (c1_i32_630 : BitVec 32) : Fin 1 → Nat :=
  let arg0 : BitVec 32 := BitVec.ofNat 32 (i 0).val
  let c32_i32_618 : BitVec 32 := 32#32
  let v2721 : BitVec 32 := Scalar.muli arg0 c32_i32_618
  let c10_i32 : BitVec 32 := 10#32
  let v2722 : BitVec 32 := Scalar.addi v2721 c10_i32
  let c7_i32_629 : BitVec 32 := 7#32
  let v2767 : BitVec 32 := Scalar.muli v2722 c7_i32_629
  let v2768 : BitVec 32 := Scalar.addi v2767 c1_i32_630
  let v2776 : Index := Scalar.indexCast v2768
  ![v2776.toNat]
def k0_off167 (v2724 : BitVec 32) (v2726 : BitVec 32) (v2807 : BitVec 32) : Fin 4 → Nat :=
  let v2808 : Index := Scalar.indexCast v2724
  let v2809 : Index := Scalar.indexCast v2807
  let v2727 : BitVec 32 := v2726
  let v2810 : Index := Scalar.indexCast v2727
  let c0_639 : Index := 0#32
  ![v2808.toNat, v2809.toNat, v2810.toNat, 0]

def k0_chk84 (v2724 : BitVec 32) (v2726 : BitVec 32) (v2807 : BitVec 32) : Prop :=
  (∀ a, (k0_off167 v2724 v2726 v2807) a + S1x4x24x256.size a ≤ S2x30x40x256.size a)
theorem k0_off167_inb : ∀ (v2724 : BitVec 32) (v2726 : BitVec 32) (v2807 : BitVec 32) (k0_hw84 : k0_chk84 v2724 v2726 v2807), ∀ a, (k0_off167 v2724 v2726 v2807) a + S1x4x24x256.size a ≤ S2x30x40x256.size a := fun v2724 v2726 v2807 k0_hw84 => k0_hw84

def k0_off168 (i : grid0.Coords) (c2_i32_638 : BitVec 32) : Fin 1 → Nat :=
  let arg0 : BitVec 32 := BitVec.ofNat 32 (i 0).val
  let c32_i32_618 : BitVec 32 := 32#32
  let v2721 : BitVec 32 := Scalar.muli arg0 c32_i32_618
  let c10_i32 : BitVec 32 := 10#32
  let v2722 : BitVec 32 := Scalar.addi v2721 c10_i32
  let c7_i32_637 : BitVec 32 := 7#32
  let v2804 : BitVec 32 := Scalar.muli v2722 c7_i32_637
  let v2805 : BitVec 32 := Scalar.addi v2804 c2_i32_638
  let v2813 : Index := Scalar.indexCast v2805
  ![v2813.toNat]
def k0_off169 (v2724 : BitVec 32) (v2726 : BitVec 32) (v2844 : BitVec 32) : Fin 4 → Nat :=
  let v2845 : Index := Scalar.indexCast v2724
  let v2846 : Index := Scalar.indexCast v2844
  let v2727 : BitVec 32 := v2726
  let v2847 : Index := Scalar.indexCast v2727
  let c0_647 : Index := 0#32
  ![v2845.toNat, v2846.toNat, v2847.toNat, 0]

def k0_chk85 (v2724 : BitVec 32) (v2726 : BitVec 32) (v2844 : BitVec 32) : Prop :=
  (∀ a, (k0_off169 v2724 v2726 v2844) a + S1x4x24x256.size a ≤ S2x30x40x256.size a)
theorem k0_off169_inb : ∀ (v2724 : BitVec 32) (v2726 : BitVec 32) (v2844 : BitVec 32) (k0_hw85 : k0_chk85 v2724 v2726 v2844), ∀ a, (k0_off169 v2724 v2726 v2844) a + S1x4x24x256.size a ≤ S2x30x40x256.size a := fun v2724 v2726 v2844 k0_hw85 => k0_hw85

def k0_off170 (i : grid0.Coords) (c3_i32_646 : BitVec 32) : Fin 1 → Nat :=
  let arg0 : BitVec 32 := BitVec.ofNat 32 (i 0).val
  let c32_i32_618 : BitVec 32 := 32#32
  let v2721 : BitVec 32 := Scalar.muli arg0 c32_i32_618
  let c10_i32 : BitVec 32 := 10#32
  let v2722 : BitVec 32 := Scalar.addi v2721 c10_i32
  let c7_i32_645 : BitVec 32 := 7#32
  let v2841 : BitVec 32 := Scalar.muli v2722 c7_i32_645
  let v2842 : BitVec 32 := Scalar.addi v2841 c3_i32_646
  let v2850 : Index := Scalar.indexCast v2842
  ![v2850.toNat]
def k0_off171 (v2724 : BitVec 32) (v2726 : BitVec 32) (v2881 : BitVec 32) : Fin 4 → Nat :=
  let v2882 : Index := Scalar.indexCast v2724
  let v2883 : Index := Scalar.indexCast v2881
  let v2727 : BitVec 32 := v2726
  let v2884 : Index := Scalar.indexCast v2727
  let c0_655 : Index := 0#32
  ![v2882.toNat, v2883.toNat, v2884.toNat, 0]

def k0_chk86 (v2724 : BitVec 32) (v2726 : BitVec 32) (v2881 : BitVec 32) : Prop :=
  (∀ a, (k0_off171 v2724 v2726 v2881) a + S1x4x24x256.size a ≤ S2x30x40x256.size a)
theorem k0_off171_inb : ∀ (v2724 : BitVec 32) (v2726 : BitVec 32) (v2881 : BitVec 32) (k0_hw86 : k0_chk86 v2724 v2726 v2881), ∀ a, (k0_off171 v2724 v2726 v2881) a + S1x4x24x256.size a ≤ S2x30x40x256.size a := fun v2724 v2726 v2881 k0_hw86 => k0_hw86

def k0_off172 (i : grid0.Coords) (c4_i32_654 : BitVec 32) : Fin 1 → Nat :=
  let arg0 : BitVec 32 := BitVec.ofNat 32 (i 0).val
  let c32_i32_618 : BitVec 32 := 32#32
  let v2721 : BitVec 32 := Scalar.muli arg0 c32_i32_618
  let c10_i32 : BitVec 32 := 10#32
  let v2722 : BitVec 32 := Scalar.addi v2721 c10_i32
  let c7_i32_653 : BitVec 32 := 7#32
  let v2878 : BitVec 32 := Scalar.muli v2722 c7_i32_653
  let v2879 : BitVec 32 := Scalar.addi v2878 c4_i32_654
  let v2887 : Index := Scalar.indexCast v2879
  ![v2887.toNat]
def k0_off173 (v2724 : BitVec 32) (v2726 : BitVec 32) (v2918 : BitVec 32) : Fin 4 → Nat :=
  let v2919 : Index := Scalar.indexCast v2724
  let v2920 : Index := Scalar.indexCast v2918
  let v2727 : BitVec 32 := v2726
  let v2921 : Index := Scalar.indexCast v2727
  let c0_663 : Index := 0#32
  ![v2919.toNat, v2920.toNat, v2921.toNat, 0]

def k0_chk87 (v2724 : BitVec 32) (v2726 : BitVec 32) (v2918 : BitVec 32) : Prop :=
  (∀ a, (k0_off173 v2724 v2726 v2918) a + S1x4x24x256.size a ≤ S2x30x40x256.size a)
theorem k0_off173_inb : ∀ (v2724 : BitVec 32) (v2726 : BitVec 32) (v2918 : BitVec 32) (k0_hw87 : k0_chk87 v2724 v2726 v2918), ∀ a, (k0_off173 v2724 v2726 v2918) a + S1x4x24x256.size a ≤ S2x30x40x256.size a := fun v2724 v2726 v2918 k0_hw87 => k0_hw87

def k0_off174 (i : grid0.Coords) (c5_i32_662 : BitVec 32) : Fin 1 → Nat :=
  let arg0 : BitVec 32 := BitVec.ofNat 32 (i 0).val
  let c32_i32_618 : BitVec 32 := 32#32
  let v2721 : BitVec 32 := Scalar.muli arg0 c32_i32_618
  let c10_i32 : BitVec 32 := 10#32
  let v2722 : BitVec 32 := Scalar.addi v2721 c10_i32
  let c7_i32_661 : BitVec 32 := 7#32
  let v2915 : BitVec 32 := Scalar.muli v2722 c7_i32_661
  let v2916 : BitVec 32 := Scalar.addi v2915 c5_i32_662
  let v2924 : Index := Scalar.indexCast v2916
  ![v2924.toNat]
def k0_off175 (v2724 : BitVec 32) (v2726 : BitVec 32) (v2955 : BitVec 32) : Fin 4 → Nat :=
  let v2956 : Index := Scalar.indexCast v2724
  let v2957 : Index := Scalar.indexCast v2955
  let v2727 : BitVec 32 := v2726
  let v2958 : Index := Scalar.indexCast v2727
  let c0_671 : Index := 0#32
  ![v2956.toNat, v2957.toNat, v2958.toNat, 0]

def k0_chk88 (v2724 : BitVec 32) (v2726 : BitVec 32) (v2955 : BitVec 32) : Prop :=
  (∀ a, (k0_off175 v2724 v2726 v2955) a + S1x4x24x256.size a ≤ S2x30x40x256.size a)
theorem k0_off175_inb : ∀ (v2724 : BitVec 32) (v2726 : BitVec 32) (v2955 : BitVec 32) (k0_hw88 : k0_chk88 v2724 v2726 v2955), ∀ a, (k0_off175 v2724 v2726 v2955) a + S1x4x24x256.size a ≤ S2x30x40x256.size a := fun v2724 v2726 v2955 k0_hw88 => k0_hw88

def k0_off176 (i : grid0.Coords) : Fin 1 → Nat :=
  let arg0 : BitVec 32 := BitVec.ofNat 32 (i 0).val
  let c32_i32_618 : BitVec 32 := 32#32
  let v2721 : BitVec 32 := Scalar.muli arg0 c32_i32_618
  let c10_i32 : BitVec 32 := 10#32
  let v2722 : BitVec 32 := Scalar.addi v2721 c10_i32
  let c7_i32_669 : BitVec 32 := 7#32
  let v2952 : BitVec 32 := Scalar.muli v2722 c7_i32_669
  let c6_i32_670 : BitVec 32 := 6#32
  let v2953 : BitVec 32 := Scalar.addi v2952 c6_i32_670
  let v2961 : Index := Scalar.indexCast v2953
  ![v2961.toNat]
def k0_off177 (i : grid0.Coords) : Fin 1 → Nat :=
  let arg0 : BitVec 32 := BitVec.ofNat 32 (i 0).val
  let c32_i32_680 : BitVec 32 := 32#32
  let v2993 : BitVec 32 := Scalar.muli arg0 c32_i32_680
  let c11_i32 : BitVec 32 := 11#32
  let v2994 : BitVec 32 := Scalar.addi v2993 c11_i32
  let v2995 : Index := Scalar.indexCast v2994
  ![v2995.toNat]
def k0_mult12 (v2998 : BitVec 32) : BitVec 32 :=
  v2998

def k0_chk89 (v2998 : BitVec 32) : Prop :=
  (8 ∣ (k0_mult12 v2998).toNat)
theorem k0_mult12_dvd : ∀ (v2998 : BitVec 32) (k0_hw89 : k0_chk89 v2998), 8 ∣ (k0_mult12 v2998).toNat := fun v2998 k0_hw89 => k0_hw89

def k0_off178 (i : grid0.Coords) : Fin 1 → Nat :=
  let arg0 : BitVec 32 := BitVec.ofNat 32 (i 0).val
  let c32_i32_680 : BitVec 32 := 32#32
  let v2993 : BitVec 32 := Scalar.muli arg0 c32_i32_680
  let c11_i32 : BitVec 32 := 11#32
  let v2994 : BitVec 32 := Scalar.addi v2993 c11_i32
  let c7_i32_683 : BitVec 32 := 7#32
  let v3002 : BitVec 32 := Scalar.muli v2994 c7_i32_683
  let c0_i32_684 : BitVec 32 := 0#32
  let v3003 : BitVec 32 := Scalar.addi v3002 c0_i32_684
  let v3004 : Index := Scalar.indexCast v3003
  ![v3004.toNat]
def k0_off179 (v2996 : BitVec 32) (v2998 : BitVec 32) (v3005 : BitVec 32) : Fin 4 → Nat :=
  let v3006 : Index := Scalar.indexCast v2996
  let v3007 : Index := Scalar.indexCast v3005
  let v2999 : BitVec 32 := v2998
  let v3008 : Index := Scalar.indexCast v2999
  let c0_685 : Index := 0#32
  ![v3006.toNat, v3007.toNat, v3008.toNat, 0]

def k0_chk90 (v2996 : BitVec 32) (v2998 : BitVec 32) (v3005 : BitVec 32) : Prop :=
  (∀ a, (k0_off179 v2996 v2998 v3005) a + S1x4x24x256.size a ≤ S2x30x40x256.size a)
theorem k0_off179_inb : ∀ (v2996 : BitVec 32) (v2998 : BitVec 32) (v3005 : BitVec 32) (k0_hw90 : k0_chk90 v2996 v2998 v3005), ∀ a, (k0_off179 v2996 v2998 v3005) a + S1x4x24x256.size a ≤ S2x30x40x256.size a := fun v2996 v2998 v3005 k0_hw90 => k0_hw90

def k0_off180 (i : grid0.Coords) (c0_i32_684 : BitVec 32) : Fin 1 → Nat :=
  let arg0 : BitVec 32 := BitVec.ofNat 32 (i 0).val
  let c32_i32_680 : BitVec 32 := 32#32
  let v2993 : BitVec 32 := Scalar.muli arg0 c32_i32_680
  let c11_i32 : BitVec 32 := 11#32
  let v2994 : BitVec 32 := Scalar.addi v2993 c11_i32
  let c7_i32_683 : BitVec 32 := 7#32
  let v3002 : BitVec 32 := Scalar.muli v2994 c7_i32_683
  let v3003 : BitVec 32 := Scalar.addi v3002 c0_i32_684
  let v3011 : Index := Scalar.indexCast v3003
  ![v3011.toNat]
def k0_off181 (v2996 : BitVec 32) (v2998 : BitVec 32) (v3042 : BitVec 32) : Fin 4 → Nat :=
  let v3043 : Index := Scalar.indexCast v2996
  let v3044 : Index := Scalar.indexCast v3042
  let v2999 : BitVec 32 := v2998
  let v3045 : Index := Scalar.indexCast v2999
  let c0_693 : Index := 0#32
  ![v3043.toNat, v3044.toNat, v3045.toNat, 0]

def k0_chk91 (v2996 : BitVec 32) (v2998 : BitVec 32) (v3042 : BitVec 32) : Prop :=
  (∀ a, (k0_off181 v2996 v2998 v3042) a + S1x4x24x256.size a ≤ S2x30x40x256.size a)
theorem k0_off181_inb : ∀ (v2996 : BitVec 32) (v2998 : BitVec 32) (v3042 : BitVec 32) (k0_hw91 : k0_chk91 v2996 v2998 v3042), ∀ a, (k0_off181 v2996 v2998 v3042) a + S1x4x24x256.size a ≤ S2x30x40x256.size a := fun v2996 v2998 v3042 k0_hw91 => k0_hw91

def k0_off182 (i : grid0.Coords) (c1_i32_692 : BitVec 32) : Fin 1 → Nat :=
  let arg0 : BitVec 32 := BitVec.ofNat 32 (i 0).val
  let c32_i32_680 : BitVec 32 := 32#32
  let v2993 : BitVec 32 := Scalar.muli arg0 c32_i32_680
  let c11_i32 : BitVec 32 := 11#32
  let v2994 : BitVec 32 := Scalar.addi v2993 c11_i32
  let c7_i32_691 : BitVec 32 := 7#32
  let v3039 : BitVec 32 := Scalar.muli v2994 c7_i32_691
  let v3040 : BitVec 32 := Scalar.addi v3039 c1_i32_692
  let v3048 : Index := Scalar.indexCast v3040
  ![v3048.toNat]
def k0_off183 (v2996 : BitVec 32) (v2998 : BitVec 32) (v3079 : BitVec 32) : Fin 4 → Nat :=
  let v3080 : Index := Scalar.indexCast v2996
  let v3081 : Index := Scalar.indexCast v3079
  let v2999 : BitVec 32 := v2998
  let v3082 : Index := Scalar.indexCast v2999
  let c0_701 : Index := 0#32
  ![v3080.toNat, v3081.toNat, v3082.toNat, 0]

def k0_chk92 (v2996 : BitVec 32) (v2998 : BitVec 32) (v3079 : BitVec 32) : Prop :=
  (∀ a, (k0_off183 v2996 v2998 v3079) a + S1x4x24x256.size a ≤ S2x30x40x256.size a)
theorem k0_off183_inb : ∀ (v2996 : BitVec 32) (v2998 : BitVec 32) (v3079 : BitVec 32) (k0_hw92 : k0_chk92 v2996 v2998 v3079), ∀ a, (k0_off183 v2996 v2998 v3079) a + S1x4x24x256.size a ≤ S2x30x40x256.size a := fun v2996 v2998 v3079 k0_hw92 => k0_hw92

def k0_off184 (i : grid0.Coords) (c2_i32_700 : BitVec 32) : Fin 1 → Nat :=
  let arg0 : BitVec 32 := BitVec.ofNat 32 (i 0).val
  let c32_i32_680 : BitVec 32 := 32#32
  let v2993 : BitVec 32 := Scalar.muli arg0 c32_i32_680
  let c11_i32 : BitVec 32 := 11#32
  let v2994 : BitVec 32 := Scalar.addi v2993 c11_i32
  let c7_i32_699 : BitVec 32 := 7#32
  let v3076 : BitVec 32 := Scalar.muli v2994 c7_i32_699
  let v3077 : BitVec 32 := Scalar.addi v3076 c2_i32_700
  let v3085 : Index := Scalar.indexCast v3077
  ![v3085.toNat]
def k0_off185 (v2996 : BitVec 32) (v2998 : BitVec 32) (v3116 : BitVec 32) : Fin 4 → Nat :=
  let v3117 : Index := Scalar.indexCast v2996
  let v3118 : Index := Scalar.indexCast v3116
  let v2999 : BitVec 32 := v2998
  let v3119 : Index := Scalar.indexCast v2999
  let c0_709 : Index := 0#32
  ![v3117.toNat, v3118.toNat, v3119.toNat, 0]

def k0_chk93 (v2996 : BitVec 32) (v2998 : BitVec 32) (v3116 : BitVec 32) : Prop :=
  (∀ a, (k0_off185 v2996 v2998 v3116) a + S1x4x24x256.size a ≤ S2x30x40x256.size a)
theorem k0_off185_inb : ∀ (v2996 : BitVec 32) (v2998 : BitVec 32) (v3116 : BitVec 32) (k0_hw93 : k0_chk93 v2996 v2998 v3116), ∀ a, (k0_off185 v2996 v2998 v3116) a + S1x4x24x256.size a ≤ S2x30x40x256.size a := fun v2996 v2998 v3116 k0_hw93 => k0_hw93

def k0_off186 (i : grid0.Coords) (c3_i32_708 : BitVec 32) : Fin 1 → Nat :=
  let arg0 : BitVec 32 := BitVec.ofNat 32 (i 0).val
  let c32_i32_680 : BitVec 32 := 32#32
  let v2993 : BitVec 32 := Scalar.muli arg0 c32_i32_680
  let c11_i32 : BitVec 32 := 11#32
  let v2994 : BitVec 32 := Scalar.addi v2993 c11_i32
  let c7_i32_707 : BitVec 32 := 7#32
  let v3113 : BitVec 32 := Scalar.muli v2994 c7_i32_707
  let v3114 : BitVec 32 := Scalar.addi v3113 c3_i32_708
  let v3122 : Index := Scalar.indexCast v3114
  ![v3122.toNat]
def k0_off187 (v2996 : BitVec 32) (v2998 : BitVec 32) (v3153 : BitVec 32) : Fin 4 → Nat :=
  let v3154 : Index := Scalar.indexCast v2996
  let v3155 : Index := Scalar.indexCast v3153
  let v2999 : BitVec 32 := v2998
  let v3156 : Index := Scalar.indexCast v2999
  let c0_717 : Index := 0#32
  ![v3154.toNat, v3155.toNat, v3156.toNat, 0]

def k0_chk94 (v2996 : BitVec 32) (v2998 : BitVec 32) (v3153 : BitVec 32) : Prop :=
  (∀ a, (k0_off187 v2996 v2998 v3153) a + S1x4x24x256.size a ≤ S2x30x40x256.size a)
theorem k0_off187_inb : ∀ (v2996 : BitVec 32) (v2998 : BitVec 32) (v3153 : BitVec 32) (k0_hw94 : k0_chk94 v2996 v2998 v3153), ∀ a, (k0_off187 v2996 v2998 v3153) a + S1x4x24x256.size a ≤ S2x30x40x256.size a := fun v2996 v2998 v3153 k0_hw94 => k0_hw94

def k0_off188 (i : grid0.Coords) (c4_i32_716 : BitVec 32) : Fin 1 → Nat :=
  let arg0 : BitVec 32 := BitVec.ofNat 32 (i 0).val
  let c32_i32_680 : BitVec 32 := 32#32
  let v2993 : BitVec 32 := Scalar.muli arg0 c32_i32_680
  let c11_i32 : BitVec 32 := 11#32
  let v2994 : BitVec 32 := Scalar.addi v2993 c11_i32
  let c7_i32_715 : BitVec 32 := 7#32
  let v3150 : BitVec 32 := Scalar.muli v2994 c7_i32_715
  let v3151 : BitVec 32 := Scalar.addi v3150 c4_i32_716
  let v3159 : Index := Scalar.indexCast v3151
  ![v3159.toNat]
def k0_off189 (v2996 : BitVec 32) (v2998 : BitVec 32) (v3190 : BitVec 32) : Fin 4 → Nat :=
  let v3191 : Index := Scalar.indexCast v2996
  let v3192 : Index := Scalar.indexCast v3190
  let v2999 : BitVec 32 := v2998
  let v3193 : Index := Scalar.indexCast v2999
  let c0_725 : Index := 0#32
  ![v3191.toNat, v3192.toNat, v3193.toNat, 0]

def k0_chk95 (v2996 : BitVec 32) (v2998 : BitVec 32) (v3190 : BitVec 32) : Prop :=
  (∀ a, (k0_off189 v2996 v2998 v3190) a + S1x4x24x256.size a ≤ S2x30x40x256.size a)
theorem k0_off189_inb : ∀ (v2996 : BitVec 32) (v2998 : BitVec 32) (v3190 : BitVec 32) (k0_hw95 : k0_chk95 v2996 v2998 v3190), ∀ a, (k0_off189 v2996 v2998 v3190) a + S1x4x24x256.size a ≤ S2x30x40x256.size a := fun v2996 v2998 v3190 k0_hw95 => k0_hw95

def k0_off190 (i : grid0.Coords) (c5_i32_724 : BitVec 32) : Fin 1 → Nat :=
  let arg0 : BitVec 32 := BitVec.ofNat 32 (i 0).val
  let c32_i32_680 : BitVec 32 := 32#32
  let v2993 : BitVec 32 := Scalar.muli arg0 c32_i32_680
  let c11_i32 : BitVec 32 := 11#32
  let v2994 : BitVec 32 := Scalar.addi v2993 c11_i32
  let c7_i32_723 : BitVec 32 := 7#32
  let v3187 : BitVec 32 := Scalar.muli v2994 c7_i32_723
  let v3188 : BitVec 32 := Scalar.addi v3187 c5_i32_724
  let v3196 : Index := Scalar.indexCast v3188
  ![v3196.toNat]
def k0_off191 (v2996 : BitVec 32) (v2998 : BitVec 32) (v3227 : BitVec 32) : Fin 4 → Nat :=
  let v3228 : Index := Scalar.indexCast v2996
  let v3229 : Index := Scalar.indexCast v3227
  let v2999 : BitVec 32 := v2998
  let v3230 : Index := Scalar.indexCast v2999
  let c0_733 : Index := 0#32
  ![v3228.toNat, v3229.toNat, v3230.toNat, 0]

def k0_chk96 (v2996 : BitVec 32) (v2998 : BitVec 32) (v3227 : BitVec 32) : Prop :=
  (∀ a, (k0_off191 v2996 v2998 v3227) a + S1x4x24x256.size a ≤ S2x30x40x256.size a)
theorem k0_off191_inb : ∀ (v2996 : BitVec 32) (v2998 : BitVec 32) (v3227 : BitVec 32) (k0_hw96 : k0_chk96 v2996 v2998 v3227), ∀ a, (k0_off191 v2996 v2998 v3227) a + S1x4x24x256.size a ≤ S2x30x40x256.size a := fun v2996 v2998 v3227 k0_hw96 => k0_hw96

def k0_off192 (i : grid0.Coords) : Fin 1 → Nat :=
  let arg0 : BitVec 32 := BitVec.ofNat 32 (i 0).val
  let c32_i32_680 : BitVec 32 := 32#32
  let v2993 : BitVec 32 := Scalar.muli arg0 c32_i32_680
  let c11_i32 : BitVec 32 := 11#32
  let v2994 : BitVec 32 := Scalar.addi v2993 c11_i32
  let c7_i32_731 : BitVec 32 := 7#32
  let v3224 : BitVec 32 := Scalar.muli v2994 c7_i32_731
  let c6_i32_732 : BitVec 32 := 6#32
  let v3225 : BitVec 32 := Scalar.addi v3224 c6_i32_732
  let v3233 : Index := Scalar.indexCast v3225
  ![v3233.toNat]
def k0_off193 (i : grid0.Coords) : Fin 1 → Nat :=
  let arg0 : BitVec 32 := BitVec.ofNat 32 (i 0).val
  let c32_i32_742 : BitVec 32 := 32#32
  let v3265 : BitVec 32 := Scalar.muli arg0 c32_i32_742
  let c12_i32 : BitVec 32 := 12#32
  let v3266 : BitVec 32 := Scalar.addi v3265 c12_i32
  let v3267 : Index := Scalar.indexCast v3266
  ![v3267.toNat]
def k0_mult13 (v3270 : BitVec 32) : BitVec 32 :=
  v3270

def k0_chk97 (v3270 : BitVec 32) : Prop :=
  (8 ∣ (k0_mult13 v3270).toNat)
theorem k0_mult13_dvd : ∀ (v3270 : BitVec 32) (k0_hw97 : k0_chk97 v3270), 8 ∣ (k0_mult13 v3270).toNat := fun v3270 k0_hw97 => k0_hw97

def k0_off194 (i : grid0.Coords) : Fin 1 → Nat :=
  let arg0 : BitVec 32 := BitVec.ofNat 32 (i 0).val
  let c32_i32_742 : BitVec 32 := 32#32
  let v3265 : BitVec 32 := Scalar.muli arg0 c32_i32_742
  let c12_i32 : BitVec 32 := 12#32
  let v3266 : BitVec 32 := Scalar.addi v3265 c12_i32
  let c7_i32_745 : BitVec 32 := 7#32
  let v3274 : BitVec 32 := Scalar.muli v3266 c7_i32_745
  let c0_i32_746 : BitVec 32 := 0#32
  let v3275 : BitVec 32 := Scalar.addi v3274 c0_i32_746
  let v3276 : Index := Scalar.indexCast v3275
  ![v3276.toNat]
def k0_off195 (v3268 : BitVec 32) (v3270 : BitVec 32) (v3277 : BitVec 32) : Fin 4 → Nat :=
  let v3278 : Index := Scalar.indexCast v3268
  let v3279 : Index := Scalar.indexCast v3277
  let v3271 : BitVec 32 := v3270
  let v3280 : Index := Scalar.indexCast v3271
  let c0_747 : Index := 0#32
  ![v3278.toNat, v3279.toNat, v3280.toNat, 0]

def k0_chk98 (v3268 : BitVec 32) (v3270 : BitVec 32) (v3277 : BitVec 32) : Prop :=
  (∀ a, (k0_off195 v3268 v3270 v3277) a + S1x4x24x256.size a ≤ S2x30x40x256.size a)
theorem k0_off195_inb : ∀ (v3268 : BitVec 32) (v3270 : BitVec 32) (v3277 : BitVec 32) (k0_hw98 : k0_chk98 v3268 v3270 v3277), ∀ a, (k0_off195 v3268 v3270 v3277) a + S1x4x24x256.size a ≤ S2x30x40x256.size a := fun v3268 v3270 v3277 k0_hw98 => k0_hw98

def k0_off196 (i : grid0.Coords) (c0_i32_746 : BitVec 32) : Fin 1 → Nat :=
  let arg0 : BitVec 32 := BitVec.ofNat 32 (i 0).val
  let c32_i32_742 : BitVec 32 := 32#32
  let v3265 : BitVec 32 := Scalar.muli arg0 c32_i32_742
  let c12_i32 : BitVec 32 := 12#32
  let v3266 : BitVec 32 := Scalar.addi v3265 c12_i32
  let c7_i32_745 : BitVec 32 := 7#32
  let v3274 : BitVec 32 := Scalar.muli v3266 c7_i32_745
  let v3275 : BitVec 32 := Scalar.addi v3274 c0_i32_746
  let v3283 : Index := Scalar.indexCast v3275
  ![v3283.toNat]
def k0_off197 (v3268 : BitVec 32) (v3270 : BitVec 32) (v3314 : BitVec 32) : Fin 4 → Nat :=
  let v3315 : Index := Scalar.indexCast v3268
  let v3316 : Index := Scalar.indexCast v3314
  let v3271 : BitVec 32 := v3270
  let v3317 : Index := Scalar.indexCast v3271
  let c0_755 : Index := 0#32
  ![v3315.toNat, v3316.toNat, v3317.toNat, 0]

def k0_chk99 (v3268 : BitVec 32) (v3270 : BitVec 32) (v3314 : BitVec 32) : Prop :=
  (∀ a, (k0_off197 v3268 v3270 v3314) a + S1x4x24x256.size a ≤ S2x30x40x256.size a)
theorem k0_off197_inb : ∀ (v3268 : BitVec 32) (v3270 : BitVec 32) (v3314 : BitVec 32) (k0_hw99 : k0_chk99 v3268 v3270 v3314), ∀ a, (k0_off197 v3268 v3270 v3314) a + S1x4x24x256.size a ≤ S2x30x40x256.size a := fun v3268 v3270 v3314 k0_hw99 => k0_hw99

def k0_off198 (i : grid0.Coords) (c1_i32_754 : BitVec 32) : Fin 1 → Nat :=
  let arg0 : BitVec 32 := BitVec.ofNat 32 (i 0).val
  let c32_i32_742 : BitVec 32 := 32#32
  let v3265 : BitVec 32 := Scalar.muli arg0 c32_i32_742
  let c12_i32 : BitVec 32 := 12#32
  let v3266 : BitVec 32 := Scalar.addi v3265 c12_i32
  let c7_i32_753 : BitVec 32 := 7#32
  let v3311 : BitVec 32 := Scalar.muli v3266 c7_i32_753
  let v3312 : BitVec 32 := Scalar.addi v3311 c1_i32_754
  let v3320 : Index := Scalar.indexCast v3312
  ![v3320.toNat]
def k0_off199 (v3268 : BitVec 32) (v3270 : BitVec 32) (v3351 : BitVec 32) : Fin 4 → Nat :=
  let v3352 : Index := Scalar.indexCast v3268
  let v3353 : Index := Scalar.indexCast v3351
  let v3271 : BitVec 32 := v3270
  let v3354 : Index := Scalar.indexCast v3271
  let c0_763 : Index := 0#32
  ![v3352.toNat, v3353.toNat, v3354.toNat, 0]

def k0_chk100 (v3268 : BitVec 32) (v3270 : BitVec 32) (v3351 : BitVec 32) : Prop :=
  (∀ a, (k0_off199 v3268 v3270 v3351) a + S1x4x24x256.size a ≤ S2x30x40x256.size a)
theorem k0_off199_inb : ∀ (v3268 : BitVec 32) (v3270 : BitVec 32) (v3351 : BitVec 32) (k0_hw100 : k0_chk100 v3268 v3270 v3351), ∀ a, (k0_off199 v3268 v3270 v3351) a + S1x4x24x256.size a ≤ S2x30x40x256.size a := fun v3268 v3270 v3351 k0_hw100 => k0_hw100

def k0_off200 (i : grid0.Coords) (c2_i32_762 : BitVec 32) : Fin 1 → Nat :=
  let arg0 : BitVec 32 := BitVec.ofNat 32 (i 0).val
  let c32_i32_742 : BitVec 32 := 32#32
  let v3265 : BitVec 32 := Scalar.muli arg0 c32_i32_742
  let c12_i32 : BitVec 32 := 12#32
  let v3266 : BitVec 32 := Scalar.addi v3265 c12_i32
  let c7_i32_761 : BitVec 32 := 7#32
  let v3348 : BitVec 32 := Scalar.muli v3266 c7_i32_761
  let v3349 : BitVec 32 := Scalar.addi v3348 c2_i32_762
  let v3357 : Index := Scalar.indexCast v3349
  ![v3357.toNat]
def k0_off201 (v3268 : BitVec 32) (v3270 : BitVec 32) (v3388 : BitVec 32) : Fin 4 → Nat :=
  let v3389 : Index := Scalar.indexCast v3268
  let v3390 : Index := Scalar.indexCast v3388
  let v3271 : BitVec 32 := v3270
  let v3391 : Index := Scalar.indexCast v3271
  let c0_771 : Index := 0#32
  ![v3389.toNat, v3390.toNat, v3391.toNat, 0]

def k0_chk101 (v3268 : BitVec 32) (v3270 : BitVec 32) (v3388 : BitVec 32) : Prop :=
  (∀ a, (k0_off201 v3268 v3270 v3388) a + S1x4x24x256.size a ≤ S2x30x40x256.size a)
theorem k0_off201_inb : ∀ (v3268 : BitVec 32) (v3270 : BitVec 32) (v3388 : BitVec 32) (k0_hw101 : k0_chk101 v3268 v3270 v3388), ∀ a, (k0_off201 v3268 v3270 v3388) a + S1x4x24x256.size a ≤ S2x30x40x256.size a := fun v3268 v3270 v3388 k0_hw101 => k0_hw101

def k0_off202 (i : grid0.Coords) (c3_i32_770 : BitVec 32) : Fin 1 → Nat :=
  let arg0 : BitVec 32 := BitVec.ofNat 32 (i 0).val
  let c32_i32_742 : BitVec 32 := 32#32
  let v3265 : BitVec 32 := Scalar.muli arg0 c32_i32_742
  let c12_i32 : BitVec 32 := 12#32
  let v3266 : BitVec 32 := Scalar.addi v3265 c12_i32
  let c7_i32_769 : BitVec 32 := 7#32
  let v3385 : BitVec 32 := Scalar.muli v3266 c7_i32_769
  let v3386 : BitVec 32 := Scalar.addi v3385 c3_i32_770
  let v3394 : Index := Scalar.indexCast v3386
  ![v3394.toNat]
def k0_off203 (v3268 : BitVec 32) (v3270 : BitVec 32) (v3425 : BitVec 32) : Fin 4 → Nat :=
  let v3426 : Index := Scalar.indexCast v3268
  let v3427 : Index := Scalar.indexCast v3425
  let v3271 : BitVec 32 := v3270
  let v3428 : Index := Scalar.indexCast v3271
  let c0_779 : Index := 0#32
  ![v3426.toNat, v3427.toNat, v3428.toNat, 0]

def k0_chk102 (v3268 : BitVec 32) (v3270 : BitVec 32) (v3425 : BitVec 32) : Prop :=
  (∀ a, (k0_off203 v3268 v3270 v3425) a + S1x4x24x256.size a ≤ S2x30x40x256.size a)
theorem k0_off203_inb : ∀ (v3268 : BitVec 32) (v3270 : BitVec 32) (v3425 : BitVec 32) (k0_hw102 : k0_chk102 v3268 v3270 v3425), ∀ a, (k0_off203 v3268 v3270 v3425) a + S1x4x24x256.size a ≤ S2x30x40x256.size a := fun v3268 v3270 v3425 k0_hw102 => k0_hw102

def k0_off204 (i : grid0.Coords) (c4_i32_778 : BitVec 32) : Fin 1 → Nat :=
  let arg0 : BitVec 32 := BitVec.ofNat 32 (i 0).val
  let c32_i32_742 : BitVec 32 := 32#32
  let v3265 : BitVec 32 := Scalar.muli arg0 c32_i32_742
  let c12_i32 : BitVec 32 := 12#32
  let v3266 : BitVec 32 := Scalar.addi v3265 c12_i32
  let c7_i32_777 : BitVec 32 := 7#32
  let v3422 : BitVec 32 := Scalar.muli v3266 c7_i32_777
  let v3423 : BitVec 32 := Scalar.addi v3422 c4_i32_778
  let v3431 : Index := Scalar.indexCast v3423
  ![v3431.toNat]
def k0_off205 (v3268 : BitVec 32) (v3270 : BitVec 32) (v3462 : BitVec 32) : Fin 4 → Nat :=
  let v3463 : Index := Scalar.indexCast v3268
  let v3464 : Index := Scalar.indexCast v3462
  let v3271 : BitVec 32 := v3270
  let v3465 : Index := Scalar.indexCast v3271
  let c0_787 : Index := 0#32
  ![v3463.toNat, v3464.toNat, v3465.toNat, 0]

def k0_chk103 (v3268 : BitVec 32) (v3270 : BitVec 32) (v3462 : BitVec 32) : Prop :=
  (∀ a, (k0_off205 v3268 v3270 v3462) a + S1x4x24x256.size a ≤ S2x30x40x256.size a)
theorem k0_off205_inb : ∀ (v3268 : BitVec 32) (v3270 : BitVec 32) (v3462 : BitVec 32) (k0_hw103 : k0_chk103 v3268 v3270 v3462), ∀ a, (k0_off205 v3268 v3270 v3462) a + S1x4x24x256.size a ≤ S2x30x40x256.size a := fun v3268 v3270 v3462 k0_hw103 => k0_hw103

def k0_off206 (i : grid0.Coords) (c5_i32_786 : BitVec 32) : Fin 1 → Nat :=
  let arg0 : BitVec 32 := BitVec.ofNat 32 (i 0).val
  let c32_i32_742 : BitVec 32 := 32#32
  let v3265 : BitVec 32 := Scalar.muli arg0 c32_i32_742
  let c12_i32 : BitVec 32 := 12#32
  let v3266 : BitVec 32 := Scalar.addi v3265 c12_i32
  let c7_i32_785 : BitVec 32 := 7#32
  let v3459 : BitVec 32 := Scalar.muli v3266 c7_i32_785
  let v3460 : BitVec 32 := Scalar.addi v3459 c5_i32_786
  let v3468 : Index := Scalar.indexCast v3460
  ![v3468.toNat]
def k0_off207 (v3268 : BitVec 32) (v3270 : BitVec 32) (v3499 : BitVec 32) : Fin 4 → Nat :=
  let v3500 : Index := Scalar.indexCast v3268
  let v3501 : Index := Scalar.indexCast v3499
  let v3271 : BitVec 32 := v3270
  let v3502 : Index := Scalar.indexCast v3271
  let c0_795 : Index := 0#32
  ![v3500.toNat, v3501.toNat, v3502.toNat, 0]

def k0_chk104 (v3268 : BitVec 32) (v3270 : BitVec 32) (v3499 : BitVec 32) : Prop :=
  (∀ a, (k0_off207 v3268 v3270 v3499) a + S1x4x24x256.size a ≤ S2x30x40x256.size a)
theorem k0_off207_inb : ∀ (v3268 : BitVec 32) (v3270 : BitVec 32) (v3499 : BitVec 32) (k0_hw104 : k0_chk104 v3268 v3270 v3499), ∀ a, (k0_off207 v3268 v3270 v3499) a + S1x4x24x256.size a ≤ S2x30x40x256.size a := fun v3268 v3270 v3499 k0_hw104 => k0_hw104

def k0_off208 (i : grid0.Coords) : Fin 1 → Nat :=
  let arg0 : BitVec 32 := BitVec.ofNat 32 (i 0).val
  let c32_i32_742 : BitVec 32 := 32#32
  let v3265 : BitVec 32 := Scalar.muli arg0 c32_i32_742
  let c12_i32 : BitVec 32 := 12#32
  let v3266 : BitVec 32 := Scalar.addi v3265 c12_i32
  let c7_i32_793 : BitVec 32 := 7#32
  let v3496 : BitVec 32 := Scalar.muli v3266 c7_i32_793
  let c6_i32_794 : BitVec 32 := 6#32
  let v3497 : BitVec 32 := Scalar.addi v3496 c6_i32_794
  let v3505 : Index := Scalar.indexCast v3497
  ![v3505.toNat]
def k0_off209 (i : grid0.Coords) : Fin 1 → Nat :=
  let arg0 : BitVec 32 := BitVec.ofNat 32 (i 0).val
  let c32_i32_804 : BitVec 32 := 32#32
  let v3537 : BitVec 32 := Scalar.muli arg0 c32_i32_804
  let c13_i32 : BitVec 32 := 13#32
  let v3538 : BitVec 32 := Scalar.addi v3537 c13_i32
  let v3539 : Index := Scalar.indexCast v3538
  ![v3539.toNat]
def k0_mult14 (v3542 : BitVec 32) : BitVec 32 :=
  v3542

def k0_chk105 (v3542 : BitVec 32) : Prop :=
  (8 ∣ (k0_mult14 v3542).toNat)
theorem k0_mult14_dvd : ∀ (v3542 : BitVec 32) (k0_hw105 : k0_chk105 v3542), 8 ∣ (k0_mult14 v3542).toNat := fun v3542 k0_hw105 => k0_hw105

def k0_off210 (i : grid0.Coords) : Fin 1 → Nat :=
  let arg0 : BitVec 32 := BitVec.ofNat 32 (i 0).val
  let c32_i32_804 : BitVec 32 := 32#32
  let v3537 : BitVec 32 := Scalar.muli arg0 c32_i32_804
  let c13_i32 : BitVec 32 := 13#32
  let v3538 : BitVec 32 := Scalar.addi v3537 c13_i32
  let c7_i32_807 : BitVec 32 := 7#32
  let v3546 : BitVec 32 := Scalar.muli v3538 c7_i32_807
  let c0_i32_808 : BitVec 32 := 0#32
  let v3547 : BitVec 32 := Scalar.addi v3546 c0_i32_808
  let v3548 : Index := Scalar.indexCast v3547
  ![v3548.toNat]
def k0_off211 (v3540 : BitVec 32) (v3542 : BitVec 32) (v3549 : BitVec 32) : Fin 4 → Nat :=
  let v3550 : Index := Scalar.indexCast v3540
  let v3551 : Index := Scalar.indexCast v3549
  let v3543 : BitVec 32 := v3542
  let v3552 : Index := Scalar.indexCast v3543
  let c0_809 : Index := 0#32
  ![v3550.toNat, v3551.toNat, v3552.toNat, 0]

def k0_chk106 (v3540 : BitVec 32) (v3542 : BitVec 32) (v3549 : BitVec 32) : Prop :=
  (∀ a, (k0_off211 v3540 v3542 v3549) a + S1x4x24x256.size a ≤ S2x30x40x256.size a)
theorem k0_off211_inb : ∀ (v3540 : BitVec 32) (v3542 : BitVec 32) (v3549 : BitVec 32) (k0_hw106 : k0_chk106 v3540 v3542 v3549), ∀ a, (k0_off211 v3540 v3542 v3549) a + S1x4x24x256.size a ≤ S2x30x40x256.size a := fun v3540 v3542 v3549 k0_hw106 => k0_hw106

def k0_off212 (i : grid0.Coords) (c0_i32_808 : BitVec 32) : Fin 1 → Nat :=
  let arg0 : BitVec 32 := BitVec.ofNat 32 (i 0).val
  let c32_i32_804 : BitVec 32 := 32#32
  let v3537 : BitVec 32 := Scalar.muli arg0 c32_i32_804
  let c13_i32 : BitVec 32 := 13#32
  let v3538 : BitVec 32 := Scalar.addi v3537 c13_i32
  let c7_i32_807 : BitVec 32 := 7#32
  let v3546 : BitVec 32 := Scalar.muli v3538 c7_i32_807
  let v3547 : BitVec 32 := Scalar.addi v3546 c0_i32_808
  let v3555 : Index := Scalar.indexCast v3547
  ![v3555.toNat]
def k0_off213 (v3540 : BitVec 32) (v3542 : BitVec 32) (v3586 : BitVec 32) : Fin 4 → Nat :=
  let v3587 : Index := Scalar.indexCast v3540
  let v3588 : Index := Scalar.indexCast v3586
  let v3543 : BitVec 32 := v3542
  let v3589 : Index := Scalar.indexCast v3543
  let c0_817 : Index := 0#32
  ![v3587.toNat, v3588.toNat, v3589.toNat, 0]

def k0_chk107 (v3540 : BitVec 32) (v3542 : BitVec 32) (v3586 : BitVec 32) : Prop :=
  (∀ a, (k0_off213 v3540 v3542 v3586) a + S1x4x24x256.size a ≤ S2x30x40x256.size a)
theorem k0_off213_inb : ∀ (v3540 : BitVec 32) (v3542 : BitVec 32) (v3586 : BitVec 32) (k0_hw107 : k0_chk107 v3540 v3542 v3586), ∀ a, (k0_off213 v3540 v3542 v3586) a + S1x4x24x256.size a ≤ S2x30x40x256.size a := fun v3540 v3542 v3586 k0_hw107 => k0_hw107

def k0_off214 (i : grid0.Coords) (c1_i32_816 : BitVec 32) : Fin 1 → Nat :=
  let arg0 : BitVec 32 := BitVec.ofNat 32 (i 0).val
  let c32_i32_804 : BitVec 32 := 32#32
  let v3537 : BitVec 32 := Scalar.muli arg0 c32_i32_804
  let c13_i32 : BitVec 32 := 13#32
  let v3538 : BitVec 32 := Scalar.addi v3537 c13_i32
  let c7_i32_815 : BitVec 32 := 7#32
  let v3583 : BitVec 32 := Scalar.muli v3538 c7_i32_815
  let v3584 : BitVec 32 := Scalar.addi v3583 c1_i32_816
  let v3592 : Index := Scalar.indexCast v3584
  ![v3592.toNat]
def k0_off215 (v3540 : BitVec 32) (v3542 : BitVec 32) (v3623 : BitVec 32) : Fin 4 → Nat :=
  let v3624 : Index := Scalar.indexCast v3540
  let v3625 : Index := Scalar.indexCast v3623
  let v3543 : BitVec 32 := v3542
  let v3626 : Index := Scalar.indexCast v3543
  let c0_825 : Index := 0#32
  ![v3624.toNat, v3625.toNat, v3626.toNat, 0]

def k0_chk108 (v3540 : BitVec 32) (v3542 : BitVec 32) (v3623 : BitVec 32) : Prop :=
  (∀ a, (k0_off215 v3540 v3542 v3623) a + S1x4x24x256.size a ≤ S2x30x40x256.size a)
theorem k0_off215_inb : ∀ (v3540 : BitVec 32) (v3542 : BitVec 32) (v3623 : BitVec 32) (k0_hw108 : k0_chk108 v3540 v3542 v3623), ∀ a, (k0_off215 v3540 v3542 v3623) a + S1x4x24x256.size a ≤ S2x30x40x256.size a := fun v3540 v3542 v3623 k0_hw108 => k0_hw108

def k0_off216 (i : grid0.Coords) (c2_i32_824 : BitVec 32) : Fin 1 → Nat :=
  let arg0 : BitVec 32 := BitVec.ofNat 32 (i 0).val
  let c32_i32_804 : BitVec 32 := 32#32
  let v3537 : BitVec 32 := Scalar.muli arg0 c32_i32_804
  let c13_i32 : BitVec 32 := 13#32
  let v3538 : BitVec 32 := Scalar.addi v3537 c13_i32
  let c7_i32_823 : BitVec 32 := 7#32
  let v3620 : BitVec 32 := Scalar.muli v3538 c7_i32_823
  let v3621 : BitVec 32 := Scalar.addi v3620 c2_i32_824
  let v3629 : Index := Scalar.indexCast v3621
  ![v3629.toNat]
def k0_off217 (v3540 : BitVec 32) (v3542 : BitVec 32) (v3660 : BitVec 32) : Fin 4 → Nat :=
  let v3661 : Index := Scalar.indexCast v3540
  let v3662 : Index := Scalar.indexCast v3660
  let v3543 : BitVec 32 := v3542
  let v3663 : Index := Scalar.indexCast v3543
  let c0_833 : Index := 0#32
  ![v3661.toNat, v3662.toNat, v3663.toNat, 0]

def k0_chk109 (v3540 : BitVec 32) (v3542 : BitVec 32) (v3660 : BitVec 32) : Prop :=
  (∀ a, (k0_off217 v3540 v3542 v3660) a + S1x4x24x256.size a ≤ S2x30x40x256.size a)
theorem k0_off217_inb : ∀ (v3540 : BitVec 32) (v3542 : BitVec 32) (v3660 : BitVec 32) (k0_hw109 : k0_chk109 v3540 v3542 v3660), ∀ a, (k0_off217 v3540 v3542 v3660) a + S1x4x24x256.size a ≤ S2x30x40x256.size a := fun v3540 v3542 v3660 k0_hw109 => k0_hw109

def k0_off218 (i : grid0.Coords) (c3_i32_832 : BitVec 32) : Fin 1 → Nat :=
  let arg0 : BitVec 32 := BitVec.ofNat 32 (i 0).val
  let c32_i32_804 : BitVec 32 := 32#32
  let v3537 : BitVec 32 := Scalar.muli arg0 c32_i32_804
  let c13_i32 : BitVec 32 := 13#32
  let v3538 : BitVec 32 := Scalar.addi v3537 c13_i32
  let c7_i32_831 : BitVec 32 := 7#32
  let v3657 : BitVec 32 := Scalar.muli v3538 c7_i32_831
  let v3658 : BitVec 32 := Scalar.addi v3657 c3_i32_832
  let v3666 : Index := Scalar.indexCast v3658
  ![v3666.toNat]
def k0_off219 (v3540 : BitVec 32) (v3542 : BitVec 32) (v3697 : BitVec 32) : Fin 4 → Nat :=
  let v3698 : Index := Scalar.indexCast v3540
  let v3699 : Index := Scalar.indexCast v3697
  let v3543 : BitVec 32 := v3542
  let v3700 : Index := Scalar.indexCast v3543
  let c0_841 : Index := 0#32
  ![v3698.toNat, v3699.toNat, v3700.toNat, 0]

def k0_chk110 (v3540 : BitVec 32) (v3542 : BitVec 32) (v3697 : BitVec 32) : Prop :=
  (∀ a, (k0_off219 v3540 v3542 v3697) a + S1x4x24x256.size a ≤ S2x30x40x256.size a)
theorem k0_off219_inb : ∀ (v3540 : BitVec 32) (v3542 : BitVec 32) (v3697 : BitVec 32) (k0_hw110 : k0_chk110 v3540 v3542 v3697), ∀ a, (k0_off219 v3540 v3542 v3697) a + S1x4x24x256.size a ≤ S2x30x40x256.size a := fun v3540 v3542 v3697 k0_hw110 => k0_hw110

def k0_off220 (i : grid0.Coords) (c4_i32_840 : BitVec 32) : Fin 1 → Nat :=
  let arg0 : BitVec 32 := BitVec.ofNat 32 (i 0).val
  let c32_i32_804 : BitVec 32 := 32#32
  let v3537 : BitVec 32 := Scalar.muli arg0 c32_i32_804
  let c13_i32 : BitVec 32 := 13#32
  let v3538 : BitVec 32 := Scalar.addi v3537 c13_i32
  let c7_i32_839 : BitVec 32 := 7#32
  let v3694 : BitVec 32 := Scalar.muli v3538 c7_i32_839
  let v3695 : BitVec 32 := Scalar.addi v3694 c4_i32_840
  let v3703 : Index := Scalar.indexCast v3695
  ![v3703.toNat]
def k0_off221 (v3540 : BitVec 32) (v3542 : BitVec 32) (v3734 : BitVec 32) : Fin 4 → Nat :=
  let v3735 : Index := Scalar.indexCast v3540
  let v3736 : Index := Scalar.indexCast v3734
  let v3543 : BitVec 32 := v3542
  let v3737 : Index := Scalar.indexCast v3543
  let c0_849 : Index := 0#32
  ![v3735.toNat, v3736.toNat, v3737.toNat, 0]

def k0_chk111 (v3540 : BitVec 32) (v3542 : BitVec 32) (v3734 : BitVec 32) : Prop :=
  (∀ a, (k0_off221 v3540 v3542 v3734) a + S1x4x24x256.size a ≤ S2x30x40x256.size a)
theorem k0_off221_inb : ∀ (v3540 : BitVec 32) (v3542 : BitVec 32) (v3734 : BitVec 32) (k0_hw111 : k0_chk111 v3540 v3542 v3734), ∀ a, (k0_off221 v3540 v3542 v3734) a + S1x4x24x256.size a ≤ S2x30x40x256.size a := fun v3540 v3542 v3734 k0_hw111 => k0_hw111

def k0_off222 (i : grid0.Coords) (c5_i32_848 : BitVec 32) : Fin 1 → Nat :=
  let arg0 : BitVec 32 := BitVec.ofNat 32 (i 0).val
  let c32_i32_804 : BitVec 32 := 32#32
  let v3537 : BitVec 32 := Scalar.muli arg0 c32_i32_804
  let c13_i32 : BitVec 32 := 13#32
  let v3538 : BitVec 32 := Scalar.addi v3537 c13_i32
  let c7_i32_847 : BitVec 32 := 7#32
  let v3731 : BitVec 32 := Scalar.muli v3538 c7_i32_847
  let v3732 : BitVec 32 := Scalar.addi v3731 c5_i32_848
  let v3740 : Index := Scalar.indexCast v3732
  ![v3740.toNat]
def k0_off223 (v3540 : BitVec 32) (v3542 : BitVec 32) (v3771 : BitVec 32) : Fin 4 → Nat :=
  let v3772 : Index := Scalar.indexCast v3540
  let v3773 : Index := Scalar.indexCast v3771
  let v3543 : BitVec 32 := v3542
  let v3774 : Index := Scalar.indexCast v3543
  let c0_857 : Index := 0#32
  ![v3772.toNat, v3773.toNat, v3774.toNat, 0]

def k0_chk112 (v3540 : BitVec 32) (v3542 : BitVec 32) (v3771 : BitVec 32) : Prop :=
  (∀ a, (k0_off223 v3540 v3542 v3771) a + S1x4x24x256.size a ≤ S2x30x40x256.size a)
theorem k0_off223_inb : ∀ (v3540 : BitVec 32) (v3542 : BitVec 32) (v3771 : BitVec 32) (k0_hw112 : k0_chk112 v3540 v3542 v3771), ∀ a, (k0_off223 v3540 v3542 v3771) a + S1x4x24x256.size a ≤ S2x30x40x256.size a := fun v3540 v3542 v3771 k0_hw112 => k0_hw112

def k0_off224 (i : grid0.Coords) : Fin 1 → Nat :=
  let arg0 : BitVec 32 := BitVec.ofNat 32 (i 0).val
  let c32_i32_804 : BitVec 32 := 32#32
  let v3537 : BitVec 32 := Scalar.muli arg0 c32_i32_804
  let c13_i32 : BitVec 32 := 13#32
  let v3538 : BitVec 32 := Scalar.addi v3537 c13_i32
  let c7_i32_855 : BitVec 32 := 7#32
  let v3768 : BitVec 32 := Scalar.muli v3538 c7_i32_855
  let c6_i32_856 : BitVec 32 := 6#32
  let v3769 : BitVec 32 := Scalar.addi v3768 c6_i32_856
  let v3777 : Index := Scalar.indexCast v3769
  ![v3777.toNat]
def k0_off225 (i : grid0.Coords) : Fin 1 → Nat :=
  let arg0 : BitVec 32 := BitVec.ofNat 32 (i 0).val
  let c32_i32_866 : BitVec 32 := 32#32
  let v3809 : BitVec 32 := Scalar.muli arg0 c32_i32_866
  let c14_i32 : BitVec 32 := 14#32
  let v3810 : BitVec 32 := Scalar.addi v3809 c14_i32
  let v3811 : Index := Scalar.indexCast v3810
  ![v3811.toNat]
def k0_mult15 (v3814 : BitVec 32) : BitVec 32 :=
  v3814

def k0_chk113 (v3814 : BitVec 32) : Prop :=
  (8 ∣ (k0_mult15 v3814).toNat)
theorem k0_mult15_dvd : ∀ (v3814 : BitVec 32) (k0_hw113 : k0_chk113 v3814), 8 ∣ (k0_mult15 v3814).toNat := fun v3814 k0_hw113 => k0_hw113

def k0_off226 (i : grid0.Coords) : Fin 1 → Nat :=
  let arg0 : BitVec 32 := BitVec.ofNat 32 (i 0).val
  let c32_i32_866 : BitVec 32 := 32#32
  let v3809 : BitVec 32 := Scalar.muli arg0 c32_i32_866
  let c14_i32 : BitVec 32 := 14#32
  let v3810 : BitVec 32 := Scalar.addi v3809 c14_i32
  let c7_i32_869 : BitVec 32 := 7#32
  let v3818 : BitVec 32 := Scalar.muli v3810 c7_i32_869
  let c0_i32_870 : BitVec 32 := 0#32
  let v3819 : BitVec 32 := Scalar.addi v3818 c0_i32_870
  let v3820 : Index := Scalar.indexCast v3819
  ![v3820.toNat]
def k0_off227 (v3812 : BitVec 32) (v3814 : BitVec 32) (v3821 : BitVec 32) : Fin 4 → Nat :=
  let v3822 : Index := Scalar.indexCast v3812
  let v3823 : Index := Scalar.indexCast v3821
  let v3815 : BitVec 32 := v3814
  let v3824 : Index := Scalar.indexCast v3815
  let c0_871 : Index := 0#32
  ![v3822.toNat, v3823.toNat, v3824.toNat, 0]

def k0_chk114 (v3812 : BitVec 32) (v3814 : BitVec 32) (v3821 : BitVec 32) : Prop :=
  (∀ a, (k0_off227 v3812 v3814 v3821) a + S1x4x24x256.size a ≤ S2x30x40x256.size a)
theorem k0_off227_inb : ∀ (v3812 : BitVec 32) (v3814 : BitVec 32) (v3821 : BitVec 32) (k0_hw114 : k0_chk114 v3812 v3814 v3821), ∀ a, (k0_off227 v3812 v3814 v3821) a + S1x4x24x256.size a ≤ S2x30x40x256.size a := fun v3812 v3814 v3821 k0_hw114 => k0_hw114

def k0_off228 (i : grid0.Coords) (c0_i32_870 : BitVec 32) : Fin 1 → Nat :=
  let arg0 : BitVec 32 := BitVec.ofNat 32 (i 0).val
  let c32_i32_866 : BitVec 32 := 32#32
  let v3809 : BitVec 32 := Scalar.muli arg0 c32_i32_866
  let c14_i32 : BitVec 32 := 14#32
  let v3810 : BitVec 32 := Scalar.addi v3809 c14_i32
  let c7_i32_869 : BitVec 32 := 7#32
  let v3818 : BitVec 32 := Scalar.muli v3810 c7_i32_869
  let v3819 : BitVec 32 := Scalar.addi v3818 c0_i32_870
  let v3827 : Index := Scalar.indexCast v3819
  ![v3827.toNat]
def k0_off229 (v3812 : BitVec 32) (v3814 : BitVec 32) (v3858 : BitVec 32) : Fin 4 → Nat :=
  let v3859 : Index := Scalar.indexCast v3812
  let v3860 : Index := Scalar.indexCast v3858
  let v3815 : BitVec 32 := v3814
  let v3861 : Index := Scalar.indexCast v3815
  let c0_879 : Index := 0#32
  ![v3859.toNat, v3860.toNat, v3861.toNat, 0]

def k0_chk115 (v3812 : BitVec 32) (v3814 : BitVec 32) (v3858 : BitVec 32) : Prop :=
  (∀ a, (k0_off229 v3812 v3814 v3858) a + S1x4x24x256.size a ≤ S2x30x40x256.size a)
theorem k0_off229_inb : ∀ (v3812 : BitVec 32) (v3814 : BitVec 32) (v3858 : BitVec 32) (k0_hw115 : k0_chk115 v3812 v3814 v3858), ∀ a, (k0_off229 v3812 v3814 v3858) a + S1x4x24x256.size a ≤ S2x30x40x256.size a := fun v3812 v3814 v3858 k0_hw115 => k0_hw115

def k0_off230 (i : grid0.Coords) (c1_i32_878 : BitVec 32) : Fin 1 → Nat :=
  let arg0 : BitVec 32 := BitVec.ofNat 32 (i 0).val
  let c32_i32_866 : BitVec 32 := 32#32
  let v3809 : BitVec 32 := Scalar.muli arg0 c32_i32_866
  let c14_i32 : BitVec 32 := 14#32
  let v3810 : BitVec 32 := Scalar.addi v3809 c14_i32
  let c7_i32_877 : BitVec 32 := 7#32
  let v3855 : BitVec 32 := Scalar.muli v3810 c7_i32_877
  let v3856 : BitVec 32 := Scalar.addi v3855 c1_i32_878
  let v3864 : Index := Scalar.indexCast v3856
  ![v3864.toNat]
def k0_off231 (v3812 : BitVec 32) (v3814 : BitVec 32) (v3895 : BitVec 32) : Fin 4 → Nat :=
  let v3896 : Index := Scalar.indexCast v3812
  let v3897 : Index := Scalar.indexCast v3895
  let v3815 : BitVec 32 := v3814
  let v3898 : Index := Scalar.indexCast v3815
  let c0_887 : Index := 0#32
  ![v3896.toNat, v3897.toNat, v3898.toNat, 0]

def k0_chk116 (v3812 : BitVec 32) (v3814 : BitVec 32) (v3895 : BitVec 32) : Prop :=
  (∀ a, (k0_off231 v3812 v3814 v3895) a + S1x4x24x256.size a ≤ S2x30x40x256.size a)
theorem k0_off231_inb : ∀ (v3812 : BitVec 32) (v3814 : BitVec 32) (v3895 : BitVec 32) (k0_hw116 : k0_chk116 v3812 v3814 v3895), ∀ a, (k0_off231 v3812 v3814 v3895) a + S1x4x24x256.size a ≤ S2x30x40x256.size a := fun v3812 v3814 v3895 k0_hw116 => k0_hw116

def k0_off232 (i : grid0.Coords) (c2_i32_886 : BitVec 32) : Fin 1 → Nat :=
  let arg0 : BitVec 32 := BitVec.ofNat 32 (i 0).val
  let c32_i32_866 : BitVec 32 := 32#32
  let v3809 : BitVec 32 := Scalar.muli arg0 c32_i32_866
  let c14_i32 : BitVec 32 := 14#32
  let v3810 : BitVec 32 := Scalar.addi v3809 c14_i32
  let c7_i32_885 : BitVec 32 := 7#32
  let v3892 : BitVec 32 := Scalar.muli v3810 c7_i32_885
  let v3893 : BitVec 32 := Scalar.addi v3892 c2_i32_886
  let v3901 : Index := Scalar.indexCast v3893
  ![v3901.toNat]
def k0_off233 (v3812 : BitVec 32) (v3814 : BitVec 32) (v3932 : BitVec 32) : Fin 4 → Nat :=
  let v3933 : Index := Scalar.indexCast v3812
  let v3934 : Index := Scalar.indexCast v3932
  let v3815 : BitVec 32 := v3814
  let v3935 : Index := Scalar.indexCast v3815
  let c0_895 : Index := 0#32
  ![v3933.toNat, v3934.toNat, v3935.toNat, 0]

def k0_chk117 (v3812 : BitVec 32) (v3814 : BitVec 32) (v3932 : BitVec 32) : Prop :=
  (∀ a, (k0_off233 v3812 v3814 v3932) a + S1x4x24x256.size a ≤ S2x30x40x256.size a)
theorem k0_off233_inb : ∀ (v3812 : BitVec 32) (v3814 : BitVec 32) (v3932 : BitVec 32) (k0_hw117 : k0_chk117 v3812 v3814 v3932), ∀ a, (k0_off233 v3812 v3814 v3932) a + S1x4x24x256.size a ≤ S2x30x40x256.size a := fun v3812 v3814 v3932 k0_hw117 => k0_hw117

def k0_off234 (i : grid0.Coords) (c3_i32_894 : BitVec 32) : Fin 1 → Nat :=
  let arg0 : BitVec 32 := BitVec.ofNat 32 (i 0).val
  let c32_i32_866 : BitVec 32 := 32#32
  let v3809 : BitVec 32 := Scalar.muli arg0 c32_i32_866
  let c14_i32 : BitVec 32 := 14#32
  let v3810 : BitVec 32 := Scalar.addi v3809 c14_i32
  let c7_i32_893 : BitVec 32 := 7#32
  let v3929 : BitVec 32 := Scalar.muli v3810 c7_i32_893
  let v3930 : BitVec 32 := Scalar.addi v3929 c3_i32_894
  let v3938 : Index := Scalar.indexCast v3930
  ![v3938.toNat]
def k0_off235 (v3812 : BitVec 32) (v3814 : BitVec 32) (v3969 : BitVec 32) : Fin 4 → Nat :=
  let v3970 : Index := Scalar.indexCast v3812
  let v3971 : Index := Scalar.indexCast v3969
  let v3815 : BitVec 32 := v3814
  let v3972 : Index := Scalar.indexCast v3815
  let c0_903 : Index := 0#32
  ![v3970.toNat, v3971.toNat, v3972.toNat, 0]

def k0_chk118 (v3812 : BitVec 32) (v3814 : BitVec 32) (v3969 : BitVec 32) : Prop :=
  (∀ a, (k0_off235 v3812 v3814 v3969) a + S1x4x24x256.size a ≤ S2x30x40x256.size a)
theorem k0_off235_inb : ∀ (v3812 : BitVec 32) (v3814 : BitVec 32) (v3969 : BitVec 32) (k0_hw118 : k0_chk118 v3812 v3814 v3969), ∀ a, (k0_off235 v3812 v3814 v3969) a + S1x4x24x256.size a ≤ S2x30x40x256.size a := fun v3812 v3814 v3969 k0_hw118 => k0_hw118

def k0_off236 (i : grid0.Coords) (c4_i32_902 : BitVec 32) : Fin 1 → Nat :=
  let arg0 : BitVec 32 := BitVec.ofNat 32 (i 0).val
  let c32_i32_866 : BitVec 32 := 32#32
  let v3809 : BitVec 32 := Scalar.muli arg0 c32_i32_866
  let c14_i32 : BitVec 32 := 14#32
  let v3810 : BitVec 32 := Scalar.addi v3809 c14_i32
  let c7_i32_901 : BitVec 32 := 7#32
  let v3966 : BitVec 32 := Scalar.muli v3810 c7_i32_901
  let v3967 : BitVec 32 := Scalar.addi v3966 c4_i32_902
  let v3975 : Index := Scalar.indexCast v3967
  ![v3975.toNat]
def k0_off237 (v3812 : BitVec 32) (v3814 : BitVec 32) (v4006 : BitVec 32) : Fin 4 → Nat :=
  let v4007 : Index := Scalar.indexCast v3812
  let v4008 : Index := Scalar.indexCast v4006
  let v3815 : BitVec 32 := v3814
  let v4009 : Index := Scalar.indexCast v3815
  let c0_911 : Index := 0#32
  ![v4007.toNat, v4008.toNat, v4009.toNat, 0]

def k0_chk119 (v3812 : BitVec 32) (v3814 : BitVec 32) (v4006 : BitVec 32) : Prop :=
  (∀ a, (k0_off237 v3812 v3814 v4006) a + S1x4x24x256.size a ≤ S2x30x40x256.size a)
theorem k0_off237_inb : ∀ (v3812 : BitVec 32) (v3814 : BitVec 32) (v4006 : BitVec 32) (k0_hw119 : k0_chk119 v3812 v3814 v4006), ∀ a, (k0_off237 v3812 v3814 v4006) a + S1x4x24x256.size a ≤ S2x30x40x256.size a := fun v3812 v3814 v4006 k0_hw119 => k0_hw119

def k0_off238 (i : grid0.Coords) (c5_i32_910 : BitVec 32) : Fin 1 → Nat :=
  let arg0 : BitVec 32 := BitVec.ofNat 32 (i 0).val
  let c32_i32_866 : BitVec 32 := 32#32
  let v3809 : BitVec 32 := Scalar.muli arg0 c32_i32_866
  let c14_i32 : BitVec 32 := 14#32
  let v3810 : BitVec 32 := Scalar.addi v3809 c14_i32
  let c7_i32_909 : BitVec 32 := 7#32
  let v4003 : BitVec 32 := Scalar.muli v3810 c7_i32_909
  let v4004 : BitVec 32 := Scalar.addi v4003 c5_i32_910
  let v4012 : Index := Scalar.indexCast v4004
  ![v4012.toNat]
def k0_off239 (v3812 : BitVec 32) (v3814 : BitVec 32) (v4043 : BitVec 32) : Fin 4 → Nat :=
  let v4044 : Index := Scalar.indexCast v3812
  let v4045 : Index := Scalar.indexCast v4043
  let v3815 : BitVec 32 := v3814
  let v4046 : Index := Scalar.indexCast v3815
  let c0_919 : Index := 0#32
  ![v4044.toNat, v4045.toNat, v4046.toNat, 0]

def k0_chk120 (v3812 : BitVec 32) (v3814 : BitVec 32) (v4043 : BitVec 32) : Prop :=
  (∀ a, (k0_off239 v3812 v3814 v4043) a + S1x4x24x256.size a ≤ S2x30x40x256.size a)
theorem k0_off239_inb : ∀ (v3812 : BitVec 32) (v3814 : BitVec 32) (v4043 : BitVec 32) (k0_hw120 : k0_chk120 v3812 v3814 v4043), ∀ a, (k0_off239 v3812 v3814 v4043) a + S1x4x24x256.size a ≤ S2x30x40x256.size a := fun v3812 v3814 v4043 k0_hw120 => k0_hw120

def k0_off240 (i : grid0.Coords) : Fin 1 → Nat :=
  let arg0 : BitVec 32 := BitVec.ofNat 32 (i 0).val
  let c32_i32_866 : BitVec 32 := 32#32
  let v3809 : BitVec 32 := Scalar.muli arg0 c32_i32_866
  let c14_i32 : BitVec 32 := 14#32
  let v3810 : BitVec 32 := Scalar.addi v3809 c14_i32
  let c7_i32_917 : BitVec 32 := 7#32
  let v4040 : BitVec 32 := Scalar.muli v3810 c7_i32_917
  let c6_i32_918 : BitVec 32 := 6#32
  let v4041 : BitVec 32 := Scalar.addi v4040 c6_i32_918
  let v4049 : Index := Scalar.indexCast v4041
  ![v4049.toNat]
def k0_off241 (i : grid0.Coords) : Fin 1 → Nat :=
  let arg0 : BitVec 32 := BitVec.ofNat 32 (i 0).val
  let c32_i32_928 : BitVec 32 := 32#32
  let v4081 : BitVec 32 := Scalar.muli arg0 c32_i32_928
  let c15_i32 : BitVec 32 := 15#32
  let v4082 : BitVec 32 := Scalar.addi v4081 c15_i32
  let v4083 : Index := Scalar.indexCast v4082
  ![v4083.toNat]
def k0_mult16 (v4086 : BitVec 32) : BitVec 32 :=
  v4086

def k0_chk121 (v4086 : BitVec 32) : Prop :=
  (8 ∣ (k0_mult16 v4086).toNat)
theorem k0_mult16_dvd : ∀ (v4086 : BitVec 32) (k0_hw121 : k0_chk121 v4086), 8 ∣ (k0_mult16 v4086).toNat := fun v4086 k0_hw121 => k0_hw121

def k0_off242 (i : grid0.Coords) : Fin 1 → Nat :=
  let arg0 : BitVec 32 := BitVec.ofNat 32 (i 0).val
  let c32_i32_928 : BitVec 32 := 32#32
  let v4081 : BitVec 32 := Scalar.muli arg0 c32_i32_928
  let c15_i32 : BitVec 32 := 15#32
  let v4082 : BitVec 32 := Scalar.addi v4081 c15_i32
  let c7_i32_931 : BitVec 32 := 7#32
  let v4090 : BitVec 32 := Scalar.muli v4082 c7_i32_931
  let c0_i32_932 : BitVec 32 := 0#32
  let v4091 : BitVec 32 := Scalar.addi v4090 c0_i32_932
  let v4092 : Index := Scalar.indexCast v4091
  ![v4092.toNat]
def k0_off243 (v4084 : BitVec 32) (v4086 : BitVec 32) (v4093 : BitVec 32) : Fin 4 → Nat :=
  let v4094 : Index := Scalar.indexCast v4084
  let v4095 : Index := Scalar.indexCast v4093
  let v4087 : BitVec 32 := v4086
  let v4096 : Index := Scalar.indexCast v4087
  let c0_933 : Index := 0#32
  ![v4094.toNat, v4095.toNat, v4096.toNat, 0]

def k0_chk122 (v4084 : BitVec 32) (v4086 : BitVec 32) (v4093 : BitVec 32) : Prop :=
  (∀ a, (k0_off243 v4084 v4086 v4093) a + S1x4x24x256.size a ≤ S2x30x40x256.size a)
theorem k0_off243_inb : ∀ (v4084 : BitVec 32) (v4086 : BitVec 32) (v4093 : BitVec 32) (k0_hw122 : k0_chk122 v4084 v4086 v4093), ∀ a, (k0_off243 v4084 v4086 v4093) a + S1x4x24x256.size a ≤ S2x30x40x256.size a := fun v4084 v4086 v4093 k0_hw122 => k0_hw122

def k0_off244 (i : grid0.Coords) (c0_i32_932 : BitVec 32) : Fin 1 → Nat :=
  let arg0 : BitVec 32 := BitVec.ofNat 32 (i 0).val
  let c32_i32_928 : BitVec 32 := 32#32
  let v4081 : BitVec 32 := Scalar.muli arg0 c32_i32_928
  let c15_i32 : BitVec 32 := 15#32
  let v4082 : BitVec 32 := Scalar.addi v4081 c15_i32
  let c7_i32_931 : BitVec 32 := 7#32
  let v4090 : BitVec 32 := Scalar.muli v4082 c7_i32_931
  let v4091 : BitVec 32 := Scalar.addi v4090 c0_i32_932
  let v4099 : Index := Scalar.indexCast v4091
  ![v4099.toNat]
def k0_off245 (v4084 : BitVec 32) (v4086 : BitVec 32) (v4130 : BitVec 32) : Fin 4 → Nat :=
  let v4131 : Index := Scalar.indexCast v4084
  let v4132 : Index := Scalar.indexCast v4130
  let v4087 : BitVec 32 := v4086
  let v4133 : Index := Scalar.indexCast v4087
  let c0_941 : Index := 0#32
  ![v4131.toNat, v4132.toNat, v4133.toNat, 0]

def k0_chk123 (v4084 : BitVec 32) (v4086 : BitVec 32) (v4130 : BitVec 32) : Prop :=
  (∀ a, (k0_off245 v4084 v4086 v4130) a + S1x4x24x256.size a ≤ S2x30x40x256.size a)
theorem k0_off245_inb : ∀ (v4084 : BitVec 32) (v4086 : BitVec 32) (v4130 : BitVec 32) (k0_hw123 : k0_chk123 v4084 v4086 v4130), ∀ a, (k0_off245 v4084 v4086 v4130) a + S1x4x24x256.size a ≤ S2x30x40x256.size a := fun v4084 v4086 v4130 k0_hw123 => k0_hw123

def k0_off246 (i : grid0.Coords) (c1_i32_940 : BitVec 32) : Fin 1 → Nat :=
  let arg0 : BitVec 32 := BitVec.ofNat 32 (i 0).val
  let c32_i32_928 : BitVec 32 := 32#32
  let v4081 : BitVec 32 := Scalar.muli arg0 c32_i32_928
  let c15_i32 : BitVec 32 := 15#32
  let v4082 : BitVec 32 := Scalar.addi v4081 c15_i32
  let c7_i32_939 : BitVec 32 := 7#32
  let v4127 : BitVec 32 := Scalar.muli v4082 c7_i32_939
  let v4128 : BitVec 32 := Scalar.addi v4127 c1_i32_940
  let v4136 : Index := Scalar.indexCast v4128
  ![v4136.toNat]
def k0_off247 (v4084 : BitVec 32) (v4086 : BitVec 32) (v4167 : BitVec 32) : Fin 4 → Nat :=
  let v4168 : Index := Scalar.indexCast v4084
  let v4169 : Index := Scalar.indexCast v4167
  let v4087 : BitVec 32 := v4086
  let v4170 : Index := Scalar.indexCast v4087
  let c0_949 : Index := 0#32
  ![v4168.toNat, v4169.toNat, v4170.toNat, 0]

def k0_chk124 (v4084 : BitVec 32) (v4086 : BitVec 32) (v4167 : BitVec 32) : Prop :=
  (∀ a, (k0_off247 v4084 v4086 v4167) a + S1x4x24x256.size a ≤ S2x30x40x256.size a)
theorem k0_off247_inb : ∀ (v4084 : BitVec 32) (v4086 : BitVec 32) (v4167 : BitVec 32) (k0_hw124 : k0_chk124 v4084 v4086 v4167), ∀ a, (k0_off247 v4084 v4086 v4167) a + S1x4x24x256.size a ≤ S2x30x40x256.size a := fun v4084 v4086 v4167 k0_hw124 => k0_hw124

def k0_off248 (i : grid0.Coords) (c2_i32_948 : BitVec 32) : Fin 1 → Nat :=
  let arg0 : BitVec 32 := BitVec.ofNat 32 (i 0).val
  let c32_i32_928 : BitVec 32 := 32#32
  let v4081 : BitVec 32 := Scalar.muli arg0 c32_i32_928
  let c15_i32 : BitVec 32 := 15#32
  let v4082 : BitVec 32 := Scalar.addi v4081 c15_i32
  let c7_i32_947 : BitVec 32 := 7#32
  let v4164 : BitVec 32 := Scalar.muli v4082 c7_i32_947
  let v4165 : BitVec 32 := Scalar.addi v4164 c2_i32_948
  let v4173 : Index := Scalar.indexCast v4165
  ![v4173.toNat]
def k0_off249 (v4084 : BitVec 32) (v4086 : BitVec 32) (v4204 : BitVec 32) : Fin 4 → Nat :=
  let v4205 : Index := Scalar.indexCast v4084
  let v4206 : Index := Scalar.indexCast v4204
  let v4087 : BitVec 32 := v4086
  let v4207 : Index := Scalar.indexCast v4087
  let c0_957 : Index := 0#32
  ![v4205.toNat, v4206.toNat, v4207.toNat, 0]

def k0_chk125 (v4084 : BitVec 32) (v4086 : BitVec 32) (v4204 : BitVec 32) : Prop :=
  (∀ a, (k0_off249 v4084 v4086 v4204) a + S1x4x24x256.size a ≤ S2x30x40x256.size a)
theorem k0_off249_inb : ∀ (v4084 : BitVec 32) (v4086 : BitVec 32) (v4204 : BitVec 32) (k0_hw125 : k0_chk125 v4084 v4086 v4204), ∀ a, (k0_off249 v4084 v4086 v4204) a + S1x4x24x256.size a ≤ S2x30x40x256.size a := fun v4084 v4086 v4204 k0_hw125 => k0_hw125

def k0_off250 (i : grid0.Coords) (c3_i32_956 : BitVec 32) : Fin 1 → Nat :=
  let arg0 : BitVec 32 := BitVec.ofNat 32 (i 0).val
  let c32_i32_928 : BitVec 32 := 32#32
  let v4081 : BitVec 32 := Scalar.muli arg0 c32_i32_928
  let c15_i32 : BitVec 32 := 15#32
  let v4082 : BitVec 32 := Scalar.addi v4081 c15_i32
  let c7_i32_955 : BitVec 32 := 7#32
  let v4201 : BitVec 32 := Scalar.muli v4082 c7_i32_955
  let v4202 : BitVec 32 := Scalar.addi v4201 c3_i32_956
  let v4210 : Index := Scalar.indexCast v4202
  ![v4210.toNat]
def k0_off251 (v4084 : BitVec 32) (v4086 : BitVec 32) (v4241 : BitVec 32) : Fin 4 → Nat :=
  let v4242 : Index := Scalar.indexCast v4084
  let v4243 : Index := Scalar.indexCast v4241
  let v4087 : BitVec 32 := v4086
  let v4244 : Index := Scalar.indexCast v4087
  let c0_965 : Index := 0#32
  ![v4242.toNat, v4243.toNat, v4244.toNat, 0]

def k0_chk126 (v4084 : BitVec 32) (v4086 : BitVec 32) (v4241 : BitVec 32) : Prop :=
  (∀ a, (k0_off251 v4084 v4086 v4241) a + S1x4x24x256.size a ≤ S2x30x40x256.size a)
theorem k0_off251_inb : ∀ (v4084 : BitVec 32) (v4086 : BitVec 32) (v4241 : BitVec 32) (k0_hw126 : k0_chk126 v4084 v4086 v4241), ∀ a, (k0_off251 v4084 v4086 v4241) a + S1x4x24x256.size a ≤ S2x30x40x256.size a := fun v4084 v4086 v4241 k0_hw126 => k0_hw126

def k0_off252 (i : grid0.Coords) (c4_i32_964 : BitVec 32) : Fin 1 → Nat :=
  let arg0 : BitVec 32 := BitVec.ofNat 32 (i 0).val
  let c32_i32_928 : BitVec 32 := 32#32
  let v4081 : BitVec 32 := Scalar.muli arg0 c32_i32_928
  let c15_i32 : BitVec 32 := 15#32
  let v4082 : BitVec 32 := Scalar.addi v4081 c15_i32
  let c7_i32_963 : BitVec 32 := 7#32
  let v4238 : BitVec 32 := Scalar.muli v4082 c7_i32_963
  let v4239 : BitVec 32 := Scalar.addi v4238 c4_i32_964
  let v4247 : Index := Scalar.indexCast v4239
  ![v4247.toNat]
def k0_off253 (v4084 : BitVec 32) (v4086 : BitVec 32) (v4278 : BitVec 32) : Fin 4 → Nat :=
  let v4279 : Index := Scalar.indexCast v4084
  let v4280 : Index := Scalar.indexCast v4278
  let v4087 : BitVec 32 := v4086
  let v4281 : Index := Scalar.indexCast v4087
  let c0_973 : Index := 0#32
  ![v4279.toNat, v4280.toNat, v4281.toNat, 0]

def k0_chk127 (v4084 : BitVec 32) (v4086 : BitVec 32) (v4278 : BitVec 32) : Prop :=
  (∀ a, (k0_off253 v4084 v4086 v4278) a + S1x4x24x256.size a ≤ S2x30x40x256.size a)
theorem k0_off253_inb : ∀ (v4084 : BitVec 32) (v4086 : BitVec 32) (v4278 : BitVec 32) (k0_hw127 : k0_chk127 v4084 v4086 v4278), ∀ a, (k0_off253 v4084 v4086 v4278) a + S1x4x24x256.size a ≤ S2x30x40x256.size a := fun v4084 v4086 v4278 k0_hw127 => k0_hw127

def k0_off254 (i : grid0.Coords) (c5_i32_972 : BitVec 32) : Fin 1 → Nat :=
  let arg0 : BitVec 32 := BitVec.ofNat 32 (i 0).val
  let c32_i32_928 : BitVec 32 := 32#32
  let v4081 : BitVec 32 := Scalar.muli arg0 c32_i32_928
  let c15_i32 : BitVec 32 := 15#32
  let v4082 : BitVec 32 := Scalar.addi v4081 c15_i32
  let c7_i32_971 : BitVec 32 := 7#32
  let v4275 : BitVec 32 := Scalar.muli v4082 c7_i32_971
  let v4276 : BitVec 32 := Scalar.addi v4275 c5_i32_972
  let v4284 : Index := Scalar.indexCast v4276
  ![v4284.toNat]
def k0_off255 (v4084 : BitVec 32) (v4086 : BitVec 32) (v4315 : BitVec 32) : Fin 4 → Nat :=
  let v4316 : Index := Scalar.indexCast v4084
  let v4317 : Index := Scalar.indexCast v4315
  let v4087 : BitVec 32 := v4086
  let v4318 : Index := Scalar.indexCast v4087
  let c0_981 : Index := 0#32
  ![v4316.toNat, v4317.toNat, v4318.toNat, 0]

def k0_chk128 (v4084 : BitVec 32) (v4086 : BitVec 32) (v4315 : BitVec 32) : Prop :=
  (∀ a, (k0_off255 v4084 v4086 v4315) a + S1x4x24x256.size a ≤ S2x30x40x256.size a)
theorem k0_off255_inb : ∀ (v4084 : BitVec 32) (v4086 : BitVec 32) (v4315 : BitVec 32) (k0_hw128 : k0_chk128 v4084 v4086 v4315), ∀ a, (k0_off255 v4084 v4086 v4315) a + S1x4x24x256.size a ≤ S2x30x40x256.size a := fun v4084 v4086 v4315 k0_hw128 => k0_hw128

def k0_off256 (i : grid0.Coords) : Fin 1 → Nat :=
  let arg0 : BitVec 32 := BitVec.ofNat 32 (i 0).val
  let c32_i32_928 : BitVec 32 := 32#32
  let v4081 : BitVec 32 := Scalar.muli arg0 c32_i32_928
  let c15_i32 : BitVec 32 := 15#32
  let v4082 : BitVec 32 := Scalar.addi v4081 c15_i32
  let c7_i32_979 : BitVec 32 := 7#32
  let v4312 : BitVec 32 := Scalar.muli v4082 c7_i32_979
  let c6_i32_980 : BitVec 32 := 6#32
  let v4313 : BitVec 32 := Scalar.addi v4312 c6_i32_980
  let v4321 : Index := Scalar.indexCast v4313
  ![v4321.toNat]
def k0_off257 (i : grid0.Coords) : Fin 1 → Nat :=
  let arg0 : BitVec 32 := BitVec.ofNat 32 (i 0).val
  let c32_i32_990 : BitVec 32 := 32#32
  let v4353 : BitVec 32 := Scalar.muli arg0 c32_i32_990
  let c16_i32 : BitVec 32 := 16#32
  let v4354 : BitVec 32 := Scalar.addi v4353 c16_i32
  let v4355 : Index := Scalar.indexCast v4354
  ![v4355.toNat]
def k0_mult17 (v4358 : BitVec 32) : BitVec 32 :=
  v4358

def k0_chk129 (v4358 : BitVec 32) : Prop :=
  (8 ∣ (k0_mult17 v4358).toNat)
theorem k0_mult17_dvd : ∀ (v4358 : BitVec 32) (k0_hw129 : k0_chk129 v4358), 8 ∣ (k0_mult17 v4358).toNat := fun v4358 k0_hw129 => k0_hw129

def k0_off258 (i : grid0.Coords) : Fin 1 → Nat :=
  let arg0 : BitVec 32 := BitVec.ofNat 32 (i 0).val
  let c32_i32_990 : BitVec 32 := 32#32
  let v4353 : BitVec 32 := Scalar.muli arg0 c32_i32_990
  let c16_i32 : BitVec 32 := 16#32
  let v4354 : BitVec 32 := Scalar.addi v4353 c16_i32
  let c7_i32_993 : BitVec 32 := 7#32
  let v4362 : BitVec 32 := Scalar.muli v4354 c7_i32_993
  let c0_i32_994 : BitVec 32 := 0#32
  let v4363 : BitVec 32 := Scalar.addi v4362 c0_i32_994
  let v4364 : Index := Scalar.indexCast v4363
  ![v4364.toNat]
def k0_off259 (v4356 : BitVec 32) (v4358 : BitVec 32) (v4365 : BitVec 32) : Fin 4 → Nat :=
  let v4366 : Index := Scalar.indexCast v4356
  let v4367 : Index := Scalar.indexCast v4365
  let v4359 : BitVec 32 := v4358
  let v4368 : Index := Scalar.indexCast v4359
  let c0_995 : Index := 0#32
  ![v4366.toNat, v4367.toNat, v4368.toNat, 0]

def k0_chk130 (v4356 : BitVec 32) (v4358 : BitVec 32) (v4365 : BitVec 32) : Prop :=
  (∀ a, (k0_off259 v4356 v4358 v4365) a + S1x4x24x256.size a ≤ S2x30x40x256.size a)
theorem k0_off259_inb : ∀ (v4356 : BitVec 32) (v4358 : BitVec 32) (v4365 : BitVec 32) (k0_hw130 : k0_chk130 v4356 v4358 v4365), ∀ a, (k0_off259 v4356 v4358 v4365) a + S1x4x24x256.size a ≤ S2x30x40x256.size a := fun v4356 v4358 v4365 k0_hw130 => k0_hw130

def k0_off260 (i : grid0.Coords) (c0_i32_994 : BitVec 32) : Fin 1 → Nat :=
  let arg0 : BitVec 32 := BitVec.ofNat 32 (i 0).val
  let c32_i32_990 : BitVec 32 := 32#32
  let v4353 : BitVec 32 := Scalar.muli arg0 c32_i32_990
  let c16_i32 : BitVec 32 := 16#32
  let v4354 : BitVec 32 := Scalar.addi v4353 c16_i32
  let c7_i32_993 : BitVec 32 := 7#32
  let v4362 : BitVec 32 := Scalar.muli v4354 c7_i32_993
  let v4363 : BitVec 32 := Scalar.addi v4362 c0_i32_994
  let v4371 : Index := Scalar.indexCast v4363
  ![v4371.toNat]
def k0_off261 (v4356 : BitVec 32) (v4358 : BitVec 32) (v4402 : BitVec 32) : Fin 4 → Nat :=
  let v4403 : Index := Scalar.indexCast v4356
  let v4404 : Index := Scalar.indexCast v4402
  let v4359 : BitVec 32 := v4358
  let v4405 : Index := Scalar.indexCast v4359
  let c0_1003 : Index := 0#32
  ![v4403.toNat, v4404.toNat, v4405.toNat, 0]

def k0_chk131 (v4356 : BitVec 32) (v4358 : BitVec 32) (v4402 : BitVec 32) : Prop :=
  (∀ a, (k0_off261 v4356 v4358 v4402) a + S1x4x24x256.size a ≤ S2x30x40x256.size a)
theorem k0_off261_inb : ∀ (v4356 : BitVec 32) (v4358 : BitVec 32) (v4402 : BitVec 32) (k0_hw131 : k0_chk131 v4356 v4358 v4402), ∀ a, (k0_off261 v4356 v4358 v4402) a + S1x4x24x256.size a ≤ S2x30x40x256.size a := fun v4356 v4358 v4402 k0_hw131 => k0_hw131

def k0_off262 (i : grid0.Coords) (c1_i32_1002 : BitVec 32) : Fin 1 → Nat :=
  let arg0 : BitVec 32 := BitVec.ofNat 32 (i 0).val
  let c32_i32_990 : BitVec 32 := 32#32
  let v4353 : BitVec 32 := Scalar.muli arg0 c32_i32_990
  let c16_i32 : BitVec 32 := 16#32
  let v4354 : BitVec 32 := Scalar.addi v4353 c16_i32
  let c7_i32_1001 : BitVec 32 := 7#32
  let v4399 : BitVec 32 := Scalar.muli v4354 c7_i32_1001
  let v4400 : BitVec 32 := Scalar.addi v4399 c1_i32_1002
  let v4408 : Index := Scalar.indexCast v4400
  ![v4408.toNat]
def k0_off263 (v4356 : BitVec 32) (v4358 : BitVec 32) (v4439 : BitVec 32) : Fin 4 → Nat :=
  let v4440 : Index := Scalar.indexCast v4356
  let v4441 : Index := Scalar.indexCast v4439
  let v4359 : BitVec 32 := v4358
  let v4442 : Index := Scalar.indexCast v4359
  let c0_1011 : Index := 0#32
  ![v4440.toNat, v4441.toNat, v4442.toNat, 0]

def k0_chk132 (v4356 : BitVec 32) (v4358 : BitVec 32) (v4439 : BitVec 32) : Prop :=
  (∀ a, (k0_off263 v4356 v4358 v4439) a + S1x4x24x256.size a ≤ S2x30x40x256.size a)
theorem k0_off263_inb : ∀ (v4356 : BitVec 32) (v4358 : BitVec 32) (v4439 : BitVec 32) (k0_hw132 : k0_chk132 v4356 v4358 v4439), ∀ a, (k0_off263 v4356 v4358 v4439) a + S1x4x24x256.size a ≤ S2x30x40x256.size a := fun v4356 v4358 v4439 k0_hw132 => k0_hw132

def k0_off264 (i : grid0.Coords) (c2_i32_1010 : BitVec 32) : Fin 1 → Nat :=
  let arg0 : BitVec 32 := BitVec.ofNat 32 (i 0).val
  let c32_i32_990 : BitVec 32 := 32#32
  let v4353 : BitVec 32 := Scalar.muli arg0 c32_i32_990
  let c16_i32 : BitVec 32 := 16#32
  let v4354 : BitVec 32 := Scalar.addi v4353 c16_i32
  let c7_i32_1009 : BitVec 32 := 7#32
  let v4436 : BitVec 32 := Scalar.muli v4354 c7_i32_1009
  let v4437 : BitVec 32 := Scalar.addi v4436 c2_i32_1010
  let v4445 : Index := Scalar.indexCast v4437
  ![v4445.toNat]
def k0_off265 (v4356 : BitVec 32) (v4358 : BitVec 32) (v4476 : BitVec 32) : Fin 4 → Nat :=
  let v4477 : Index := Scalar.indexCast v4356
  let v4478 : Index := Scalar.indexCast v4476
  let v4359 : BitVec 32 := v4358
  let v4479 : Index := Scalar.indexCast v4359
  let c0_1019 : Index := 0#32
  ![v4477.toNat, v4478.toNat, v4479.toNat, 0]

def k0_chk133 (v4356 : BitVec 32) (v4358 : BitVec 32) (v4476 : BitVec 32) : Prop :=
  (∀ a, (k0_off265 v4356 v4358 v4476) a + S1x4x24x256.size a ≤ S2x30x40x256.size a)
theorem k0_off265_inb : ∀ (v4356 : BitVec 32) (v4358 : BitVec 32) (v4476 : BitVec 32) (k0_hw133 : k0_chk133 v4356 v4358 v4476), ∀ a, (k0_off265 v4356 v4358 v4476) a + S1x4x24x256.size a ≤ S2x30x40x256.size a := fun v4356 v4358 v4476 k0_hw133 => k0_hw133

def k0_off266 (i : grid0.Coords) (c3_i32_1018 : BitVec 32) : Fin 1 → Nat :=
  let arg0 : BitVec 32 := BitVec.ofNat 32 (i 0).val
  let c32_i32_990 : BitVec 32 := 32#32
  let v4353 : BitVec 32 := Scalar.muli arg0 c32_i32_990
  let c16_i32 : BitVec 32 := 16#32
  let v4354 : BitVec 32 := Scalar.addi v4353 c16_i32
  let c7_i32_1017 : BitVec 32 := 7#32
  let v4473 : BitVec 32 := Scalar.muli v4354 c7_i32_1017
  let v4474 : BitVec 32 := Scalar.addi v4473 c3_i32_1018
  let v4482 : Index := Scalar.indexCast v4474
  ![v4482.toNat]
def k0_off267 (v4356 : BitVec 32) (v4358 : BitVec 32) (v4513 : BitVec 32) : Fin 4 → Nat :=
  let v4514 : Index := Scalar.indexCast v4356
  let v4515 : Index := Scalar.indexCast v4513
  let v4359 : BitVec 32 := v4358
  let v4516 : Index := Scalar.indexCast v4359
  let c0_1027 : Index := 0#32
  ![v4514.toNat, v4515.toNat, v4516.toNat, 0]

def k0_chk134 (v4356 : BitVec 32) (v4358 : BitVec 32) (v4513 : BitVec 32) : Prop :=
  (∀ a, (k0_off267 v4356 v4358 v4513) a + S1x4x24x256.size a ≤ S2x30x40x256.size a)
theorem k0_off267_inb : ∀ (v4356 : BitVec 32) (v4358 : BitVec 32) (v4513 : BitVec 32) (k0_hw134 : k0_chk134 v4356 v4358 v4513), ∀ a, (k0_off267 v4356 v4358 v4513) a + S1x4x24x256.size a ≤ S2x30x40x256.size a := fun v4356 v4358 v4513 k0_hw134 => k0_hw134

def k0_off268 (i : grid0.Coords) (c4_i32_1026 : BitVec 32) : Fin 1 → Nat :=
  let arg0 : BitVec 32 := BitVec.ofNat 32 (i 0).val
  let c32_i32_990 : BitVec 32 := 32#32
  let v4353 : BitVec 32 := Scalar.muli arg0 c32_i32_990
  let c16_i32 : BitVec 32 := 16#32
  let v4354 : BitVec 32 := Scalar.addi v4353 c16_i32
  let c7_i32_1025 : BitVec 32 := 7#32
  let v4510 : BitVec 32 := Scalar.muli v4354 c7_i32_1025
  let v4511 : BitVec 32 := Scalar.addi v4510 c4_i32_1026
  let v4519 : Index := Scalar.indexCast v4511
  ![v4519.toNat]
def k0_off269 (v4356 : BitVec 32) (v4358 : BitVec 32) (v4550 : BitVec 32) : Fin 4 → Nat :=
  let v4551 : Index := Scalar.indexCast v4356
  let v4552 : Index := Scalar.indexCast v4550
  let v4359 : BitVec 32 := v4358
  let v4553 : Index := Scalar.indexCast v4359
  let c0_1035 : Index := 0#32
  ![v4551.toNat, v4552.toNat, v4553.toNat, 0]

def k0_chk135 (v4356 : BitVec 32) (v4358 : BitVec 32) (v4550 : BitVec 32) : Prop :=
  (∀ a, (k0_off269 v4356 v4358 v4550) a + S1x4x24x256.size a ≤ S2x30x40x256.size a)
theorem k0_off269_inb : ∀ (v4356 : BitVec 32) (v4358 : BitVec 32) (v4550 : BitVec 32) (k0_hw135 : k0_chk135 v4356 v4358 v4550), ∀ a, (k0_off269 v4356 v4358 v4550) a + S1x4x24x256.size a ≤ S2x30x40x256.size a := fun v4356 v4358 v4550 k0_hw135 => k0_hw135

def k0_off270 (i : grid0.Coords) (c5_i32_1034 : BitVec 32) : Fin 1 → Nat :=
  let arg0 : BitVec 32 := BitVec.ofNat 32 (i 0).val
  let c32_i32_990 : BitVec 32 := 32#32
  let v4353 : BitVec 32 := Scalar.muli arg0 c32_i32_990
  let c16_i32 : BitVec 32 := 16#32
  let v4354 : BitVec 32 := Scalar.addi v4353 c16_i32
  let c7_i32_1033 : BitVec 32 := 7#32
  let v4547 : BitVec 32 := Scalar.muli v4354 c7_i32_1033
  let v4548 : BitVec 32 := Scalar.addi v4547 c5_i32_1034
  let v4556 : Index := Scalar.indexCast v4548
  ![v4556.toNat]
def k0_off271 (v4356 : BitVec 32) (v4358 : BitVec 32) (v4587 : BitVec 32) : Fin 4 → Nat :=
  let v4588 : Index := Scalar.indexCast v4356
  let v4589 : Index := Scalar.indexCast v4587
  let v4359 : BitVec 32 := v4358
  let v4590 : Index := Scalar.indexCast v4359
  let c0_1043 : Index := 0#32
  ![v4588.toNat, v4589.toNat, v4590.toNat, 0]

def k0_chk136 (v4356 : BitVec 32) (v4358 : BitVec 32) (v4587 : BitVec 32) : Prop :=
  (∀ a, (k0_off271 v4356 v4358 v4587) a + S1x4x24x256.size a ≤ S2x30x40x256.size a)
theorem k0_off271_inb : ∀ (v4356 : BitVec 32) (v4358 : BitVec 32) (v4587 : BitVec 32) (k0_hw136 : k0_chk136 v4356 v4358 v4587), ∀ a, (k0_off271 v4356 v4358 v4587) a + S1x4x24x256.size a ≤ S2x30x40x256.size a := fun v4356 v4358 v4587 k0_hw136 => k0_hw136

def k0_off272 (i : grid0.Coords) : Fin 1 → Nat :=
  let arg0 : BitVec 32 := BitVec.ofNat 32 (i 0).val
  let c32_i32_990 : BitVec 32 := 32#32
  let v4353 : BitVec 32 := Scalar.muli arg0 c32_i32_990
  let c16_i32 : BitVec 32 := 16#32
  let v4354 : BitVec 32 := Scalar.addi v4353 c16_i32
  let c7_i32_1041 : BitVec 32 := 7#32
  let v4584 : BitVec 32 := Scalar.muli v4354 c7_i32_1041
  let c6_i32_1042 : BitVec 32 := 6#32
  let v4585 : BitVec 32 := Scalar.addi v4584 c6_i32_1042
  let v4593 : Index := Scalar.indexCast v4585
  ![v4593.toNat]
def k0_off273 (i : grid0.Coords) : Fin 1 → Nat :=
  let arg0 : BitVec 32 := BitVec.ofNat 32 (i 0).val
  let c32_i32_1052 : BitVec 32 := 32#32
  let v4625 : BitVec 32 := Scalar.muli arg0 c32_i32_1052
  let c17_i32 : BitVec 32 := 17#32
  let v4626 : BitVec 32 := Scalar.addi v4625 c17_i32
  let v4627 : Index := Scalar.indexCast v4626
  ![v4627.toNat]
def k0_mult18 (v4630 : BitVec 32) : BitVec 32 :=
  v4630

def k0_chk137 (v4630 : BitVec 32) : Prop :=
  (8 ∣ (k0_mult18 v4630).toNat)
theorem k0_mult18_dvd : ∀ (v4630 : BitVec 32) (k0_hw137 : k0_chk137 v4630), 8 ∣ (k0_mult18 v4630).toNat := fun v4630 k0_hw137 => k0_hw137

def k0_off274 (i : grid0.Coords) : Fin 1 → Nat :=
  let arg0 : BitVec 32 := BitVec.ofNat 32 (i 0).val
  let c32_i32_1052 : BitVec 32 := 32#32
  let v4625 : BitVec 32 := Scalar.muli arg0 c32_i32_1052
  let c17_i32 : BitVec 32 := 17#32
  let v4626 : BitVec 32 := Scalar.addi v4625 c17_i32
  let c7_i32_1055 : BitVec 32 := 7#32
  let v4634 : BitVec 32 := Scalar.muli v4626 c7_i32_1055
  let c0_i32_1056 : BitVec 32 := 0#32
  let v4635 : BitVec 32 := Scalar.addi v4634 c0_i32_1056
  let v4636 : Index := Scalar.indexCast v4635
  ![v4636.toNat]
def k0_off275 (v4628 : BitVec 32) (v4630 : BitVec 32) (v4637 : BitVec 32) : Fin 4 → Nat :=
  let v4638 : Index := Scalar.indexCast v4628
  let v4639 : Index := Scalar.indexCast v4637
  let v4631 : BitVec 32 := v4630
  let v4640 : Index := Scalar.indexCast v4631
  let c0_1057 : Index := 0#32
  ![v4638.toNat, v4639.toNat, v4640.toNat, 0]

def k0_chk138 (v4628 : BitVec 32) (v4630 : BitVec 32) (v4637 : BitVec 32) : Prop :=
  (∀ a, (k0_off275 v4628 v4630 v4637) a + S1x4x24x256.size a ≤ S2x30x40x256.size a)
theorem k0_off275_inb : ∀ (v4628 : BitVec 32) (v4630 : BitVec 32) (v4637 : BitVec 32) (k0_hw138 : k0_chk138 v4628 v4630 v4637), ∀ a, (k0_off275 v4628 v4630 v4637) a + S1x4x24x256.size a ≤ S2x30x40x256.size a := fun v4628 v4630 v4637 k0_hw138 => k0_hw138

def k0_off276 (i : grid0.Coords) (c0_i32_1056 : BitVec 32) : Fin 1 → Nat :=
  let arg0 : BitVec 32 := BitVec.ofNat 32 (i 0).val
  let c32_i32_1052 : BitVec 32 := 32#32
  let v4625 : BitVec 32 := Scalar.muli arg0 c32_i32_1052
  let c17_i32 : BitVec 32 := 17#32
  let v4626 : BitVec 32 := Scalar.addi v4625 c17_i32
  let c7_i32_1055 : BitVec 32 := 7#32
  let v4634 : BitVec 32 := Scalar.muli v4626 c7_i32_1055
  let v4635 : BitVec 32 := Scalar.addi v4634 c0_i32_1056
  let v4643 : Index := Scalar.indexCast v4635
  ![v4643.toNat]
def k0_off277 (v4628 : BitVec 32) (v4630 : BitVec 32) (v4674 : BitVec 32) : Fin 4 → Nat :=
  let v4675 : Index := Scalar.indexCast v4628
  let v4676 : Index := Scalar.indexCast v4674
  let v4631 : BitVec 32 := v4630
  let v4677 : Index := Scalar.indexCast v4631
  let c0_1065 : Index := 0#32
  ![v4675.toNat, v4676.toNat, v4677.toNat, 0]

def k0_chk139 (v4628 : BitVec 32) (v4630 : BitVec 32) (v4674 : BitVec 32) : Prop :=
  (∀ a, (k0_off277 v4628 v4630 v4674) a + S1x4x24x256.size a ≤ S2x30x40x256.size a)
theorem k0_off277_inb : ∀ (v4628 : BitVec 32) (v4630 : BitVec 32) (v4674 : BitVec 32) (k0_hw139 : k0_chk139 v4628 v4630 v4674), ∀ a, (k0_off277 v4628 v4630 v4674) a + S1x4x24x256.size a ≤ S2x30x40x256.size a := fun v4628 v4630 v4674 k0_hw139 => k0_hw139

def k0_off278 (i : grid0.Coords) (c1_i32_1064 : BitVec 32) : Fin 1 → Nat :=
  let arg0 : BitVec 32 := BitVec.ofNat 32 (i 0).val
  let c32_i32_1052 : BitVec 32 := 32#32
  let v4625 : BitVec 32 := Scalar.muli arg0 c32_i32_1052
  let c17_i32 : BitVec 32 := 17#32
  let v4626 : BitVec 32 := Scalar.addi v4625 c17_i32
  let c7_i32_1063 : BitVec 32 := 7#32
  let v4671 : BitVec 32 := Scalar.muli v4626 c7_i32_1063
  let v4672 : BitVec 32 := Scalar.addi v4671 c1_i32_1064
  let v4680 : Index := Scalar.indexCast v4672
  ![v4680.toNat]
def k0_off279 (v4628 : BitVec 32) (v4630 : BitVec 32) (v4711 : BitVec 32) : Fin 4 → Nat :=
  let v4712 : Index := Scalar.indexCast v4628
  let v4713 : Index := Scalar.indexCast v4711
  let v4631 : BitVec 32 := v4630
  let v4714 : Index := Scalar.indexCast v4631
  let c0_1073 : Index := 0#32
  ![v4712.toNat, v4713.toNat, v4714.toNat, 0]

def k0_chk140 (v4628 : BitVec 32) (v4630 : BitVec 32) (v4711 : BitVec 32) : Prop :=
  (∀ a, (k0_off279 v4628 v4630 v4711) a + S1x4x24x256.size a ≤ S2x30x40x256.size a)
theorem k0_off279_inb : ∀ (v4628 : BitVec 32) (v4630 : BitVec 32) (v4711 : BitVec 32) (k0_hw140 : k0_chk140 v4628 v4630 v4711), ∀ a, (k0_off279 v4628 v4630 v4711) a + S1x4x24x256.size a ≤ S2x30x40x256.size a := fun v4628 v4630 v4711 k0_hw140 => k0_hw140

def k0_off280 (i : grid0.Coords) (c2_i32_1072 : BitVec 32) : Fin 1 → Nat :=
  let arg0 : BitVec 32 := BitVec.ofNat 32 (i 0).val
  let c32_i32_1052 : BitVec 32 := 32#32
  let v4625 : BitVec 32 := Scalar.muli arg0 c32_i32_1052
  let c17_i32 : BitVec 32 := 17#32
  let v4626 : BitVec 32 := Scalar.addi v4625 c17_i32
  let c7_i32_1071 : BitVec 32 := 7#32
  let v4708 : BitVec 32 := Scalar.muli v4626 c7_i32_1071
  let v4709 : BitVec 32 := Scalar.addi v4708 c2_i32_1072
  let v4717 : Index := Scalar.indexCast v4709
  ![v4717.toNat]
def k0_off281 (v4628 : BitVec 32) (v4630 : BitVec 32) (v4748 : BitVec 32) : Fin 4 → Nat :=
  let v4749 : Index := Scalar.indexCast v4628
  let v4750 : Index := Scalar.indexCast v4748
  let v4631 : BitVec 32 := v4630
  let v4751 : Index := Scalar.indexCast v4631
  let c0_1081 : Index := 0#32
  ![v4749.toNat, v4750.toNat, v4751.toNat, 0]

def k0_chk141 (v4628 : BitVec 32) (v4630 : BitVec 32) (v4748 : BitVec 32) : Prop :=
  (∀ a, (k0_off281 v4628 v4630 v4748) a + S1x4x24x256.size a ≤ S2x30x40x256.size a)
theorem k0_off281_inb : ∀ (v4628 : BitVec 32) (v4630 : BitVec 32) (v4748 : BitVec 32) (k0_hw141 : k0_chk141 v4628 v4630 v4748), ∀ a, (k0_off281 v4628 v4630 v4748) a + S1x4x24x256.size a ≤ S2x30x40x256.size a := fun v4628 v4630 v4748 k0_hw141 => k0_hw141

def k0_off282 (i : grid0.Coords) (c3_i32_1080 : BitVec 32) : Fin 1 → Nat :=
  let arg0 : BitVec 32 := BitVec.ofNat 32 (i 0).val
  let c32_i32_1052 : BitVec 32 := 32#32
  let v4625 : BitVec 32 := Scalar.muli arg0 c32_i32_1052
  let c17_i32 : BitVec 32 := 17#32
  let v4626 : BitVec 32 := Scalar.addi v4625 c17_i32
  let c7_i32_1079 : BitVec 32 := 7#32
  let v4745 : BitVec 32 := Scalar.muli v4626 c7_i32_1079
  let v4746 : BitVec 32 := Scalar.addi v4745 c3_i32_1080
  let v4754 : Index := Scalar.indexCast v4746
  ![v4754.toNat]
def k0_off283 (v4628 : BitVec 32) (v4630 : BitVec 32) (v4785 : BitVec 32) : Fin 4 → Nat :=
  let v4786 : Index := Scalar.indexCast v4628
  let v4787 : Index := Scalar.indexCast v4785
  let v4631 : BitVec 32 := v4630
  let v4788 : Index := Scalar.indexCast v4631
  let c0_1089 : Index := 0#32
  ![v4786.toNat, v4787.toNat, v4788.toNat, 0]

def k0_chk142 (v4628 : BitVec 32) (v4630 : BitVec 32) (v4785 : BitVec 32) : Prop :=
  (∀ a, (k0_off283 v4628 v4630 v4785) a + S1x4x24x256.size a ≤ S2x30x40x256.size a)
theorem k0_off283_inb : ∀ (v4628 : BitVec 32) (v4630 : BitVec 32) (v4785 : BitVec 32) (k0_hw142 : k0_chk142 v4628 v4630 v4785), ∀ a, (k0_off283 v4628 v4630 v4785) a + S1x4x24x256.size a ≤ S2x30x40x256.size a := fun v4628 v4630 v4785 k0_hw142 => k0_hw142

def k0_off284 (i : grid0.Coords) (c4_i32_1088 : BitVec 32) : Fin 1 → Nat :=
  let arg0 : BitVec 32 := BitVec.ofNat 32 (i 0).val
  let c32_i32_1052 : BitVec 32 := 32#32
  let v4625 : BitVec 32 := Scalar.muli arg0 c32_i32_1052
  let c17_i32 : BitVec 32 := 17#32
  let v4626 : BitVec 32 := Scalar.addi v4625 c17_i32
  let c7_i32_1087 : BitVec 32 := 7#32
  let v4782 : BitVec 32 := Scalar.muli v4626 c7_i32_1087
  let v4783 : BitVec 32 := Scalar.addi v4782 c4_i32_1088
  let v4791 : Index := Scalar.indexCast v4783
  ![v4791.toNat]
def k0_off285 (v4628 : BitVec 32) (v4630 : BitVec 32) (v4822 : BitVec 32) : Fin 4 → Nat :=
  let v4823 : Index := Scalar.indexCast v4628
  let v4824 : Index := Scalar.indexCast v4822
  let v4631 : BitVec 32 := v4630
  let v4825 : Index := Scalar.indexCast v4631
  let c0_1097 : Index := 0#32
  ![v4823.toNat, v4824.toNat, v4825.toNat, 0]

def k0_chk143 (v4628 : BitVec 32) (v4630 : BitVec 32) (v4822 : BitVec 32) : Prop :=
  (∀ a, (k0_off285 v4628 v4630 v4822) a + S1x4x24x256.size a ≤ S2x30x40x256.size a)
theorem k0_off285_inb : ∀ (v4628 : BitVec 32) (v4630 : BitVec 32) (v4822 : BitVec 32) (k0_hw143 : k0_chk143 v4628 v4630 v4822), ∀ a, (k0_off285 v4628 v4630 v4822) a + S1x4x24x256.size a ≤ S2x30x40x256.size a := fun v4628 v4630 v4822 k0_hw143 => k0_hw143

def k0_off286 (i : grid0.Coords) (c5_i32_1096 : BitVec 32) : Fin 1 → Nat :=
  let arg0 : BitVec 32 := BitVec.ofNat 32 (i 0).val
  let c32_i32_1052 : BitVec 32 := 32#32
  let v4625 : BitVec 32 := Scalar.muli arg0 c32_i32_1052
  let c17_i32 : BitVec 32 := 17#32
  let v4626 : BitVec 32 := Scalar.addi v4625 c17_i32
  let c7_i32_1095 : BitVec 32 := 7#32
  let v4819 : BitVec 32 := Scalar.muli v4626 c7_i32_1095
  let v4820 : BitVec 32 := Scalar.addi v4819 c5_i32_1096
  let v4828 : Index := Scalar.indexCast v4820
  ![v4828.toNat]
def k0_off287 (v4628 : BitVec 32) (v4630 : BitVec 32) (v4859 : BitVec 32) : Fin 4 → Nat :=
  let v4860 : Index := Scalar.indexCast v4628
  let v4861 : Index := Scalar.indexCast v4859
  let v4631 : BitVec 32 := v4630
  let v4862 : Index := Scalar.indexCast v4631
  let c0_1105 : Index := 0#32
  ![v4860.toNat, v4861.toNat, v4862.toNat, 0]

def k0_chk144 (v4628 : BitVec 32) (v4630 : BitVec 32) (v4859 : BitVec 32) : Prop :=
  (∀ a, (k0_off287 v4628 v4630 v4859) a + S1x4x24x256.size a ≤ S2x30x40x256.size a)
theorem k0_off287_inb : ∀ (v4628 : BitVec 32) (v4630 : BitVec 32) (v4859 : BitVec 32) (k0_hw144 : k0_chk144 v4628 v4630 v4859), ∀ a, (k0_off287 v4628 v4630 v4859) a + S1x4x24x256.size a ≤ S2x30x40x256.size a := fun v4628 v4630 v4859 k0_hw144 => k0_hw144

def k0_off288 (i : grid0.Coords) : Fin 1 → Nat :=
  let arg0 : BitVec 32 := BitVec.ofNat 32 (i 0).val
  let c32_i32_1052 : BitVec 32 := 32#32
  let v4625 : BitVec 32 := Scalar.muli arg0 c32_i32_1052
  let c17_i32 : BitVec 32 := 17#32
  let v4626 : BitVec 32 := Scalar.addi v4625 c17_i32
  let c7_i32_1103 : BitVec 32 := 7#32
  let v4856 : BitVec 32 := Scalar.muli v4626 c7_i32_1103
  let c6_i32_1104 : BitVec 32 := 6#32
  let v4857 : BitVec 32 := Scalar.addi v4856 c6_i32_1104
  let v4865 : Index := Scalar.indexCast v4857
  ![v4865.toNat]
def k0_off289 (i : grid0.Coords) : Fin 1 → Nat :=
  let arg0 : BitVec 32 := BitVec.ofNat 32 (i 0).val
  let c32_i32_1114 : BitVec 32 := 32#32
  let v4897 : BitVec 32 := Scalar.muli arg0 c32_i32_1114
  let c18_i32 : BitVec 32 := 18#32
  let v4898 : BitVec 32 := Scalar.addi v4897 c18_i32
  let v4899 : Index := Scalar.indexCast v4898
  ![v4899.toNat]
def k0_mult19 (v4902 : BitVec 32) : BitVec 32 :=
  v4902

def k0_chk145 (v4902 : BitVec 32) : Prop :=
  (8 ∣ (k0_mult19 v4902).toNat)
theorem k0_mult19_dvd : ∀ (v4902 : BitVec 32) (k0_hw145 : k0_chk145 v4902), 8 ∣ (k0_mult19 v4902).toNat := fun v4902 k0_hw145 => k0_hw145

def k0_off290 (i : grid0.Coords) : Fin 1 → Nat :=
  let arg0 : BitVec 32 := BitVec.ofNat 32 (i 0).val
  let c32_i32_1114 : BitVec 32 := 32#32
  let v4897 : BitVec 32 := Scalar.muli arg0 c32_i32_1114
  let c18_i32 : BitVec 32 := 18#32
  let v4898 : BitVec 32 := Scalar.addi v4897 c18_i32
  let c7_i32_1117 : BitVec 32 := 7#32
  let v4906 : BitVec 32 := Scalar.muli v4898 c7_i32_1117
  let c0_i32_1118 : BitVec 32 := 0#32
  let v4907 : BitVec 32 := Scalar.addi v4906 c0_i32_1118
  let v4908 : Index := Scalar.indexCast v4907
  ![v4908.toNat]
def k0_off291 (v4900 : BitVec 32) (v4902 : BitVec 32) (v4909 : BitVec 32) : Fin 4 → Nat :=
  let v4910 : Index := Scalar.indexCast v4900
  let v4911 : Index := Scalar.indexCast v4909
  let v4903 : BitVec 32 := v4902
  let v4912 : Index := Scalar.indexCast v4903
  let c0_1119 : Index := 0#32
  ![v4910.toNat, v4911.toNat, v4912.toNat, 0]

def k0_chk146 (v4900 : BitVec 32) (v4902 : BitVec 32) (v4909 : BitVec 32) : Prop :=
  (∀ a, (k0_off291 v4900 v4902 v4909) a + S1x4x24x256.size a ≤ S2x30x40x256.size a)
theorem k0_off291_inb : ∀ (v4900 : BitVec 32) (v4902 : BitVec 32) (v4909 : BitVec 32) (k0_hw146 : k0_chk146 v4900 v4902 v4909), ∀ a, (k0_off291 v4900 v4902 v4909) a + S1x4x24x256.size a ≤ S2x30x40x256.size a := fun v4900 v4902 v4909 k0_hw146 => k0_hw146

def k0_off292 (i : grid0.Coords) (c0_i32_1118 : BitVec 32) : Fin 1 → Nat :=
  let arg0 : BitVec 32 := BitVec.ofNat 32 (i 0).val
  let c32_i32_1114 : BitVec 32 := 32#32
  let v4897 : BitVec 32 := Scalar.muli arg0 c32_i32_1114
  let c18_i32 : BitVec 32 := 18#32
  let v4898 : BitVec 32 := Scalar.addi v4897 c18_i32
  let c7_i32_1117 : BitVec 32 := 7#32
  let v4906 : BitVec 32 := Scalar.muli v4898 c7_i32_1117
  let v4907 : BitVec 32 := Scalar.addi v4906 c0_i32_1118
  let v4915 : Index := Scalar.indexCast v4907
  ![v4915.toNat]
def k0_off293 (v4900 : BitVec 32) (v4902 : BitVec 32) (v4946 : BitVec 32) : Fin 4 → Nat :=
  let v4947 : Index := Scalar.indexCast v4900
  let v4948 : Index := Scalar.indexCast v4946
  let v4903 : BitVec 32 := v4902
  let v4949 : Index := Scalar.indexCast v4903
  let c0_1127 : Index := 0#32
  ![v4947.toNat, v4948.toNat, v4949.toNat, 0]

def k0_chk147 (v4900 : BitVec 32) (v4902 : BitVec 32) (v4946 : BitVec 32) : Prop :=
  (∀ a, (k0_off293 v4900 v4902 v4946) a + S1x4x24x256.size a ≤ S2x30x40x256.size a)
theorem k0_off293_inb : ∀ (v4900 : BitVec 32) (v4902 : BitVec 32) (v4946 : BitVec 32) (k0_hw147 : k0_chk147 v4900 v4902 v4946), ∀ a, (k0_off293 v4900 v4902 v4946) a + S1x4x24x256.size a ≤ S2x30x40x256.size a := fun v4900 v4902 v4946 k0_hw147 => k0_hw147

def k0_off294 (i : grid0.Coords) (c1_i32_1126 : BitVec 32) : Fin 1 → Nat :=
  let arg0 : BitVec 32 := BitVec.ofNat 32 (i 0).val
  let c32_i32_1114 : BitVec 32 := 32#32
  let v4897 : BitVec 32 := Scalar.muli arg0 c32_i32_1114
  let c18_i32 : BitVec 32 := 18#32
  let v4898 : BitVec 32 := Scalar.addi v4897 c18_i32
  let c7_i32_1125 : BitVec 32 := 7#32
  let v4943 : BitVec 32 := Scalar.muli v4898 c7_i32_1125
  let v4944 : BitVec 32 := Scalar.addi v4943 c1_i32_1126
  let v4952 : Index := Scalar.indexCast v4944
  ![v4952.toNat]
def k0_off295 (v4900 : BitVec 32) (v4902 : BitVec 32) (v4983 : BitVec 32) : Fin 4 → Nat :=
  let v4984 : Index := Scalar.indexCast v4900
  let v4985 : Index := Scalar.indexCast v4983
  let v4903 : BitVec 32 := v4902
  let v4986 : Index := Scalar.indexCast v4903
  let c0_1135 : Index := 0#32
  ![v4984.toNat, v4985.toNat, v4986.toNat, 0]

def k0_chk148 (v4900 : BitVec 32) (v4902 : BitVec 32) (v4983 : BitVec 32) : Prop :=
  (∀ a, (k0_off295 v4900 v4902 v4983) a + S1x4x24x256.size a ≤ S2x30x40x256.size a)
theorem k0_off295_inb : ∀ (v4900 : BitVec 32) (v4902 : BitVec 32) (v4983 : BitVec 32) (k0_hw148 : k0_chk148 v4900 v4902 v4983), ∀ a, (k0_off295 v4900 v4902 v4983) a + S1x4x24x256.size a ≤ S2x30x40x256.size a := fun v4900 v4902 v4983 k0_hw148 => k0_hw148

def k0_off296 (i : grid0.Coords) (c2_i32_1134 : BitVec 32) : Fin 1 → Nat :=
  let arg0 : BitVec 32 := BitVec.ofNat 32 (i 0).val
  let c32_i32_1114 : BitVec 32 := 32#32
  let v4897 : BitVec 32 := Scalar.muli arg0 c32_i32_1114
  let c18_i32 : BitVec 32 := 18#32
  let v4898 : BitVec 32 := Scalar.addi v4897 c18_i32
  let c7_i32_1133 : BitVec 32 := 7#32
  let v4980 : BitVec 32 := Scalar.muli v4898 c7_i32_1133
  let v4981 : BitVec 32 := Scalar.addi v4980 c2_i32_1134
  let v4989 : Index := Scalar.indexCast v4981
  ![v4989.toNat]
def k0_off297 (v4900 : BitVec 32) (v4902 : BitVec 32) (v5020 : BitVec 32) : Fin 4 → Nat :=
  let v5021 : Index := Scalar.indexCast v4900
  let v5022 : Index := Scalar.indexCast v5020
  let v4903 : BitVec 32 := v4902
  let v5023 : Index := Scalar.indexCast v4903
  let c0_1143 : Index := 0#32
  ![v5021.toNat, v5022.toNat, v5023.toNat, 0]

def k0_chk149 (v4900 : BitVec 32) (v4902 : BitVec 32) (v5020 : BitVec 32) : Prop :=
  (∀ a, (k0_off297 v4900 v4902 v5020) a + S1x4x24x256.size a ≤ S2x30x40x256.size a)
theorem k0_off297_inb : ∀ (v4900 : BitVec 32) (v4902 : BitVec 32) (v5020 : BitVec 32) (k0_hw149 : k0_chk149 v4900 v4902 v5020), ∀ a, (k0_off297 v4900 v4902 v5020) a + S1x4x24x256.size a ≤ S2x30x40x256.size a := fun v4900 v4902 v5020 k0_hw149 => k0_hw149

def k0_off298 (i : grid0.Coords) (c3_i32_1142 : BitVec 32) : Fin 1 → Nat :=
  let arg0 : BitVec 32 := BitVec.ofNat 32 (i 0).val
  let c32_i32_1114 : BitVec 32 := 32#32
  let v4897 : BitVec 32 := Scalar.muli arg0 c32_i32_1114
  let c18_i32 : BitVec 32 := 18#32
  let v4898 : BitVec 32 := Scalar.addi v4897 c18_i32
  let c7_i32_1141 : BitVec 32 := 7#32
  let v5017 : BitVec 32 := Scalar.muli v4898 c7_i32_1141
  let v5018 : BitVec 32 := Scalar.addi v5017 c3_i32_1142
  let v5026 : Index := Scalar.indexCast v5018
  ![v5026.toNat]
def k0_off299 (v4900 : BitVec 32) (v4902 : BitVec 32) (v5057 : BitVec 32) : Fin 4 → Nat :=
  let v5058 : Index := Scalar.indexCast v4900
  let v5059 : Index := Scalar.indexCast v5057
  let v4903 : BitVec 32 := v4902
  let v5060 : Index := Scalar.indexCast v4903
  let c0_1151 : Index := 0#32
  ![v5058.toNat, v5059.toNat, v5060.toNat, 0]

def k0_chk150 (v4900 : BitVec 32) (v4902 : BitVec 32) (v5057 : BitVec 32) : Prop :=
  (∀ a, (k0_off299 v4900 v4902 v5057) a + S1x4x24x256.size a ≤ S2x30x40x256.size a)
theorem k0_off299_inb : ∀ (v4900 : BitVec 32) (v4902 : BitVec 32) (v5057 : BitVec 32) (k0_hw150 : k0_chk150 v4900 v4902 v5057), ∀ a, (k0_off299 v4900 v4902 v5057) a + S1x4x24x256.size a ≤ S2x30x40x256.size a := fun v4900 v4902 v5057 k0_hw150 => k0_hw150

def k0_off300 (i : grid0.Coords) (c4_i32_1150 : BitVec 32) : Fin 1 → Nat :=
  let arg0 : BitVec 32 := BitVec.ofNat 32 (i 0).val
  let c32_i32_1114 : BitVec 32 := 32#32
  let v4897 : BitVec 32 := Scalar.muli arg0 c32_i32_1114
  let c18_i32 : BitVec 32 := 18#32
  let v4898 : BitVec 32 := Scalar.addi v4897 c18_i32
  let c7_i32_1149 : BitVec 32 := 7#32
  let v5054 : BitVec 32 := Scalar.muli v4898 c7_i32_1149
  let v5055 : BitVec 32 := Scalar.addi v5054 c4_i32_1150
  let v5063 : Index := Scalar.indexCast v5055
  ![v5063.toNat]
def k0_off301 (v4900 : BitVec 32) (v4902 : BitVec 32) (v5094 : BitVec 32) : Fin 4 → Nat :=
  let v5095 : Index := Scalar.indexCast v4900
  let v5096 : Index := Scalar.indexCast v5094
  let v4903 : BitVec 32 := v4902
  let v5097 : Index := Scalar.indexCast v4903
  let c0_1159 : Index := 0#32
  ![v5095.toNat, v5096.toNat, v5097.toNat, 0]

def k0_chk151 (v4900 : BitVec 32) (v4902 : BitVec 32) (v5094 : BitVec 32) : Prop :=
  (∀ a, (k0_off301 v4900 v4902 v5094) a + S1x4x24x256.size a ≤ S2x30x40x256.size a)
theorem k0_off301_inb : ∀ (v4900 : BitVec 32) (v4902 : BitVec 32) (v5094 : BitVec 32) (k0_hw151 : k0_chk151 v4900 v4902 v5094), ∀ a, (k0_off301 v4900 v4902 v5094) a + S1x4x24x256.size a ≤ S2x30x40x256.size a := fun v4900 v4902 v5094 k0_hw151 => k0_hw151

def k0_off302 (i : grid0.Coords) (c5_i32_1158 : BitVec 32) : Fin 1 → Nat :=
  let arg0 : BitVec 32 := BitVec.ofNat 32 (i 0).val
  let c32_i32_1114 : BitVec 32 := 32#32
  let v4897 : BitVec 32 := Scalar.muli arg0 c32_i32_1114
  let c18_i32 : BitVec 32 := 18#32
  let v4898 : BitVec 32 := Scalar.addi v4897 c18_i32
  let c7_i32_1157 : BitVec 32 := 7#32
  let v5091 : BitVec 32 := Scalar.muli v4898 c7_i32_1157
  let v5092 : BitVec 32 := Scalar.addi v5091 c5_i32_1158
  let v5100 : Index := Scalar.indexCast v5092
  ![v5100.toNat]
def k0_off303 (v4900 : BitVec 32) (v4902 : BitVec 32) (v5131 : BitVec 32) : Fin 4 → Nat :=
  let v5132 : Index := Scalar.indexCast v4900
  let v5133 : Index := Scalar.indexCast v5131
  let v4903 : BitVec 32 := v4902
  let v5134 : Index := Scalar.indexCast v4903
  let c0_1167 : Index := 0#32
  ![v5132.toNat, v5133.toNat, v5134.toNat, 0]

def k0_chk152 (v4900 : BitVec 32) (v4902 : BitVec 32) (v5131 : BitVec 32) : Prop :=
  (∀ a, (k0_off303 v4900 v4902 v5131) a + S1x4x24x256.size a ≤ S2x30x40x256.size a)
theorem k0_off303_inb : ∀ (v4900 : BitVec 32) (v4902 : BitVec 32) (v5131 : BitVec 32) (k0_hw152 : k0_chk152 v4900 v4902 v5131), ∀ a, (k0_off303 v4900 v4902 v5131) a + S1x4x24x256.size a ≤ S2x30x40x256.size a := fun v4900 v4902 v5131 k0_hw152 => k0_hw152

def k0_off304 (i : grid0.Coords) : Fin 1 → Nat :=
  let arg0 : BitVec 32 := BitVec.ofNat 32 (i 0).val
  let c32_i32_1114 : BitVec 32 := 32#32
  let v4897 : BitVec 32 := Scalar.muli arg0 c32_i32_1114
  let c18_i32 : BitVec 32 := 18#32
  let v4898 : BitVec 32 := Scalar.addi v4897 c18_i32
  let c7_i32_1165 : BitVec 32 := 7#32
  let v5128 : BitVec 32 := Scalar.muli v4898 c7_i32_1165
  let c6_i32_1166 : BitVec 32 := 6#32
  let v5129 : BitVec 32 := Scalar.addi v5128 c6_i32_1166
  let v5137 : Index := Scalar.indexCast v5129
  ![v5137.toNat]
def k0_off305 (i : grid0.Coords) : Fin 1 → Nat :=
  let arg0 : BitVec 32 := BitVec.ofNat 32 (i 0).val
  let c32_i32_1176 : BitVec 32 := 32#32
  let v5169 : BitVec 32 := Scalar.muli arg0 c32_i32_1176
  let c19_i32 : BitVec 32 := 19#32
  let v5170 : BitVec 32 := Scalar.addi v5169 c19_i32
  let v5171 : Index := Scalar.indexCast v5170
  ![v5171.toNat]
def k0_mult20 (v5174 : BitVec 32) : BitVec 32 :=
  v5174

def k0_chk153 (v5174 : BitVec 32) : Prop :=
  (8 ∣ (k0_mult20 v5174).toNat)
theorem k0_mult20_dvd : ∀ (v5174 : BitVec 32) (k0_hw153 : k0_chk153 v5174), 8 ∣ (k0_mult20 v5174).toNat := fun v5174 k0_hw153 => k0_hw153

def k0_off306 (i : grid0.Coords) : Fin 1 → Nat :=
  let arg0 : BitVec 32 := BitVec.ofNat 32 (i 0).val
  let c32_i32_1176 : BitVec 32 := 32#32
  let v5169 : BitVec 32 := Scalar.muli arg0 c32_i32_1176
  let c19_i32 : BitVec 32 := 19#32
  let v5170 : BitVec 32 := Scalar.addi v5169 c19_i32
  let c7_i32_1179 : BitVec 32 := 7#32
  let v5178 : BitVec 32 := Scalar.muli v5170 c7_i32_1179
  let c0_i32_1180 : BitVec 32 := 0#32
  let v5179 : BitVec 32 := Scalar.addi v5178 c0_i32_1180
  let v5180 : Index := Scalar.indexCast v5179
  ![v5180.toNat]
def k0_off307 (v5172 : BitVec 32) (v5174 : BitVec 32) (v5181 : BitVec 32) : Fin 4 → Nat :=
  let v5182 : Index := Scalar.indexCast v5172
  let v5183 : Index := Scalar.indexCast v5181
  let v5175 : BitVec 32 := v5174
  let v5184 : Index := Scalar.indexCast v5175
  let c0_1181 : Index := 0#32
  ![v5182.toNat, v5183.toNat, v5184.toNat, 0]

def k0_chk154 (v5172 : BitVec 32) (v5174 : BitVec 32) (v5181 : BitVec 32) : Prop :=
  (∀ a, (k0_off307 v5172 v5174 v5181) a + S1x4x24x256.size a ≤ S2x30x40x256.size a)
theorem k0_off307_inb : ∀ (v5172 : BitVec 32) (v5174 : BitVec 32) (v5181 : BitVec 32) (k0_hw154 : k0_chk154 v5172 v5174 v5181), ∀ a, (k0_off307 v5172 v5174 v5181) a + S1x4x24x256.size a ≤ S2x30x40x256.size a := fun v5172 v5174 v5181 k0_hw154 => k0_hw154

def k0_off308 (i : grid0.Coords) (c0_i32_1180 : BitVec 32) : Fin 1 → Nat :=
  let arg0 : BitVec 32 := BitVec.ofNat 32 (i 0).val
  let c32_i32_1176 : BitVec 32 := 32#32
  let v5169 : BitVec 32 := Scalar.muli arg0 c32_i32_1176
  let c19_i32 : BitVec 32 := 19#32
  let v5170 : BitVec 32 := Scalar.addi v5169 c19_i32
  let c7_i32_1179 : BitVec 32 := 7#32
  let v5178 : BitVec 32 := Scalar.muli v5170 c7_i32_1179
  let v5179 : BitVec 32 := Scalar.addi v5178 c0_i32_1180
  let v5187 : Index := Scalar.indexCast v5179
  ![v5187.toNat]
def k0_off309 (v5172 : BitVec 32) (v5174 : BitVec 32) (v5218 : BitVec 32) : Fin 4 → Nat :=
  let v5219 : Index := Scalar.indexCast v5172
  let v5220 : Index := Scalar.indexCast v5218
  let v5175 : BitVec 32 := v5174
  let v5221 : Index := Scalar.indexCast v5175
  let c0_1189 : Index := 0#32
  ![v5219.toNat, v5220.toNat, v5221.toNat, 0]

def k0_chk155 (v5172 : BitVec 32) (v5174 : BitVec 32) (v5218 : BitVec 32) : Prop :=
  (∀ a, (k0_off309 v5172 v5174 v5218) a + S1x4x24x256.size a ≤ S2x30x40x256.size a)
theorem k0_off309_inb : ∀ (v5172 : BitVec 32) (v5174 : BitVec 32) (v5218 : BitVec 32) (k0_hw155 : k0_chk155 v5172 v5174 v5218), ∀ a, (k0_off309 v5172 v5174 v5218) a + S1x4x24x256.size a ≤ S2x30x40x256.size a := fun v5172 v5174 v5218 k0_hw155 => k0_hw155

def k0_off310 (i : grid0.Coords) (c1_i32_1188 : BitVec 32) : Fin 1 → Nat :=
  let arg0 : BitVec 32 := BitVec.ofNat 32 (i 0).val
  let c32_i32_1176 : BitVec 32 := 32#32
  let v5169 : BitVec 32 := Scalar.muli arg0 c32_i32_1176
  let c19_i32 : BitVec 32 := 19#32
  let v5170 : BitVec 32 := Scalar.addi v5169 c19_i32
  let c7_i32_1187 : BitVec 32 := 7#32
  let v5215 : BitVec 32 := Scalar.muli v5170 c7_i32_1187
  let v5216 : BitVec 32 := Scalar.addi v5215 c1_i32_1188
  let v5224 : Index := Scalar.indexCast v5216
  ![v5224.toNat]
def k0_off311 (v5172 : BitVec 32) (v5174 : BitVec 32) (v5255 : BitVec 32) : Fin 4 → Nat :=
  let v5256 : Index := Scalar.indexCast v5172
  let v5257 : Index := Scalar.indexCast v5255
  let v5175 : BitVec 32 := v5174
  let v5258 : Index := Scalar.indexCast v5175
  let c0_1197 : Index := 0#32
  ![v5256.toNat, v5257.toNat, v5258.toNat, 0]

def k0_chk156 (v5172 : BitVec 32) (v5174 : BitVec 32) (v5255 : BitVec 32) : Prop :=
  (∀ a, (k0_off311 v5172 v5174 v5255) a + S1x4x24x256.size a ≤ S2x30x40x256.size a)
theorem k0_off311_inb : ∀ (v5172 : BitVec 32) (v5174 : BitVec 32) (v5255 : BitVec 32) (k0_hw156 : k0_chk156 v5172 v5174 v5255), ∀ a, (k0_off311 v5172 v5174 v5255) a + S1x4x24x256.size a ≤ S2x30x40x256.size a := fun v5172 v5174 v5255 k0_hw156 => k0_hw156

def k0_off312 (i : grid0.Coords) (c2_i32_1196 : BitVec 32) : Fin 1 → Nat :=
  let arg0 : BitVec 32 := BitVec.ofNat 32 (i 0).val
  let c32_i32_1176 : BitVec 32 := 32#32
  let v5169 : BitVec 32 := Scalar.muli arg0 c32_i32_1176
  let c19_i32 : BitVec 32 := 19#32
  let v5170 : BitVec 32 := Scalar.addi v5169 c19_i32
  let c7_i32_1195 : BitVec 32 := 7#32
  let v5252 : BitVec 32 := Scalar.muli v5170 c7_i32_1195
  let v5253 : BitVec 32 := Scalar.addi v5252 c2_i32_1196
  let v5261 : Index := Scalar.indexCast v5253
  ![v5261.toNat]
def k0_off313 (v5172 : BitVec 32) (v5174 : BitVec 32) (v5292 : BitVec 32) : Fin 4 → Nat :=
  let v5293 : Index := Scalar.indexCast v5172
  let v5294 : Index := Scalar.indexCast v5292
  let v5175 : BitVec 32 := v5174
  let v5295 : Index := Scalar.indexCast v5175
  let c0_1205 : Index := 0#32
  ![v5293.toNat, v5294.toNat, v5295.toNat, 0]

def k0_chk157 (v5172 : BitVec 32) (v5174 : BitVec 32) (v5292 : BitVec 32) : Prop :=
  (∀ a, (k0_off313 v5172 v5174 v5292) a + S1x4x24x256.size a ≤ S2x30x40x256.size a)
theorem k0_off313_inb : ∀ (v5172 : BitVec 32) (v5174 : BitVec 32) (v5292 : BitVec 32) (k0_hw157 : k0_chk157 v5172 v5174 v5292), ∀ a, (k0_off313 v5172 v5174 v5292) a + S1x4x24x256.size a ≤ S2x30x40x256.size a := fun v5172 v5174 v5292 k0_hw157 => k0_hw157

def k0_off314 (i : grid0.Coords) (c3_i32_1204 : BitVec 32) : Fin 1 → Nat :=
  let arg0 : BitVec 32 := BitVec.ofNat 32 (i 0).val
  let c32_i32_1176 : BitVec 32 := 32#32
  let v5169 : BitVec 32 := Scalar.muli arg0 c32_i32_1176
  let c19_i32 : BitVec 32 := 19#32
  let v5170 : BitVec 32 := Scalar.addi v5169 c19_i32
  let c7_i32_1203 : BitVec 32 := 7#32
  let v5289 : BitVec 32 := Scalar.muli v5170 c7_i32_1203
  let v5290 : BitVec 32 := Scalar.addi v5289 c3_i32_1204
  let v5298 : Index := Scalar.indexCast v5290
  ![v5298.toNat]
def k0_off315 (v5172 : BitVec 32) (v5174 : BitVec 32) (v5329 : BitVec 32) : Fin 4 → Nat :=
  let v5330 : Index := Scalar.indexCast v5172
  let v5331 : Index := Scalar.indexCast v5329
  let v5175 : BitVec 32 := v5174
  let v5332 : Index := Scalar.indexCast v5175
  let c0_1213 : Index := 0#32
  ![v5330.toNat, v5331.toNat, v5332.toNat, 0]

def k0_chk158 (v5172 : BitVec 32) (v5174 : BitVec 32) (v5329 : BitVec 32) : Prop :=
  (∀ a, (k0_off315 v5172 v5174 v5329) a + S1x4x24x256.size a ≤ S2x30x40x256.size a)
theorem k0_off315_inb : ∀ (v5172 : BitVec 32) (v5174 : BitVec 32) (v5329 : BitVec 32) (k0_hw158 : k0_chk158 v5172 v5174 v5329), ∀ a, (k0_off315 v5172 v5174 v5329) a + S1x4x24x256.size a ≤ S2x30x40x256.size a := fun v5172 v5174 v5329 k0_hw158 => k0_hw158

def k0_off316 (i : grid0.Coords) (c4_i32_1212 : BitVec 32) : Fin 1 → Nat :=
  let arg0 : BitVec 32 := BitVec.ofNat 32 (i 0).val
  let c32_i32_1176 : BitVec 32 := 32#32
  let v5169 : BitVec 32 := Scalar.muli arg0 c32_i32_1176
  let c19_i32 : BitVec 32 := 19#32
  let v5170 : BitVec 32 := Scalar.addi v5169 c19_i32
  let c7_i32_1211 : BitVec 32 := 7#32
  let v5326 : BitVec 32 := Scalar.muli v5170 c7_i32_1211
  let v5327 : BitVec 32 := Scalar.addi v5326 c4_i32_1212
  let v5335 : Index := Scalar.indexCast v5327
  ![v5335.toNat]
def k0_off317 (v5172 : BitVec 32) (v5174 : BitVec 32) (v5366 : BitVec 32) : Fin 4 → Nat :=
  let v5367 : Index := Scalar.indexCast v5172
  let v5368 : Index := Scalar.indexCast v5366
  let v5175 : BitVec 32 := v5174
  let v5369 : Index := Scalar.indexCast v5175
  let c0_1221 : Index := 0#32
  ![v5367.toNat, v5368.toNat, v5369.toNat, 0]

def k0_chk159 (v5172 : BitVec 32) (v5174 : BitVec 32) (v5366 : BitVec 32) : Prop :=
  (∀ a, (k0_off317 v5172 v5174 v5366) a + S1x4x24x256.size a ≤ S2x30x40x256.size a)
theorem k0_off317_inb : ∀ (v5172 : BitVec 32) (v5174 : BitVec 32) (v5366 : BitVec 32) (k0_hw159 : k0_chk159 v5172 v5174 v5366), ∀ a, (k0_off317 v5172 v5174 v5366) a + S1x4x24x256.size a ≤ S2x30x40x256.size a := fun v5172 v5174 v5366 k0_hw159 => k0_hw159

def k0_off318 (i : grid0.Coords) (c5_i32_1220 : BitVec 32) : Fin 1 → Nat :=
  let arg0 : BitVec 32 := BitVec.ofNat 32 (i 0).val
  let c32_i32_1176 : BitVec 32 := 32#32
  let v5169 : BitVec 32 := Scalar.muli arg0 c32_i32_1176
  let c19_i32 : BitVec 32 := 19#32
  let v5170 : BitVec 32 := Scalar.addi v5169 c19_i32
  let c7_i32_1219 : BitVec 32 := 7#32
  let v5363 : BitVec 32 := Scalar.muli v5170 c7_i32_1219
  let v5364 : BitVec 32 := Scalar.addi v5363 c5_i32_1220
  let v5372 : Index := Scalar.indexCast v5364
  ![v5372.toNat]
def k0_off319 (v5172 : BitVec 32) (v5174 : BitVec 32) (v5403 : BitVec 32) : Fin 4 → Nat :=
  let v5404 : Index := Scalar.indexCast v5172
  let v5405 : Index := Scalar.indexCast v5403
  let v5175 : BitVec 32 := v5174
  let v5406 : Index := Scalar.indexCast v5175
  let c0_1229 : Index := 0#32
  ![v5404.toNat, v5405.toNat, v5406.toNat, 0]

def k0_chk160 (v5172 : BitVec 32) (v5174 : BitVec 32) (v5403 : BitVec 32) : Prop :=
  (∀ a, (k0_off319 v5172 v5174 v5403) a + S1x4x24x256.size a ≤ S2x30x40x256.size a)
theorem k0_off319_inb : ∀ (v5172 : BitVec 32) (v5174 : BitVec 32) (v5403 : BitVec 32) (k0_hw160 : k0_chk160 v5172 v5174 v5403), ∀ a, (k0_off319 v5172 v5174 v5403) a + S1x4x24x256.size a ≤ S2x30x40x256.size a := fun v5172 v5174 v5403 k0_hw160 => k0_hw160

def k0_off320 (i : grid0.Coords) : Fin 1 → Nat :=
  let arg0 : BitVec 32 := BitVec.ofNat 32 (i 0).val
  let c32_i32_1176 : BitVec 32 := 32#32
  let v5169 : BitVec 32 := Scalar.muli arg0 c32_i32_1176
  let c19_i32 : BitVec 32 := 19#32
  let v5170 : BitVec 32 := Scalar.addi v5169 c19_i32
  let c7_i32_1227 : BitVec 32 := 7#32
  let v5400 : BitVec 32 := Scalar.muli v5170 c7_i32_1227
  let c6_i32_1228 : BitVec 32 := 6#32
  let v5401 : BitVec 32 := Scalar.addi v5400 c6_i32_1228
  let v5409 : Index := Scalar.indexCast v5401
  ![v5409.toNat]
def k0_off321 (i : grid0.Coords) : Fin 1 → Nat :=
  let arg0 : BitVec 32 := BitVec.ofNat 32 (i 0).val
  let c32_i32_1238 : BitVec 32 := 32#32
  let v5441 : BitVec 32 := Scalar.muli arg0 c32_i32_1238
  let c20_i32 : BitVec 32 := 20#32
  let v5442 : BitVec 32 := Scalar.addi v5441 c20_i32
  let v5443 : Index := Scalar.indexCast v5442
  ![v5443.toNat]
def k0_mult21 (v5446 : BitVec 32) : BitVec 32 :=
  v5446

def k0_chk161 (v5446 : BitVec 32) : Prop :=
  (8 ∣ (k0_mult21 v5446).toNat)
theorem k0_mult21_dvd : ∀ (v5446 : BitVec 32) (k0_hw161 : k0_chk161 v5446), 8 ∣ (k0_mult21 v5446).toNat := fun v5446 k0_hw161 => k0_hw161

def k0_off322 (i : grid0.Coords) : Fin 1 → Nat :=
  let arg0 : BitVec 32 := BitVec.ofNat 32 (i 0).val
  let c32_i32_1238 : BitVec 32 := 32#32
  let v5441 : BitVec 32 := Scalar.muli arg0 c32_i32_1238
  let c20_i32 : BitVec 32 := 20#32
  let v5442 : BitVec 32 := Scalar.addi v5441 c20_i32
  let c7_i32_1241 : BitVec 32 := 7#32
  let v5450 : BitVec 32 := Scalar.muli v5442 c7_i32_1241
  let c0_i32_1242 : BitVec 32 := 0#32
  let v5451 : BitVec 32 := Scalar.addi v5450 c0_i32_1242
  let v5452 : Index := Scalar.indexCast v5451
  ![v5452.toNat]
def k0_off323 (v5444 : BitVec 32) (v5446 : BitVec 32) (v5453 : BitVec 32) : Fin 4 → Nat :=
  let v5454 : Index := Scalar.indexCast v5444
  let v5455 : Index := Scalar.indexCast v5453
  let v5447 : BitVec 32 := v5446
  let v5456 : Index := Scalar.indexCast v5447
  let c0_1243 : Index := 0#32
  ![v5454.toNat, v5455.toNat, v5456.toNat, 0]

def k0_chk162 (v5444 : BitVec 32) (v5446 : BitVec 32) (v5453 : BitVec 32) : Prop :=
  (∀ a, (k0_off323 v5444 v5446 v5453) a + S1x4x24x256.size a ≤ S2x30x40x256.size a)
theorem k0_off323_inb : ∀ (v5444 : BitVec 32) (v5446 : BitVec 32) (v5453 : BitVec 32) (k0_hw162 : k0_chk162 v5444 v5446 v5453), ∀ a, (k0_off323 v5444 v5446 v5453) a + S1x4x24x256.size a ≤ S2x30x40x256.size a := fun v5444 v5446 v5453 k0_hw162 => k0_hw162

def k0_off324 (i : grid0.Coords) (c0_i32_1242 : BitVec 32) : Fin 1 → Nat :=
  let arg0 : BitVec 32 := BitVec.ofNat 32 (i 0).val
  let c32_i32_1238 : BitVec 32 := 32#32
  let v5441 : BitVec 32 := Scalar.muli arg0 c32_i32_1238
  let c20_i32 : BitVec 32 := 20#32
  let v5442 : BitVec 32 := Scalar.addi v5441 c20_i32
  let c7_i32_1241 : BitVec 32 := 7#32
  let v5450 : BitVec 32 := Scalar.muli v5442 c7_i32_1241
  let v5451 : BitVec 32 := Scalar.addi v5450 c0_i32_1242
  let v5459 : Index := Scalar.indexCast v5451
  ![v5459.toNat]
def k0_off325 (v5444 : BitVec 32) (v5446 : BitVec 32) (v5490 : BitVec 32) : Fin 4 → Nat :=
  let v5491 : Index := Scalar.indexCast v5444
  let v5492 : Index := Scalar.indexCast v5490
  let v5447 : BitVec 32 := v5446
  let v5493 : Index := Scalar.indexCast v5447
  let c0_1251 : Index := 0#32
  ![v5491.toNat, v5492.toNat, v5493.toNat, 0]

def k0_chk163 (v5444 : BitVec 32) (v5446 : BitVec 32) (v5490 : BitVec 32) : Prop :=
  (∀ a, (k0_off325 v5444 v5446 v5490) a + S1x4x24x256.size a ≤ S2x30x40x256.size a)
theorem k0_off325_inb : ∀ (v5444 : BitVec 32) (v5446 : BitVec 32) (v5490 : BitVec 32) (k0_hw163 : k0_chk163 v5444 v5446 v5490), ∀ a, (k0_off325 v5444 v5446 v5490) a + S1x4x24x256.size a ≤ S2x30x40x256.size a := fun v5444 v5446 v5490 k0_hw163 => k0_hw163

def k0_off326 (i : grid0.Coords) (c1_i32_1250 : BitVec 32) : Fin 1 → Nat :=
  let arg0 : BitVec 32 := BitVec.ofNat 32 (i 0).val
  let c32_i32_1238 : BitVec 32 := 32#32
  let v5441 : BitVec 32 := Scalar.muli arg0 c32_i32_1238
  let c20_i32 : BitVec 32 := 20#32
  let v5442 : BitVec 32 := Scalar.addi v5441 c20_i32
  let c7_i32_1249 : BitVec 32 := 7#32
  let v5487 : BitVec 32 := Scalar.muli v5442 c7_i32_1249
  let v5488 : BitVec 32 := Scalar.addi v5487 c1_i32_1250
  let v5496 : Index := Scalar.indexCast v5488
  ![v5496.toNat]
def k0_off327 (v5444 : BitVec 32) (v5446 : BitVec 32) (v5527 : BitVec 32) : Fin 4 → Nat :=
  let v5528 : Index := Scalar.indexCast v5444
  let v5529 : Index := Scalar.indexCast v5527
  let v5447 : BitVec 32 := v5446
  let v5530 : Index := Scalar.indexCast v5447
  let c0_1259 : Index := 0#32
  ![v5528.toNat, v5529.toNat, v5530.toNat, 0]

def k0_chk164 (v5444 : BitVec 32) (v5446 : BitVec 32) (v5527 : BitVec 32) : Prop :=
  (∀ a, (k0_off327 v5444 v5446 v5527) a + S1x4x24x256.size a ≤ S2x30x40x256.size a)
theorem k0_off327_inb : ∀ (v5444 : BitVec 32) (v5446 : BitVec 32) (v5527 : BitVec 32) (k0_hw164 : k0_chk164 v5444 v5446 v5527), ∀ a, (k0_off327 v5444 v5446 v5527) a + S1x4x24x256.size a ≤ S2x30x40x256.size a := fun v5444 v5446 v5527 k0_hw164 => k0_hw164

def k0_off328 (i : grid0.Coords) (c2_i32_1258 : BitVec 32) : Fin 1 → Nat :=
  let arg0 : BitVec 32 := BitVec.ofNat 32 (i 0).val
  let c32_i32_1238 : BitVec 32 := 32#32
  let v5441 : BitVec 32 := Scalar.muli arg0 c32_i32_1238
  let c20_i32 : BitVec 32 := 20#32
  let v5442 : BitVec 32 := Scalar.addi v5441 c20_i32
  let c7_i32_1257 : BitVec 32 := 7#32
  let v5524 : BitVec 32 := Scalar.muli v5442 c7_i32_1257
  let v5525 : BitVec 32 := Scalar.addi v5524 c2_i32_1258
  let v5533 : Index := Scalar.indexCast v5525
  ![v5533.toNat]
def k0_off329 (v5444 : BitVec 32) (v5446 : BitVec 32) (v5564 : BitVec 32) : Fin 4 → Nat :=
  let v5565 : Index := Scalar.indexCast v5444
  let v5566 : Index := Scalar.indexCast v5564
  let v5447 : BitVec 32 := v5446
  let v5567 : Index := Scalar.indexCast v5447
  let c0_1267 : Index := 0#32
  ![v5565.toNat, v5566.toNat, v5567.toNat, 0]

def k0_chk165 (v5444 : BitVec 32) (v5446 : BitVec 32) (v5564 : BitVec 32) : Prop :=
  (∀ a, (k0_off329 v5444 v5446 v5564) a + S1x4x24x256.size a ≤ S2x30x40x256.size a)
theorem k0_off329_inb : ∀ (v5444 : BitVec 32) (v5446 : BitVec 32) (v5564 : BitVec 32) (k0_hw165 : k0_chk165 v5444 v5446 v5564), ∀ a, (k0_off329 v5444 v5446 v5564) a + S1x4x24x256.size a ≤ S2x30x40x256.size a := fun v5444 v5446 v5564 k0_hw165 => k0_hw165

def k0_off330 (i : grid0.Coords) (c3_i32_1266 : BitVec 32) : Fin 1 → Nat :=
  let arg0 : BitVec 32 := BitVec.ofNat 32 (i 0).val
  let c32_i32_1238 : BitVec 32 := 32#32
  let v5441 : BitVec 32 := Scalar.muli arg0 c32_i32_1238
  let c20_i32 : BitVec 32 := 20#32
  let v5442 : BitVec 32 := Scalar.addi v5441 c20_i32
  let c7_i32_1265 : BitVec 32 := 7#32
  let v5561 : BitVec 32 := Scalar.muli v5442 c7_i32_1265
  let v5562 : BitVec 32 := Scalar.addi v5561 c3_i32_1266
  let v5570 : Index := Scalar.indexCast v5562
  ![v5570.toNat]
def k0_off331 (v5444 : BitVec 32) (v5446 : BitVec 32) (v5601 : BitVec 32) : Fin 4 → Nat :=
  let v5602 : Index := Scalar.indexCast v5444
  let v5603 : Index := Scalar.indexCast v5601
  let v5447 : BitVec 32 := v5446
  let v5604 : Index := Scalar.indexCast v5447
  let c0_1275 : Index := 0#32
  ![v5602.toNat, v5603.toNat, v5604.toNat, 0]

def k0_chk166 (v5444 : BitVec 32) (v5446 : BitVec 32) (v5601 : BitVec 32) : Prop :=
  (∀ a, (k0_off331 v5444 v5446 v5601) a + S1x4x24x256.size a ≤ S2x30x40x256.size a)
theorem k0_off331_inb : ∀ (v5444 : BitVec 32) (v5446 : BitVec 32) (v5601 : BitVec 32) (k0_hw166 : k0_chk166 v5444 v5446 v5601), ∀ a, (k0_off331 v5444 v5446 v5601) a + S1x4x24x256.size a ≤ S2x30x40x256.size a := fun v5444 v5446 v5601 k0_hw166 => k0_hw166

def k0_off332 (i : grid0.Coords) (c4_i32_1274 : BitVec 32) : Fin 1 → Nat :=
  let arg0 : BitVec 32 := BitVec.ofNat 32 (i 0).val
  let c32_i32_1238 : BitVec 32 := 32#32
  let v5441 : BitVec 32 := Scalar.muli arg0 c32_i32_1238
  let c20_i32 : BitVec 32 := 20#32
  let v5442 : BitVec 32 := Scalar.addi v5441 c20_i32
  let c7_i32_1273 : BitVec 32 := 7#32
  let v5598 : BitVec 32 := Scalar.muli v5442 c7_i32_1273
  let v5599 : BitVec 32 := Scalar.addi v5598 c4_i32_1274
  let v5607 : Index := Scalar.indexCast v5599
  ![v5607.toNat]
def k0_off333 (v5444 : BitVec 32) (v5446 : BitVec 32) (v5638 : BitVec 32) : Fin 4 → Nat :=
  let v5639 : Index := Scalar.indexCast v5444
  let v5640 : Index := Scalar.indexCast v5638
  let v5447 : BitVec 32 := v5446
  let v5641 : Index := Scalar.indexCast v5447
  let c0_1283 : Index := 0#32
  ![v5639.toNat, v5640.toNat, v5641.toNat, 0]

def k0_chk167 (v5444 : BitVec 32) (v5446 : BitVec 32) (v5638 : BitVec 32) : Prop :=
  (∀ a, (k0_off333 v5444 v5446 v5638) a + S1x4x24x256.size a ≤ S2x30x40x256.size a)
theorem k0_off333_inb : ∀ (v5444 : BitVec 32) (v5446 : BitVec 32) (v5638 : BitVec 32) (k0_hw167 : k0_chk167 v5444 v5446 v5638), ∀ a, (k0_off333 v5444 v5446 v5638) a + S1x4x24x256.size a ≤ S2x30x40x256.size a := fun v5444 v5446 v5638 k0_hw167 => k0_hw167

def k0_off334 (i : grid0.Coords) (c5_i32_1282 : BitVec 32) : Fin 1 → Nat :=
  let arg0 : BitVec 32 := BitVec.ofNat 32 (i 0).val
  let c32_i32_1238 : BitVec 32 := 32#32
  let v5441 : BitVec 32 := Scalar.muli arg0 c32_i32_1238
  let c20_i32 : BitVec 32 := 20#32
  let v5442 : BitVec 32 := Scalar.addi v5441 c20_i32
  let c7_i32_1281 : BitVec 32 := 7#32
  let v5635 : BitVec 32 := Scalar.muli v5442 c7_i32_1281
  let v5636 : BitVec 32 := Scalar.addi v5635 c5_i32_1282
  let v5644 : Index := Scalar.indexCast v5636
  ![v5644.toNat]
def k0_off335 (v5444 : BitVec 32) (v5446 : BitVec 32) (v5675 : BitVec 32) : Fin 4 → Nat :=
  let v5676 : Index := Scalar.indexCast v5444
  let v5677 : Index := Scalar.indexCast v5675
  let v5447 : BitVec 32 := v5446
  let v5678 : Index := Scalar.indexCast v5447
  let c0_1291 : Index := 0#32
  ![v5676.toNat, v5677.toNat, v5678.toNat, 0]

def k0_chk168 (v5444 : BitVec 32) (v5446 : BitVec 32) (v5675 : BitVec 32) : Prop :=
  (∀ a, (k0_off335 v5444 v5446 v5675) a + S1x4x24x256.size a ≤ S2x30x40x256.size a)
theorem k0_off335_inb : ∀ (v5444 : BitVec 32) (v5446 : BitVec 32) (v5675 : BitVec 32) (k0_hw168 : k0_chk168 v5444 v5446 v5675), ∀ a, (k0_off335 v5444 v5446 v5675) a + S1x4x24x256.size a ≤ S2x30x40x256.size a := fun v5444 v5446 v5675 k0_hw168 => k0_hw168

def k0_off336 (i : grid0.Coords) : Fin 1 → Nat :=
  let arg0 : BitVec 32 := BitVec.ofNat 32 (i 0).val
  let c32_i32_1238 : BitVec 32 := 32#32
  let v5441 : BitVec 32 := Scalar.muli arg0 c32_i32_1238
  let c20_i32 : BitVec 32 := 20#32
  let v5442 : BitVec 32 := Scalar.addi v5441 c20_i32
  let c7_i32_1289 : BitVec 32 := 7#32
  let v5672 : BitVec 32 := Scalar.muli v5442 c7_i32_1289
  let c6_i32_1290 : BitVec 32 := 6#32
  let v5673 : BitVec 32 := Scalar.addi v5672 c6_i32_1290
  let v5681 : Index := Scalar.indexCast v5673
  ![v5681.toNat]
def k0_off337 (i : grid0.Coords) : Fin 1 → Nat :=
  let arg0 : BitVec 32 := BitVec.ofNat 32 (i 0).val
  let c32_i32_1300 : BitVec 32 := 32#32
  let v5713 : BitVec 32 := Scalar.muli arg0 c32_i32_1300
  let c21_i32 : BitVec 32 := 21#32
  let v5714 : BitVec 32 := Scalar.addi v5713 c21_i32
  let v5715 : Index := Scalar.indexCast v5714
  ![v5715.toNat]
def k0_mult22 (v5718 : BitVec 32) : BitVec 32 :=
  v5718

def k0_chk169 (v5718 : BitVec 32) : Prop :=
  (8 ∣ (k0_mult22 v5718).toNat)
theorem k0_mult22_dvd : ∀ (v5718 : BitVec 32) (k0_hw169 : k0_chk169 v5718), 8 ∣ (k0_mult22 v5718).toNat := fun v5718 k0_hw169 => k0_hw169

def k0_off338 (i : grid0.Coords) : Fin 1 → Nat :=
  let arg0 : BitVec 32 := BitVec.ofNat 32 (i 0).val
  let c32_i32_1300 : BitVec 32 := 32#32
  let v5713 : BitVec 32 := Scalar.muli arg0 c32_i32_1300
  let c21_i32 : BitVec 32 := 21#32
  let v5714 : BitVec 32 := Scalar.addi v5713 c21_i32
  let c7_i32_1303 : BitVec 32 := 7#32
  let v5722 : BitVec 32 := Scalar.muli v5714 c7_i32_1303
  let c0_i32_1304 : BitVec 32 := 0#32
  let v5723 : BitVec 32 := Scalar.addi v5722 c0_i32_1304
  let v5724 : Index := Scalar.indexCast v5723
  ![v5724.toNat]
def k0_off339 (v5716 : BitVec 32) (v5718 : BitVec 32) (v5725 : BitVec 32) : Fin 4 → Nat :=
  let v5726 : Index := Scalar.indexCast v5716
  let v5727 : Index := Scalar.indexCast v5725
  let v5719 : BitVec 32 := v5718
  let v5728 : Index := Scalar.indexCast v5719
  let c0_1305 : Index := 0#32
  ![v5726.toNat, v5727.toNat, v5728.toNat, 0]

def k0_chk170 (v5716 : BitVec 32) (v5718 : BitVec 32) (v5725 : BitVec 32) : Prop :=
  (∀ a, (k0_off339 v5716 v5718 v5725) a + S1x4x24x256.size a ≤ S2x30x40x256.size a)
theorem k0_off339_inb : ∀ (v5716 : BitVec 32) (v5718 : BitVec 32) (v5725 : BitVec 32) (k0_hw170 : k0_chk170 v5716 v5718 v5725), ∀ a, (k0_off339 v5716 v5718 v5725) a + S1x4x24x256.size a ≤ S2x30x40x256.size a := fun v5716 v5718 v5725 k0_hw170 => k0_hw170

def k0_off340 (i : grid0.Coords) (c0_i32_1304 : BitVec 32) : Fin 1 → Nat :=
  let arg0 : BitVec 32 := BitVec.ofNat 32 (i 0).val
  let c32_i32_1300 : BitVec 32 := 32#32
  let v5713 : BitVec 32 := Scalar.muli arg0 c32_i32_1300
  let c21_i32 : BitVec 32 := 21#32
  let v5714 : BitVec 32 := Scalar.addi v5713 c21_i32
  let c7_i32_1303 : BitVec 32 := 7#32
  let v5722 : BitVec 32 := Scalar.muli v5714 c7_i32_1303
  let v5723 : BitVec 32 := Scalar.addi v5722 c0_i32_1304
  let v5731 : Index := Scalar.indexCast v5723
  ![v5731.toNat]
def k0_off341 (v5716 : BitVec 32) (v5718 : BitVec 32) (v5762 : BitVec 32) : Fin 4 → Nat :=
  let v5763 : Index := Scalar.indexCast v5716
  let v5764 : Index := Scalar.indexCast v5762
  let v5719 : BitVec 32 := v5718
  let v5765 : Index := Scalar.indexCast v5719
  let c0_1313 : Index := 0#32
  ![v5763.toNat, v5764.toNat, v5765.toNat, 0]

def k0_chk171 (v5716 : BitVec 32) (v5718 : BitVec 32) (v5762 : BitVec 32) : Prop :=
  (∀ a, (k0_off341 v5716 v5718 v5762) a + S1x4x24x256.size a ≤ S2x30x40x256.size a)
theorem k0_off341_inb : ∀ (v5716 : BitVec 32) (v5718 : BitVec 32) (v5762 : BitVec 32) (k0_hw171 : k0_chk171 v5716 v5718 v5762), ∀ a, (k0_off341 v5716 v5718 v5762) a + S1x4x24x256.size a ≤ S2x30x40x256.size a := fun v5716 v5718 v5762 k0_hw171 => k0_hw171

def k0_off342 (i : grid0.Coords) (c1_i32_1312 : BitVec 32) : Fin 1 → Nat :=
  let arg0 : BitVec 32 := BitVec.ofNat 32 (i 0).val
  let c32_i32_1300 : BitVec 32 := 32#32
  let v5713 : BitVec 32 := Scalar.muli arg0 c32_i32_1300
  let c21_i32 : BitVec 32 := 21#32
  let v5714 : BitVec 32 := Scalar.addi v5713 c21_i32
  let c7_i32_1311 : BitVec 32 := 7#32
  let v5759 : BitVec 32 := Scalar.muli v5714 c7_i32_1311
  let v5760 : BitVec 32 := Scalar.addi v5759 c1_i32_1312
  let v5768 : Index := Scalar.indexCast v5760
  ![v5768.toNat]
def k0_off343 (v5716 : BitVec 32) (v5718 : BitVec 32) (v5799 : BitVec 32) : Fin 4 → Nat :=
  let v5800 : Index := Scalar.indexCast v5716
  let v5801 : Index := Scalar.indexCast v5799
  let v5719 : BitVec 32 := v5718
  let v5802 : Index := Scalar.indexCast v5719
  let c0_1321 : Index := 0#32
  ![v5800.toNat, v5801.toNat, v5802.toNat, 0]

def k0_chk172 (v5716 : BitVec 32) (v5718 : BitVec 32) (v5799 : BitVec 32) : Prop :=
  (∀ a, (k0_off343 v5716 v5718 v5799) a + S1x4x24x256.size a ≤ S2x30x40x256.size a)
theorem k0_off343_inb : ∀ (v5716 : BitVec 32) (v5718 : BitVec 32) (v5799 : BitVec 32) (k0_hw172 : k0_chk172 v5716 v5718 v5799), ∀ a, (k0_off343 v5716 v5718 v5799) a + S1x4x24x256.size a ≤ S2x30x40x256.size a := fun v5716 v5718 v5799 k0_hw172 => k0_hw172

def k0_off344 (i : grid0.Coords) (c2_i32_1320 : BitVec 32) : Fin 1 → Nat :=
  let arg0 : BitVec 32 := BitVec.ofNat 32 (i 0).val
  let c32_i32_1300 : BitVec 32 := 32#32
  let v5713 : BitVec 32 := Scalar.muli arg0 c32_i32_1300
  let c21_i32 : BitVec 32 := 21#32
  let v5714 : BitVec 32 := Scalar.addi v5713 c21_i32
  let c7_i32_1319 : BitVec 32 := 7#32
  let v5796 : BitVec 32 := Scalar.muli v5714 c7_i32_1319
  let v5797 : BitVec 32 := Scalar.addi v5796 c2_i32_1320
  let v5805 : Index := Scalar.indexCast v5797
  ![v5805.toNat]
def k0_off345 (v5716 : BitVec 32) (v5718 : BitVec 32) (v5836 : BitVec 32) : Fin 4 → Nat :=
  let v5837 : Index := Scalar.indexCast v5716
  let v5838 : Index := Scalar.indexCast v5836
  let v5719 : BitVec 32 := v5718
  let v5839 : Index := Scalar.indexCast v5719
  let c0_1329 : Index := 0#32
  ![v5837.toNat, v5838.toNat, v5839.toNat, 0]

def k0_chk173 (v5716 : BitVec 32) (v5718 : BitVec 32) (v5836 : BitVec 32) : Prop :=
  (∀ a, (k0_off345 v5716 v5718 v5836) a + S1x4x24x256.size a ≤ S2x30x40x256.size a)
theorem k0_off345_inb : ∀ (v5716 : BitVec 32) (v5718 : BitVec 32) (v5836 : BitVec 32) (k0_hw173 : k0_chk173 v5716 v5718 v5836), ∀ a, (k0_off345 v5716 v5718 v5836) a + S1x4x24x256.size a ≤ S2x30x40x256.size a := fun v5716 v5718 v5836 k0_hw173 => k0_hw173

def k0_off346 (i : grid0.Coords) (c3_i32_1328 : BitVec 32) : Fin 1 → Nat :=
  let arg0 : BitVec 32 := BitVec.ofNat 32 (i 0).val
  let c32_i32_1300 : BitVec 32 := 32#32
  let v5713 : BitVec 32 := Scalar.muli arg0 c32_i32_1300
  let c21_i32 : BitVec 32 := 21#32
  let v5714 : BitVec 32 := Scalar.addi v5713 c21_i32
  let c7_i32_1327 : BitVec 32 := 7#32
  let v5833 : BitVec 32 := Scalar.muli v5714 c7_i32_1327
  let v5834 : BitVec 32 := Scalar.addi v5833 c3_i32_1328
  let v5842 : Index := Scalar.indexCast v5834
  ![v5842.toNat]
def k0_off347 (v5716 : BitVec 32) (v5718 : BitVec 32) (v5873 : BitVec 32) : Fin 4 → Nat :=
  let v5874 : Index := Scalar.indexCast v5716
  let v5875 : Index := Scalar.indexCast v5873
  let v5719 : BitVec 32 := v5718
  let v5876 : Index := Scalar.indexCast v5719
  let c0_1337 : Index := 0#32
  ![v5874.toNat, v5875.toNat, v5876.toNat, 0]

def k0_chk174 (v5716 : BitVec 32) (v5718 : BitVec 32) (v5873 : BitVec 32) : Prop :=
  (∀ a, (k0_off347 v5716 v5718 v5873) a + S1x4x24x256.size a ≤ S2x30x40x256.size a)
theorem k0_off347_inb : ∀ (v5716 : BitVec 32) (v5718 : BitVec 32) (v5873 : BitVec 32) (k0_hw174 : k0_chk174 v5716 v5718 v5873), ∀ a, (k0_off347 v5716 v5718 v5873) a + S1x4x24x256.size a ≤ S2x30x40x256.size a := fun v5716 v5718 v5873 k0_hw174 => k0_hw174

def k0_off348 (i : grid0.Coords) (c4_i32_1336 : BitVec 32) : Fin 1 → Nat :=
  let arg0 : BitVec 32 := BitVec.ofNat 32 (i 0).val
  let c32_i32_1300 : BitVec 32 := 32#32
  let v5713 : BitVec 32 := Scalar.muli arg0 c32_i32_1300
  let c21_i32 : BitVec 32 := 21#32
  let v5714 : BitVec 32 := Scalar.addi v5713 c21_i32
  let c7_i32_1335 : BitVec 32 := 7#32
  let v5870 : BitVec 32 := Scalar.muli v5714 c7_i32_1335
  let v5871 : BitVec 32 := Scalar.addi v5870 c4_i32_1336
  let v5879 : Index := Scalar.indexCast v5871
  ![v5879.toNat]
def k0_off349 (v5716 : BitVec 32) (v5718 : BitVec 32) (v5910 : BitVec 32) : Fin 4 → Nat :=
  let v5911 : Index := Scalar.indexCast v5716
  let v5912 : Index := Scalar.indexCast v5910
  let v5719 : BitVec 32 := v5718
  let v5913 : Index := Scalar.indexCast v5719
  let c0_1345 : Index := 0#32
  ![v5911.toNat, v5912.toNat, v5913.toNat, 0]

def k0_chk175 (v5716 : BitVec 32) (v5718 : BitVec 32) (v5910 : BitVec 32) : Prop :=
  (∀ a, (k0_off349 v5716 v5718 v5910) a + S1x4x24x256.size a ≤ S2x30x40x256.size a)
theorem k0_off349_inb : ∀ (v5716 : BitVec 32) (v5718 : BitVec 32) (v5910 : BitVec 32) (k0_hw175 : k0_chk175 v5716 v5718 v5910), ∀ a, (k0_off349 v5716 v5718 v5910) a + S1x4x24x256.size a ≤ S2x30x40x256.size a := fun v5716 v5718 v5910 k0_hw175 => k0_hw175

def k0_off350 (i : grid0.Coords) (c5_i32_1344 : BitVec 32) : Fin 1 → Nat :=
  let arg0 : BitVec 32 := BitVec.ofNat 32 (i 0).val
  let c32_i32_1300 : BitVec 32 := 32#32
  let v5713 : BitVec 32 := Scalar.muli arg0 c32_i32_1300
  let c21_i32 : BitVec 32 := 21#32
  let v5714 : BitVec 32 := Scalar.addi v5713 c21_i32
  let c7_i32_1343 : BitVec 32 := 7#32
  let v5907 : BitVec 32 := Scalar.muli v5714 c7_i32_1343
  let v5908 : BitVec 32 := Scalar.addi v5907 c5_i32_1344
  let v5916 : Index := Scalar.indexCast v5908
  ![v5916.toNat]
def k0_off351 (v5716 : BitVec 32) (v5718 : BitVec 32) (v5947 : BitVec 32) : Fin 4 → Nat :=
  let v5948 : Index := Scalar.indexCast v5716
  let v5949 : Index := Scalar.indexCast v5947
  let v5719 : BitVec 32 := v5718
  let v5950 : Index := Scalar.indexCast v5719
  let c0_1353 : Index := 0#32
  ![v5948.toNat, v5949.toNat, v5950.toNat, 0]

def k0_chk176 (v5716 : BitVec 32) (v5718 : BitVec 32) (v5947 : BitVec 32) : Prop :=
  (∀ a, (k0_off351 v5716 v5718 v5947) a + S1x4x24x256.size a ≤ S2x30x40x256.size a)
theorem k0_off351_inb : ∀ (v5716 : BitVec 32) (v5718 : BitVec 32) (v5947 : BitVec 32) (k0_hw176 : k0_chk176 v5716 v5718 v5947), ∀ a, (k0_off351 v5716 v5718 v5947) a + S1x4x24x256.size a ≤ S2x30x40x256.size a := fun v5716 v5718 v5947 k0_hw176 => k0_hw176

def k0_off352 (i : grid0.Coords) : Fin 1 → Nat :=
  let arg0 : BitVec 32 := BitVec.ofNat 32 (i 0).val
  let c32_i32_1300 : BitVec 32 := 32#32
  let v5713 : BitVec 32 := Scalar.muli arg0 c32_i32_1300
  let c21_i32 : BitVec 32 := 21#32
  let v5714 : BitVec 32 := Scalar.addi v5713 c21_i32
  let c7_i32_1351 : BitVec 32 := 7#32
  let v5944 : BitVec 32 := Scalar.muli v5714 c7_i32_1351
  let c6_i32_1352 : BitVec 32 := 6#32
  let v5945 : BitVec 32 := Scalar.addi v5944 c6_i32_1352
  let v5953 : Index := Scalar.indexCast v5945
  ![v5953.toNat]
def k0_off353 (i : grid0.Coords) : Fin 1 → Nat :=
  let arg0 : BitVec 32 := BitVec.ofNat 32 (i 0).val
  let c32_i32_1362 : BitVec 32 := 32#32
  let v5985 : BitVec 32 := Scalar.muli arg0 c32_i32_1362
  let c22_i32 : BitVec 32 := 22#32
  let v5986 : BitVec 32 := Scalar.addi v5985 c22_i32
  let v5987 : Index := Scalar.indexCast v5986
  ![v5987.toNat]
def k0_mult23 (v5990 : BitVec 32) : BitVec 32 :=
  v5990

def k0_chk177 (v5990 : BitVec 32) : Prop :=
  (8 ∣ (k0_mult23 v5990).toNat)
theorem k0_mult23_dvd : ∀ (v5990 : BitVec 32) (k0_hw177 : k0_chk177 v5990), 8 ∣ (k0_mult23 v5990).toNat := fun v5990 k0_hw177 => k0_hw177

def k0_off354 (i : grid0.Coords) : Fin 1 → Nat :=
  let arg0 : BitVec 32 := BitVec.ofNat 32 (i 0).val
  let c32_i32_1362 : BitVec 32 := 32#32
  let v5985 : BitVec 32 := Scalar.muli arg0 c32_i32_1362
  let c22_i32 : BitVec 32 := 22#32
  let v5986 : BitVec 32 := Scalar.addi v5985 c22_i32
  let c7_i32_1365 : BitVec 32 := 7#32
  let v5994 : BitVec 32 := Scalar.muli v5986 c7_i32_1365
  let c0_i32_1366 : BitVec 32 := 0#32
  let v5995 : BitVec 32 := Scalar.addi v5994 c0_i32_1366
  let v5996 : Index := Scalar.indexCast v5995
  ![v5996.toNat]
def k0_off355 (v5988 : BitVec 32) (v5990 : BitVec 32) (v5997 : BitVec 32) : Fin 4 → Nat :=
  let v5998 : Index := Scalar.indexCast v5988
  let v5999 : Index := Scalar.indexCast v5997
  let v5991 : BitVec 32 := v5990
  let v6000 : Index := Scalar.indexCast v5991
  let c0_1367 : Index := 0#32
  ![v5998.toNat, v5999.toNat, v6000.toNat, 0]

def k0_chk178 (v5988 : BitVec 32) (v5990 : BitVec 32) (v5997 : BitVec 32) : Prop :=
  (∀ a, (k0_off355 v5988 v5990 v5997) a + S1x4x24x256.size a ≤ S2x30x40x256.size a)
theorem k0_off355_inb : ∀ (v5988 : BitVec 32) (v5990 : BitVec 32) (v5997 : BitVec 32) (k0_hw178 : k0_chk178 v5988 v5990 v5997), ∀ a, (k0_off355 v5988 v5990 v5997) a + S1x4x24x256.size a ≤ S2x30x40x256.size a := fun v5988 v5990 v5997 k0_hw178 => k0_hw178

def k0_off356 (i : grid0.Coords) (c0_i32_1366 : BitVec 32) : Fin 1 → Nat :=
  let arg0 : BitVec 32 := BitVec.ofNat 32 (i 0).val
  let c32_i32_1362 : BitVec 32 := 32#32
  let v5985 : BitVec 32 := Scalar.muli arg0 c32_i32_1362
  let c22_i32 : BitVec 32 := 22#32
  let v5986 : BitVec 32 := Scalar.addi v5985 c22_i32
  let c7_i32_1365 : BitVec 32 := 7#32
  let v5994 : BitVec 32 := Scalar.muli v5986 c7_i32_1365
  let v5995 : BitVec 32 := Scalar.addi v5994 c0_i32_1366
  let v6003 : Index := Scalar.indexCast v5995
  ![v6003.toNat]
def k0_off357 (v5988 : BitVec 32) (v5990 : BitVec 32) (v6034 : BitVec 32) : Fin 4 → Nat :=
  let v6035 : Index := Scalar.indexCast v5988
  let v6036 : Index := Scalar.indexCast v6034
  let v5991 : BitVec 32 := v5990
  let v6037 : Index := Scalar.indexCast v5991
  let c0_1375 : Index := 0#32
  ![v6035.toNat, v6036.toNat, v6037.toNat, 0]

def k0_chk179 (v5988 : BitVec 32) (v5990 : BitVec 32) (v6034 : BitVec 32) : Prop :=
  (∀ a, (k0_off357 v5988 v5990 v6034) a + S1x4x24x256.size a ≤ S2x30x40x256.size a)
theorem k0_off357_inb : ∀ (v5988 : BitVec 32) (v5990 : BitVec 32) (v6034 : BitVec 32) (k0_hw179 : k0_chk179 v5988 v5990 v6034), ∀ a, (k0_off357 v5988 v5990 v6034) a + S1x4x24x256.size a ≤ S2x30x40x256.size a := fun v5988 v5990 v6034 k0_hw179 => k0_hw179

def k0_off358 (i : grid0.Coords) (c1_i32_1374 : BitVec 32) : Fin 1 → Nat :=
  let arg0 : BitVec 32 := BitVec.ofNat 32 (i 0).val
  let c32_i32_1362 : BitVec 32 := 32#32
  let v5985 : BitVec 32 := Scalar.muli arg0 c32_i32_1362
  let c22_i32 : BitVec 32 := 22#32
  let v5986 : BitVec 32 := Scalar.addi v5985 c22_i32
  let c7_i32_1373 : BitVec 32 := 7#32
  let v6031 : BitVec 32 := Scalar.muli v5986 c7_i32_1373
  let v6032 : BitVec 32 := Scalar.addi v6031 c1_i32_1374
  let v6040 : Index := Scalar.indexCast v6032
  ![v6040.toNat]
def k0_off359 (v5988 : BitVec 32) (v5990 : BitVec 32) (v6071 : BitVec 32) : Fin 4 → Nat :=
  let v6072 : Index := Scalar.indexCast v5988
  let v6073 : Index := Scalar.indexCast v6071
  let v5991 : BitVec 32 := v5990
  let v6074 : Index := Scalar.indexCast v5991
  let c0_1383 : Index := 0#32
  ![v6072.toNat, v6073.toNat, v6074.toNat, 0]

def k0_chk180 (v5988 : BitVec 32) (v5990 : BitVec 32) (v6071 : BitVec 32) : Prop :=
  (∀ a, (k0_off359 v5988 v5990 v6071) a + S1x4x24x256.size a ≤ S2x30x40x256.size a)
theorem k0_off359_inb : ∀ (v5988 : BitVec 32) (v5990 : BitVec 32) (v6071 : BitVec 32) (k0_hw180 : k0_chk180 v5988 v5990 v6071), ∀ a, (k0_off359 v5988 v5990 v6071) a + S1x4x24x256.size a ≤ S2x30x40x256.size a := fun v5988 v5990 v6071 k0_hw180 => k0_hw180

def k0_off360 (i : grid0.Coords) (c2_i32_1382 : BitVec 32) : Fin 1 → Nat :=
  let arg0 : BitVec 32 := BitVec.ofNat 32 (i 0).val
  let c32_i32_1362 : BitVec 32 := 32#32
  let v5985 : BitVec 32 := Scalar.muli arg0 c32_i32_1362
  let c22_i32 : BitVec 32 := 22#32
  let v5986 : BitVec 32 := Scalar.addi v5985 c22_i32
  let c7_i32_1381 : BitVec 32 := 7#32
  let v6068 : BitVec 32 := Scalar.muli v5986 c7_i32_1381
  let v6069 : BitVec 32 := Scalar.addi v6068 c2_i32_1382
  let v6077 : Index := Scalar.indexCast v6069
  ![v6077.toNat]
def k0_off361 (v5988 : BitVec 32) (v5990 : BitVec 32) (v6108 : BitVec 32) : Fin 4 → Nat :=
  let v6109 : Index := Scalar.indexCast v5988
  let v6110 : Index := Scalar.indexCast v6108
  let v5991 : BitVec 32 := v5990
  let v6111 : Index := Scalar.indexCast v5991
  let c0_1391 : Index := 0#32
  ![v6109.toNat, v6110.toNat, v6111.toNat, 0]

def k0_chk181 (v5988 : BitVec 32) (v5990 : BitVec 32) (v6108 : BitVec 32) : Prop :=
  (∀ a, (k0_off361 v5988 v5990 v6108) a + S1x4x24x256.size a ≤ S2x30x40x256.size a)
theorem k0_off361_inb : ∀ (v5988 : BitVec 32) (v5990 : BitVec 32) (v6108 : BitVec 32) (k0_hw181 : k0_chk181 v5988 v5990 v6108), ∀ a, (k0_off361 v5988 v5990 v6108) a + S1x4x24x256.size a ≤ S2x30x40x256.size a := fun v5988 v5990 v6108 k0_hw181 => k0_hw181

def k0_off362 (i : grid0.Coords) (c3_i32_1390 : BitVec 32) : Fin 1 → Nat :=
  let arg0 : BitVec 32 := BitVec.ofNat 32 (i 0).val
  let c32_i32_1362 : BitVec 32 := 32#32
  let v5985 : BitVec 32 := Scalar.muli arg0 c32_i32_1362
  let c22_i32 : BitVec 32 := 22#32
  let v5986 : BitVec 32 := Scalar.addi v5985 c22_i32
  let c7_i32_1389 : BitVec 32 := 7#32
  let v6105 : BitVec 32 := Scalar.muli v5986 c7_i32_1389
  let v6106 : BitVec 32 := Scalar.addi v6105 c3_i32_1390
  let v6114 : Index := Scalar.indexCast v6106
  ![v6114.toNat]
def k0_off363 (v5988 : BitVec 32) (v5990 : BitVec 32) (v6145 : BitVec 32) : Fin 4 → Nat :=
  let v6146 : Index := Scalar.indexCast v5988
  let v6147 : Index := Scalar.indexCast v6145
  let v5991 : BitVec 32 := v5990
  let v6148 : Index := Scalar.indexCast v5991
  let c0_1399 : Index := 0#32
  ![v6146.toNat, v6147.toNat, v6148.toNat, 0]

def k0_chk182 (v5988 : BitVec 32) (v5990 : BitVec 32) (v6145 : BitVec 32) : Prop :=
  (∀ a, (k0_off363 v5988 v5990 v6145) a + S1x4x24x256.size a ≤ S2x30x40x256.size a)
theorem k0_off363_inb : ∀ (v5988 : BitVec 32) (v5990 : BitVec 32) (v6145 : BitVec 32) (k0_hw182 : k0_chk182 v5988 v5990 v6145), ∀ a, (k0_off363 v5988 v5990 v6145) a + S1x4x24x256.size a ≤ S2x30x40x256.size a := fun v5988 v5990 v6145 k0_hw182 => k0_hw182

def k0_off364 (i : grid0.Coords) (c4_i32_1398 : BitVec 32) : Fin 1 → Nat :=
  let arg0 : BitVec 32 := BitVec.ofNat 32 (i 0).val
  let c32_i32_1362 : BitVec 32 := 32#32
  let v5985 : BitVec 32 := Scalar.muli arg0 c32_i32_1362
  let c22_i32 : BitVec 32 := 22#32
  let v5986 : BitVec 32 := Scalar.addi v5985 c22_i32
  let c7_i32_1397 : BitVec 32 := 7#32
  let v6142 : BitVec 32 := Scalar.muli v5986 c7_i32_1397
  let v6143 : BitVec 32 := Scalar.addi v6142 c4_i32_1398
  let v6151 : Index := Scalar.indexCast v6143
  ![v6151.toNat]
def k0_off365 (v5988 : BitVec 32) (v5990 : BitVec 32) (v6182 : BitVec 32) : Fin 4 → Nat :=
  let v6183 : Index := Scalar.indexCast v5988
  let v6184 : Index := Scalar.indexCast v6182
  let v5991 : BitVec 32 := v5990
  let v6185 : Index := Scalar.indexCast v5991
  let c0_1407 : Index := 0#32
  ![v6183.toNat, v6184.toNat, v6185.toNat, 0]

def k0_chk183 (v5988 : BitVec 32) (v5990 : BitVec 32) (v6182 : BitVec 32) : Prop :=
  (∀ a, (k0_off365 v5988 v5990 v6182) a + S1x4x24x256.size a ≤ S2x30x40x256.size a)
theorem k0_off365_inb : ∀ (v5988 : BitVec 32) (v5990 : BitVec 32) (v6182 : BitVec 32) (k0_hw183 : k0_chk183 v5988 v5990 v6182), ∀ a, (k0_off365 v5988 v5990 v6182) a + S1x4x24x256.size a ≤ S2x30x40x256.size a := fun v5988 v5990 v6182 k0_hw183 => k0_hw183

def k0_off366 (i : grid0.Coords) (c5_i32_1406 : BitVec 32) : Fin 1 → Nat :=
  let arg0 : BitVec 32 := BitVec.ofNat 32 (i 0).val
  let c32_i32_1362 : BitVec 32 := 32#32
  let v5985 : BitVec 32 := Scalar.muli arg0 c32_i32_1362
  let c22_i32 : BitVec 32 := 22#32
  let v5986 : BitVec 32 := Scalar.addi v5985 c22_i32
  let c7_i32_1405 : BitVec 32 := 7#32
  let v6179 : BitVec 32 := Scalar.muli v5986 c7_i32_1405
  let v6180 : BitVec 32 := Scalar.addi v6179 c5_i32_1406
  let v6188 : Index := Scalar.indexCast v6180
  ![v6188.toNat]
def k0_off367 (v5988 : BitVec 32) (v5990 : BitVec 32) (v6219 : BitVec 32) : Fin 4 → Nat :=
  let v6220 : Index := Scalar.indexCast v5988
  let v6221 : Index := Scalar.indexCast v6219
  let v5991 : BitVec 32 := v5990
  let v6222 : Index := Scalar.indexCast v5991
  let c0_1415 : Index := 0#32
  ![v6220.toNat, v6221.toNat, v6222.toNat, 0]

def k0_chk184 (v5988 : BitVec 32) (v5990 : BitVec 32) (v6219 : BitVec 32) : Prop :=
  (∀ a, (k0_off367 v5988 v5990 v6219) a + S1x4x24x256.size a ≤ S2x30x40x256.size a)
theorem k0_off367_inb : ∀ (v5988 : BitVec 32) (v5990 : BitVec 32) (v6219 : BitVec 32) (k0_hw184 : k0_chk184 v5988 v5990 v6219), ∀ a, (k0_off367 v5988 v5990 v6219) a + S1x4x24x256.size a ≤ S2x30x40x256.size a := fun v5988 v5990 v6219 k0_hw184 => k0_hw184

def k0_off368 (i : grid0.Coords) : Fin 1 → Nat :=
  let arg0 : BitVec 32 := BitVec.ofNat 32 (i 0).val
  let c32_i32_1362 : BitVec 32 := 32#32
  let v5985 : BitVec 32 := Scalar.muli arg0 c32_i32_1362
  let c22_i32 : BitVec 32 := 22#32
  let v5986 : BitVec 32 := Scalar.addi v5985 c22_i32
  let c7_i32_1413 : BitVec 32 := 7#32
  let v6216 : BitVec 32 := Scalar.muli v5986 c7_i32_1413
  let c6_i32_1414 : BitVec 32 := 6#32
  let v6217 : BitVec 32 := Scalar.addi v6216 c6_i32_1414
  let v6225 : Index := Scalar.indexCast v6217
  ![v6225.toNat]
def k0_off369 (i : grid0.Coords) : Fin 1 → Nat :=
  let arg0 : BitVec 32 := BitVec.ofNat 32 (i 0).val
  let c32_i32_1424 : BitVec 32 := 32#32
  let v6257 : BitVec 32 := Scalar.muli arg0 c32_i32_1424
  let c23_i32 : BitVec 32 := 23#32
  let v6258 : BitVec 32 := Scalar.addi v6257 c23_i32
  let v6259 : Index := Scalar.indexCast v6258
  ![v6259.toNat]
def k0_mult24 (v6262 : BitVec 32) : BitVec 32 :=
  v6262

def k0_chk185 (v6262 : BitVec 32) : Prop :=
  (8 ∣ (k0_mult24 v6262).toNat)
theorem k0_mult24_dvd : ∀ (v6262 : BitVec 32) (k0_hw185 : k0_chk185 v6262), 8 ∣ (k0_mult24 v6262).toNat := fun v6262 k0_hw185 => k0_hw185

def k0_off370 (i : grid0.Coords) : Fin 1 → Nat :=
  let arg0 : BitVec 32 := BitVec.ofNat 32 (i 0).val
  let c32_i32_1424 : BitVec 32 := 32#32
  let v6257 : BitVec 32 := Scalar.muli arg0 c32_i32_1424
  let c23_i32 : BitVec 32 := 23#32
  let v6258 : BitVec 32 := Scalar.addi v6257 c23_i32
  let c7_i32_1427 : BitVec 32 := 7#32
  let v6266 : BitVec 32 := Scalar.muli v6258 c7_i32_1427
  let c0_i32_1428 : BitVec 32 := 0#32
  let v6267 : BitVec 32 := Scalar.addi v6266 c0_i32_1428
  let v6268 : Index := Scalar.indexCast v6267
  ![v6268.toNat]
def k0_off371 (v6260 : BitVec 32) (v6262 : BitVec 32) (v6269 : BitVec 32) : Fin 4 → Nat :=
  let v6270 : Index := Scalar.indexCast v6260
  let v6271 : Index := Scalar.indexCast v6269
  let v6263 : BitVec 32 := v6262
  let v6272 : Index := Scalar.indexCast v6263
  let c0_1429 : Index := 0#32
  ![v6270.toNat, v6271.toNat, v6272.toNat, 0]

def k0_chk186 (v6260 : BitVec 32) (v6262 : BitVec 32) (v6269 : BitVec 32) : Prop :=
  (∀ a, (k0_off371 v6260 v6262 v6269) a + S1x4x24x256.size a ≤ S2x30x40x256.size a)
theorem k0_off371_inb : ∀ (v6260 : BitVec 32) (v6262 : BitVec 32) (v6269 : BitVec 32) (k0_hw186 : k0_chk186 v6260 v6262 v6269), ∀ a, (k0_off371 v6260 v6262 v6269) a + S1x4x24x256.size a ≤ S2x30x40x256.size a := fun v6260 v6262 v6269 k0_hw186 => k0_hw186

def k0_off372 (i : grid0.Coords) (c0_i32_1428 : BitVec 32) : Fin 1 → Nat :=
  let arg0 : BitVec 32 := BitVec.ofNat 32 (i 0).val
  let c32_i32_1424 : BitVec 32 := 32#32
  let v6257 : BitVec 32 := Scalar.muli arg0 c32_i32_1424
  let c23_i32 : BitVec 32 := 23#32
  let v6258 : BitVec 32 := Scalar.addi v6257 c23_i32
  let c7_i32_1427 : BitVec 32 := 7#32
  let v6266 : BitVec 32 := Scalar.muli v6258 c7_i32_1427
  let v6267 : BitVec 32 := Scalar.addi v6266 c0_i32_1428
  let v6275 : Index := Scalar.indexCast v6267
  ![v6275.toNat]
def k0_off373 (v6260 : BitVec 32) (v6262 : BitVec 32) (v6306 : BitVec 32) : Fin 4 → Nat :=
  let v6307 : Index := Scalar.indexCast v6260
  let v6308 : Index := Scalar.indexCast v6306
  let v6263 : BitVec 32 := v6262
  let v6309 : Index := Scalar.indexCast v6263
  let c0_1437 : Index := 0#32
  ![v6307.toNat, v6308.toNat, v6309.toNat, 0]

def k0_chk187 (v6260 : BitVec 32) (v6262 : BitVec 32) (v6306 : BitVec 32) : Prop :=
  (∀ a, (k0_off373 v6260 v6262 v6306) a + S1x4x24x256.size a ≤ S2x30x40x256.size a)
theorem k0_off373_inb : ∀ (v6260 : BitVec 32) (v6262 : BitVec 32) (v6306 : BitVec 32) (k0_hw187 : k0_chk187 v6260 v6262 v6306), ∀ a, (k0_off373 v6260 v6262 v6306) a + S1x4x24x256.size a ≤ S2x30x40x256.size a := fun v6260 v6262 v6306 k0_hw187 => k0_hw187

def k0_off374 (i : grid0.Coords) (c1_i32_1436 : BitVec 32) : Fin 1 → Nat :=
  let arg0 : BitVec 32 := BitVec.ofNat 32 (i 0).val
  let c32_i32_1424 : BitVec 32 := 32#32
  let v6257 : BitVec 32 := Scalar.muli arg0 c32_i32_1424
  let c23_i32 : BitVec 32 := 23#32
  let v6258 : BitVec 32 := Scalar.addi v6257 c23_i32
  let c7_i32_1435 : BitVec 32 := 7#32
  let v6303 : BitVec 32 := Scalar.muli v6258 c7_i32_1435
  let v6304 : BitVec 32 := Scalar.addi v6303 c1_i32_1436
  let v6312 : Index := Scalar.indexCast v6304
  ![v6312.toNat]
def k0_off375 (v6260 : BitVec 32) (v6262 : BitVec 32) (v6343 : BitVec 32) : Fin 4 → Nat :=
  let v6344 : Index := Scalar.indexCast v6260
  let v6345 : Index := Scalar.indexCast v6343
  let v6263 : BitVec 32 := v6262
  let v6346 : Index := Scalar.indexCast v6263
  let c0_1445 : Index := 0#32
  ![v6344.toNat, v6345.toNat, v6346.toNat, 0]

def k0_chk188 (v6260 : BitVec 32) (v6262 : BitVec 32) (v6343 : BitVec 32) : Prop :=
  (∀ a, (k0_off375 v6260 v6262 v6343) a + S1x4x24x256.size a ≤ S2x30x40x256.size a)
theorem k0_off375_inb : ∀ (v6260 : BitVec 32) (v6262 : BitVec 32) (v6343 : BitVec 32) (k0_hw188 : k0_chk188 v6260 v6262 v6343), ∀ a, (k0_off375 v6260 v6262 v6343) a + S1x4x24x256.size a ≤ S2x30x40x256.size a := fun v6260 v6262 v6343 k0_hw188 => k0_hw188

def k0_off376 (i : grid0.Coords) (c2_i32_1444 : BitVec 32) : Fin 1 → Nat :=
  let arg0 : BitVec 32 := BitVec.ofNat 32 (i 0).val
  let c32_i32_1424 : BitVec 32 := 32#32
  let v6257 : BitVec 32 := Scalar.muli arg0 c32_i32_1424
  let c23_i32 : BitVec 32 := 23#32
  let v6258 : BitVec 32 := Scalar.addi v6257 c23_i32
  let c7_i32_1443 : BitVec 32 := 7#32
  let v6340 : BitVec 32 := Scalar.muli v6258 c7_i32_1443
  let v6341 : BitVec 32 := Scalar.addi v6340 c2_i32_1444
  let v6349 : Index := Scalar.indexCast v6341
  ![v6349.toNat]
def k0_off377 (v6260 : BitVec 32) (v6262 : BitVec 32) (v6380 : BitVec 32) : Fin 4 → Nat :=
  let v6381 : Index := Scalar.indexCast v6260
  let v6382 : Index := Scalar.indexCast v6380
  let v6263 : BitVec 32 := v6262
  let v6383 : Index := Scalar.indexCast v6263
  let c0_1453 : Index := 0#32
  ![v6381.toNat, v6382.toNat, v6383.toNat, 0]

def k0_chk189 (v6260 : BitVec 32) (v6262 : BitVec 32) (v6380 : BitVec 32) : Prop :=
  (∀ a, (k0_off377 v6260 v6262 v6380) a + S1x4x24x256.size a ≤ S2x30x40x256.size a)
theorem k0_off377_inb : ∀ (v6260 : BitVec 32) (v6262 : BitVec 32) (v6380 : BitVec 32) (k0_hw189 : k0_chk189 v6260 v6262 v6380), ∀ a, (k0_off377 v6260 v6262 v6380) a + S1x4x24x256.size a ≤ S2x30x40x256.size a := fun v6260 v6262 v6380 k0_hw189 => k0_hw189

def k0_off378 (i : grid0.Coords) (c3_i32_1452 : BitVec 32) : Fin 1 → Nat :=
  let arg0 : BitVec 32 := BitVec.ofNat 32 (i 0).val
  let c32_i32_1424 : BitVec 32 := 32#32
  let v6257 : BitVec 32 := Scalar.muli arg0 c32_i32_1424
  let c23_i32 : BitVec 32 := 23#32
  let v6258 : BitVec 32 := Scalar.addi v6257 c23_i32
  let c7_i32_1451 : BitVec 32 := 7#32
  let v6377 : BitVec 32 := Scalar.muli v6258 c7_i32_1451
  let v6378 : BitVec 32 := Scalar.addi v6377 c3_i32_1452
  let v6386 : Index := Scalar.indexCast v6378
  ![v6386.toNat]
def k0_off379 (v6260 : BitVec 32) (v6262 : BitVec 32) (v6417 : BitVec 32) : Fin 4 → Nat :=
  let v6418 : Index := Scalar.indexCast v6260
  let v6419 : Index := Scalar.indexCast v6417
  let v6263 : BitVec 32 := v6262
  let v6420 : Index := Scalar.indexCast v6263
  let c0_1461 : Index := 0#32
  ![v6418.toNat, v6419.toNat, v6420.toNat, 0]

def k0_chk190 (v6260 : BitVec 32) (v6262 : BitVec 32) (v6417 : BitVec 32) : Prop :=
  (∀ a, (k0_off379 v6260 v6262 v6417) a + S1x4x24x256.size a ≤ S2x30x40x256.size a)
theorem k0_off379_inb : ∀ (v6260 : BitVec 32) (v6262 : BitVec 32) (v6417 : BitVec 32) (k0_hw190 : k0_chk190 v6260 v6262 v6417), ∀ a, (k0_off379 v6260 v6262 v6417) a + S1x4x24x256.size a ≤ S2x30x40x256.size a := fun v6260 v6262 v6417 k0_hw190 => k0_hw190

def k0_off380 (i : grid0.Coords) (c4_i32_1460 : BitVec 32) : Fin 1 → Nat :=
  let arg0 : BitVec 32 := BitVec.ofNat 32 (i 0).val
  let c32_i32_1424 : BitVec 32 := 32#32
  let v6257 : BitVec 32 := Scalar.muli arg0 c32_i32_1424
  let c23_i32 : BitVec 32 := 23#32
  let v6258 : BitVec 32 := Scalar.addi v6257 c23_i32
  let c7_i32_1459 : BitVec 32 := 7#32
  let v6414 : BitVec 32 := Scalar.muli v6258 c7_i32_1459
  let v6415 : BitVec 32 := Scalar.addi v6414 c4_i32_1460
  let v6423 : Index := Scalar.indexCast v6415
  ![v6423.toNat]
def k0_off381 (v6260 : BitVec 32) (v6262 : BitVec 32) (v6454 : BitVec 32) : Fin 4 → Nat :=
  let v6455 : Index := Scalar.indexCast v6260
  let v6456 : Index := Scalar.indexCast v6454
  let v6263 : BitVec 32 := v6262
  let v6457 : Index := Scalar.indexCast v6263
  let c0_1469 : Index := 0#32
  ![v6455.toNat, v6456.toNat, v6457.toNat, 0]

def k0_chk191 (v6260 : BitVec 32) (v6262 : BitVec 32) (v6454 : BitVec 32) : Prop :=
  (∀ a, (k0_off381 v6260 v6262 v6454) a + S1x4x24x256.size a ≤ S2x30x40x256.size a)
theorem k0_off381_inb : ∀ (v6260 : BitVec 32) (v6262 : BitVec 32) (v6454 : BitVec 32) (k0_hw191 : k0_chk191 v6260 v6262 v6454), ∀ a, (k0_off381 v6260 v6262 v6454) a + S1x4x24x256.size a ≤ S2x30x40x256.size a := fun v6260 v6262 v6454 k0_hw191 => k0_hw191

def k0_off382 (i : grid0.Coords) (c5_i32_1468 : BitVec 32) : Fin 1 → Nat :=
  let arg0 : BitVec 32 := BitVec.ofNat 32 (i 0).val
  let c32_i32_1424 : BitVec 32 := 32#32
  let v6257 : BitVec 32 := Scalar.muli arg0 c32_i32_1424
  let c23_i32 : BitVec 32 := 23#32
  let v6258 : BitVec 32 := Scalar.addi v6257 c23_i32
  let c7_i32_1467 : BitVec 32 := 7#32
  let v6451 : BitVec 32 := Scalar.muli v6258 c7_i32_1467
  let v6452 : BitVec 32 := Scalar.addi v6451 c5_i32_1468
  let v6460 : Index := Scalar.indexCast v6452
  ![v6460.toNat]
def k0_off383 (v6260 : BitVec 32) (v6262 : BitVec 32) (v6491 : BitVec 32) : Fin 4 → Nat :=
  let v6492 : Index := Scalar.indexCast v6260
  let v6493 : Index := Scalar.indexCast v6491
  let v6263 : BitVec 32 := v6262
  let v6494 : Index := Scalar.indexCast v6263
  let c0_1477 : Index := 0#32
  ![v6492.toNat, v6493.toNat, v6494.toNat, 0]

def k0_chk192 (v6260 : BitVec 32) (v6262 : BitVec 32) (v6491 : BitVec 32) : Prop :=
  (∀ a, (k0_off383 v6260 v6262 v6491) a + S1x4x24x256.size a ≤ S2x30x40x256.size a)
theorem k0_off383_inb : ∀ (v6260 : BitVec 32) (v6262 : BitVec 32) (v6491 : BitVec 32) (k0_hw192 : k0_chk192 v6260 v6262 v6491), ∀ a, (k0_off383 v6260 v6262 v6491) a + S1x4x24x256.size a ≤ S2x30x40x256.size a := fun v6260 v6262 v6491 k0_hw192 => k0_hw192

def k0_off384 (i : grid0.Coords) : Fin 1 → Nat :=
  let arg0 : BitVec 32 := BitVec.ofNat 32 (i 0).val
  let c32_i32_1424 : BitVec 32 := 32#32
  let v6257 : BitVec 32 := Scalar.muli arg0 c32_i32_1424
  let c23_i32 : BitVec 32 := 23#32
  let v6258 : BitVec 32 := Scalar.addi v6257 c23_i32
  let c7_i32_1475 : BitVec 32 := 7#32
  let v6488 : BitVec 32 := Scalar.muli v6258 c7_i32_1475
  let c6_i32_1476 : BitVec 32 := 6#32
  let v6489 : BitVec 32 := Scalar.addi v6488 c6_i32_1476
  let v6497 : Index := Scalar.indexCast v6489
  ![v6497.toNat]
def k0_off385 (i : grid0.Coords) : Fin 1 → Nat :=
  let arg0 : BitVec 32 := BitVec.ofNat 32 (i 0).val
  let c32_i32_1486 : BitVec 32 := 32#32
  let v6529 : BitVec 32 := Scalar.muli arg0 c32_i32_1486
  let c24_i32 : BitVec 32 := 24#32
  let v6530 : BitVec 32 := Scalar.addi v6529 c24_i32
  let v6531 : Index := Scalar.indexCast v6530
  ![v6531.toNat]
def k0_mult25 (v6534 : BitVec 32) : BitVec 32 :=
  v6534

def k0_chk193 (v6534 : BitVec 32) : Prop :=
  (8 ∣ (k0_mult25 v6534).toNat)
theorem k0_mult25_dvd : ∀ (v6534 : BitVec 32) (k0_hw193 : k0_chk193 v6534), 8 ∣ (k0_mult25 v6534).toNat := fun v6534 k0_hw193 => k0_hw193

def k0_off386 (i : grid0.Coords) : Fin 1 → Nat :=
  let arg0 : BitVec 32 := BitVec.ofNat 32 (i 0).val
  let c32_i32_1486 : BitVec 32 := 32#32
  let v6529 : BitVec 32 := Scalar.muli arg0 c32_i32_1486
  let c24_i32 : BitVec 32 := 24#32
  let v6530 : BitVec 32 := Scalar.addi v6529 c24_i32
  let c7_i32_1489 : BitVec 32 := 7#32
  let v6538 : BitVec 32 := Scalar.muli v6530 c7_i32_1489
  let c0_i32_1490 : BitVec 32 := 0#32
  let v6539 : BitVec 32 := Scalar.addi v6538 c0_i32_1490
  let v6540 : Index := Scalar.indexCast v6539
  ![v6540.toNat]
def k0_off387 (v6532 : BitVec 32) (v6534 : BitVec 32) (v6541 : BitVec 32) : Fin 4 → Nat :=
  let v6542 : Index := Scalar.indexCast v6532
  let v6543 : Index := Scalar.indexCast v6541
  let v6535 : BitVec 32 := v6534
  let v6544 : Index := Scalar.indexCast v6535
  let c0_1491 : Index := 0#32
  ![v6542.toNat, v6543.toNat, v6544.toNat, 0]

def k0_chk194 (v6532 : BitVec 32) (v6534 : BitVec 32) (v6541 : BitVec 32) : Prop :=
  (∀ a, (k0_off387 v6532 v6534 v6541) a + S1x4x24x256.size a ≤ S2x30x40x256.size a)
theorem k0_off387_inb : ∀ (v6532 : BitVec 32) (v6534 : BitVec 32) (v6541 : BitVec 32) (k0_hw194 : k0_chk194 v6532 v6534 v6541), ∀ a, (k0_off387 v6532 v6534 v6541) a + S1x4x24x256.size a ≤ S2x30x40x256.size a := fun v6532 v6534 v6541 k0_hw194 => k0_hw194

def k0_off388 (i : grid0.Coords) (c0_i32_1490 : BitVec 32) : Fin 1 → Nat :=
  let arg0 : BitVec 32 := BitVec.ofNat 32 (i 0).val
  let c32_i32_1486 : BitVec 32 := 32#32
  let v6529 : BitVec 32 := Scalar.muli arg0 c32_i32_1486
  let c24_i32 : BitVec 32 := 24#32
  let v6530 : BitVec 32 := Scalar.addi v6529 c24_i32
  let c7_i32_1489 : BitVec 32 := 7#32
  let v6538 : BitVec 32 := Scalar.muli v6530 c7_i32_1489
  let v6539 : BitVec 32 := Scalar.addi v6538 c0_i32_1490
  let v6547 : Index := Scalar.indexCast v6539
  ![v6547.toNat]
def k0_off389 (v6532 : BitVec 32) (v6534 : BitVec 32) (v6578 : BitVec 32) : Fin 4 → Nat :=
  let v6579 : Index := Scalar.indexCast v6532
  let v6580 : Index := Scalar.indexCast v6578
  let v6535 : BitVec 32 := v6534
  let v6581 : Index := Scalar.indexCast v6535
  let c0_1499 : Index := 0#32
  ![v6579.toNat, v6580.toNat, v6581.toNat, 0]

def k0_chk195 (v6532 : BitVec 32) (v6534 : BitVec 32) (v6578 : BitVec 32) : Prop :=
  (∀ a, (k0_off389 v6532 v6534 v6578) a + S1x4x24x256.size a ≤ S2x30x40x256.size a)
theorem k0_off389_inb : ∀ (v6532 : BitVec 32) (v6534 : BitVec 32) (v6578 : BitVec 32) (k0_hw195 : k0_chk195 v6532 v6534 v6578), ∀ a, (k0_off389 v6532 v6534 v6578) a + S1x4x24x256.size a ≤ S2x30x40x256.size a := fun v6532 v6534 v6578 k0_hw195 => k0_hw195

def k0_off390 (i : grid0.Coords) (c1_i32_1498 : BitVec 32) : Fin 1 → Nat :=
  let arg0 : BitVec 32 := BitVec.ofNat 32 (i 0).val
  let c32_i32_1486 : BitVec 32 := 32#32
  let v6529 : BitVec 32 := Scalar.muli arg0 c32_i32_1486
  let c24_i32 : BitVec 32 := 24#32
  let v6530 : BitVec 32 := Scalar.addi v6529 c24_i32
  let c7_i32_1497 : BitVec 32 := 7#32
  let v6575 : BitVec 32 := Scalar.muli v6530 c7_i32_1497
  let v6576 : BitVec 32 := Scalar.addi v6575 c1_i32_1498
  let v6584 : Index := Scalar.indexCast v6576
  ![v6584.toNat]
def k0_off391 (v6532 : BitVec 32) (v6534 : BitVec 32) (v6615 : BitVec 32) : Fin 4 → Nat :=
  let v6616 : Index := Scalar.indexCast v6532
  let v6617 : Index := Scalar.indexCast v6615
  let v6535 : BitVec 32 := v6534
  let v6618 : Index := Scalar.indexCast v6535
  let c0_1507 : Index := 0#32
  ![v6616.toNat, v6617.toNat, v6618.toNat, 0]

def k0_chk196 (v6532 : BitVec 32) (v6534 : BitVec 32) (v6615 : BitVec 32) : Prop :=
  (∀ a, (k0_off391 v6532 v6534 v6615) a + S1x4x24x256.size a ≤ S2x30x40x256.size a)
theorem k0_off391_inb : ∀ (v6532 : BitVec 32) (v6534 : BitVec 32) (v6615 : BitVec 32) (k0_hw196 : k0_chk196 v6532 v6534 v6615), ∀ a, (k0_off391 v6532 v6534 v6615) a + S1x4x24x256.size a ≤ S2x30x40x256.size a := fun v6532 v6534 v6615 k0_hw196 => k0_hw196

def k0_off392 (i : grid0.Coords) (c2_i32_1506 : BitVec 32) : Fin 1 → Nat :=
  let arg0 : BitVec 32 := BitVec.ofNat 32 (i 0).val
  let c32_i32_1486 : BitVec 32 := 32#32
  let v6529 : BitVec 32 := Scalar.muli arg0 c32_i32_1486
  let c24_i32 : BitVec 32 := 24#32
  let v6530 : BitVec 32 := Scalar.addi v6529 c24_i32
  let c7_i32_1505 : BitVec 32 := 7#32
  let v6612 : BitVec 32 := Scalar.muli v6530 c7_i32_1505
  let v6613 : BitVec 32 := Scalar.addi v6612 c2_i32_1506
  let v6621 : Index := Scalar.indexCast v6613
  ![v6621.toNat]
def k0_off393 (v6532 : BitVec 32) (v6534 : BitVec 32) (v6652 : BitVec 32) : Fin 4 → Nat :=
  let v6653 : Index := Scalar.indexCast v6532
  let v6654 : Index := Scalar.indexCast v6652
  let v6535 : BitVec 32 := v6534
  let v6655 : Index := Scalar.indexCast v6535
  let c0_1515 : Index := 0#32
  ![v6653.toNat, v6654.toNat, v6655.toNat, 0]

def k0_chk197 (v6532 : BitVec 32) (v6534 : BitVec 32) (v6652 : BitVec 32) : Prop :=
  (∀ a, (k0_off393 v6532 v6534 v6652) a + S1x4x24x256.size a ≤ S2x30x40x256.size a)
theorem k0_off393_inb : ∀ (v6532 : BitVec 32) (v6534 : BitVec 32) (v6652 : BitVec 32) (k0_hw197 : k0_chk197 v6532 v6534 v6652), ∀ a, (k0_off393 v6532 v6534 v6652) a + S1x4x24x256.size a ≤ S2x30x40x256.size a := fun v6532 v6534 v6652 k0_hw197 => k0_hw197

def k0_off394 (i : grid0.Coords) (c3_i32_1514 : BitVec 32) : Fin 1 → Nat :=
  let arg0 : BitVec 32 := BitVec.ofNat 32 (i 0).val
  let c32_i32_1486 : BitVec 32 := 32#32
  let v6529 : BitVec 32 := Scalar.muli arg0 c32_i32_1486
  let c24_i32 : BitVec 32 := 24#32
  let v6530 : BitVec 32 := Scalar.addi v6529 c24_i32
  let c7_i32_1513 : BitVec 32 := 7#32
  let v6649 : BitVec 32 := Scalar.muli v6530 c7_i32_1513
  let v6650 : BitVec 32 := Scalar.addi v6649 c3_i32_1514
  let v6658 : Index := Scalar.indexCast v6650
  ![v6658.toNat]
def k0_off395 (v6532 : BitVec 32) (v6534 : BitVec 32) (v6689 : BitVec 32) : Fin 4 → Nat :=
  let v6690 : Index := Scalar.indexCast v6532
  let v6691 : Index := Scalar.indexCast v6689
  let v6535 : BitVec 32 := v6534
  let v6692 : Index := Scalar.indexCast v6535
  let c0_1523 : Index := 0#32
  ![v6690.toNat, v6691.toNat, v6692.toNat, 0]

def k0_chk198 (v6532 : BitVec 32) (v6534 : BitVec 32) (v6689 : BitVec 32) : Prop :=
  (∀ a, (k0_off395 v6532 v6534 v6689) a + S1x4x24x256.size a ≤ S2x30x40x256.size a)
theorem k0_off395_inb : ∀ (v6532 : BitVec 32) (v6534 : BitVec 32) (v6689 : BitVec 32) (k0_hw198 : k0_chk198 v6532 v6534 v6689), ∀ a, (k0_off395 v6532 v6534 v6689) a + S1x4x24x256.size a ≤ S2x30x40x256.size a := fun v6532 v6534 v6689 k0_hw198 => k0_hw198

def k0_off396 (i : grid0.Coords) (c4_i32_1522 : BitVec 32) : Fin 1 → Nat :=
  let arg0 : BitVec 32 := BitVec.ofNat 32 (i 0).val
  let c32_i32_1486 : BitVec 32 := 32#32
  let v6529 : BitVec 32 := Scalar.muli arg0 c32_i32_1486
  let c24_i32 : BitVec 32 := 24#32
  let v6530 : BitVec 32 := Scalar.addi v6529 c24_i32
  let c7_i32_1521 : BitVec 32 := 7#32
  let v6686 : BitVec 32 := Scalar.muli v6530 c7_i32_1521
  let v6687 : BitVec 32 := Scalar.addi v6686 c4_i32_1522
  let v6695 : Index := Scalar.indexCast v6687
  ![v6695.toNat]
def k0_off397 (v6532 : BitVec 32) (v6534 : BitVec 32) (v6726 : BitVec 32) : Fin 4 → Nat :=
  let v6727 : Index := Scalar.indexCast v6532
  let v6728 : Index := Scalar.indexCast v6726
  let v6535 : BitVec 32 := v6534
  let v6729 : Index := Scalar.indexCast v6535
  let c0_1531 : Index := 0#32
  ![v6727.toNat, v6728.toNat, v6729.toNat, 0]

def k0_chk199 (v6532 : BitVec 32) (v6534 : BitVec 32) (v6726 : BitVec 32) : Prop :=
  (∀ a, (k0_off397 v6532 v6534 v6726) a + S1x4x24x256.size a ≤ S2x30x40x256.size a)
theorem k0_off397_inb : ∀ (v6532 : BitVec 32) (v6534 : BitVec 32) (v6726 : BitVec 32) (k0_hw199 : k0_chk199 v6532 v6534 v6726), ∀ a, (k0_off397 v6532 v6534 v6726) a + S1x4x24x256.size a ≤ S2x30x40x256.size a := fun v6532 v6534 v6726 k0_hw199 => k0_hw199

def k0_off398 (i : grid0.Coords) (c5_i32_1530 : BitVec 32) : Fin 1 → Nat :=
  let arg0 : BitVec 32 := BitVec.ofNat 32 (i 0).val
  let c32_i32_1486 : BitVec 32 := 32#32
  let v6529 : BitVec 32 := Scalar.muli arg0 c32_i32_1486
  let c24_i32 : BitVec 32 := 24#32
  let v6530 : BitVec 32 := Scalar.addi v6529 c24_i32
  let c7_i32_1529 : BitVec 32 := 7#32
  let v6723 : BitVec 32 := Scalar.muli v6530 c7_i32_1529
  let v6724 : BitVec 32 := Scalar.addi v6723 c5_i32_1530
  let v6732 : Index := Scalar.indexCast v6724
  ![v6732.toNat]
def k0_off399 (v6532 : BitVec 32) (v6534 : BitVec 32) (v6763 : BitVec 32) : Fin 4 → Nat :=
  let v6764 : Index := Scalar.indexCast v6532
  let v6765 : Index := Scalar.indexCast v6763
  let v6535 : BitVec 32 := v6534
  let v6766 : Index := Scalar.indexCast v6535
  let c0_1539 : Index := 0#32
  ![v6764.toNat, v6765.toNat, v6766.toNat, 0]

def k0_chk200 (v6532 : BitVec 32) (v6534 : BitVec 32) (v6763 : BitVec 32) : Prop :=
  (∀ a, (k0_off399 v6532 v6534 v6763) a + S1x4x24x256.size a ≤ S2x30x40x256.size a)
theorem k0_off399_inb : ∀ (v6532 : BitVec 32) (v6534 : BitVec 32) (v6763 : BitVec 32) (k0_hw200 : k0_chk200 v6532 v6534 v6763), ∀ a, (k0_off399 v6532 v6534 v6763) a + S1x4x24x256.size a ≤ S2x30x40x256.size a := fun v6532 v6534 v6763 k0_hw200 => k0_hw200

def k0_off400 (i : grid0.Coords) : Fin 1 → Nat :=
  let arg0 : BitVec 32 := BitVec.ofNat 32 (i 0).val
  let c32_i32_1486 : BitVec 32 := 32#32
  let v6529 : BitVec 32 := Scalar.muli arg0 c32_i32_1486
  let c24_i32 : BitVec 32 := 24#32
  let v6530 : BitVec 32 := Scalar.addi v6529 c24_i32
  let c7_i32_1537 : BitVec 32 := 7#32
  let v6760 : BitVec 32 := Scalar.muli v6530 c7_i32_1537
  let c6_i32_1538 : BitVec 32 := 6#32
  let v6761 : BitVec 32 := Scalar.addi v6760 c6_i32_1538
  let v6769 : Index := Scalar.indexCast v6761
  ![v6769.toNat]
def k0_off401 (i : grid0.Coords) : Fin 1 → Nat :=
  let arg0 : BitVec 32 := BitVec.ofNat 32 (i 0).val
  let c32_i32_1548 : BitVec 32 := 32#32
  let v6801 : BitVec 32 := Scalar.muli arg0 c32_i32_1548
  let c25_i32 : BitVec 32 := 25#32
  let v6802 : BitVec 32 := Scalar.addi v6801 c25_i32
  let v6803 : Index := Scalar.indexCast v6802
  ![v6803.toNat]
def k0_mult26 (v6806 : BitVec 32) : BitVec 32 :=
  v6806

def k0_chk201 (v6806 : BitVec 32) : Prop :=
  (8 ∣ (k0_mult26 v6806).toNat)
theorem k0_mult26_dvd : ∀ (v6806 : BitVec 32) (k0_hw201 : k0_chk201 v6806), 8 ∣ (k0_mult26 v6806).toNat := fun v6806 k0_hw201 => k0_hw201

def k0_off402 (i : grid0.Coords) : Fin 1 → Nat :=
  let arg0 : BitVec 32 := BitVec.ofNat 32 (i 0).val
  let c32_i32_1548 : BitVec 32 := 32#32
  let v6801 : BitVec 32 := Scalar.muli arg0 c32_i32_1548
  let c25_i32 : BitVec 32 := 25#32
  let v6802 : BitVec 32 := Scalar.addi v6801 c25_i32
  let c7_i32_1551 : BitVec 32 := 7#32
  let v6810 : BitVec 32 := Scalar.muli v6802 c7_i32_1551
  let c0_i32_1552 : BitVec 32 := 0#32
  let v6811 : BitVec 32 := Scalar.addi v6810 c0_i32_1552
  let v6812 : Index := Scalar.indexCast v6811
  ![v6812.toNat]
def k0_off403 (v6804 : BitVec 32) (v6806 : BitVec 32) (v6813 : BitVec 32) : Fin 4 → Nat :=
  let v6814 : Index := Scalar.indexCast v6804
  let v6815 : Index := Scalar.indexCast v6813
  let v6807 : BitVec 32 := v6806
  let v6816 : Index := Scalar.indexCast v6807
  let c0_1553 : Index := 0#32
  ![v6814.toNat, v6815.toNat, v6816.toNat, 0]

def k0_chk202 (v6804 : BitVec 32) (v6806 : BitVec 32) (v6813 : BitVec 32) : Prop :=
  (∀ a, (k0_off403 v6804 v6806 v6813) a + S1x4x24x256.size a ≤ S2x30x40x256.size a)
theorem k0_off403_inb : ∀ (v6804 : BitVec 32) (v6806 : BitVec 32) (v6813 : BitVec 32) (k0_hw202 : k0_chk202 v6804 v6806 v6813), ∀ a, (k0_off403 v6804 v6806 v6813) a + S1x4x24x256.size a ≤ S2x30x40x256.size a := fun v6804 v6806 v6813 k0_hw202 => k0_hw202

def k0_off404 (i : grid0.Coords) (c0_i32_1552 : BitVec 32) : Fin 1 → Nat :=
  let arg0 : BitVec 32 := BitVec.ofNat 32 (i 0).val
  let c32_i32_1548 : BitVec 32 := 32#32
  let v6801 : BitVec 32 := Scalar.muli arg0 c32_i32_1548
  let c25_i32 : BitVec 32 := 25#32
  let v6802 : BitVec 32 := Scalar.addi v6801 c25_i32
  let c7_i32_1551 : BitVec 32 := 7#32
  let v6810 : BitVec 32 := Scalar.muli v6802 c7_i32_1551
  let v6811 : BitVec 32 := Scalar.addi v6810 c0_i32_1552
  let v6819 : Index := Scalar.indexCast v6811
  ![v6819.toNat]
def k0_off405 (v6804 : BitVec 32) (v6806 : BitVec 32) (v6850 : BitVec 32) : Fin 4 → Nat :=
  let v6851 : Index := Scalar.indexCast v6804
  let v6852 : Index := Scalar.indexCast v6850
  let v6807 : BitVec 32 := v6806
  let v6853 : Index := Scalar.indexCast v6807
  let c0_1561 : Index := 0#32
  ![v6851.toNat, v6852.toNat, v6853.toNat, 0]

def k0_chk203 (v6804 : BitVec 32) (v6806 : BitVec 32) (v6850 : BitVec 32) : Prop :=
  (∀ a, (k0_off405 v6804 v6806 v6850) a + S1x4x24x256.size a ≤ S2x30x40x256.size a)
theorem k0_off405_inb : ∀ (v6804 : BitVec 32) (v6806 : BitVec 32) (v6850 : BitVec 32) (k0_hw203 : k0_chk203 v6804 v6806 v6850), ∀ a, (k0_off405 v6804 v6806 v6850) a + S1x4x24x256.size a ≤ S2x30x40x256.size a := fun v6804 v6806 v6850 k0_hw203 => k0_hw203

def k0_off406 (i : grid0.Coords) (c1_i32_1560 : BitVec 32) : Fin 1 → Nat :=
  let arg0 : BitVec 32 := BitVec.ofNat 32 (i 0).val
  let c32_i32_1548 : BitVec 32 := 32#32
  let v6801 : BitVec 32 := Scalar.muli arg0 c32_i32_1548
  let c25_i32 : BitVec 32 := 25#32
  let v6802 : BitVec 32 := Scalar.addi v6801 c25_i32
  let c7_i32_1559 : BitVec 32 := 7#32
  let v6847 : BitVec 32 := Scalar.muli v6802 c7_i32_1559
  let v6848 : BitVec 32 := Scalar.addi v6847 c1_i32_1560
  let v6856 : Index := Scalar.indexCast v6848
  ![v6856.toNat]
def k0_off407 (v6804 : BitVec 32) (v6806 : BitVec 32) (v6887 : BitVec 32) : Fin 4 → Nat :=
  let v6888 : Index := Scalar.indexCast v6804
  let v6889 : Index := Scalar.indexCast v6887
  let v6807 : BitVec 32 := v6806
  let v6890 : Index := Scalar.indexCast v6807
  let c0_1569 : Index := 0#32
  ![v6888.toNat, v6889.toNat, v6890.toNat, 0]

def k0_chk204 (v6804 : BitVec 32) (v6806 : BitVec 32) (v6887 : BitVec 32) : Prop :=
  (∀ a, (k0_off407 v6804 v6806 v6887) a + S1x4x24x256.size a ≤ S2x30x40x256.size a)
theorem k0_off407_inb : ∀ (v6804 : BitVec 32) (v6806 : BitVec 32) (v6887 : BitVec 32) (k0_hw204 : k0_chk204 v6804 v6806 v6887), ∀ a, (k0_off407 v6804 v6806 v6887) a + S1x4x24x256.size a ≤ S2x30x40x256.size a := fun v6804 v6806 v6887 k0_hw204 => k0_hw204

def k0_off408 (i : grid0.Coords) (c2_i32_1568 : BitVec 32) : Fin 1 → Nat :=
  let arg0 : BitVec 32 := BitVec.ofNat 32 (i 0).val
  let c32_i32_1548 : BitVec 32 := 32#32
  let v6801 : BitVec 32 := Scalar.muli arg0 c32_i32_1548
  let c25_i32 : BitVec 32 := 25#32
  let v6802 : BitVec 32 := Scalar.addi v6801 c25_i32
  let c7_i32_1567 : BitVec 32 := 7#32
  let v6884 : BitVec 32 := Scalar.muli v6802 c7_i32_1567
  let v6885 : BitVec 32 := Scalar.addi v6884 c2_i32_1568
  let v6893 : Index := Scalar.indexCast v6885
  ![v6893.toNat]
def k0_off409 (v6804 : BitVec 32) (v6806 : BitVec 32) (v6924 : BitVec 32) : Fin 4 → Nat :=
  let v6925 : Index := Scalar.indexCast v6804
  let v6926 : Index := Scalar.indexCast v6924
  let v6807 : BitVec 32 := v6806
  let v6927 : Index := Scalar.indexCast v6807
  let c0_1577 : Index := 0#32
  ![v6925.toNat, v6926.toNat, v6927.toNat, 0]

def k0_chk205 (v6804 : BitVec 32) (v6806 : BitVec 32) (v6924 : BitVec 32) : Prop :=
  (∀ a, (k0_off409 v6804 v6806 v6924) a + S1x4x24x256.size a ≤ S2x30x40x256.size a)
theorem k0_off409_inb : ∀ (v6804 : BitVec 32) (v6806 : BitVec 32) (v6924 : BitVec 32) (k0_hw205 : k0_chk205 v6804 v6806 v6924), ∀ a, (k0_off409 v6804 v6806 v6924) a + S1x4x24x256.size a ≤ S2x30x40x256.size a := fun v6804 v6806 v6924 k0_hw205 => k0_hw205

def k0_off410 (i : grid0.Coords) (c3_i32_1576 : BitVec 32) : Fin 1 → Nat :=
  let arg0 : BitVec 32 := BitVec.ofNat 32 (i 0).val
  let c32_i32_1548 : BitVec 32 := 32#32
  let v6801 : BitVec 32 := Scalar.muli arg0 c32_i32_1548
  let c25_i32 : BitVec 32 := 25#32
  let v6802 : BitVec 32 := Scalar.addi v6801 c25_i32
  let c7_i32_1575 : BitVec 32 := 7#32
  let v6921 : BitVec 32 := Scalar.muli v6802 c7_i32_1575
  let v6922 : BitVec 32 := Scalar.addi v6921 c3_i32_1576
  let v6930 : Index := Scalar.indexCast v6922
  ![v6930.toNat]
def k0_off411 (v6804 : BitVec 32) (v6806 : BitVec 32) (v6961 : BitVec 32) : Fin 4 → Nat :=
  let v6962 : Index := Scalar.indexCast v6804
  let v6963 : Index := Scalar.indexCast v6961
  let v6807 : BitVec 32 := v6806
  let v6964 : Index := Scalar.indexCast v6807
  let c0_1585 : Index := 0#32
  ![v6962.toNat, v6963.toNat, v6964.toNat, 0]

def k0_chk206 (v6804 : BitVec 32) (v6806 : BitVec 32) (v6961 : BitVec 32) : Prop :=
  (∀ a, (k0_off411 v6804 v6806 v6961) a + S1x4x24x256.size a ≤ S2x30x40x256.size a)
theorem k0_off411_inb : ∀ (v6804 : BitVec 32) (v6806 : BitVec 32) (v6961 : BitVec 32) (k0_hw206 : k0_chk206 v6804 v6806 v6961), ∀ a, (k0_off411 v6804 v6806 v6961) a + S1x4x24x256.size a ≤ S2x30x40x256.size a := fun v6804 v6806 v6961 k0_hw206 => k0_hw206

def k0_off412 (i : grid0.Coords) (c4_i32_1584 : BitVec 32) : Fin 1 → Nat :=
  let arg0 : BitVec 32 := BitVec.ofNat 32 (i 0).val
  let c32_i32_1548 : BitVec 32 := 32#32
  let v6801 : BitVec 32 := Scalar.muli arg0 c32_i32_1548
  let c25_i32 : BitVec 32 := 25#32
  let v6802 : BitVec 32 := Scalar.addi v6801 c25_i32
  let c7_i32_1583 : BitVec 32 := 7#32
  let v6958 : BitVec 32 := Scalar.muli v6802 c7_i32_1583
  let v6959 : BitVec 32 := Scalar.addi v6958 c4_i32_1584
  let v6967 : Index := Scalar.indexCast v6959
  ![v6967.toNat]
def k0_off413 (v6804 : BitVec 32) (v6806 : BitVec 32) (v6998 : BitVec 32) : Fin 4 → Nat :=
  let v6999 : Index := Scalar.indexCast v6804
  let v7000 : Index := Scalar.indexCast v6998
  let v6807 : BitVec 32 := v6806
  let v7001 : Index := Scalar.indexCast v6807
  let c0_1593 : Index := 0#32
  ![v6999.toNat, v7000.toNat, v7001.toNat, 0]

def k0_chk207 (v6804 : BitVec 32) (v6806 : BitVec 32) (v6998 : BitVec 32) : Prop :=
  (∀ a, (k0_off413 v6804 v6806 v6998) a + S1x4x24x256.size a ≤ S2x30x40x256.size a)
theorem k0_off413_inb : ∀ (v6804 : BitVec 32) (v6806 : BitVec 32) (v6998 : BitVec 32) (k0_hw207 : k0_chk207 v6804 v6806 v6998), ∀ a, (k0_off413 v6804 v6806 v6998) a + S1x4x24x256.size a ≤ S2x30x40x256.size a := fun v6804 v6806 v6998 k0_hw207 => k0_hw207

def k0_off414 (i : grid0.Coords) (c5_i32_1592 : BitVec 32) : Fin 1 → Nat :=
  let arg0 : BitVec 32 := BitVec.ofNat 32 (i 0).val
  let c32_i32_1548 : BitVec 32 := 32#32
  let v6801 : BitVec 32 := Scalar.muli arg0 c32_i32_1548
  let c25_i32 : BitVec 32 := 25#32
  let v6802 : BitVec 32 := Scalar.addi v6801 c25_i32
  let c7_i32_1591 : BitVec 32 := 7#32
  let v6995 : BitVec 32 := Scalar.muli v6802 c7_i32_1591
  let v6996 : BitVec 32 := Scalar.addi v6995 c5_i32_1592
  let v7004 : Index := Scalar.indexCast v6996
  ![v7004.toNat]
def k0_off415 (v6804 : BitVec 32) (v6806 : BitVec 32) (v7035 : BitVec 32) : Fin 4 → Nat :=
  let v7036 : Index := Scalar.indexCast v6804
  let v7037 : Index := Scalar.indexCast v7035
  let v6807 : BitVec 32 := v6806
  let v7038 : Index := Scalar.indexCast v6807
  let c0_1601 : Index := 0#32
  ![v7036.toNat, v7037.toNat, v7038.toNat, 0]

def k0_chk208 (v6804 : BitVec 32) (v6806 : BitVec 32) (v7035 : BitVec 32) : Prop :=
  (∀ a, (k0_off415 v6804 v6806 v7035) a + S1x4x24x256.size a ≤ S2x30x40x256.size a)
theorem k0_off415_inb : ∀ (v6804 : BitVec 32) (v6806 : BitVec 32) (v7035 : BitVec 32) (k0_hw208 : k0_chk208 v6804 v6806 v7035), ∀ a, (k0_off415 v6804 v6806 v7035) a + S1x4x24x256.size a ≤ S2x30x40x256.size a := fun v6804 v6806 v7035 k0_hw208 => k0_hw208

def k0_off416 (i : grid0.Coords) : Fin 1 → Nat :=
  let arg0 : BitVec 32 := BitVec.ofNat 32 (i 0).val
  let c32_i32_1548 : BitVec 32 := 32#32
  let v6801 : BitVec 32 := Scalar.muli arg0 c32_i32_1548
  let c25_i32 : BitVec 32 := 25#32
  let v6802 : BitVec 32 := Scalar.addi v6801 c25_i32
  let c7_i32_1599 : BitVec 32 := 7#32
  let v7032 : BitVec 32 := Scalar.muli v6802 c7_i32_1599
  let c6_i32_1600 : BitVec 32 := 6#32
  let v7033 : BitVec 32 := Scalar.addi v7032 c6_i32_1600
  let v7041 : Index := Scalar.indexCast v7033
  ![v7041.toNat]
def k0_off417 (i : grid0.Coords) : Fin 1 → Nat :=
  let arg0 : BitVec 32 := BitVec.ofNat 32 (i 0).val
  let c32_i32_1610 : BitVec 32 := 32#32
  let v7073 : BitVec 32 := Scalar.muli arg0 c32_i32_1610
  let c26_i32 : BitVec 32 := 26#32
  let v7074 : BitVec 32 := Scalar.addi v7073 c26_i32
  let v7075 : Index := Scalar.indexCast v7074
  ![v7075.toNat]
def k0_mult27 (v7078 : BitVec 32) : BitVec 32 :=
  v7078

def k0_chk209 (v7078 : BitVec 32) : Prop :=
  (8 ∣ (k0_mult27 v7078).toNat)
theorem k0_mult27_dvd : ∀ (v7078 : BitVec 32) (k0_hw209 : k0_chk209 v7078), 8 ∣ (k0_mult27 v7078).toNat := fun v7078 k0_hw209 => k0_hw209

def k0_off418 (i : grid0.Coords) : Fin 1 → Nat :=
  let arg0 : BitVec 32 := BitVec.ofNat 32 (i 0).val
  let c32_i32_1610 : BitVec 32 := 32#32
  let v7073 : BitVec 32 := Scalar.muli arg0 c32_i32_1610
  let c26_i32 : BitVec 32 := 26#32
  let v7074 : BitVec 32 := Scalar.addi v7073 c26_i32
  let c7_i32_1613 : BitVec 32 := 7#32
  let v7082 : BitVec 32 := Scalar.muli v7074 c7_i32_1613
  let c0_i32_1614 : BitVec 32 := 0#32
  let v7083 : BitVec 32 := Scalar.addi v7082 c0_i32_1614
  let v7084 : Index := Scalar.indexCast v7083
  ![v7084.toNat]
def k0_off419 (v7076 : BitVec 32) (v7078 : BitVec 32) (v7085 : BitVec 32) : Fin 4 → Nat :=
  let v7086 : Index := Scalar.indexCast v7076
  let v7087 : Index := Scalar.indexCast v7085
  let v7079 : BitVec 32 := v7078
  let v7088 : Index := Scalar.indexCast v7079
  let c0_1615 : Index := 0#32
  ![v7086.toNat, v7087.toNat, v7088.toNat, 0]

def k0_chk210 (v7076 : BitVec 32) (v7078 : BitVec 32) (v7085 : BitVec 32) : Prop :=
  (∀ a, (k0_off419 v7076 v7078 v7085) a + S1x4x24x256.size a ≤ S2x30x40x256.size a)
theorem k0_off419_inb : ∀ (v7076 : BitVec 32) (v7078 : BitVec 32) (v7085 : BitVec 32) (k0_hw210 : k0_chk210 v7076 v7078 v7085), ∀ a, (k0_off419 v7076 v7078 v7085) a + S1x4x24x256.size a ≤ S2x30x40x256.size a := fun v7076 v7078 v7085 k0_hw210 => k0_hw210

def k0_off420 (i : grid0.Coords) (c0_i32_1614 : BitVec 32) : Fin 1 → Nat :=
  let arg0 : BitVec 32 := BitVec.ofNat 32 (i 0).val
  let c32_i32_1610 : BitVec 32 := 32#32
  let v7073 : BitVec 32 := Scalar.muli arg0 c32_i32_1610
  let c26_i32 : BitVec 32 := 26#32
  let v7074 : BitVec 32 := Scalar.addi v7073 c26_i32
  let c7_i32_1613 : BitVec 32 := 7#32
  let v7082 : BitVec 32 := Scalar.muli v7074 c7_i32_1613
  let v7083 : BitVec 32 := Scalar.addi v7082 c0_i32_1614
  let v7091 : Index := Scalar.indexCast v7083
  ![v7091.toNat]
def k0_off421 (v7076 : BitVec 32) (v7078 : BitVec 32) (v7122 : BitVec 32) : Fin 4 → Nat :=
  let v7123 : Index := Scalar.indexCast v7076
  let v7124 : Index := Scalar.indexCast v7122
  let v7079 : BitVec 32 := v7078
  let v7125 : Index := Scalar.indexCast v7079
  let c0_1623 : Index := 0#32
  ![v7123.toNat, v7124.toNat, v7125.toNat, 0]

def k0_chk211 (v7076 : BitVec 32) (v7078 : BitVec 32) (v7122 : BitVec 32) : Prop :=
  (∀ a, (k0_off421 v7076 v7078 v7122) a + S1x4x24x256.size a ≤ S2x30x40x256.size a)
theorem k0_off421_inb : ∀ (v7076 : BitVec 32) (v7078 : BitVec 32) (v7122 : BitVec 32) (k0_hw211 : k0_chk211 v7076 v7078 v7122), ∀ a, (k0_off421 v7076 v7078 v7122) a + S1x4x24x256.size a ≤ S2x30x40x256.size a := fun v7076 v7078 v7122 k0_hw211 => k0_hw211

def k0_off422 (i : grid0.Coords) (c1_i32_1622 : BitVec 32) : Fin 1 → Nat :=
  let arg0 : BitVec 32 := BitVec.ofNat 32 (i 0).val
  let c32_i32_1610 : BitVec 32 := 32#32
  let v7073 : BitVec 32 := Scalar.muli arg0 c32_i32_1610
  let c26_i32 : BitVec 32 := 26#32
  let v7074 : BitVec 32 := Scalar.addi v7073 c26_i32
  let c7_i32_1621 : BitVec 32 := 7#32
  let v7119 : BitVec 32 := Scalar.muli v7074 c7_i32_1621
  let v7120 : BitVec 32 := Scalar.addi v7119 c1_i32_1622
  let v7128 : Index := Scalar.indexCast v7120
  ![v7128.toNat]
def k0_off423 (v7076 : BitVec 32) (v7078 : BitVec 32) (v7159 : BitVec 32) : Fin 4 → Nat :=
  let v7160 : Index := Scalar.indexCast v7076
  let v7161 : Index := Scalar.indexCast v7159
  let v7079 : BitVec 32 := v7078
  let v7162 : Index := Scalar.indexCast v7079
  let c0_1631 : Index := 0#32
  ![v7160.toNat, v7161.toNat, v7162.toNat, 0]

def k0_chk212 (v7076 : BitVec 32) (v7078 : BitVec 32) (v7159 : BitVec 32) : Prop :=
  (∀ a, (k0_off423 v7076 v7078 v7159) a + S1x4x24x256.size a ≤ S2x30x40x256.size a)
theorem k0_off423_inb : ∀ (v7076 : BitVec 32) (v7078 : BitVec 32) (v7159 : BitVec 32) (k0_hw212 : k0_chk212 v7076 v7078 v7159), ∀ a, (k0_off423 v7076 v7078 v7159) a + S1x4x24x256.size a ≤ S2x30x40x256.size a := fun v7076 v7078 v7159 k0_hw212 => k0_hw212

def k0_off424 (i : grid0.Coords) (c2_i32_1630 : BitVec 32) : Fin 1 → Nat :=
  let arg0 : BitVec 32 := BitVec.ofNat 32 (i 0).val
  let c32_i32_1610 : BitVec 32 := 32#32
  let v7073 : BitVec 32 := Scalar.muli arg0 c32_i32_1610
  let c26_i32 : BitVec 32 := 26#32
  let v7074 : BitVec 32 := Scalar.addi v7073 c26_i32
  let c7_i32_1629 : BitVec 32 := 7#32
  let v7156 : BitVec 32 := Scalar.muli v7074 c7_i32_1629
  let v7157 : BitVec 32 := Scalar.addi v7156 c2_i32_1630
  let v7165 : Index := Scalar.indexCast v7157
  ![v7165.toNat]
def k0_off425 (v7076 : BitVec 32) (v7078 : BitVec 32) (v7196 : BitVec 32) : Fin 4 → Nat :=
  let v7197 : Index := Scalar.indexCast v7076
  let v7198 : Index := Scalar.indexCast v7196
  let v7079 : BitVec 32 := v7078
  let v7199 : Index := Scalar.indexCast v7079
  let c0_1639 : Index := 0#32
  ![v7197.toNat, v7198.toNat, v7199.toNat, 0]

def k0_chk213 (v7076 : BitVec 32) (v7078 : BitVec 32) (v7196 : BitVec 32) : Prop :=
  (∀ a, (k0_off425 v7076 v7078 v7196) a + S1x4x24x256.size a ≤ S2x30x40x256.size a)
theorem k0_off425_inb : ∀ (v7076 : BitVec 32) (v7078 : BitVec 32) (v7196 : BitVec 32) (k0_hw213 : k0_chk213 v7076 v7078 v7196), ∀ a, (k0_off425 v7076 v7078 v7196) a + S1x4x24x256.size a ≤ S2x30x40x256.size a := fun v7076 v7078 v7196 k0_hw213 => k0_hw213

def k0_off426 (i : grid0.Coords) (c3_i32_1638 : BitVec 32) : Fin 1 → Nat :=
  let arg0 : BitVec 32 := BitVec.ofNat 32 (i 0).val
  let c32_i32_1610 : BitVec 32 := 32#32
  let v7073 : BitVec 32 := Scalar.muli arg0 c32_i32_1610
  let c26_i32 : BitVec 32 := 26#32
  let v7074 : BitVec 32 := Scalar.addi v7073 c26_i32
  let c7_i32_1637 : BitVec 32 := 7#32
  let v7193 : BitVec 32 := Scalar.muli v7074 c7_i32_1637
  let v7194 : BitVec 32 := Scalar.addi v7193 c3_i32_1638
  let v7202 : Index := Scalar.indexCast v7194
  ![v7202.toNat]
def k0_off427 (v7076 : BitVec 32) (v7078 : BitVec 32) (v7233 : BitVec 32) : Fin 4 → Nat :=
  let v7234 : Index := Scalar.indexCast v7076
  let v7235 : Index := Scalar.indexCast v7233
  let v7079 : BitVec 32 := v7078
  let v7236 : Index := Scalar.indexCast v7079
  let c0_1647 : Index := 0#32
  ![v7234.toNat, v7235.toNat, v7236.toNat, 0]

def k0_chk214 (v7076 : BitVec 32) (v7078 : BitVec 32) (v7233 : BitVec 32) : Prop :=
  (∀ a, (k0_off427 v7076 v7078 v7233) a + S1x4x24x256.size a ≤ S2x30x40x256.size a)
theorem k0_off427_inb : ∀ (v7076 : BitVec 32) (v7078 : BitVec 32) (v7233 : BitVec 32) (k0_hw214 : k0_chk214 v7076 v7078 v7233), ∀ a, (k0_off427 v7076 v7078 v7233) a + S1x4x24x256.size a ≤ S2x30x40x256.size a := fun v7076 v7078 v7233 k0_hw214 => k0_hw214

def k0_off428 (i : grid0.Coords) (c4_i32_1646 : BitVec 32) : Fin 1 → Nat :=
  let arg0 : BitVec 32 := BitVec.ofNat 32 (i 0).val
  let c32_i32_1610 : BitVec 32 := 32#32
  let v7073 : BitVec 32 := Scalar.muli arg0 c32_i32_1610
  let c26_i32 : BitVec 32 := 26#32
  let v7074 : BitVec 32 := Scalar.addi v7073 c26_i32
  let c7_i32_1645 : BitVec 32 := 7#32
  let v7230 : BitVec 32 := Scalar.muli v7074 c7_i32_1645
  let v7231 : BitVec 32 := Scalar.addi v7230 c4_i32_1646
  let v7239 : Index := Scalar.indexCast v7231
  ![v7239.toNat]
def k0_off429 (v7076 : BitVec 32) (v7078 : BitVec 32) (v7270 : BitVec 32) : Fin 4 → Nat :=
  let v7271 : Index := Scalar.indexCast v7076
  let v7272 : Index := Scalar.indexCast v7270
  let v7079 : BitVec 32 := v7078
  let v7273 : Index := Scalar.indexCast v7079
  let c0_1655 : Index := 0#32
  ![v7271.toNat, v7272.toNat, v7273.toNat, 0]

def k0_chk215 (v7076 : BitVec 32) (v7078 : BitVec 32) (v7270 : BitVec 32) : Prop :=
  (∀ a, (k0_off429 v7076 v7078 v7270) a + S1x4x24x256.size a ≤ S2x30x40x256.size a)
theorem k0_off429_inb : ∀ (v7076 : BitVec 32) (v7078 : BitVec 32) (v7270 : BitVec 32) (k0_hw215 : k0_chk215 v7076 v7078 v7270), ∀ a, (k0_off429 v7076 v7078 v7270) a + S1x4x24x256.size a ≤ S2x30x40x256.size a := fun v7076 v7078 v7270 k0_hw215 => k0_hw215

def k0_off430 (i : grid0.Coords) (c5_i32_1654 : BitVec 32) : Fin 1 → Nat :=
  let arg0 : BitVec 32 := BitVec.ofNat 32 (i 0).val
  let c32_i32_1610 : BitVec 32 := 32#32
  let v7073 : BitVec 32 := Scalar.muli arg0 c32_i32_1610
  let c26_i32 : BitVec 32 := 26#32
  let v7074 : BitVec 32 := Scalar.addi v7073 c26_i32
  let c7_i32_1653 : BitVec 32 := 7#32
  let v7267 : BitVec 32 := Scalar.muli v7074 c7_i32_1653
  let v7268 : BitVec 32 := Scalar.addi v7267 c5_i32_1654
  let v7276 : Index := Scalar.indexCast v7268
  ![v7276.toNat]
def k0_off431 (v7076 : BitVec 32) (v7078 : BitVec 32) (v7307 : BitVec 32) : Fin 4 → Nat :=
  let v7308 : Index := Scalar.indexCast v7076
  let v7309 : Index := Scalar.indexCast v7307
  let v7079 : BitVec 32 := v7078
  let v7310 : Index := Scalar.indexCast v7079
  let c0_1663 : Index := 0#32
  ![v7308.toNat, v7309.toNat, v7310.toNat, 0]

def k0_chk216 (v7076 : BitVec 32) (v7078 : BitVec 32) (v7307 : BitVec 32) : Prop :=
  (∀ a, (k0_off431 v7076 v7078 v7307) a + S1x4x24x256.size a ≤ S2x30x40x256.size a)
theorem k0_off431_inb : ∀ (v7076 : BitVec 32) (v7078 : BitVec 32) (v7307 : BitVec 32) (k0_hw216 : k0_chk216 v7076 v7078 v7307), ∀ a, (k0_off431 v7076 v7078 v7307) a + S1x4x24x256.size a ≤ S2x30x40x256.size a := fun v7076 v7078 v7307 k0_hw216 => k0_hw216

def k0_off432 (i : grid0.Coords) : Fin 1 → Nat :=
  let arg0 : BitVec 32 := BitVec.ofNat 32 (i 0).val
  let c32_i32_1610 : BitVec 32 := 32#32
  let v7073 : BitVec 32 := Scalar.muli arg0 c32_i32_1610
  let c26_i32 : BitVec 32 := 26#32
  let v7074 : BitVec 32 := Scalar.addi v7073 c26_i32
  let c7_i32_1661 : BitVec 32 := 7#32
  let v7304 : BitVec 32 := Scalar.muli v7074 c7_i32_1661
  let c6_i32_1662 : BitVec 32 := 6#32
  let v7305 : BitVec 32 := Scalar.addi v7304 c6_i32_1662
  let v7313 : Index := Scalar.indexCast v7305
  ![v7313.toNat]
def k0_off433 (i : grid0.Coords) : Fin 1 → Nat :=
  let arg0 : BitVec 32 := BitVec.ofNat 32 (i 0).val
  let c32_i32_1672 : BitVec 32 := 32#32
  let v7345 : BitVec 32 := Scalar.muli arg0 c32_i32_1672
  let c27_i32 : BitVec 32 := 27#32
  let v7346 : BitVec 32 := Scalar.addi v7345 c27_i32
  let v7347 : Index := Scalar.indexCast v7346
  ![v7347.toNat]
def k0_mult28 (v7350 : BitVec 32) : BitVec 32 :=
  v7350

def k0_chk217 (v7350 : BitVec 32) : Prop :=
  (8 ∣ (k0_mult28 v7350).toNat)
theorem k0_mult28_dvd : ∀ (v7350 : BitVec 32) (k0_hw217 : k0_chk217 v7350), 8 ∣ (k0_mult28 v7350).toNat := fun v7350 k0_hw217 => k0_hw217

def k0_off434 (i : grid0.Coords) : Fin 1 → Nat :=
  let arg0 : BitVec 32 := BitVec.ofNat 32 (i 0).val
  let c32_i32_1672 : BitVec 32 := 32#32
  let v7345 : BitVec 32 := Scalar.muli arg0 c32_i32_1672
  let c27_i32 : BitVec 32 := 27#32
  let v7346 : BitVec 32 := Scalar.addi v7345 c27_i32
  let c7_i32_1675 : BitVec 32 := 7#32
  let v7354 : BitVec 32 := Scalar.muli v7346 c7_i32_1675
  let c0_i32_1676 : BitVec 32 := 0#32
  let v7355 : BitVec 32 := Scalar.addi v7354 c0_i32_1676
  let v7356 : Index := Scalar.indexCast v7355
  ![v7356.toNat]
def k0_off435 (v7348 : BitVec 32) (v7350 : BitVec 32) (v7357 : BitVec 32) : Fin 4 → Nat :=
  let v7358 : Index := Scalar.indexCast v7348
  let v7359 : Index := Scalar.indexCast v7357
  let v7351 : BitVec 32 := v7350
  let v7360 : Index := Scalar.indexCast v7351
  let c0_1677 : Index := 0#32
  ![v7358.toNat, v7359.toNat, v7360.toNat, 0]

def k0_chk218 (v7348 : BitVec 32) (v7350 : BitVec 32) (v7357 : BitVec 32) : Prop :=
  (∀ a, (k0_off435 v7348 v7350 v7357) a + S1x4x24x256.size a ≤ S2x30x40x256.size a)
theorem k0_off435_inb : ∀ (v7348 : BitVec 32) (v7350 : BitVec 32) (v7357 : BitVec 32) (k0_hw218 : k0_chk218 v7348 v7350 v7357), ∀ a, (k0_off435 v7348 v7350 v7357) a + S1x4x24x256.size a ≤ S2x30x40x256.size a := fun v7348 v7350 v7357 k0_hw218 => k0_hw218

def k0_off436 (i : grid0.Coords) (c0_i32_1676 : BitVec 32) : Fin 1 → Nat :=
  let arg0 : BitVec 32 := BitVec.ofNat 32 (i 0).val
  let c32_i32_1672 : BitVec 32 := 32#32
  let v7345 : BitVec 32 := Scalar.muli arg0 c32_i32_1672
  let c27_i32 : BitVec 32 := 27#32
  let v7346 : BitVec 32 := Scalar.addi v7345 c27_i32
  let c7_i32_1675 : BitVec 32 := 7#32
  let v7354 : BitVec 32 := Scalar.muli v7346 c7_i32_1675
  let v7355 : BitVec 32 := Scalar.addi v7354 c0_i32_1676
  let v7363 : Index := Scalar.indexCast v7355
  ![v7363.toNat]
def k0_off437 (v7348 : BitVec 32) (v7350 : BitVec 32) (v7394 : BitVec 32) : Fin 4 → Nat :=
  let v7395 : Index := Scalar.indexCast v7348
  let v7396 : Index := Scalar.indexCast v7394
  let v7351 : BitVec 32 := v7350
  let v7397 : Index := Scalar.indexCast v7351
  let c0_1685 : Index := 0#32
  ![v7395.toNat, v7396.toNat, v7397.toNat, 0]

def k0_chk219 (v7348 : BitVec 32) (v7350 : BitVec 32) (v7394 : BitVec 32) : Prop :=
  (∀ a, (k0_off437 v7348 v7350 v7394) a + S1x4x24x256.size a ≤ S2x30x40x256.size a)
theorem k0_off437_inb : ∀ (v7348 : BitVec 32) (v7350 : BitVec 32) (v7394 : BitVec 32) (k0_hw219 : k0_chk219 v7348 v7350 v7394), ∀ a, (k0_off437 v7348 v7350 v7394) a + S1x4x24x256.size a ≤ S2x30x40x256.size a := fun v7348 v7350 v7394 k0_hw219 => k0_hw219

def k0_off438 (i : grid0.Coords) (c1_i32_1684 : BitVec 32) : Fin 1 → Nat :=
  let arg0 : BitVec 32 := BitVec.ofNat 32 (i 0).val
  let c32_i32_1672 : BitVec 32 := 32#32
  let v7345 : BitVec 32 := Scalar.muli arg0 c32_i32_1672
  let c27_i32 : BitVec 32 := 27#32
  let v7346 : BitVec 32 := Scalar.addi v7345 c27_i32
  let c7_i32_1683 : BitVec 32 := 7#32
  let v7391 : BitVec 32 := Scalar.muli v7346 c7_i32_1683
  let v7392 : BitVec 32 := Scalar.addi v7391 c1_i32_1684
  let v7400 : Index := Scalar.indexCast v7392
  ![v7400.toNat]
def k0_off439 (v7348 : BitVec 32) (v7350 : BitVec 32) (v7431 : BitVec 32) : Fin 4 → Nat :=
  let v7432 : Index := Scalar.indexCast v7348
  let v7433 : Index := Scalar.indexCast v7431
  let v7351 : BitVec 32 := v7350
  let v7434 : Index := Scalar.indexCast v7351
  let c0_1693 : Index := 0#32
  ![v7432.toNat, v7433.toNat, v7434.toNat, 0]

def k0_chk220 (v7348 : BitVec 32) (v7350 : BitVec 32) (v7431 : BitVec 32) : Prop :=
  (∀ a, (k0_off439 v7348 v7350 v7431) a + S1x4x24x256.size a ≤ S2x30x40x256.size a)
theorem k0_off439_inb : ∀ (v7348 : BitVec 32) (v7350 : BitVec 32) (v7431 : BitVec 32) (k0_hw220 : k0_chk220 v7348 v7350 v7431), ∀ a, (k0_off439 v7348 v7350 v7431) a + S1x4x24x256.size a ≤ S2x30x40x256.size a := fun v7348 v7350 v7431 k0_hw220 => k0_hw220

def k0_off440 (i : grid0.Coords) (c2_i32_1692 : BitVec 32) : Fin 1 → Nat :=
  let arg0 : BitVec 32 := BitVec.ofNat 32 (i 0).val
  let c32_i32_1672 : BitVec 32 := 32#32
  let v7345 : BitVec 32 := Scalar.muli arg0 c32_i32_1672
  let c27_i32 : BitVec 32 := 27#32
  let v7346 : BitVec 32 := Scalar.addi v7345 c27_i32
  let c7_i32_1691 : BitVec 32 := 7#32
  let v7428 : BitVec 32 := Scalar.muli v7346 c7_i32_1691
  let v7429 : BitVec 32 := Scalar.addi v7428 c2_i32_1692
  let v7437 : Index := Scalar.indexCast v7429
  ![v7437.toNat]
def k0_off441 (v7348 : BitVec 32) (v7350 : BitVec 32) (v7468 : BitVec 32) : Fin 4 → Nat :=
  let v7469 : Index := Scalar.indexCast v7348
  let v7470 : Index := Scalar.indexCast v7468
  let v7351 : BitVec 32 := v7350
  let v7471 : Index := Scalar.indexCast v7351
  let c0_1701 : Index := 0#32
  ![v7469.toNat, v7470.toNat, v7471.toNat, 0]

def k0_chk221 (v7348 : BitVec 32) (v7350 : BitVec 32) (v7468 : BitVec 32) : Prop :=
  (∀ a, (k0_off441 v7348 v7350 v7468) a + S1x4x24x256.size a ≤ S2x30x40x256.size a)
theorem k0_off441_inb : ∀ (v7348 : BitVec 32) (v7350 : BitVec 32) (v7468 : BitVec 32) (k0_hw221 : k0_chk221 v7348 v7350 v7468), ∀ a, (k0_off441 v7348 v7350 v7468) a + S1x4x24x256.size a ≤ S2x30x40x256.size a := fun v7348 v7350 v7468 k0_hw221 => k0_hw221

def k0_off442 (i : grid0.Coords) (c3_i32_1700 : BitVec 32) : Fin 1 → Nat :=
  let arg0 : BitVec 32 := BitVec.ofNat 32 (i 0).val
  let c32_i32_1672 : BitVec 32 := 32#32
  let v7345 : BitVec 32 := Scalar.muli arg0 c32_i32_1672
  let c27_i32 : BitVec 32 := 27#32
  let v7346 : BitVec 32 := Scalar.addi v7345 c27_i32
  let c7_i32_1699 : BitVec 32 := 7#32
  let v7465 : BitVec 32 := Scalar.muli v7346 c7_i32_1699
  let v7466 : BitVec 32 := Scalar.addi v7465 c3_i32_1700
  let v7474 : Index := Scalar.indexCast v7466
  ![v7474.toNat]
def k0_off443 (v7348 : BitVec 32) (v7350 : BitVec 32) (v7505 : BitVec 32) : Fin 4 → Nat :=
  let v7506 : Index := Scalar.indexCast v7348
  let v7507 : Index := Scalar.indexCast v7505
  let v7351 : BitVec 32 := v7350
  let v7508 : Index := Scalar.indexCast v7351
  let c0_1709 : Index := 0#32
  ![v7506.toNat, v7507.toNat, v7508.toNat, 0]

def k0_chk222 (v7348 : BitVec 32) (v7350 : BitVec 32) (v7505 : BitVec 32) : Prop :=
  (∀ a, (k0_off443 v7348 v7350 v7505) a + S1x4x24x256.size a ≤ S2x30x40x256.size a)
theorem k0_off443_inb : ∀ (v7348 : BitVec 32) (v7350 : BitVec 32) (v7505 : BitVec 32) (k0_hw222 : k0_chk222 v7348 v7350 v7505), ∀ a, (k0_off443 v7348 v7350 v7505) a + S1x4x24x256.size a ≤ S2x30x40x256.size a := fun v7348 v7350 v7505 k0_hw222 => k0_hw222

def k0_off444 (i : grid0.Coords) (c4_i32_1708 : BitVec 32) : Fin 1 → Nat :=
  let arg0 : BitVec 32 := BitVec.ofNat 32 (i 0).val
  let c32_i32_1672 : BitVec 32 := 32#32
  let v7345 : BitVec 32 := Scalar.muli arg0 c32_i32_1672
  let c27_i32 : BitVec 32 := 27#32
  let v7346 : BitVec 32 := Scalar.addi v7345 c27_i32
  let c7_i32_1707 : BitVec 32 := 7#32
  let v7502 : BitVec 32 := Scalar.muli v7346 c7_i32_1707
  let v7503 : BitVec 32 := Scalar.addi v7502 c4_i32_1708
  let v7511 : Index := Scalar.indexCast v7503
  ![v7511.toNat]
def k0_off445 (v7348 : BitVec 32) (v7350 : BitVec 32) (v7542 : BitVec 32) : Fin 4 → Nat :=
  let v7543 : Index := Scalar.indexCast v7348
  let v7544 : Index := Scalar.indexCast v7542
  let v7351 : BitVec 32 := v7350
  let v7545 : Index := Scalar.indexCast v7351
  let c0_1717 : Index := 0#32
  ![v7543.toNat, v7544.toNat, v7545.toNat, 0]

def k0_chk223 (v7348 : BitVec 32) (v7350 : BitVec 32) (v7542 : BitVec 32) : Prop :=
  (∀ a, (k0_off445 v7348 v7350 v7542) a + S1x4x24x256.size a ≤ S2x30x40x256.size a)
theorem k0_off445_inb : ∀ (v7348 : BitVec 32) (v7350 : BitVec 32) (v7542 : BitVec 32) (k0_hw223 : k0_chk223 v7348 v7350 v7542), ∀ a, (k0_off445 v7348 v7350 v7542) a + S1x4x24x256.size a ≤ S2x30x40x256.size a := fun v7348 v7350 v7542 k0_hw223 => k0_hw223

def k0_off446 (i : grid0.Coords) (c5_i32_1716 : BitVec 32) : Fin 1 → Nat :=
  let arg0 : BitVec 32 := BitVec.ofNat 32 (i 0).val
  let c32_i32_1672 : BitVec 32 := 32#32
  let v7345 : BitVec 32 := Scalar.muli arg0 c32_i32_1672
  let c27_i32 : BitVec 32 := 27#32
  let v7346 : BitVec 32 := Scalar.addi v7345 c27_i32
  let c7_i32_1715 : BitVec 32 := 7#32
  let v7539 : BitVec 32 := Scalar.muli v7346 c7_i32_1715
  let v7540 : BitVec 32 := Scalar.addi v7539 c5_i32_1716
  let v7548 : Index := Scalar.indexCast v7540
  ![v7548.toNat]
def k0_off447 (v7348 : BitVec 32) (v7350 : BitVec 32) (v7579 : BitVec 32) : Fin 4 → Nat :=
  let v7580 : Index := Scalar.indexCast v7348
  let v7581 : Index := Scalar.indexCast v7579
  let v7351 : BitVec 32 := v7350
  let v7582 : Index := Scalar.indexCast v7351
  let c0_1725 : Index := 0#32
  ![v7580.toNat, v7581.toNat, v7582.toNat, 0]

def k0_chk224 (v7348 : BitVec 32) (v7350 : BitVec 32) (v7579 : BitVec 32) : Prop :=
  (∀ a, (k0_off447 v7348 v7350 v7579) a + S1x4x24x256.size a ≤ S2x30x40x256.size a)
theorem k0_off447_inb : ∀ (v7348 : BitVec 32) (v7350 : BitVec 32) (v7579 : BitVec 32) (k0_hw224 : k0_chk224 v7348 v7350 v7579), ∀ a, (k0_off447 v7348 v7350 v7579) a + S1x4x24x256.size a ≤ S2x30x40x256.size a := fun v7348 v7350 v7579 k0_hw224 => k0_hw224

def k0_off448 (i : grid0.Coords) : Fin 1 → Nat :=
  let arg0 : BitVec 32 := BitVec.ofNat 32 (i 0).val
  let c32_i32_1672 : BitVec 32 := 32#32
  let v7345 : BitVec 32 := Scalar.muli arg0 c32_i32_1672
  let c27_i32 : BitVec 32 := 27#32
  let v7346 : BitVec 32 := Scalar.addi v7345 c27_i32
  let c7_i32_1723 : BitVec 32 := 7#32
  let v7576 : BitVec 32 := Scalar.muli v7346 c7_i32_1723
  let c6_i32_1724 : BitVec 32 := 6#32
  let v7577 : BitVec 32 := Scalar.addi v7576 c6_i32_1724
  let v7585 : Index := Scalar.indexCast v7577
  ![v7585.toNat]
def k0_off449 (i : grid0.Coords) : Fin 1 → Nat :=
  let arg0 : BitVec 32 := BitVec.ofNat 32 (i 0).val
  let c32_i32_1734 : BitVec 32 := 32#32
  let v7617 : BitVec 32 := Scalar.muli arg0 c32_i32_1734
  let c28_i32 : BitVec 32 := 28#32
  let v7618 : BitVec 32 := Scalar.addi v7617 c28_i32
  let v7619 : Index := Scalar.indexCast v7618
  ![v7619.toNat]
def k0_mult29 (v7622 : BitVec 32) : BitVec 32 :=
  v7622

def k0_chk225 (v7622 : BitVec 32) : Prop :=
  (8 ∣ (k0_mult29 v7622).toNat)
theorem k0_mult29_dvd : ∀ (v7622 : BitVec 32) (k0_hw225 : k0_chk225 v7622), 8 ∣ (k0_mult29 v7622).toNat := fun v7622 k0_hw225 => k0_hw225

def k0_off450 (i : grid0.Coords) : Fin 1 → Nat :=
  let arg0 : BitVec 32 := BitVec.ofNat 32 (i 0).val
  let c32_i32_1734 : BitVec 32 := 32#32
  let v7617 : BitVec 32 := Scalar.muli arg0 c32_i32_1734
  let c28_i32 : BitVec 32 := 28#32
  let v7618 : BitVec 32 := Scalar.addi v7617 c28_i32
  let c7_i32_1737 : BitVec 32 := 7#32
  let v7626 : BitVec 32 := Scalar.muli v7618 c7_i32_1737
  let c0_i32_1738 : BitVec 32 := 0#32
  let v7627 : BitVec 32 := Scalar.addi v7626 c0_i32_1738
  let v7628 : Index := Scalar.indexCast v7627
  ![v7628.toNat]
def k0_off451 (v7620 : BitVec 32) (v7622 : BitVec 32) (v7629 : BitVec 32) : Fin 4 → Nat :=
  let v7630 : Index := Scalar.indexCast v7620
  let v7631 : Index := Scalar.indexCast v7629
  let v7623 : BitVec 32 := v7622
  let v7632 : Index := Scalar.indexCast v7623
  let c0_1739 : Index := 0#32
  ![v7630.toNat, v7631.toNat, v7632.toNat, 0]

def k0_chk226 (v7620 : BitVec 32) (v7622 : BitVec 32) (v7629 : BitVec 32) : Prop :=
  (∀ a, (k0_off451 v7620 v7622 v7629) a + S1x4x24x256.size a ≤ S2x30x40x256.size a)
theorem k0_off451_inb : ∀ (v7620 : BitVec 32) (v7622 : BitVec 32) (v7629 : BitVec 32) (k0_hw226 : k0_chk226 v7620 v7622 v7629), ∀ a, (k0_off451 v7620 v7622 v7629) a + S1x4x24x256.size a ≤ S2x30x40x256.size a := fun v7620 v7622 v7629 k0_hw226 => k0_hw226

def k0_off452 (i : grid0.Coords) (c0_i32_1738 : BitVec 32) : Fin 1 → Nat :=
  let arg0 : BitVec 32 := BitVec.ofNat 32 (i 0).val
  let c32_i32_1734 : BitVec 32 := 32#32
  let v7617 : BitVec 32 := Scalar.muli arg0 c32_i32_1734
  let c28_i32 : BitVec 32 := 28#32
  let v7618 : BitVec 32 := Scalar.addi v7617 c28_i32
  let c7_i32_1737 : BitVec 32 := 7#32
  let v7626 : BitVec 32 := Scalar.muli v7618 c7_i32_1737
  let v7627 : BitVec 32 := Scalar.addi v7626 c0_i32_1738
  let v7635 : Index := Scalar.indexCast v7627
  ![v7635.toNat]
def k0_off453 (v7620 : BitVec 32) (v7622 : BitVec 32) (v7666 : BitVec 32) : Fin 4 → Nat :=
  let v7667 : Index := Scalar.indexCast v7620
  let v7668 : Index := Scalar.indexCast v7666
  let v7623 : BitVec 32 := v7622
  let v7669 : Index := Scalar.indexCast v7623
  let c0_1747 : Index := 0#32
  ![v7667.toNat, v7668.toNat, v7669.toNat, 0]

def k0_chk227 (v7620 : BitVec 32) (v7622 : BitVec 32) (v7666 : BitVec 32) : Prop :=
  (∀ a, (k0_off453 v7620 v7622 v7666) a + S1x4x24x256.size a ≤ S2x30x40x256.size a)
theorem k0_off453_inb : ∀ (v7620 : BitVec 32) (v7622 : BitVec 32) (v7666 : BitVec 32) (k0_hw227 : k0_chk227 v7620 v7622 v7666), ∀ a, (k0_off453 v7620 v7622 v7666) a + S1x4x24x256.size a ≤ S2x30x40x256.size a := fun v7620 v7622 v7666 k0_hw227 => k0_hw227

def k0_off454 (i : grid0.Coords) (c1_i32_1746 : BitVec 32) : Fin 1 → Nat :=
  let arg0 : BitVec 32 := BitVec.ofNat 32 (i 0).val
  let c32_i32_1734 : BitVec 32 := 32#32
  let v7617 : BitVec 32 := Scalar.muli arg0 c32_i32_1734
  let c28_i32 : BitVec 32 := 28#32
  let v7618 : BitVec 32 := Scalar.addi v7617 c28_i32
  let c7_i32_1745 : BitVec 32 := 7#32
  let v7663 : BitVec 32 := Scalar.muli v7618 c7_i32_1745
  let v7664 : BitVec 32 := Scalar.addi v7663 c1_i32_1746
  let v7672 : Index := Scalar.indexCast v7664
  ![v7672.toNat]
def k0_off455 (v7620 : BitVec 32) (v7622 : BitVec 32) (v7703 : BitVec 32) : Fin 4 → Nat :=
  let v7704 : Index := Scalar.indexCast v7620
  let v7705 : Index := Scalar.indexCast v7703
  let v7623 : BitVec 32 := v7622
  let v7706 : Index := Scalar.indexCast v7623
  let c0_1755 : Index := 0#32
  ![v7704.toNat, v7705.toNat, v7706.toNat, 0]

def k0_chk228 (v7620 : BitVec 32) (v7622 : BitVec 32) (v7703 : BitVec 32) : Prop :=
  (∀ a, (k0_off455 v7620 v7622 v7703) a + S1x4x24x256.size a ≤ S2x30x40x256.size a)
theorem k0_off455_inb : ∀ (v7620 : BitVec 32) (v7622 : BitVec 32) (v7703 : BitVec 32) (k0_hw228 : k0_chk228 v7620 v7622 v7703), ∀ a, (k0_off455 v7620 v7622 v7703) a + S1x4x24x256.size a ≤ S2x30x40x256.size a := fun v7620 v7622 v7703 k0_hw228 => k0_hw228

def k0_off456 (i : grid0.Coords) (c2_i32_1754 : BitVec 32) : Fin 1 → Nat :=
  let arg0 : BitVec 32 := BitVec.ofNat 32 (i 0).val
  let c32_i32_1734 : BitVec 32 := 32#32
  let v7617 : BitVec 32 := Scalar.muli arg0 c32_i32_1734
  let c28_i32 : BitVec 32 := 28#32
  let v7618 : BitVec 32 := Scalar.addi v7617 c28_i32
  let c7_i32_1753 : BitVec 32 := 7#32
  let v7700 : BitVec 32 := Scalar.muli v7618 c7_i32_1753
  let v7701 : BitVec 32 := Scalar.addi v7700 c2_i32_1754
  let v7709 : Index := Scalar.indexCast v7701
  ![v7709.toNat]
def k0_off457 (v7620 : BitVec 32) (v7622 : BitVec 32) (v7740 : BitVec 32) : Fin 4 → Nat :=
  let v7741 : Index := Scalar.indexCast v7620
  let v7742 : Index := Scalar.indexCast v7740
  let v7623 : BitVec 32 := v7622
  let v7743 : Index := Scalar.indexCast v7623
  let c0_1763 : Index := 0#32
  ![v7741.toNat, v7742.toNat, v7743.toNat, 0]

def k0_chk229 (v7620 : BitVec 32) (v7622 : BitVec 32) (v7740 : BitVec 32) : Prop :=
  (∀ a, (k0_off457 v7620 v7622 v7740) a + S1x4x24x256.size a ≤ S2x30x40x256.size a)
theorem k0_off457_inb : ∀ (v7620 : BitVec 32) (v7622 : BitVec 32) (v7740 : BitVec 32) (k0_hw229 : k0_chk229 v7620 v7622 v7740), ∀ a, (k0_off457 v7620 v7622 v7740) a + S1x4x24x256.size a ≤ S2x30x40x256.size a := fun v7620 v7622 v7740 k0_hw229 => k0_hw229

def k0_off458 (i : grid0.Coords) (c3_i32_1762 : BitVec 32) : Fin 1 → Nat :=
  let arg0 : BitVec 32 := BitVec.ofNat 32 (i 0).val
  let c32_i32_1734 : BitVec 32 := 32#32
  let v7617 : BitVec 32 := Scalar.muli arg0 c32_i32_1734
  let c28_i32 : BitVec 32 := 28#32
  let v7618 : BitVec 32 := Scalar.addi v7617 c28_i32
  let c7_i32_1761 : BitVec 32 := 7#32
  let v7737 : BitVec 32 := Scalar.muli v7618 c7_i32_1761
  let v7738 : BitVec 32 := Scalar.addi v7737 c3_i32_1762
  let v7746 : Index := Scalar.indexCast v7738
  ![v7746.toNat]
def k0_off459 (v7620 : BitVec 32) (v7622 : BitVec 32) (v7777 : BitVec 32) : Fin 4 → Nat :=
  let v7778 : Index := Scalar.indexCast v7620
  let v7779 : Index := Scalar.indexCast v7777
  let v7623 : BitVec 32 := v7622
  let v7780 : Index := Scalar.indexCast v7623
  let c0_1771 : Index := 0#32
  ![v7778.toNat, v7779.toNat, v7780.toNat, 0]

def k0_chk230 (v7620 : BitVec 32) (v7622 : BitVec 32) (v7777 : BitVec 32) : Prop :=
  (∀ a, (k0_off459 v7620 v7622 v7777) a + S1x4x24x256.size a ≤ S2x30x40x256.size a)
theorem k0_off459_inb : ∀ (v7620 : BitVec 32) (v7622 : BitVec 32) (v7777 : BitVec 32) (k0_hw230 : k0_chk230 v7620 v7622 v7777), ∀ a, (k0_off459 v7620 v7622 v7777) a + S1x4x24x256.size a ≤ S2x30x40x256.size a := fun v7620 v7622 v7777 k0_hw230 => k0_hw230

def k0_off460 (i : grid0.Coords) (c4_i32_1770 : BitVec 32) : Fin 1 → Nat :=
  let arg0 : BitVec 32 := BitVec.ofNat 32 (i 0).val
  let c32_i32_1734 : BitVec 32 := 32#32
  let v7617 : BitVec 32 := Scalar.muli arg0 c32_i32_1734
  let c28_i32 : BitVec 32 := 28#32
  let v7618 : BitVec 32 := Scalar.addi v7617 c28_i32
  let c7_i32_1769 : BitVec 32 := 7#32
  let v7774 : BitVec 32 := Scalar.muli v7618 c7_i32_1769
  let v7775 : BitVec 32 := Scalar.addi v7774 c4_i32_1770
  let v7783 : Index := Scalar.indexCast v7775
  ![v7783.toNat]
def k0_off461 (v7620 : BitVec 32) (v7622 : BitVec 32) (v7814 : BitVec 32) : Fin 4 → Nat :=
  let v7815 : Index := Scalar.indexCast v7620
  let v7816 : Index := Scalar.indexCast v7814
  let v7623 : BitVec 32 := v7622
  let v7817 : Index := Scalar.indexCast v7623
  let c0_1779 : Index := 0#32
  ![v7815.toNat, v7816.toNat, v7817.toNat, 0]

def k0_chk231 (v7620 : BitVec 32) (v7622 : BitVec 32) (v7814 : BitVec 32) : Prop :=
  (∀ a, (k0_off461 v7620 v7622 v7814) a + S1x4x24x256.size a ≤ S2x30x40x256.size a)
theorem k0_off461_inb : ∀ (v7620 : BitVec 32) (v7622 : BitVec 32) (v7814 : BitVec 32) (k0_hw231 : k0_chk231 v7620 v7622 v7814), ∀ a, (k0_off461 v7620 v7622 v7814) a + S1x4x24x256.size a ≤ S2x30x40x256.size a := fun v7620 v7622 v7814 k0_hw231 => k0_hw231

def k0_off462 (i : grid0.Coords) (c5_i32_1778 : BitVec 32) : Fin 1 → Nat :=
  let arg0 : BitVec 32 := BitVec.ofNat 32 (i 0).val
  let c32_i32_1734 : BitVec 32 := 32#32
  let v7617 : BitVec 32 := Scalar.muli arg0 c32_i32_1734
  let c28_i32 : BitVec 32 := 28#32
  let v7618 : BitVec 32 := Scalar.addi v7617 c28_i32
  let c7_i32_1777 : BitVec 32 := 7#32
  let v7811 : BitVec 32 := Scalar.muli v7618 c7_i32_1777
  let v7812 : BitVec 32 := Scalar.addi v7811 c5_i32_1778
  let v7820 : Index := Scalar.indexCast v7812
  ![v7820.toNat]
def k0_off463 (v7620 : BitVec 32) (v7622 : BitVec 32) (v7851 : BitVec 32) : Fin 4 → Nat :=
  let v7852 : Index := Scalar.indexCast v7620
  let v7853 : Index := Scalar.indexCast v7851
  let v7623 : BitVec 32 := v7622
  let v7854 : Index := Scalar.indexCast v7623
  let c0_1787 : Index := 0#32
  ![v7852.toNat, v7853.toNat, v7854.toNat, 0]

def k0_chk232 (v7620 : BitVec 32) (v7622 : BitVec 32) (v7851 : BitVec 32) : Prop :=
  (∀ a, (k0_off463 v7620 v7622 v7851) a + S1x4x24x256.size a ≤ S2x30x40x256.size a)
theorem k0_off463_inb : ∀ (v7620 : BitVec 32) (v7622 : BitVec 32) (v7851 : BitVec 32) (k0_hw232 : k0_chk232 v7620 v7622 v7851), ∀ a, (k0_off463 v7620 v7622 v7851) a + S1x4x24x256.size a ≤ S2x30x40x256.size a := fun v7620 v7622 v7851 k0_hw232 => k0_hw232

def k0_off464 (i : grid0.Coords) : Fin 1 → Nat :=
  let arg0 : BitVec 32 := BitVec.ofNat 32 (i 0).val
  let c32_i32_1734 : BitVec 32 := 32#32
  let v7617 : BitVec 32 := Scalar.muli arg0 c32_i32_1734
  let c28_i32 : BitVec 32 := 28#32
  let v7618 : BitVec 32 := Scalar.addi v7617 c28_i32
  let c7_i32_1785 : BitVec 32 := 7#32
  let v7848 : BitVec 32 := Scalar.muli v7618 c7_i32_1785
  let c6_i32_1786 : BitVec 32 := 6#32
  let v7849 : BitVec 32 := Scalar.addi v7848 c6_i32_1786
  let v7857 : Index := Scalar.indexCast v7849
  ![v7857.toNat]
def k0_off465 (i : grid0.Coords) : Fin 1 → Nat :=
  let arg0 : BitVec 32 := BitVec.ofNat 32 (i 0).val
  let c32_i32_1796 : BitVec 32 := 32#32
  let v7889 : BitVec 32 := Scalar.muli arg0 c32_i32_1796
  let c29_i32 : BitVec 32 := 29#32
  let v7890 : BitVec 32 := Scalar.addi v7889 c29_i32
  let v7891 : Index := Scalar.indexCast v7890
  ![v7891.toNat]
def k0_mult30 (v7894 : BitVec 32) : BitVec 32 :=
  v7894

def k0_chk233 (v7894 : BitVec 32) : Prop :=
  (8 ∣ (k0_mult30 v7894).toNat)
theorem k0_mult30_dvd : ∀ (v7894 : BitVec 32) (k0_hw233 : k0_chk233 v7894), 8 ∣ (k0_mult30 v7894).toNat := fun v7894 k0_hw233 => k0_hw233

def k0_off466 (i : grid0.Coords) : Fin 1 → Nat :=
  let arg0 : BitVec 32 := BitVec.ofNat 32 (i 0).val
  let c32_i32_1796 : BitVec 32 := 32#32
  let v7889 : BitVec 32 := Scalar.muli arg0 c32_i32_1796
  let c29_i32 : BitVec 32 := 29#32
  let v7890 : BitVec 32 := Scalar.addi v7889 c29_i32
  let c7_i32_1799 : BitVec 32 := 7#32
  let v7898 : BitVec 32 := Scalar.muli v7890 c7_i32_1799
  let c0_i32_1800 : BitVec 32 := 0#32
  let v7899 : BitVec 32 := Scalar.addi v7898 c0_i32_1800
  let v7900 : Index := Scalar.indexCast v7899
  ![v7900.toNat]
def k0_off467 (v7892 : BitVec 32) (v7894 : BitVec 32) (v7901 : BitVec 32) : Fin 4 → Nat :=
  let v7902 : Index := Scalar.indexCast v7892
  let v7903 : Index := Scalar.indexCast v7901
  let v7895 : BitVec 32 := v7894
  let v7904 : Index := Scalar.indexCast v7895
  let c0_1801 : Index := 0#32
  ![v7902.toNat, v7903.toNat, v7904.toNat, 0]

def k0_chk234 (v7892 : BitVec 32) (v7894 : BitVec 32) (v7901 : BitVec 32) : Prop :=
  (∀ a, (k0_off467 v7892 v7894 v7901) a + S1x4x24x256.size a ≤ S2x30x40x256.size a)
theorem k0_off467_inb : ∀ (v7892 : BitVec 32) (v7894 : BitVec 32) (v7901 : BitVec 32) (k0_hw234 : k0_chk234 v7892 v7894 v7901), ∀ a, (k0_off467 v7892 v7894 v7901) a + S1x4x24x256.size a ≤ S2x30x40x256.size a := fun v7892 v7894 v7901 k0_hw234 => k0_hw234

def k0_off468 (i : grid0.Coords) (c0_i32_1800 : BitVec 32) : Fin 1 → Nat :=
  let arg0 : BitVec 32 := BitVec.ofNat 32 (i 0).val
  let c32_i32_1796 : BitVec 32 := 32#32
  let v7889 : BitVec 32 := Scalar.muli arg0 c32_i32_1796
  let c29_i32 : BitVec 32 := 29#32
  let v7890 : BitVec 32 := Scalar.addi v7889 c29_i32
  let c7_i32_1799 : BitVec 32 := 7#32
  let v7898 : BitVec 32 := Scalar.muli v7890 c7_i32_1799
  let v7899 : BitVec 32 := Scalar.addi v7898 c0_i32_1800
  let v7907 : Index := Scalar.indexCast v7899
  ![v7907.toNat]
def k0_off469 (v7892 : BitVec 32) (v7894 : BitVec 32) (v7938 : BitVec 32) : Fin 4 → Nat :=
  let v7939 : Index := Scalar.indexCast v7892
  let v7940 : Index := Scalar.indexCast v7938
  let v7895 : BitVec 32 := v7894
  let v7941 : Index := Scalar.indexCast v7895
  let c0_1809 : Index := 0#32
  ![v7939.toNat, v7940.toNat, v7941.toNat, 0]

def k0_chk235 (v7892 : BitVec 32) (v7894 : BitVec 32) (v7938 : BitVec 32) : Prop :=
  (∀ a, (k0_off469 v7892 v7894 v7938) a + S1x4x24x256.size a ≤ S2x30x40x256.size a)
theorem k0_off469_inb : ∀ (v7892 : BitVec 32) (v7894 : BitVec 32) (v7938 : BitVec 32) (k0_hw235 : k0_chk235 v7892 v7894 v7938), ∀ a, (k0_off469 v7892 v7894 v7938) a + S1x4x24x256.size a ≤ S2x30x40x256.size a := fun v7892 v7894 v7938 k0_hw235 => k0_hw235

def k0_off470 (i : grid0.Coords) (c1_i32_1808 : BitVec 32) : Fin 1 → Nat :=
  let arg0 : BitVec 32 := BitVec.ofNat 32 (i 0).val
  let c32_i32_1796 : BitVec 32 := 32#32
  let v7889 : BitVec 32 := Scalar.muli arg0 c32_i32_1796
  let c29_i32 : BitVec 32 := 29#32
  let v7890 : BitVec 32 := Scalar.addi v7889 c29_i32
  let c7_i32_1807 : BitVec 32 := 7#32
  let v7935 : BitVec 32 := Scalar.muli v7890 c7_i32_1807
  let v7936 : BitVec 32 := Scalar.addi v7935 c1_i32_1808
  let v7944 : Index := Scalar.indexCast v7936
  ![v7944.toNat]
def k0_off471 (v7892 : BitVec 32) (v7894 : BitVec 32) (v7975 : BitVec 32) : Fin 4 → Nat :=
  let v7976 : Index := Scalar.indexCast v7892
  let v7977 : Index := Scalar.indexCast v7975
  let v7895 : BitVec 32 := v7894
  let v7978 : Index := Scalar.indexCast v7895
  let c0_1817 : Index := 0#32
  ![v7976.toNat, v7977.toNat, v7978.toNat, 0]

def k0_chk236 (v7892 : BitVec 32) (v7894 : BitVec 32) (v7975 : BitVec 32) : Prop :=
  (∀ a, (k0_off471 v7892 v7894 v7975) a + S1x4x24x256.size a ≤ S2x30x40x256.size a)
theorem k0_off471_inb : ∀ (v7892 : BitVec 32) (v7894 : BitVec 32) (v7975 : BitVec 32) (k0_hw236 : k0_chk236 v7892 v7894 v7975), ∀ a, (k0_off471 v7892 v7894 v7975) a + S1x4x24x256.size a ≤ S2x30x40x256.size a := fun v7892 v7894 v7975 k0_hw236 => k0_hw236

def k0_off472 (i : grid0.Coords) (c2_i32_1816 : BitVec 32) : Fin 1 → Nat :=
  let arg0 : BitVec 32 := BitVec.ofNat 32 (i 0).val
  let c32_i32_1796 : BitVec 32 := 32#32
  let v7889 : BitVec 32 := Scalar.muli arg0 c32_i32_1796
  let c29_i32 : BitVec 32 := 29#32
  let v7890 : BitVec 32 := Scalar.addi v7889 c29_i32
  let c7_i32_1815 : BitVec 32 := 7#32
  let v7972 : BitVec 32 := Scalar.muli v7890 c7_i32_1815
  let v7973 : BitVec 32 := Scalar.addi v7972 c2_i32_1816
  let v7981 : Index := Scalar.indexCast v7973
  ![v7981.toNat]
def k0_off473 (v7892 : BitVec 32) (v7894 : BitVec 32) (v8012 : BitVec 32) : Fin 4 → Nat :=
  let v8013 : Index := Scalar.indexCast v7892
  let v8014 : Index := Scalar.indexCast v8012
  let v7895 : BitVec 32 := v7894
  let v8015 : Index := Scalar.indexCast v7895
  let c0_1825 : Index := 0#32
  ![v8013.toNat, v8014.toNat, v8015.toNat, 0]

def k0_chk237 (v7892 : BitVec 32) (v7894 : BitVec 32) (v8012 : BitVec 32) : Prop :=
  (∀ a, (k0_off473 v7892 v7894 v8012) a + S1x4x24x256.size a ≤ S2x30x40x256.size a)
theorem k0_off473_inb : ∀ (v7892 : BitVec 32) (v7894 : BitVec 32) (v8012 : BitVec 32) (k0_hw237 : k0_chk237 v7892 v7894 v8012), ∀ a, (k0_off473 v7892 v7894 v8012) a + S1x4x24x256.size a ≤ S2x30x40x256.size a := fun v7892 v7894 v8012 k0_hw237 => k0_hw237

def k0_off474 (i : grid0.Coords) (c3_i32_1824 : BitVec 32) : Fin 1 → Nat :=
  let arg0 : BitVec 32 := BitVec.ofNat 32 (i 0).val
  let c32_i32_1796 : BitVec 32 := 32#32
  let v7889 : BitVec 32 := Scalar.muli arg0 c32_i32_1796
  let c29_i32 : BitVec 32 := 29#32
  let v7890 : BitVec 32 := Scalar.addi v7889 c29_i32
  let c7_i32_1823 : BitVec 32 := 7#32
  let v8009 : BitVec 32 := Scalar.muli v7890 c7_i32_1823
  let v8010 : BitVec 32 := Scalar.addi v8009 c3_i32_1824
  let v8018 : Index := Scalar.indexCast v8010
  ![v8018.toNat]
def k0_off475 (v7892 : BitVec 32) (v7894 : BitVec 32) (v8049 : BitVec 32) : Fin 4 → Nat :=
  let v8050 : Index := Scalar.indexCast v7892
  let v8051 : Index := Scalar.indexCast v8049
  let v7895 : BitVec 32 := v7894
  let v8052 : Index := Scalar.indexCast v7895
  let c0_1833 : Index := 0#32
  ![v8050.toNat, v8051.toNat, v8052.toNat, 0]

def k0_chk238 (v7892 : BitVec 32) (v7894 : BitVec 32) (v8049 : BitVec 32) : Prop :=
  (∀ a, (k0_off475 v7892 v7894 v8049) a + S1x4x24x256.size a ≤ S2x30x40x256.size a)
theorem k0_off475_inb : ∀ (v7892 : BitVec 32) (v7894 : BitVec 32) (v8049 : BitVec 32) (k0_hw238 : k0_chk238 v7892 v7894 v8049), ∀ a, (k0_off475 v7892 v7894 v8049) a + S1x4x24x256.size a ≤ S2x30x40x256.size a := fun v7892 v7894 v8049 k0_hw238 => k0_hw238

def k0_off476 (i : grid0.Coords) (c4_i32_1832 : BitVec 32) : Fin 1 → Nat :=
  let arg0 : BitVec 32 := BitVec.ofNat 32 (i 0).val
  let c32_i32_1796 : BitVec 32 := 32#32
  let v7889 : BitVec 32 := Scalar.muli arg0 c32_i32_1796
  let c29_i32 : BitVec 32 := 29#32
  let v7890 : BitVec 32 := Scalar.addi v7889 c29_i32
  let c7_i32_1831 : BitVec 32 := 7#32
  let v8046 : BitVec 32 := Scalar.muli v7890 c7_i32_1831
  let v8047 : BitVec 32 := Scalar.addi v8046 c4_i32_1832
  let v8055 : Index := Scalar.indexCast v8047
  ![v8055.toNat]
def k0_off477 (v7892 : BitVec 32) (v7894 : BitVec 32) (v8086 : BitVec 32) : Fin 4 → Nat :=
  let v8087 : Index := Scalar.indexCast v7892
  let v8088 : Index := Scalar.indexCast v8086
  let v7895 : BitVec 32 := v7894
  let v8089 : Index := Scalar.indexCast v7895
  let c0_1841 : Index := 0#32
  ![v8087.toNat, v8088.toNat, v8089.toNat, 0]

def k0_chk239 (v7892 : BitVec 32) (v7894 : BitVec 32) (v8086 : BitVec 32) : Prop :=
  (∀ a, (k0_off477 v7892 v7894 v8086) a + S1x4x24x256.size a ≤ S2x30x40x256.size a)
theorem k0_off477_inb : ∀ (v7892 : BitVec 32) (v7894 : BitVec 32) (v8086 : BitVec 32) (k0_hw239 : k0_chk239 v7892 v7894 v8086), ∀ a, (k0_off477 v7892 v7894 v8086) a + S1x4x24x256.size a ≤ S2x30x40x256.size a := fun v7892 v7894 v8086 k0_hw239 => k0_hw239

def k0_off478 (i : grid0.Coords) (c5_i32_1840 : BitVec 32) : Fin 1 → Nat :=
  let arg0 : BitVec 32 := BitVec.ofNat 32 (i 0).val
  let c32_i32_1796 : BitVec 32 := 32#32
  let v7889 : BitVec 32 := Scalar.muli arg0 c32_i32_1796
  let c29_i32 : BitVec 32 := 29#32
  let v7890 : BitVec 32 := Scalar.addi v7889 c29_i32
  let c7_i32_1839 : BitVec 32 := 7#32
  let v8083 : BitVec 32 := Scalar.muli v7890 c7_i32_1839
  let v8084 : BitVec 32 := Scalar.addi v8083 c5_i32_1840
  let v8092 : Index := Scalar.indexCast v8084
  ![v8092.toNat]
def k0_off479 (v7892 : BitVec 32) (v7894 : BitVec 32) (v8123 : BitVec 32) : Fin 4 → Nat :=
  let v8124 : Index := Scalar.indexCast v7892
  let v8125 : Index := Scalar.indexCast v8123
  let v7895 : BitVec 32 := v7894
  let v8126 : Index := Scalar.indexCast v7895
  let c0_1849 : Index := 0#32
  ![v8124.toNat, v8125.toNat, v8126.toNat, 0]

def k0_chk240 (v7892 : BitVec 32) (v7894 : BitVec 32) (v8123 : BitVec 32) : Prop :=
  (∀ a, (k0_off479 v7892 v7894 v8123) a + S1x4x24x256.size a ≤ S2x30x40x256.size a)
theorem k0_off479_inb : ∀ (v7892 : BitVec 32) (v7894 : BitVec 32) (v8123 : BitVec 32) (k0_hw240 : k0_chk240 v7892 v7894 v8123), ∀ a, (k0_off479 v7892 v7894 v8123) a + S1x4x24x256.size a ≤ S2x30x40x256.size a := fun v7892 v7894 v8123 k0_hw240 => k0_hw240

def k0_off480 (i : grid0.Coords) : Fin 1 → Nat :=
  let arg0 : BitVec 32 := BitVec.ofNat 32 (i 0).val
  let c32_i32_1796 : BitVec 32 := 32#32
  let v7889 : BitVec 32 := Scalar.muli arg0 c32_i32_1796
  let c29_i32 : BitVec 32 := 29#32
  let v7890 : BitVec 32 := Scalar.addi v7889 c29_i32
  let c7_i32_1847 : BitVec 32 := 7#32
  let v8120 : BitVec 32 := Scalar.muli v7890 c7_i32_1847
  let c6_i32_1848 : BitVec 32 := 6#32
  let v8121 : BitVec 32 := Scalar.addi v8120 c6_i32_1848
  let v8129 : Index := Scalar.indexCast v8121
  ![v8129.toNat]
def k0_off481 (i : grid0.Coords) : Fin 1 → Nat :=
  let arg0 : BitVec 32 := BitVec.ofNat 32 (i 0).val
  let c32_i32_1858 : BitVec 32 := 32#32
  let v8161 : BitVec 32 := Scalar.muli arg0 c32_i32_1858
  let c30_i32 : BitVec 32 := 30#32
  let v8162 : BitVec 32 := Scalar.addi v8161 c30_i32
  let v8163 : Index := Scalar.indexCast v8162
  ![v8163.toNat]
def k0_mult31 (v8166 : BitVec 32) : BitVec 32 :=
  v8166

def k0_chk241 (v8166 : BitVec 32) : Prop :=
  (8 ∣ (k0_mult31 v8166).toNat)
theorem k0_mult31_dvd : ∀ (v8166 : BitVec 32) (k0_hw241 : k0_chk241 v8166), 8 ∣ (k0_mult31 v8166).toNat := fun v8166 k0_hw241 => k0_hw241

def k0_off482 (i : grid0.Coords) : Fin 1 → Nat :=
  let arg0 : BitVec 32 := BitVec.ofNat 32 (i 0).val
  let c32_i32_1858 : BitVec 32 := 32#32
  let v8161 : BitVec 32 := Scalar.muli arg0 c32_i32_1858
  let c30_i32 : BitVec 32 := 30#32
  let v8162 : BitVec 32 := Scalar.addi v8161 c30_i32
  let c7_i32_1861 : BitVec 32 := 7#32
  let v8170 : BitVec 32 := Scalar.muli v8162 c7_i32_1861
  let c0_i32_1862 : BitVec 32 := 0#32
  let v8171 : BitVec 32 := Scalar.addi v8170 c0_i32_1862
  let v8172 : Index := Scalar.indexCast v8171
  ![v8172.toNat]
def k0_off483 (v8164 : BitVec 32) (v8166 : BitVec 32) (v8173 : BitVec 32) : Fin 4 → Nat :=
  let v8174 : Index := Scalar.indexCast v8164
  let v8175 : Index := Scalar.indexCast v8173
  let v8167 : BitVec 32 := v8166
  let v8176 : Index := Scalar.indexCast v8167
  let c0_1863 : Index := 0#32
  ![v8174.toNat, v8175.toNat, v8176.toNat, 0]

def k0_chk242 (v8164 : BitVec 32) (v8166 : BitVec 32) (v8173 : BitVec 32) : Prop :=
  (∀ a, (k0_off483 v8164 v8166 v8173) a + S1x4x24x256.size a ≤ S2x30x40x256.size a)
theorem k0_off483_inb : ∀ (v8164 : BitVec 32) (v8166 : BitVec 32) (v8173 : BitVec 32) (k0_hw242 : k0_chk242 v8164 v8166 v8173), ∀ a, (k0_off483 v8164 v8166 v8173) a + S1x4x24x256.size a ≤ S2x30x40x256.size a := fun v8164 v8166 v8173 k0_hw242 => k0_hw242

def k0_off484 (i : grid0.Coords) (c0_i32_1862 : BitVec 32) : Fin 1 → Nat :=
  let arg0 : BitVec 32 := BitVec.ofNat 32 (i 0).val
  let c32_i32_1858 : BitVec 32 := 32#32
  let v8161 : BitVec 32 := Scalar.muli arg0 c32_i32_1858
  let c30_i32 : BitVec 32 := 30#32
  let v8162 : BitVec 32 := Scalar.addi v8161 c30_i32
  let c7_i32_1861 : BitVec 32 := 7#32
  let v8170 : BitVec 32 := Scalar.muli v8162 c7_i32_1861
  let v8171 : BitVec 32 := Scalar.addi v8170 c0_i32_1862
  let v8179 : Index := Scalar.indexCast v8171
  ![v8179.toNat]
def k0_off485 (v8164 : BitVec 32) (v8166 : BitVec 32) (v8210 : BitVec 32) : Fin 4 → Nat :=
  let v8211 : Index := Scalar.indexCast v8164
  let v8212 : Index := Scalar.indexCast v8210
  let v8167 : BitVec 32 := v8166
  let v8213 : Index := Scalar.indexCast v8167
  let c0_1871 : Index := 0#32
  ![v8211.toNat, v8212.toNat, v8213.toNat, 0]

def k0_chk243 (v8164 : BitVec 32) (v8166 : BitVec 32) (v8210 : BitVec 32) : Prop :=
  (∀ a, (k0_off485 v8164 v8166 v8210) a + S1x4x24x256.size a ≤ S2x30x40x256.size a)
theorem k0_off485_inb : ∀ (v8164 : BitVec 32) (v8166 : BitVec 32) (v8210 : BitVec 32) (k0_hw243 : k0_chk243 v8164 v8166 v8210), ∀ a, (k0_off485 v8164 v8166 v8210) a + S1x4x24x256.size a ≤ S2x30x40x256.size a := fun v8164 v8166 v8210 k0_hw243 => k0_hw243

def k0_off486 (i : grid0.Coords) (c1_i32_1870 : BitVec 32) : Fin 1 → Nat :=
  let arg0 : BitVec 32 := BitVec.ofNat 32 (i 0).val
  let c32_i32_1858 : BitVec 32 := 32#32
  let v8161 : BitVec 32 := Scalar.muli arg0 c32_i32_1858
  let c30_i32 : BitVec 32 := 30#32
  let v8162 : BitVec 32 := Scalar.addi v8161 c30_i32
  let c7_i32_1869 : BitVec 32 := 7#32
  let v8207 : BitVec 32 := Scalar.muli v8162 c7_i32_1869
  let v8208 : BitVec 32 := Scalar.addi v8207 c1_i32_1870
  let v8216 : Index := Scalar.indexCast v8208
  ![v8216.toNat]
def k0_off487 (v8164 : BitVec 32) (v8166 : BitVec 32) (v8247 : BitVec 32) : Fin 4 → Nat :=
  let v8248 : Index := Scalar.indexCast v8164
  let v8249 : Index := Scalar.indexCast v8247
  let v8167 : BitVec 32 := v8166
  let v8250 : Index := Scalar.indexCast v8167
  let c0_1879 : Index := 0#32
  ![v8248.toNat, v8249.toNat, v8250.toNat, 0]

def k0_chk244 (v8164 : BitVec 32) (v8166 : BitVec 32) (v8247 : BitVec 32) : Prop :=
  (∀ a, (k0_off487 v8164 v8166 v8247) a + S1x4x24x256.size a ≤ S2x30x40x256.size a)
theorem k0_off487_inb : ∀ (v8164 : BitVec 32) (v8166 : BitVec 32) (v8247 : BitVec 32) (k0_hw244 : k0_chk244 v8164 v8166 v8247), ∀ a, (k0_off487 v8164 v8166 v8247) a + S1x4x24x256.size a ≤ S2x30x40x256.size a := fun v8164 v8166 v8247 k0_hw244 => k0_hw244

def k0_off488 (i : grid0.Coords) (c2_i32_1878 : BitVec 32) : Fin 1 → Nat :=
  let arg0 : BitVec 32 := BitVec.ofNat 32 (i 0).val
  let c32_i32_1858 : BitVec 32 := 32#32
  let v8161 : BitVec 32 := Scalar.muli arg0 c32_i32_1858
  let c30_i32 : BitVec 32 := 30#32
  let v8162 : BitVec 32 := Scalar.addi v8161 c30_i32
  let c7_i32_1877 : BitVec 32 := 7#32
  let v8244 : BitVec 32 := Scalar.muli v8162 c7_i32_1877
  let v8245 : BitVec 32 := Scalar.addi v8244 c2_i32_1878
  let v8253 : Index := Scalar.indexCast v8245
  ![v8253.toNat]
def k0_off489 (v8164 : BitVec 32) (v8166 : BitVec 32) (v8284 : BitVec 32) : Fin 4 → Nat :=
  let v8285 : Index := Scalar.indexCast v8164
  let v8286 : Index := Scalar.indexCast v8284
  let v8167 : BitVec 32 := v8166
  let v8287 : Index := Scalar.indexCast v8167
  let c0_1887 : Index := 0#32
  ![v8285.toNat, v8286.toNat, v8287.toNat, 0]

def k0_chk245 (v8164 : BitVec 32) (v8166 : BitVec 32) (v8284 : BitVec 32) : Prop :=
  (∀ a, (k0_off489 v8164 v8166 v8284) a + S1x4x24x256.size a ≤ S2x30x40x256.size a)
theorem k0_off489_inb : ∀ (v8164 : BitVec 32) (v8166 : BitVec 32) (v8284 : BitVec 32) (k0_hw245 : k0_chk245 v8164 v8166 v8284), ∀ a, (k0_off489 v8164 v8166 v8284) a + S1x4x24x256.size a ≤ S2x30x40x256.size a := fun v8164 v8166 v8284 k0_hw245 => k0_hw245

def k0_off490 (i : grid0.Coords) (c3_i32_1886 : BitVec 32) : Fin 1 → Nat :=
  let arg0 : BitVec 32 := BitVec.ofNat 32 (i 0).val
  let c32_i32_1858 : BitVec 32 := 32#32
  let v8161 : BitVec 32 := Scalar.muli arg0 c32_i32_1858
  let c30_i32 : BitVec 32 := 30#32
  let v8162 : BitVec 32 := Scalar.addi v8161 c30_i32
  let c7_i32_1885 : BitVec 32 := 7#32
  let v8281 : BitVec 32 := Scalar.muli v8162 c7_i32_1885
  let v8282 : BitVec 32 := Scalar.addi v8281 c3_i32_1886
  let v8290 : Index := Scalar.indexCast v8282
  ![v8290.toNat]
def k0_off491 (v8164 : BitVec 32) (v8166 : BitVec 32) (v8321 : BitVec 32) : Fin 4 → Nat :=
  let v8322 : Index := Scalar.indexCast v8164
  let v8323 : Index := Scalar.indexCast v8321
  let v8167 : BitVec 32 := v8166
  let v8324 : Index := Scalar.indexCast v8167
  let c0_1895 : Index := 0#32
  ![v8322.toNat, v8323.toNat, v8324.toNat, 0]

def k0_chk246 (v8164 : BitVec 32) (v8166 : BitVec 32) (v8321 : BitVec 32) : Prop :=
  (∀ a, (k0_off491 v8164 v8166 v8321) a + S1x4x24x256.size a ≤ S2x30x40x256.size a)
theorem k0_off491_inb : ∀ (v8164 : BitVec 32) (v8166 : BitVec 32) (v8321 : BitVec 32) (k0_hw246 : k0_chk246 v8164 v8166 v8321), ∀ a, (k0_off491 v8164 v8166 v8321) a + S1x4x24x256.size a ≤ S2x30x40x256.size a := fun v8164 v8166 v8321 k0_hw246 => k0_hw246

def k0_off492 (i : grid0.Coords) (c4_i32_1894 : BitVec 32) : Fin 1 → Nat :=
  let arg0 : BitVec 32 := BitVec.ofNat 32 (i 0).val
  let c32_i32_1858 : BitVec 32 := 32#32
  let v8161 : BitVec 32 := Scalar.muli arg0 c32_i32_1858
  let c30_i32 : BitVec 32 := 30#32
  let v8162 : BitVec 32 := Scalar.addi v8161 c30_i32
  let c7_i32_1893 : BitVec 32 := 7#32
  let v8318 : BitVec 32 := Scalar.muli v8162 c7_i32_1893
  let v8319 : BitVec 32 := Scalar.addi v8318 c4_i32_1894
  let v8327 : Index := Scalar.indexCast v8319
  ![v8327.toNat]
def k0_off493 (v8164 : BitVec 32) (v8166 : BitVec 32) (v8358 : BitVec 32) : Fin 4 → Nat :=
  let v8359 : Index := Scalar.indexCast v8164
  let v8360 : Index := Scalar.indexCast v8358
  let v8167 : BitVec 32 := v8166
  let v8361 : Index := Scalar.indexCast v8167
  let c0_1903 : Index := 0#32
  ![v8359.toNat, v8360.toNat, v8361.toNat, 0]

def k0_chk247 (v8164 : BitVec 32) (v8166 : BitVec 32) (v8358 : BitVec 32) : Prop :=
  (∀ a, (k0_off493 v8164 v8166 v8358) a + S1x4x24x256.size a ≤ S2x30x40x256.size a)
theorem k0_off493_inb : ∀ (v8164 : BitVec 32) (v8166 : BitVec 32) (v8358 : BitVec 32) (k0_hw247 : k0_chk247 v8164 v8166 v8358), ∀ a, (k0_off493 v8164 v8166 v8358) a + S1x4x24x256.size a ≤ S2x30x40x256.size a := fun v8164 v8166 v8358 k0_hw247 => k0_hw247

def k0_off494 (i : grid0.Coords) (c5_i32_1902 : BitVec 32) : Fin 1 → Nat :=
  let arg0 : BitVec 32 := BitVec.ofNat 32 (i 0).val
  let c32_i32_1858 : BitVec 32 := 32#32
  let v8161 : BitVec 32 := Scalar.muli arg0 c32_i32_1858
  let c30_i32 : BitVec 32 := 30#32
  let v8162 : BitVec 32 := Scalar.addi v8161 c30_i32
  let c7_i32_1901 : BitVec 32 := 7#32
  let v8355 : BitVec 32 := Scalar.muli v8162 c7_i32_1901
  let v8356 : BitVec 32 := Scalar.addi v8355 c5_i32_1902
  let v8364 : Index := Scalar.indexCast v8356
  ![v8364.toNat]
def k0_off495 (v8164 : BitVec 32) (v8166 : BitVec 32) (v8395 : BitVec 32) : Fin 4 → Nat :=
  let v8396 : Index := Scalar.indexCast v8164
  let v8397 : Index := Scalar.indexCast v8395
  let v8167 : BitVec 32 := v8166
  let v8398 : Index := Scalar.indexCast v8167
  let c0_1911 : Index := 0#32
  ![v8396.toNat, v8397.toNat, v8398.toNat, 0]

def k0_chk248 (v8164 : BitVec 32) (v8166 : BitVec 32) (v8395 : BitVec 32) : Prop :=
  (∀ a, (k0_off495 v8164 v8166 v8395) a + S1x4x24x256.size a ≤ S2x30x40x256.size a)
theorem k0_off495_inb : ∀ (v8164 : BitVec 32) (v8166 : BitVec 32) (v8395 : BitVec 32) (k0_hw248 : k0_chk248 v8164 v8166 v8395), ∀ a, (k0_off495 v8164 v8166 v8395) a + S1x4x24x256.size a ≤ S2x30x40x256.size a := fun v8164 v8166 v8395 k0_hw248 => k0_hw248

def k0_off496 (i : grid0.Coords) : Fin 1 → Nat :=
  let arg0 : BitVec 32 := BitVec.ofNat 32 (i 0).val
  let c32_i32_1858 : BitVec 32 := 32#32
  let v8161 : BitVec 32 := Scalar.muli arg0 c32_i32_1858
  let c30_i32 : BitVec 32 := 30#32
  let v8162 : BitVec 32 := Scalar.addi v8161 c30_i32
  let c7_i32_1909 : BitVec 32 := 7#32
  let v8392 : BitVec 32 := Scalar.muli v8162 c7_i32_1909
  let c6_i32_1910 : BitVec 32 := 6#32
  let v8393 : BitVec 32 := Scalar.addi v8392 c6_i32_1910
  let v8401 : Index := Scalar.indexCast v8393
  ![v8401.toNat]
def k0_off497 (i : grid0.Coords) : Fin 1 → Nat :=
  let arg0 : BitVec 32 := BitVec.ofNat 32 (i 0).val
  let c32_i32_1920 : BitVec 32 := 32#32
  let v8433 : BitVec 32 := Scalar.muli arg0 c32_i32_1920
  let c31_i32 : BitVec 32 := 31#32
  let v8434 : BitVec 32 := Scalar.addi v8433 c31_i32
  let v8435 : Index := Scalar.indexCast v8434
  ![v8435.toNat]
def k0_mult32 (v8438 : BitVec 32) : BitVec 32 :=
  v8438

def k0_chk249 (v8438 : BitVec 32) : Prop :=
  (8 ∣ (k0_mult32 v8438).toNat)
theorem k0_mult32_dvd : ∀ (v8438 : BitVec 32) (k0_hw249 : k0_chk249 v8438), 8 ∣ (k0_mult32 v8438).toNat := fun v8438 k0_hw249 => k0_hw249

def k0_off498 (i : grid0.Coords) : Fin 1 → Nat :=
  let arg0 : BitVec 32 := BitVec.ofNat 32 (i 0).val
  let c32_i32_1920 : BitVec 32 := 32#32
  let v8433 : BitVec 32 := Scalar.muli arg0 c32_i32_1920
  let c31_i32 : BitVec 32 := 31#32
  let v8434 : BitVec 32 := Scalar.addi v8433 c31_i32
  let c7_i32_1923 : BitVec 32 := 7#32
  let v8442 : BitVec 32 := Scalar.muli v8434 c7_i32_1923
  let c0_i32_1924 : BitVec 32 := 0#32
  let v8443 : BitVec 32 := Scalar.addi v8442 c0_i32_1924
  let v8444 : Index := Scalar.indexCast v8443
  ![v8444.toNat]
def k0_off499 (v8436 : BitVec 32) (v8438 : BitVec 32) (v8445 : BitVec 32) : Fin 4 → Nat :=
  let v8446 : Index := Scalar.indexCast v8436
  let v8447 : Index := Scalar.indexCast v8445
  let v8439 : BitVec 32 := v8438
  let v8448 : Index := Scalar.indexCast v8439
  let c0_1925 : Index := 0#32
  ![v8446.toNat, v8447.toNat, v8448.toNat, 0]

def k0_chk250 (v8436 : BitVec 32) (v8438 : BitVec 32) (v8445 : BitVec 32) : Prop :=
  (∀ a, (k0_off499 v8436 v8438 v8445) a + S1x4x24x256.size a ≤ S2x30x40x256.size a)
theorem k0_off499_inb : ∀ (v8436 : BitVec 32) (v8438 : BitVec 32) (v8445 : BitVec 32) (k0_hw250 : k0_chk250 v8436 v8438 v8445), ∀ a, (k0_off499 v8436 v8438 v8445) a + S1x4x24x256.size a ≤ S2x30x40x256.size a := fun v8436 v8438 v8445 k0_hw250 => k0_hw250

def k0_off500 (i : grid0.Coords) (c0_i32_1924 : BitVec 32) : Fin 1 → Nat :=
  let arg0 : BitVec 32 := BitVec.ofNat 32 (i 0).val
  let c32_i32_1920 : BitVec 32 := 32#32
  let v8433 : BitVec 32 := Scalar.muli arg0 c32_i32_1920
  let c31_i32 : BitVec 32 := 31#32
  let v8434 : BitVec 32 := Scalar.addi v8433 c31_i32
  let c7_i32_1923 : BitVec 32 := 7#32
  let v8442 : BitVec 32 := Scalar.muli v8434 c7_i32_1923
  let v8443 : BitVec 32 := Scalar.addi v8442 c0_i32_1924
  let v8451 : Index := Scalar.indexCast v8443
  ![v8451.toNat]
def k0_off501 (v8436 : BitVec 32) (v8438 : BitVec 32) (v8482 : BitVec 32) : Fin 4 → Nat :=
  let v8483 : Index := Scalar.indexCast v8436
  let v8484 : Index := Scalar.indexCast v8482
  let v8439 : BitVec 32 := v8438
  let v8485 : Index := Scalar.indexCast v8439
  let c0_1933 : Index := 0#32
  ![v8483.toNat, v8484.toNat, v8485.toNat, 0]

def k0_chk251 (v8436 : BitVec 32) (v8438 : BitVec 32) (v8482 : BitVec 32) : Prop :=
  (∀ a, (k0_off501 v8436 v8438 v8482) a + S1x4x24x256.size a ≤ S2x30x40x256.size a)
theorem k0_off501_inb : ∀ (v8436 : BitVec 32) (v8438 : BitVec 32) (v8482 : BitVec 32) (k0_hw251 : k0_chk251 v8436 v8438 v8482), ∀ a, (k0_off501 v8436 v8438 v8482) a + S1x4x24x256.size a ≤ S2x30x40x256.size a := fun v8436 v8438 v8482 k0_hw251 => k0_hw251

def k0_off502 (i : grid0.Coords) (c1_i32_1932 : BitVec 32) : Fin 1 → Nat :=
  let arg0 : BitVec 32 := BitVec.ofNat 32 (i 0).val
  let c32_i32_1920 : BitVec 32 := 32#32
  let v8433 : BitVec 32 := Scalar.muli arg0 c32_i32_1920
  let c31_i32 : BitVec 32 := 31#32
  let v8434 : BitVec 32 := Scalar.addi v8433 c31_i32
  let c7_i32_1931 : BitVec 32 := 7#32
  let v8479 : BitVec 32 := Scalar.muli v8434 c7_i32_1931
  let v8480 : BitVec 32 := Scalar.addi v8479 c1_i32_1932
  let v8488 : Index := Scalar.indexCast v8480
  ![v8488.toNat]
def k0_off503 (v8436 : BitVec 32) (v8438 : BitVec 32) (v8519 : BitVec 32) : Fin 4 → Nat :=
  let v8520 : Index := Scalar.indexCast v8436
  let v8521 : Index := Scalar.indexCast v8519
  let v8439 : BitVec 32 := v8438
  let v8522 : Index := Scalar.indexCast v8439
  let c0_1941 : Index := 0#32
  ![v8520.toNat, v8521.toNat, v8522.toNat, 0]

def k0_chk252 (v8436 : BitVec 32) (v8438 : BitVec 32) (v8519 : BitVec 32) : Prop :=
  (∀ a, (k0_off503 v8436 v8438 v8519) a + S1x4x24x256.size a ≤ S2x30x40x256.size a)
theorem k0_off503_inb : ∀ (v8436 : BitVec 32) (v8438 : BitVec 32) (v8519 : BitVec 32) (k0_hw252 : k0_chk252 v8436 v8438 v8519), ∀ a, (k0_off503 v8436 v8438 v8519) a + S1x4x24x256.size a ≤ S2x30x40x256.size a := fun v8436 v8438 v8519 k0_hw252 => k0_hw252

def k0_off504 (i : grid0.Coords) (c2_i32_1940 : BitVec 32) : Fin 1 → Nat :=
  let arg0 : BitVec 32 := BitVec.ofNat 32 (i 0).val
  let c32_i32_1920 : BitVec 32 := 32#32
  let v8433 : BitVec 32 := Scalar.muli arg0 c32_i32_1920
  let c31_i32 : BitVec 32 := 31#32
  let v8434 : BitVec 32 := Scalar.addi v8433 c31_i32
  let c7_i32_1939 : BitVec 32 := 7#32
  let v8516 : BitVec 32 := Scalar.muli v8434 c7_i32_1939
  let v8517 : BitVec 32 := Scalar.addi v8516 c2_i32_1940
  let v8525 : Index := Scalar.indexCast v8517
  ![v8525.toNat]
def k0_off505 (v8436 : BitVec 32) (v8438 : BitVec 32) (v8556 : BitVec 32) : Fin 4 → Nat :=
  let v8557 : Index := Scalar.indexCast v8436
  let v8558 : Index := Scalar.indexCast v8556
  let v8439 : BitVec 32 := v8438
  let v8559 : Index := Scalar.indexCast v8439
  let c0_1949 : Index := 0#32
  ![v8557.toNat, v8558.toNat, v8559.toNat, 0]

def k0_chk253 (v8436 : BitVec 32) (v8438 : BitVec 32) (v8556 : BitVec 32) : Prop :=
  (∀ a, (k0_off505 v8436 v8438 v8556) a + S1x4x24x256.size a ≤ S2x30x40x256.size a)
theorem k0_off505_inb : ∀ (v8436 : BitVec 32) (v8438 : BitVec 32) (v8556 : BitVec 32) (k0_hw253 : k0_chk253 v8436 v8438 v8556), ∀ a, (k0_off505 v8436 v8438 v8556) a + S1x4x24x256.size a ≤ S2x30x40x256.size a := fun v8436 v8438 v8556 k0_hw253 => k0_hw253

def k0_off506 (i : grid0.Coords) (c3_i32_1948 : BitVec 32) : Fin 1 → Nat :=
  let arg0 : BitVec 32 := BitVec.ofNat 32 (i 0).val
  let c32_i32_1920 : BitVec 32 := 32#32
  let v8433 : BitVec 32 := Scalar.muli arg0 c32_i32_1920
  let c31_i32 : BitVec 32 := 31#32
  let v8434 : BitVec 32 := Scalar.addi v8433 c31_i32
  let c7_i32_1947 : BitVec 32 := 7#32
  let v8553 : BitVec 32 := Scalar.muli v8434 c7_i32_1947
  let v8554 : BitVec 32 := Scalar.addi v8553 c3_i32_1948
  let v8562 : Index := Scalar.indexCast v8554
  ![v8562.toNat]
def k0_off507 (v8436 : BitVec 32) (v8438 : BitVec 32) (v8593 : BitVec 32) : Fin 4 → Nat :=
  let v8594 : Index := Scalar.indexCast v8436
  let v8595 : Index := Scalar.indexCast v8593
  let v8439 : BitVec 32 := v8438
  let v8596 : Index := Scalar.indexCast v8439
  let c0_1957 : Index := 0#32
  ![v8594.toNat, v8595.toNat, v8596.toNat, 0]

def k0_chk254 (v8436 : BitVec 32) (v8438 : BitVec 32) (v8593 : BitVec 32) : Prop :=
  (∀ a, (k0_off507 v8436 v8438 v8593) a + S1x4x24x256.size a ≤ S2x30x40x256.size a)
theorem k0_off507_inb : ∀ (v8436 : BitVec 32) (v8438 : BitVec 32) (v8593 : BitVec 32) (k0_hw254 : k0_chk254 v8436 v8438 v8593), ∀ a, (k0_off507 v8436 v8438 v8593) a + S1x4x24x256.size a ≤ S2x30x40x256.size a := fun v8436 v8438 v8593 k0_hw254 => k0_hw254

def k0_off508 (i : grid0.Coords) (c4_i32_1956 : BitVec 32) : Fin 1 → Nat :=
  let arg0 : BitVec 32 := BitVec.ofNat 32 (i 0).val
  let c32_i32_1920 : BitVec 32 := 32#32
  let v8433 : BitVec 32 := Scalar.muli arg0 c32_i32_1920
  let c31_i32 : BitVec 32 := 31#32
  let v8434 : BitVec 32 := Scalar.addi v8433 c31_i32
  let c7_i32_1955 : BitVec 32 := 7#32
  let v8590 : BitVec 32 := Scalar.muli v8434 c7_i32_1955
  let v8591 : BitVec 32 := Scalar.addi v8590 c4_i32_1956
  let v8599 : Index := Scalar.indexCast v8591
  ![v8599.toNat]
def k0_off509 (v8436 : BitVec 32) (v8438 : BitVec 32) (v8630 : BitVec 32) : Fin 4 → Nat :=
  let v8631 : Index := Scalar.indexCast v8436
  let v8632 : Index := Scalar.indexCast v8630
  let v8439 : BitVec 32 := v8438
  let v8633 : Index := Scalar.indexCast v8439
  let c0_1965 : Index := 0#32
  ![v8631.toNat, v8632.toNat, v8633.toNat, 0]

def k0_chk255 (v8436 : BitVec 32) (v8438 : BitVec 32) (v8630 : BitVec 32) : Prop :=
  (∀ a, (k0_off509 v8436 v8438 v8630) a + S1x4x24x256.size a ≤ S2x30x40x256.size a)
theorem k0_off509_inb : ∀ (v8436 : BitVec 32) (v8438 : BitVec 32) (v8630 : BitVec 32) (k0_hw255 : k0_chk255 v8436 v8438 v8630), ∀ a, (k0_off509 v8436 v8438 v8630) a + S1x4x24x256.size a ≤ S2x30x40x256.size a := fun v8436 v8438 v8630 k0_hw255 => k0_hw255

def k0_off510 (i : grid0.Coords) (c5_i32_1964 : BitVec 32) : Fin 1 → Nat :=
  let arg0 : BitVec 32 := BitVec.ofNat 32 (i 0).val
  let c32_i32_1920 : BitVec 32 := 32#32
  let v8433 : BitVec 32 := Scalar.muli arg0 c32_i32_1920
  let c31_i32 : BitVec 32 := 31#32
  let v8434 : BitVec 32 := Scalar.addi v8433 c31_i32
  let c7_i32_1963 : BitVec 32 := 7#32
  let v8627 : BitVec 32 := Scalar.muli v8434 c7_i32_1963
  let v8628 : BitVec 32 := Scalar.addi v8627 c5_i32_1964
  let v8636 : Index := Scalar.indexCast v8628
  ![v8636.toNat]
def k0_off511 (v8436 : BitVec 32) (v8438 : BitVec 32) (v8667 : BitVec 32) : Fin 4 → Nat :=
  let v8668 : Index := Scalar.indexCast v8436
  let v8669 : Index := Scalar.indexCast v8667
  let v8439 : BitVec 32 := v8438
  let v8670 : Index := Scalar.indexCast v8439
  let c0_1973 : Index := 0#32
  ![v8668.toNat, v8669.toNat, v8670.toNat, 0]

def k0_chk256 (v8436 : BitVec 32) (v8438 : BitVec 32) (v8667 : BitVec 32) : Prop :=
  (∀ a, (k0_off511 v8436 v8438 v8667) a + S1x4x24x256.size a ≤ S2x30x40x256.size a)
theorem k0_off511_inb : ∀ (v8436 : BitVec 32) (v8438 : BitVec 32) (v8667 : BitVec 32) (k0_hw256 : k0_chk256 v8436 v8438 v8667), ∀ a, (k0_off511 v8436 v8438 v8667) a + S1x4x24x256.size a ≤ S2x30x40x256.size a := fun v8436 v8438 v8667 k0_hw256 => k0_hw256

def k0_off512 (i : grid0.Coords) : Fin 1 → Nat :=
  let arg0 : BitVec 32 := BitVec.ofNat 32 (i 0).val
  let c32_i32_1920 : BitVec 32 := 32#32
  let v8433 : BitVec 32 := Scalar.muli arg0 c32_i32_1920
  let c31_i32 : BitVec 32 := 31#32
  let v8434 : BitVec 32 := Scalar.addi v8433 c31_i32
  let c7_i32_1971 : BitVec 32 := 7#32
  let v8664 : BitVec 32 := Scalar.muli v8434 c7_i32_1971
  let c6_i32_1972 : BitVec 32 := 6#32
  let v8665 : BitVec 32 := Scalar.addi v8664 c6_i32_1972
  let v8673 : Index := Scalar.indexCast v8665
  ![v8673.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2x30x40x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x32x24 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x49x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2x256x30x40 : Shape := ⟨4, ![2, 256, 30, 40]⟩
abbrev S256x5 : Shape := ⟨2, ![256, 5]⟩
abbrev S256x1 : Shape := ⟨2, ![256, 1]⟩
abbrev S256 : Shape := ⟨1, ![256]⟩
abbrev S_ : Shape := ⟨0, ![]⟩
abbrev S7 : Shape := ⟨1, ![7]⟩
abbrev S1x7 : Shape := ⟨2, ![1, 7]⟩
abbrev S256x7 : Shape := ⟨2, ![256, 7]⟩
abbrev S30 : Shape := ⟨1, ![30]⟩
abbrev S40 : Shape := ⟨1, ![40]⟩
abbrev S1x1x30 : Shape := ⟨3, ![1, 1, 30]⟩
abbrev S256x7x1 : Shape := ⟨3, ![256, 7, 1]⟩
abbrev S256x7x30 : Shape := ⟨3, ![256, 7, 30]⟩
abbrev S1x1x40 : Shape := ⟨3, ![1, 1, 40]⟩
abbrev S256x7x40 : Shape := ⟨3, ![256, 7, 40]⟩
abbrev S256x256x30x40 : Shape := ⟨4, ![256, 256, 30, 40]⟩
abbrev S256x1x40 : Shape := ⟨3, ![256, 1, 40]⟩
abbrev S256x40 : Shape := ⟨2, ![256, 40]⟩
abbrev S256x1x1x40 : Shape := ⟨4, ![256, 1, 1, 40]⟩
abbrev S256x256x30 : Shape := ⟨3, ![256, 256, 30]⟩
abbrev S256x256x30x1 : Shape := ⟨4, ![256, 256, 30, 1]⟩
abbrev S256x256x30x7 : Shape := ⟨4, ![256, 256, 30, 7]⟩
abbrev S256x1x30 : Shape := ⟨3, ![256, 1, 30]⟩
abbrev S256x30 : Shape := ⟨2, ![256, 30]⟩
abbrev S256x1x30x1 : Shape := ⟨4, ![256, 1, 30, 1]⟩
abbrev S256x256x7 : Shape := ⟨3, ![256, 256, 7]⟩
abbrev S256x256x1x7 : Shape := ⟨4, ![256, 256, 1, 7]⟩
abbrev S256x256x7x7 : Shape := ⟨4, ![256, 256, 7, 7]⟩

abbrev nBuf : Space → Nat
  | .hbm => 307
  | .vmem => 0
  | .smem => 0
  | _ => 0

abbrev hbmTy0_0 (i : Nat) : BufTy := match i % 128 with
  | 0 => ⟨S2x256x30x40, .f32⟩
  | 1 => ⟨S256x5, .f32⟩
  | 2 => ⟨S256x1, .f32⟩
  | 3 => ⟨S256, .f32⟩
  | 4 => ⟨S256, .i32⟩
  | 5 => ⟨S256x1, .f32⟩
  | 6 => ⟨S256, .f32⟩
  | 7 => ⟨S_, .f32⟩
  | 8 => ⟨S256, .f32⟩
  | 9 => ⟨S256, .f32⟩
  | 10 => ⟨S256, .f32⟩
  | 11 => ⟨S256x1, .f32⟩
  | 12 => ⟨S256, .f32⟩
  | 13 => ⟨S_, .f32⟩
  | 14 => ⟨S256, .f32⟩
  | 15 => ⟨S256, .f32⟩
  | 16 => ⟨S256, .f32⟩
  | 17 => ⟨S256x1, .f32⟩
  | 18 => ⟨S256, .f32⟩
  | 19 => ⟨S_, .f32⟩
  | 20 => ⟨S256, .f32⟩
  | 21 => ⟨S256, .f32⟩
  | 22 => ⟨S256, .f32⟩
  | 23 => ⟨S256x1, .f32⟩
  | 24 => ⟨S256, .f32⟩
  | 25 => ⟨S_, .f32⟩
  | 26 => ⟨S256, .f32⟩
  | 27 => ⟨S256, .f32⟩
  | 28 => ⟨S256, .f32⟩
  | 29 => ⟨S256, .f32⟩
  | 30 => ⟨S_, .f32⟩
  | 31 => ⟨S256, .f32⟩
  | 32 => ⟨S256, .f32⟩
  | 33 => ⟨S_, .f32⟩
  | 34 => ⟨S256, .f32⟩
  | 35 => ⟨S256, .f32⟩
  | 36 => ⟨S256, .f32⟩
  | 37 => ⟨S_, .f32⟩
  | 38 => ⟨S256, .f32⟩
  | 39 => ⟨S256, .f32⟩
  | 40 => ⟨S_, .f32⟩
  | 41 => ⟨S256, .f32⟩
  | 42 => ⟨S256, .f32⟩
  | 43 => ⟨S_, .f32⟩
  | 44 => ⟨S256, .f32⟩
  | 45 => ⟨S256, .f32⟩
  | 46 => ⟨S_, .f32⟩
  | 47 => ⟨S256, .f32⟩
  | 48 => ⟨S256, .f32⟩
  | 49 => ⟨S7, .f32⟩
  | 50 => ⟨S7, .f32⟩
  | 51 => ⟨S1x7, .f32⟩
  | 52 => ⟨S256x1, .f32⟩
  | 53 => ⟨S256x7, .f32⟩
  | 54 => ⟨S256x7, .f32⟩
  | 55 => ⟨S256x7, .f32⟩
  | 56 => ⟨S256x7, .f32⟩
  | 57 => ⟨S256x1, .f32⟩
  | 58 => ⟨S256x7, .f32⟩
  | 59 => ⟨S256x7, .f32⟩
  | 60 => ⟨S_, .f32⟩
  | 61 => ⟨S_, .f32⟩
  | 62 => ⟨S_, .f32⟩
  | 63 => ⟨S256x7, .f32⟩
  | 64 => ⟨S256x7, .f32⟩
  | 65 => ⟨S_, .f32⟩
  | 66 => ⟨S256x7, .f32⟩
  | 67 => ⟨S256x7, .f32⟩
  | 68 => ⟨S1x7, .f32⟩
  | 69 => ⟨S_, .f32⟩
  | 70 => ⟨S1x7, .f32⟩
  | 71 => ⟨S1x7, .f32⟩
  | 72 => ⟨S256x1, .f32⟩
  | 73 => ⟨S256x7, .f32⟩
  | 74 => ⟨S256x7, .f32⟩
  | 75 => ⟨S256x7, .f32⟩
  | 76 => ⟨S256x7, .f32⟩
  | 77 => ⟨S256x1, .f32⟩
  | 78 => ⟨S256x7, .f32⟩
  | 79 => ⟨S256x7, .f32⟩
  | 80 => ⟨S_, .f32⟩
  | 81 => ⟨S_, .f32⟩
  | 82 => ⟨S_, .f32⟩
  | 83 => ⟨S256x7, .f32⟩
  | 84 => ⟨S256x7, .f32⟩
  | 85 => ⟨S_, .f32⟩
  | 86 => ⟨S256x7, .f32⟩
  | 87 => ⟨S256x7, .f32⟩
  | 88 => ⟨S1x7, .f32⟩
  | 89 => ⟨S256x1, .f32⟩
  | 90 => ⟨S256x7, .f32⟩
  | 91 => ⟨S256x7, .f32⟩
  | 92 => ⟨S256x7, .f32⟩
  | 93 => ⟨S256x7, .f32⟩
  | 94 => ⟨S256x1, .f32⟩
  | 95 => ⟨S256x7, .f32⟩
  | 96 => ⟨S256x7, .f32⟩
  | 97 => ⟨S_, .f32⟩
  | 98 => ⟨S_, .f32⟩
  | 99 => ⟨S_, .f32⟩
  | 100 => ⟨S256x7, .f32⟩
  | 101 => ⟨S256x7, .f32⟩
  | 102 => ⟨S_, .f32⟩
  | 103 => ⟨S256x7, .f32⟩
  | 104 => ⟨S256x7, .f32⟩
  | 105 => ⟨S1x7, .f32⟩
  | 106 => ⟨S_, .f32⟩
  | 107 => ⟨S1x7, .f32⟩
  | 108 => ⟨S1x7, .f32⟩
  | 109 => ⟨S256x1, .f32⟩
  | 110 => ⟨S256x7, .f32⟩
  | 111 => ⟨S256x7, .f32⟩
  | 112 => ⟨S256x7, .f32⟩
  | 113 => ⟨S256x7, .f32⟩
  | 114 => ⟨S256x1, .f32⟩
  | 115 => ⟨S256x7, .f32⟩
  | 116 => ⟨S256x7, .f32⟩
  | 117 => ⟨S_, .f32⟩
  | 118 => ⟨S_, .f32⟩
  | 119 => ⟨S_, .f32⟩
  | 120 => ⟨S256x7, .f32⟩
  | 121 => ⟨S256x7, .f32⟩
  | 122 => ⟨S_, .f32⟩
  | 123 => ⟨S256x7, .f32⟩
  | 124 => ⟨S256x7, .f32⟩
  | 125 => ⟨S30, .f32⟩
  | 126 => ⟨S40, .f32⟩
  | 127 => ⟨S1x1x30, .f32⟩
  | _ => ⟨S2x256x30x40, .f32⟩

abbrev hbmTy0_1 (i : Nat) : BufTy := match i % 128 with
  | 0 => ⟨S256x7x1, .f32⟩
  | 1 => ⟨S256x7x30, .f32⟩
  | 2 => ⟨S256x7x30, .f32⟩
  | 3 => ⟨S256x7x30, .i1⟩
  | 4 => ⟨S1x1x30, .f32⟩
  | 5 => ⟨S256x7x1, .f32⟩
  | 6 => ⟨S256x7x30, .f32⟩
  | 7 => ⟨S256x7x30, .f32⟩
  | 8 => ⟨S256x7x30, .i1⟩
  | 9 => ⟨S256x7x30, .i1⟩
  | 10 => ⟨S1x1x40, .f32⟩
  | 11 => ⟨S256x7x1, .f32⟩
  | 12 => ⟨S256x7x40, .f32⟩
  | 13 => ⟨S256x7x40, .f32⟩
  | 14 => ⟨S256x7x40, .i1⟩
  | 15 => ⟨S1x1x40, .f32⟩
  | 16 => ⟨S256x7x1, .f32⟩
  | 17 => ⟨S256x7x40, .f32⟩
  | 18 => ⟨S256x7x40, .f32⟩
  | 19 => ⟨S256x7x40, .i1⟩
  | 20 => ⟨S256x7x40, .i1⟩
  | 21 => ⟨S_, .i32⟩
  | 22 => ⟨S256, .i32⟩
  | 23 => ⟨S256, .i1⟩
  | 24 => ⟨S_, .i32⟩
  | 25 => ⟨S256, .i32⟩
  | 26 => ⟨S256, .i32⟩
  | 27 => ⟨S256, .i32⟩
  | 28 => ⟨S256x1, .i32⟩
  | 29 => ⟨S256x256x30x40, .f32⟩
  | 30 => ⟨S256x1x40, .i1⟩
  | 31 => ⟨S256x40, .i1⟩
  | 32 => ⟨S256x1x1x40, .i1⟩
  | 33 => ⟨S_, .f32⟩
  | 34 => ⟨S256x256x30x40, .i1⟩
  | 35 => ⟨S256x256x30x40, .f32⟩
  | 36 => ⟨S256x256x30x40, .f32⟩
  | 37 => ⟨S_, .f32⟩
  | 38 => ⟨S256x256x30, .f32⟩
  | 39 => ⟨S256x1x40, .i1⟩
  | 40 => ⟨S256x40, .i1⟩
  | 41 => ⟨S256x1x1x40, .i1⟩
  | 42 => ⟨S_, .f32⟩
  | 43 => ⟨S256x256x30x40, .i1⟩
  | 44 => ⟨S256x256x30x40, .f32⟩
  | 45 => ⟨S256x256x30x40, .f32⟩
  | 46 => ⟨S_, .f32⟩
  | 47 => ⟨S256x256x30, .f32⟩
  | 48 => ⟨S256x1x40, .i1⟩
  | 49 => ⟨S256x40, .i1⟩
  | 50 => ⟨S256x1x1x40, .i1⟩
  | 51 => ⟨S_, .f32⟩
  | 52 => ⟨S256x256x30x40, .i1⟩
  | 53 => ⟨S256x256x30x40, .f32⟩
  | 54 => ⟨S256x256x30x40, .f32⟩
  | 55 => ⟨S_, .f32⟩
  | 56 => ⟨S256x256x30, .f32⟩
  | 57 => ⟨S256x1x40, .i1⟩
  | 58 => ⟨S256x40, .i1⟩
  | 59 => ⟨S256x1x1x40, .i1⟩
  | 60 => ⟨S_, .f32⟩
  | 61 => ⟨S256x256x30x40, .i1⟩
  | 62 => ⟨S256x256x30x40, .f32⟩
  | 63 => ⟨S256x256x30x40, .f32⟩
  | 64 => ⟨S_, .f32⟩
  | 65 => ⟨S256x256x30, .f32⟩
  | 66 => ⟨S256x1x40, .i1⟩
  | 67 => ⟨S256x40, .i1⟩
  | 68 => ⟨S256x1x1x40, .i1⟩
  | 69 => ⟨S_, .f32⟩
  | 70 => ⟨S256x256x30x40, .i1⟩
  | 71 => ⟨S256x256x30x40, .f32⟩
  | 72 => ⟨S256x256x30x40, .f32⟩
  | 73 => ⟨S_, .f32⟩
  | 74 => ⟨S256x256x30, .f32⟩
  | 75 => ⟨S256x1x40, .i1⟩
  | 76 => ⟨S256x40, .i1⟩
  | 77 => ⟨S256x1x1x40, .i1⟩
  | 78 => ⟨S_, .f32⟩
  | 79 => ⟨S256x256x30x40, .i1⟩
  | 80 => ⟨S256x256x30x40, .f32⟩
  | 81 => ⟨S256x256x30x40, .f32⟩
  | 82 => ⟨S_, .f32⟩
  | 83 => ⟨S256x256x30, .f32⟩
  | 84 => ⟨S256x1x40, .i1⟩
  | 85 => ⟨S256x40, .i1⟩
  | 86 => ⟨S256x1x1x40, .i1⟩
  | 87 => ⟨S_, .f32⟩
  | 88 => ⟨S256x256x30x40, .i1⟩
  | 89 => ⟨S256x256x30x40, .f32⟩
  | 90 => ⟨S256x256x30x40, .f32⟩
  | 91 => ⟨S_, .f32⟩
  | 92 => ⟨S256x256x30, .f32⟩
  | 93 => ⟨S256x256x30x1, .f32⟩
  | 94 => ⟨S256x256x30x1, .f32⟩
  | 95 => ⟨S256x256x30x1, .f32⟩
  | 96 => ⟨S256x256x30x1, .f32⟩
  | 97 => ⟨S256x256x30x1, .f32⟩
  | 98 => ⟨S256x256x30x1, .f32⟩
  | 99 => ⟨S256x256x30x1, .f32⟩
  | 100 => ⟨S256x256x30x7, .f32⟩
  | 101 => ⟨S256x1x30, .i1⟩
  | 102 => ⟨S256x30, .i1⟩
  | 103 => ⟨S256x1x30x1, .i1⟩
  | 104 => ⟨S_, .f32⟩
  | 105 => ⟨S256x256x30x7, .i1⟩
  | 106 => ⟨S256x256x30x7, .f32⟩
  | 107 => ⟨S256x256x30x7, .f32⟩
  | 108 => ⟨S_, .f32⟩
  | 109 => ⟨S256x256x7, .f32⟩
  | 110 => ⟨S256x1x30, .i1⟩
  | 111 => ⟨S256x30, .i1⟩
  | 112 => ⟨S256x1x30x1, .i1⟩
  | 113 => ⟨S_, .f32⟩
  | 114 => ⟨S256x256x30x7, .i1⟩
  | 115 => ⟨S256x256x30x7, .f32⟩
  | 116 => ⟨S256x256x30x7, .f32⟩
  | 117 => ⟨S_, .f32⟩
  | 118 => ⟨S256x256x7, .f32⟩
  | 119 => ⟨S256x1x30, .i1⟩
  | 120 => ⟨S256x30, .i1⟩
  | 121 => ⟨S256x1x30x1, .i1⟩
  | 122 => ⟨S_, .f32⟩
  | 123 => ⟨S256x256x30x7, .i1⟩
  | 124 => ⟨S256x256x30x7, .f32⟩
  | 125 => ⟨S256x256x30x7, .f32⟩
  | 126 => ⟨S_, .f32⟩
  | 127 => ⟨S256x256x7, .f32⟩
  | _ => ⟨S2x256x30x40, .f32⟩

abbrev hbmTy0_2 (i : Nat) : BufTy := match i % 128 with
  | 0 => ⟨S256x1x30, .i1⟩
  | 1 => ⟨S256x30, .i1⟩
  | 2 => ⟨S256x1x30x1, .i1⟩
  | 3 => ⟨S_, .f32⟩
  | 4 => ⟨S256x256x30x7, .i1⟩
  | 5 => ⟨S256x256x30x7, .f32⟩
  | 6 => ⟨S256x256x30x7, .f32⟩
  | 7 => ⟨S_, .f32⟩
  | 8 => ⟨S256x256x7, .f32⟩
  | 9 => ⟨S256x1x30, .i1⟩
  | 10 => ⟨S256x30, .i1⟩
  | 11 => ⟨S256x1x30x1, .i1⟩
  | 12 => ⟨S_, .f32⟩
  | 13 => ⟨S256x256x30x7, .i1⟩
  | 14 => ⟨S256x256x30x7, .f32⟩
  | 15 => ⟨S256x256x30x7, .f32⟩
  | 16 => ⟨S_, .f32⟩
  | 17 => ⟨S256x256x7, .f32⟩
  | 18 => ⟨S256x1x30, .i1⟩
  | 19 => ⟨S256x30, .i1⟩
  | 20 => ⟨S256x1x30x1, .i1⟩
  | 21 => ⟨S_, .f32⟩
  | 22 => ⟨S256x256x30x7, .i1⟩
  | 23 => ⟨S256x256x30x7, .f32⟩
  | 24 => ⟨S256x256x30x7, .f32⟩
  | 25 => ⟨S_, .f32⟩
  | 26 => ⟨S256x256x7, .f32⟩
  | 27 => ⟨S256x1x30, .i1⟩
  | 28 => ⟨S256x30, .i1⟩
  | 29 => ⟨S256x1x30x1, .i1⟩
  | 30 => ⟨S_, .f32⟩
  | 31 => ⟨S256x256x30x7, .i1⟩
  | 32 => ⟨S256x256x30x7, .f32⟩
  | 33 => ⟨S256x256x30x7, .f32⟩
  | 34 => ⟨S_, .f32⟩
  | 35 => ⟨S256x256x7, .f32⟩
  | 36 => ⟨S256x256x1x7, .f32⟩
  | 37 => ⟨S256x256x1x7, .f32⟩
  | 38 => ⟨S256x256x1x7, .f32⟩
  | 39 => ⟨S256x256x1x7, .f32⟩
  | 40 => ⟨S256x256x1x7, .f32⟩
  | 41 => ⟨S256x256x1x7, .f32⟩
  | 42 => ⟨S256x256x1x7, .f32⟩
  | 43 => ⟨S256x256x7x7, .f32⟩
  | 44 => ⟨S256x256x7x7, .f32⟩
  | 45 => ⟨S_, .f32⟩
  | 46 => ⟨S256x256x7x7, .f32⟩
  | 47 => ⟨S256x256x7x7, .i1⟩
  | 48 => ⟨S_, .f32⟩
  | 49 => ⟨S256x256x7x7, .f32⟩
  | 50 => ⟨S256x256x7x7, .f32⟩
  | _ => ⟨S2x256x30x40, .f32⟩

abbrev hbmTy (i : Nat) : BufTy := match i / 128 with
  | 0 => hbmTy0_0 i
  | 1 => hbmTy0_1 i
  | 2 => hbmTy0_2 i
  | _ => ⟨S2x256x30x40, .f32⟩

abbrev bufTy : (tb : Table) → Fin (tcTables nBuf tb) → BufTy
  | .hbm, ⟨i, _⟩ => hbmTy i
  | _, _ => ⟨S2x256x30x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_9 : Ref sig .tc := ⟨.hbm, 60, rfl⟩
abbrev main_cst_10 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_cst_13 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_14 : Ref sig .tc := ⟨.hbm, 97, rfl⟩
abbrev main_cst_15 : Ref sig .tc := ⟨.hbm, 98, rfl⟩
abbrev main_call6_v0 : Ref sig .tc := ⟨.hbm, 99, rfl⟩
abbrev main_call6_v1 : Ref sig .tc := ⟨.hbm, 100, rfl⟩
abbrev main_call6_v2 : Ref sig .tc := ⟨.hbm, 101, rfl⟩
abbrev main_call6_v3 : Ref sig .tc := ⟨.hbm, 102, rfl⟩
abbrev main_call6_v4 : Ref sig .tc := ⟨.hbm, 103, rfl⟩
abbrev main_v70 : Ref sig .tc := ⟨.hbm, 104, rfl⟩
abbrev main_v71 : Ref sig .tc := ⟨.hbm, 105, rfl⟩
abbrev main_cst_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_17 : Ref sig .tc := ⟨.hbm, 117, rfl⟩
abbrev main_cst_18 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_call7_v3 : Ref sig .tc := ⟨.hbm, 122, rfl⟩
abbrev main_call7_v4 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_c : Ref sig .tc := ⟨.hbm, 149, rfl⟩
abbrev main_v107 : Ref sig .tc := ⟨.hbm, 150, rfl⟩
abbrev main_v108 : Ref sig .tc := ⟨.hbm, 151, rfl⟩
abbrev main_c_19 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_20 : Ref sig .tc := ⟨.hbm, 161, rfl⟩
abbrev main_call8_v0 : Ref sig .tc := ⟨.hbm, 162, rfl⟩
abbrev main_call8_v1 : Ref sig .tc := ⟨.hbm, 163, rfl⟩
abbrev main_v117 : Ref sig .tc := ⟨.hbm, 164, rfl⟩
abbrev main_cst_21 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_22 : Ref sig .tc := ⟨.hbm, 170, rfl⟩
abbrev main_call9_v0 : Ref sig .tc := ⟨.hbm, 171, rfl⟩
abbrev main_call9_v1 : Ref sig .tc := ⟨.hbm, 172, rfl⟩
abbrev main_v122 : Ref sig .tc := ⟨.hbm, 173, rfl⟩
abbrev main_cst_23 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_24 : Ref sig .tc := ⟨.hbm, 179, rfl⟩
abbrev main_call10_v0 : Ref sig .tc := ⟨.hbm, 180, rfl⟩
abbrev main_call10_v1 : Ref sig .tc := ⟨.hbm, 181, rfl⟩
abbrev main_v127 : Ref sig .tc := ⟨.hbm, 182, rfl⟩
abbrev main_cst_25 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_26 : Ref sig .tc := ⟨.hbm, 188, rfl⟩
abbrev main_call11_v0 : Ref sig .tc := ⟨.hbm, 189, rfl⟩
abbrev main_call11_v1 : Ref sig .tc := ⟨.hbm, 190, rfl⟩
abbrev main_v132 : Ref sig .tc := ⟨.hbm, 191, rfl⟩
abbrev main_cst_27 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_cst_28 : Ref sig .tc := ⟨.hbm, 197, rfl⟩
abbrev main_call12_v0 : Ref sig .tc := ⟨.hbm, 198, rfl⟩
abbrev main_call12_v1 : Ref sig .tc := ⟨.hbm, 199, rfl⟩
abbrev main_v137 : Ref sig .tc := ⟨.hbm, 200, rfl⟩
abbrev main_cst_29 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_cst_30 : Ref sig .tc := ⟨.hbm, 206, rfl⟩
abbrev main_call13_v0 : Ref sig .tc := ⟨.hbm, 207, rfl⟩
abbrev main_call13_v1 : Ref sig .tc := ⟨.hbm, 208, rfl⟩
abbrev main_v142 : Ref sig .tc := ⟨.hbm, 209, rfl⟩
abbrev main_cst_31 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_cst_32 : Ref sig .tc := ⟨.hbm, 215, rfl⟩
abbrev main_call14_v0 : Ref sig .tc := ⟨.hbm, 216, rfl⟩
abbrev main_call14_v1 : Ref sig .tc := ⟨.hbm, 217, rfl⟩
abbrev main_v147 : Ref sig .tc := ⟨.hbm, 218, rfl⟩
abbrev main_cst_33 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_cst_34 : Ref sig .tc := ⟨.hbm, 232, rfl⟩
abbrev main_call15_v0 : Ref sig .tc := ⟨.hbm, 233, rfl⟩
abbrev main_call15_v1 : Ref sig .tc := ⟨.hbm, 234, rfl⟩
abbrev main_v160 : Ref sig .tc := ⟨.hbm, 235, rfl⟩
abbrev main_cst_35 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_cst_36 : Ref sig .tc := ⟨.hbm, 241, rfl⟩
abbrev main_call16_v0 : Ref sig .tc := ⟨.hbm, 242, rfl⟩
abbrev main_call16_v1 : Ref sig .tc := ⟨.hbm, 243, rfl⟩
abbrev main_v165 : Ref sig .tc := ⟨.hbm, 244, rfl⟩
abbrev main_cst_37 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_cst_38 : Ref sig .tc := ⟨.hbm, 250, rfl⟩
abbrev main_call17_v0 : Ref sig .tc := ⟨.hbm, 251, rfl⟩
abbrev main_call17_v1 : Ref sig .tc := ⟨.hbm, 252, rfl⟩
abbrev main_v170 : Ref sig .tc := ⟨.hbm, 253, rfl⟩
abbrev main_cst_39 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_cst_40 : Ref sig .tc := ⟨.hbm, 259, rfl⟩
abbrev main_call18_v0 : Ref sig .tc := ⟨.hbm, 260, rfl⟩
abbrev main_call18_v1 : Ref sig .tc := ⟨.hbm, 261, rfl⟩
abbrev main_v175 : Ref sig .tc := ⟨.hbm, 262, rfl⟩
abbrev main_cst_41 : Ref sig .tc := ⟨.hbm, 263, rfl⟩
abbrev main_v176 : Ref sig .tc := ⟨.hbm, 264, rfl⟩
abbrev main_v177 : Ref sig .tc := ⟨.hbm, 265, rfl⟩
abbrev main_v178 : Ref sig .tc := ⟨.hbm, 266, rfl⟩
abbrev main_v179 : Ref sig .tc := ⟨.hbm, 267, rfl⟩
abbrev main_cst_42 : Ref sig .tc := ⟨.hbm, 268, rfl⟩
abbrev main_call19_v0 : Ref sig .tc := ⟨.hbm, 269, rfl⟩
abbrev main_call19_v1 : Ref sig .tc := ⟨.hbm, 270, rfl⟩
abbrev main_v180 : Ref sig .tc := ⟨.hbm, 271, rfl⟩
abbrev main_cst_43 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_44 : Ref sig .tc := ⟨.hbm, 277, rfl⟩
abbrev main_call20_v0 : Ref sig .tc := ⟨.hbm, 278, rfl⟩
abbrev main_call20_v1 : Ref sig .tc := ⟨.hbm, 279, rfl⟩
abbrev main_v185 : Ref sig .tc := ⟨.hbm, 280, rfl⟩
abbrev main_cst_45 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_cst_46 : Ref sig .tc := ⟨.hbm, 286, rfl⟩
abbrev main_call21_v0 : Ref sig .tc := ⟨.hbm, 287, rfl⟩
abbrev main_call21_v1 : Ref sig .tc := ⟨.hbm, 288, rfl⟩
abbrev main_v190 : Ref sig .tc := ⟨.hbm, 289, rfl⟩
abbrev main_cst_47 : Ref sig .tc := ⟨.hbm, 290, rfl⟩
abbrev main_v191 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_v199 : Ref sig .tc := ⟨.hbm, 299, rfl⟩
abbrev main_v200 : Ref sig .tc := ⟨.hbm, 300, rfl⟩
abbrev main_cst_48 : Ref sig .tc := ⟨.hbm, 301, rfl⟩
abbrev main_v201 : Ref sig .tc := ⟨.hbm, 302, rfl⟩
abbrev main_v202 : Ref sig .tc := ⟨.hbm, 303, rfl⟩
abbrev main_cst_49 : Ref sig .tc := ⟨.hbm, 304, rfl⟩
abbrev main_call22_v0 : Ref sig .tc := ⟨.hbm, 305, rfl⟩
abbrev main_v203 : Ref sig .tc := ⟨.hbm, 306, rfl⟩

abbrev nD : Nat := 1
abbrev τ : Topo := Topo.v7x

variable {F : FTy → Type} [FloatOps F]
-- ==== Proof.Words.lean ====
/-
  Facts about single 32-bit words that the tables rest on: a word clipped to a range, and a word rounded down to a
  multiple of eight.
-/
module

public import Idealize.ShloMosaic.PureOps.Vector
public import Idealize.ShloMosaic.PureOps.Ideal
public import Idealize.ShloMosaic.Lib.WordCmp
public import Mathlib.Tactic.SplitIfs
public import Mathlib.Data.BitVec

@[expose] public section

namespace Cert.Words

open Idealize.ShloMosaic

/-- A word clipped between zero and `n` reads, as a natural number, as its signed value clipped. -/
theorem clip_toNat (n : ℕ) (hn : n < 2 ^ 31) (w : BitVec 32) :
    (IntOp.minsi (BitVec.ofNat 32 n) (IntOp.maxsi 0#32 w)).toNat = (min (max w.toInt 0) (n : ℤ)).toNat := by
  have hn' : (BitVec.ofNat 32 n).toInt = n := by
    rw [BitVec.toInt_eq_toNat_cond, BitVec.toNat_ofNat]; split_ifs <;> omega
  have h0 : (0#32 : BitVec 32).toInt = 0 := rfl
  have key : (IntOp.minsi (BitVec.ofNat 32 n) (IntOp.maxsi 0#32 w)).toInt = min (max w.toInt 0) (n : ℤ) := by
    unfold IntOp.minsi IntOp.maxsi
    simp only [BitVec.slt_eq_decide, decide_eq_true_eq]
    split_ifs with h1 h2 h2 <;> simp only [hn', h0] at * <;> omega
  rw [← key]
  have hpos : 0 ≤ (IntOp.minsi (BitVec.ofNat 32 n) (IntOp.maxsi 0#32 w)).toInt := by rw [key]; omega
  rw [BitVec.toInt_eq_toNat_cond] at hpos ⊢
  split_ifs at hpos ⊢ <;> omega

/-- So it is at most `n`. -/
theorem clip_le (n : ℕ) (hn : n < 2 ^ 31) (w : BitVec 32) :
    (IntOp.minsi (BitVec.ofNat 32 n) (IntOp.maxsi 0#32 w)).toNat ≤ n := by
  rw [clip_toNat n hn]; omega

/-- A column rounded down to a multiple of eight, and then clipped so that twenty-four columns fit. -/
def base (v : BitVec 32) : BitVec 32 :=
  IntOp.minsi 16#32 (IntOp.maxsi 0#32 (IntOp.shli .host (IntOp.shrsi .host v 3#32) 3#32))

set_option maxRecDepth 4096 in
/-- For a column of the image: a multiple of eight, at most the column, and less than eight below it where the clip does
    not take effect. -/
theorem base_small : ∀ n : Fin 40, 8 ∣ (base (BitVec.ofNat 32 n)).toNat ∧ (base (BitVec.ofNat 32 n)).toNat ≤ 16
    ∧ (base (BitVec.ofNat 32 n)).toNat ≤ n.val
    ∧ ((base (BitVec.ofNat 32 n)).toNat = 16 ∨ n.val < (base (BitVec.ofNat 32 n)).toNat + 8) := by
  decide

theorem base_spec {v : BitVec 32} (h : v.toNat < 40) : 8 ∣ (base v).toNat ∧ (base v).toNat ≤ 16
    ∧ (base v).toNat ≤ v.toNat ∧ ((base v).toNat = 16 ∨ v.toNat < (base v).toNat + 8) := by
  have := base_small ⟨v.toNat, h⟩
  simpa only [BitVec.ofNat_toNat, BitVec.setWidth_eq] using this

/-- The remainder by eight as the host computes it: the truncated remainder, moved up by eight where its sign and the divisor's differ. -/
theorem rem_eight : ∀ k : Fin 32,
    Scalar.select
      (IntOp.andi
        (IntOp.cmpi .ne (IntOp.cmpi .slt (IntOp.remsi .host (BitVec.ofNat 32 k.val) (Scalar.select (IntOp.cmpi .eq 8#32 0#32) 1#32 8#32)) 0#32)
          (IntOp.cmpi .slt (Scalar.select (IntOp.cmpi .eq 8#32 0#32) 1#32 8#32) 0#32))
        (IntOp.cmpi .ne (IntOp.remsi .host (BitVec.ofNat 32 k.val) (Scalar.select (IntOp.cmpi .eq 8#32 0#32) 1#32 8#32)) 0#32))
      (IntOp.addi (IntOp.remsi .host (BitVec.ofNat 32 k.val) (Scalar.select (IntOp.cmpi .eq 8#32 0#32) 1#32 8#32))
        (Scalar.select (IntOp.cmpi .eq 8#32 0#32) 1#32 8#32))
      (IntOp.remsi .host (BitVec.ofNat 32 k.val) (Scalar.select (IntOp.cmpi .eq 8#32 0#32) 1#32 8#32))
      = BitVec.ofNat 32 (k.val % 8) := by
  decide

/-- The quotient by eight as the host computes it: the truncated quotient, one less where the signs differ and it is not exact. -/
theorem div_eight : ∀ k : Fin 32,
    Scalar.select
      (IntOp.andi
        (IntOp.cmpi .ne (if BitVec.ofNat 32 k.val = 0 then (0 : BitVec 32) else if (BitVec.ofNat 32 k.val).msb = true then -1 else 1)
          (if (8#32 : BitVec 32) = 0 then (0 : BitVec 32) else if (8#32).msb = true then -1 else 1))
        (IntOp.cmpi .ne (IntOp.remsi .host (BitVec.ofNat 32 k.val) 8#32) 0#32))
      (IntOp.subi (IntOp.divsi .host (BitVec.ofNat 32 k.val) 8#32) 1#32)
      (IntOp.divsi .host (BitVec.ofNat 32 k.val) 8#32)
      = BitVec.ofNat 32 (k.val / 8) := by
  decide

end Cert.Words

end
-- ==== Proof.KernelIdealBody.lean ====
/-
  One grid step of the pooling kernel, run once at symbolic operands. The body loads words from the five tables, and
  for each of its thirty-two regions and seven rows of bins loads the slab of four rows and twenty-four columns those
  words name. `kernelRun` finds what the step leaves in its output block, as a term over the contents it was handed.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.FrameBody
public import Idealize.ShloMosaic.Lib.Tactic

@[expose] public section

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: the type of its contents. -/
abbrev Bf (c : Dev nD) {sp : Space} {S : Shape} {e : EltTy} (M : Memref sig .tc sp S e) : Type :=
  Buf (Elt F) (M.view.loc (c : Thread nD τ))
/-- The buffer held whole at `f`. -/
abbrev pt (c : Dev nD) {sp : Space} {S : Shape} {e : EltTy} (M : Memref sig .tc sp S e) (f : Bf (F := F) c M) :
    sProp 𝕄 :=
  M.view.loc (c : Thread nD τ) ↦{fullShare} f
/-- The buffer held for reading only: half of it, the pipeline keeping the other half. -/
abbrev tb (c : Dev nD) {S : Shape} {e : EltTy} (M : Memref sig .tc .smem S e) (f : Bf (F := F) c M) : sProp 𝕄 :=
  M.view.loc (c : Thread nD τ) ↦{fullShare.right} f

/-- A word naming one of the two images. -/
def BatchOk (w : BitVec 32) : Prop := w.toNat < 2
/-- A word from which four rows of an image can be read. -/
def RowOk (w : BitVec 32) : Prop := w.toNat + 4 ≤ 30
/-- A word, a multiple of eight, from which twenty-four columns of an image can be read. -/
def ColOk (w : BitVec 32) : Prop := 8 ∣ w.toNat ∧ w.toNat + 24 ≤ 40

/-- The slab of four rows and twenty-four columns that three such words name lies inside the images. -/
theorem slab_inb {b h x : BitVec 32} (hb : BatchOk b) (hh : RowOk h) (hx : ColOk x) :
    ∀ a, (![b.toNat, h.toNat, x.toNat, 0] : Fin 4 → Nat) a + S1x4x24x256.size a ≤ S2x30x40x256.size a := by
  intro a
  fin_cases a
  · show b.toNat + 1 ≤ 2
    exact hb
  · exact hh
  · exact hx.2
  · show 0 + 256 ≤ 256
    omega

/-- What one step leaves in its output block, over the contents of the tables and of the two input blocks, with the
    proof that from these contents the step runs to its end, hands the inputs back as they were and leaves that block.
    The words of the tables are assumed to name slabs inside the images. -/
def kernelRun (c : Dev nD) (i : grid0.Coords)
    (arg1 : Memref sig .tc .smem S256 .i32) (harg1 : arg1.IsWhole) (arg2 : Memref sig .tc .smem S1792 .i32) (harg2 : arg2.IsWhole)
    (arg3 : Memref sig .tc .smem S1792 .i32) (harg3 : arg3.IsWhole) (arg4 : Memref sig .tc .smem S1792 .i32) (harg4 : arg4.IsWhole)
    (arg5 : Memref sig .tc .smem S256 .i32) (harg5 : arg5.IsWhole) (arg6 : Memref sig .tc .vmem S2x30x40x256 .bf16) (harg6 : arg6.IsWhole)
    (arg7 : Memref sig .tc .vmem S32x32x24 .bf16) (harg7 : arg7.IsWhole) (arg8 : Memref sig .tc .vmem S32x49x256 .bf16) (harg8 : arg8.IsWhole)
    (f1 : Bf (F := F) c arg1) (f2 : Bf (F := F) c arg2) (f3 : Bf (F := F) c arg3) (f4 : Bf (F := F) c arg4) (f5 : Bf (F := F) c arg5)
    (f6 : Bf (F := F) c arg6) (f7 : Bf (F := F) c arg7)
    (hb : ∀ x, BatchOk (arg1.view.read (Elt F) f1 x)) (hh : ∀ x, RowOk (arg2.view.read (Elt F) f2 x))
    (hx : ∀ x, ColOk (arg5.view.read (Elt F) f5 x)) :
    { W : Bf (F := F) c arg8 //
      ∀ (f8 : Bf (F := F) c arg8) (E : Set ℕ) (Q : PUnit → sProp 𝕄),
        iprop(tb c arg1 f1 ∗ tb c arg2 f2 ∗ tb c arg3 f3 ∗ tb c arg4 f4 ∗ tb c arg5 f5 ∗ pt c arg6 f6 ∗ pt c arg7 f7 ∗ pt c arg8 f8
          ∗ (iprop(tb c arg1 f1 ∗ tb c arg2 f2 ∗ tb c arg3 f3 ∗ tb c arg4 f4 ∗ tb c arg5 f5 ∗ pt c arg6 f6 ∗ pt c arg7 f7
                ∗ pt c arg8 W) -∗ Q ⟨⟩))
        ⊢ wp frame (wpE (defs₀ (F := F)) Variants.none c none) E
            (cc0__pool_body i arg1 harg1 arg2 harg2 arg3 harg3 arg4 harg4 arg5 harg5 arg6 harg6 arg7 harg7 arg8 harg8) Q } := by
  refine ⟨?_, fun f8 E Q => ?run⟩
  case run =>
    iintro ⟨H1, H2, H3, H4, H5, H6, H7, H8, Hk⟩
    sl_exec_parts! (disch := first | exact slab_inb (hb _) (hh _) (hx _) | exact (hx _).1)
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Body

end
-- ==== Proof.KernelIdealFrame.lean ====
/-
  The launch of the pooling kernel: the host operations that build the tables, the kernel over its eight grid points,
  and the three host operations that lay out its result. Under `TblOk` — the words of the tables name slabs inside the
  images — the run ends with each pipeline array at what its proof data say and every counter at zero.
-/
module

public import proofs.«01_k».proof.Proof.KernelIdealBody
public import Idealize.ShloMosaic.Lib.Pipeline.FrameSuffix
public import Idealize.ShloMosaic.Lib.Ring
public import Idealize.ShloMosaic.Lib.WordCmp
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the kernel -/

/-- The host operations before the kernel, group by group. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30]

/-- What the buffers of core `c` hold when the kernel starts. -/
abbrev V0 (c : Dev nD) : Valuation τ sig (Elt F) := StableHlo.after (List.flatten prefixOps) (fun b => m (c, b))
/-- The same, at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 1600000 in
/-- The program is those operations, the kernel, and the operations after it. -/
theorem hmain : Pipeline.HMainPK (Ix := Unit) (Name := ℕ) (U := UR sig nD τ) (Lvl := ℕ) pcfgs 0 defs₀ Variants.none m
    (main (F := F)) (V m) (fun _ => Pipeline.chain ([hostOps1].map StableHlo.seq)) :=
  Pipeline.hmainP_around pcfgs 0 defs₀ Variants.none m main prefixOps [hostOps1]
    (by simp only [prefixOps, List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub⟩)
    (by simp only [prefixOps, List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh⟩) main_chain

/-- An operation after the kernel is one of three. -/
theorem mem_suffix {P : HloOp τ sig (Elt F) → Prop} (h : (hostOps1 : List (HloOp τ sig (Elt F))).Forall P) :
    ∀ ops ∈ ([hostOps1] : List (List (HloOp τ sig (Elt F)))), ∀ op ∈ ops, P op := by
  intro ops hops op hop
  obtain rfl := List.mem_singleton.mp hops
  exact List.forall_iff_forall_mem.mp h op hop

/-- They touch no table. -/
theorem suffix_sub : ∀ ops ∈ ([hostOps1] : List (List (HloOp τ sig (Elt F)))), ∀ op ∈ ops,
    op.bufs ⊆ Pipeline.tailRefs sig pre0 spec0 := by
  refine mem_suffix ?_
  have hs := hostOps1_sub (F := F)
  simp only [List.Forall] at hs ⊢
  refine ⟨Pipeline.sub_tailRefs pre0 spec0 _ hs.1 ?_, Pipeline.sub_tailRefs pre0 spec0 _ hs.2.1 ?_,
    Pipeline.sub_tailRefs pre0 spec0 _ hs.2.2 ?_⟩
  all_goals
    intro j
    fin_cases j <;> simp only [StableHlo.unary_bufs, StableHlo.reshape_bufs, Finset.mem_insert, Finset.mem_singleton,
      not_or] <;> and_intros <;> exact StableHlo.devRef_ne_of_ne (by decide)
/-- They allocate nothing. -/
theorem suffix_fresh : ∀ ops ∈ ([hostOps1] : List (List (HloOp τ sig (Elt F)))), ∀ op ∈ ops, op.fresh = ∅ :=
  mem_suffix hostOps1_fresh
/-- They write no array of the kernel. -/
theorem suffix_keeps : ∀ ops ∈ ([hostOps1] : List (List (HloOp τ sig (Elt F)))), ∀ op ∈ ops,
    ∀ w, Proc.devRef .tc (Pipeline.arrRef spec0 w) ∉ op.writes := by
  refine mem_suffix ?_
  simp only [List.Forall]
  and_intros
  all_goals
    intro w
    fin_cases w <;> simp only [StableHlo.unary_writes, StableHlo.reshape_writes, Finset.mem_singleton] <;>
      exact StableHlo.devRef_ne_of_ne (by decide)

/-- A reference no operation before the kernel writes holds there what it held at the start. -/
theorem V_of_unwritten (c : Dev nD) (b : Ref sig .tc)
    (h : (List.flatten (prefixOps (F := F))).Forall fun op => Proc.devRef .tc b ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) := by
  refine V_of_unwritten m c main_arg0 ?_
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
    List.nil_append, List.Forall, StableHlo.nullary_writes, StableHlo.unary_writes, StableHlo.binary_writes, StableHlo.ternary_writes,
      StableHlo.reshape_writes, Finset.mem_singleton]
  repeat' apply And.intro
  all_goals exact StableHlo.devRef_ne_of_ne (by decide)

theorem V_main_arg1 (c : Dev nD) : V m c main_arg1 = m ((c : Thread nD τ).loc main_arg1) := by
  refine V_of_unwritten m c main_arg1 ?_
  simp only [prefixOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, List.flatten_cons, List.flatten_nil, List.append_nil, List.cons_append,
    List.nil_append, List.Forall, StableHlo.nullary_writes, StableHlo.unary_writes, StableHlo.binary_writes, StableHlo.ternary_writes,
      StableHlo.reshape_writes, Finset.mem_singleton]
  repeat' apply And.intro
  all_goals exact StableHlo.devRef_ne_of_ne (by decide)

/-! ## The tables -/

/-- The five tables when the kernel starts. -/
def tbl : pre0.Contents (Elt F) := fun j => V m (0 : Dev nD) (pre0.ref j)

/-- There is one device, so they are the tables of every device. -/
theorem V_pre (c : Dev nD) (j : Fin 5) : V m c (pre0.ref j) = tbl m j := by
  obtain rfl : c = 0 := Subsingleton.elim _ _; rfl

/-- The tables, admitted as they are: no index map reads them. -/
abbrev adm : (pcfg0 (F := F)).Adm := ⟨tbl m, trivial⟩
/-- The kernel's pipeline at these tables. -/
abbrev cfgM : Pipeline.Cfg sig Λ₀ := cfg0 (adm m)

/-- The tables as the body is handed them. -/
abbrev tbM0 : Memref sig .tc .smem S256 .i32 := Memref.whole main_v4
abbrev tbM1 : Memref sig .tc .smem S1792 .i32 := Memref.whole main_v143
abbrev tbM2 : Memref sig .tc .smem S1792 .i32 := Memref.whole main_v145
abbrev tbM3 : Memref sig .tc .smem S1792 .i32 := Memref.whole main_v147
abbrev tbM4 : Memref sig .tc .smem S256 .i32 := Memref.whole main_v95

/-- The words of the tables name slabs inside the images. -/
structure TblOk : Prop where
  batch : ∀ x, BatchOk (tbM0.view.read (Elt F) (tbl m 0) x)
  row : ∀ x, RowOk (tbM1.view.read (Elt F) (tbl m 1) x)
  col : ∀ x, ColOk (tbM4.view.read (Elt F) (tbl m 4) x)

/-- The halves of the tables that the body may read, one by one. -/
theorem PhiT_eq (c : Dev nD) : (Pipeline.ΦT pre0 (tbl m) c : sProp 𝕄) = iprop(tb c tbM0 (tbl m 0) ∗ tb c tbM1 (tbl m 1)
    ∗ tb c tbM2 (tbl m 2) ∗ tb c tbM3 (tbl m 3) ∗ tb c tbM4 (tbl m 4)) := by
  unfold Pipeline.ΦT Pipeline.prefHeld
  rw [show (Finset.univ : Finset (Fin 5)) = insert 0 (insert 1 (insert 2 (insert 3 {4}))) from by decide,
    bigSep_insert (by decide), bigSep_insert (by decide), bigSep_insert (by decide), bigSep_insert (by decide),
    bigSep_singleton]
  rfl

/-! ## The blocks -/

/-- Window `w`'s block at point `t`, read off its array as the kernel finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The staging buffers of point `t`. -/
abbrev ms0 (t : Fin (cfgM m).N) : Memref sig .tc .vmem S2x30x40x256 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S32x32x24 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S32x49x256 .bf16 := spec0_2.stage ((cfgM m).slots t 2)
abbrev hs2 (t : Fin (cfgM m).N) : (ms2 m t).IsWhole := hstage0_2 (((cfgM m).slots t 2).cast nbuf0_2)

variable (hO : TblOk m)

/-- The body's run at point `t`, on the blocks of that point. -/
def runAt (c : Dev nD) (t : Fin (cfgM m).N) :=
  kernelRun (F := F) c (grid0.coords t) tbM0 (Memref.isWhole_whole _) tbM1 (Memref.isWhole_whole _) tbM2 (Memref.isWhole_whole _)
    tbM3 (Memref.isWhole_whole _) tbM4 (Memref.isWhole_whole _) (ms0 m t) (hs0 m t) (ms1 m t) (hs1 m t) (ms2 m t) (hs2 m t)
    (tbl m 0) (tbl m 1) (tbl m 2) (tbl m 3) (tbl m 4) ((hs0 m t).unread (iblk m c 0 t)) ((hs1 m t).unread (iblk m c 1 t))
    hO.batch hO.row hO.col

/-- What the body leaves in its output block at point `t`. -/
def outAt (c : Dev nD) (t : Fin (cfgM m).N) : Vec F S32x49x256 .bf16 :=
  (ms2 m t).view.read (Elt F) (runAt m hO c t).1

/-- The proof data of the pipeline: each array as the kernel finds it; after the body each input's block as it was and
    the output's at `outAt`; the tables' halves carried along; nothing owed. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m hO c t
  Φ _ := iprop(Pipeline.ΦA spec0 c ∗ Pipeline.ΦT pre0 (tbl m) c)
  q _ := fullShare
  owed _ := 0

theorem A_eq (c : Dev nD) (w : Fin (cfgM m).W) : (dats m hO 0 c).A w = V m c (Pipeline.arrRef spec0 w) := by
  dsimp only [dats]
theorem after_0 (c : Dev nD) (t : Fin (cfgM m).N) : (dats m hO 0 c).after 0 t = iblk m c 0 t := by dsimp only [dats]; rfl
theorem after_1 (c : Dev nD) (t : Fin (cfgM m).N) : (dats m hO 0 c).after 1 t = iblk m c 1 t := by dsimp only [dats]; rfl
theorem after_2 (c : Dev nD) (t : Fin (cfgM m).N) : (dats m hO 0 c).after 2 t = outAt m hO c t := by dsimp only [dats]; rfl

/-- An input's staging buffer holds its block at every point, whether it was fetched there or kept. -/
theorem before_0 (c : Dev nD) (t : Fin (cfgM m).N) (d) : (dats m hO 0 c).before 0 t d = iblk m c 0 t :=
  ((dats m hO 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m hO 0 c).before 1 t d = iblk m c 1 t :=
  ((dats m hO 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-! ## The body at a point -/

/-- The body at point `t`, on that point's staging buffers. -/
abbrev bodyAt (t : Fin (cfgM m).N) : Prog (TpuEff nD τ sig (Elt F) Λ₀ .tc) PUnit :=
  cc0__pool_body (grid0.coords t) tbM0 (Memref.isWhole_whole _) tbM1 (Memref.isWhole_whole _) tbM2 (Memref.isWhole_whole _)
    tbM3 (Memref.isWhole_whole _) tbM4 (Memref.isWhole_whole _) (ms0 m t) (hs0 m t) (ms1 m t) (hs1 m t) (ms2 m t) (hs2 m t)

/-- What the body is called with at point `t`, -/
def bodyPre (c : Dev nD) (t : Fin (cfgM m).N) : sProp 𝕄 :=
  iprop((dats m hO 0 c).Φ t.castSucc ∗ (dats m hO 0 c).owesAt () t.castSucc
    ∗ (∃ d, owns (c : Thread nD τ) (ms0 m t) fullShare ((dats m hO 0 c).before 0 t d))
    ∗ (∃ d, owns (c : Thread nD τ) (ms1 m t) fullShare ((dats m hO 0 c).before 1 t d))
    ∗ (∃ d, owns (c : Thread nD τ) (ms2 m t) fullShare ((dats m hO 0 c).before 2 t d)))
/-- and what it returns. -/
def bodyPost (c : Dev nD) (t : Fin (cfgM m).N) : sProp 𝕄 :=
  iprop((dats m hO 0 c).Φ t.succ ∗ (dats m hO 0 c).owesAt () t.succ
    ∗ owns (c : Thread nD τ) (ms0 m t) fullShare ((dats m hO 0 c).after 0 t)
    ∗ owns (c : Thread nD τ) (ms1 m t) fullShare ((dats m hO 0 c).after 1 t)
    ∗ owns (c : Thread nD τ) (ms2 m t) fullShare ((dats m hO 0 c).after 2 t))

/-- The body, from what it is called with, returns what it should. -/
theorem sound_body (c : Dev nD) (t : Fin (cfgM m).N) :
    bodyPre m hO c t ⊢ wp frame (wpE (defs₀ (F := F)) Variants.none c none) Set.univ (bodyAt m t) (fun _ => bodyPost m hO c t) := by
  unfold bodyPre bodyPost
  simp only [before_0, before_1]
  rw [show (dats m hO 0 c).Φ t.succ = (dats m hO 0 c).Φ t.castSucc from rfl,
    show (dats m hO 0 c).owesAt () t.succ = (dats m hO 0 c).owesAt () t.castSucc from rfl,
    after_0, after_1, after_2]
  rw [show (dats m hO 0 c).Φ t.castSucc = iprop(Pipeline.ΦA spec0 c ∗ Pipeline.ΦT pre0 (tbl m) c) from rfl, PhiT_eq]
  unfold owns
  simp only [(hs0 m t).set_eq_univ, (hs1 m t).set_eq_univ, (hs2 m t).set_eq_univ]
  iintro ⟨⟨HΦ, ⟨HT0, HT1, HT2, HT3, HT4⟩⟩, Ho, ⟨%d0, ⟨%f0, %hf0, H0⟩⟩, ⟨%d1, ⟨%f1, %hf1, H1⟩⟩, ⟨%d2, ⟨%f2, %hf2, H2⟩⟩⟩
  obtain rfl := (hs0 m t).eq_unread hf0; obtain rfl := (hs1 m t).eq_unread hf1
  iapply ((runAt m hO c t).2 f2 Set.univ _)
  isplitl [HT0]; · iexact HT0
  isplitl [HT1]; · iexact HT1
  isplitl [HT2]; · iexact HT2
  isplitl [HT3]; · iexact HT3
  isplitl [HT4]; · iexact HT4
  isplitl [H0]; · iexact H0
  isplitl [H1]; · iexact H1
  isplitl [H2]; · iexact H2
  iintro ⟨HT0, HT1, HT2, HT3, HT4, H0, H1, H2⟩
  isplitl [HΦ HT0 HT1 HT2 HT3 HT4]
  · isplitl [HΦ]; · iexact HΦ
    isplitl [HT0]; · iexact HT0
    isplitl [HT1]; · iexact HT1
    isplitl [HT2]; · iexact HT2
    isplitl [HT3]; · iexact HT3
    iexact HT4
  isplitl [Ho]; · iexact Ho
  isplitl [H0]
  · iexists _; isplitr; · ipureintro; exact (hs0 m t).read_unread _
    iexact H0
  isplitl [H1]
  · iexists _; isplitr; · ipureintro; exact (hs1 m t).read_unread _
    iexact H1
  iexists _; isplitr; swap; · iexact H2
  ipureintro; unfold outAt; rfl

/-- The body table's row at point `t` is that body. -/
theorem defs₀_row (t : Fin (cfgM m).N) :
    defs₀ (F := F) .tc (cfgM m).body ((cfgM m).bodyArgs t ((cfgM m).slots t)) = bodyAt m t := by
  unfold defs₀; rw [Defs.onTc_tc]

/-- The library's obligation of the body, at every point. -/
theorem body_obligation (c : Dev nD) : BodyObligation (dats (F := F) m hO 0 c) (defs₀ (F := F)) Variants.none () Set.univ := fun t => by
  rw [bigSep_W0, bigSep_W0, defs₀_row m]
  exact triple_restated (sound_body m hO c t) rfl .rfl fun _ => .rfl

/-! ## The run -/

/-- What the buffers of core `c` hold at the end, but for the pipeline's arrays. -/
abbrev tailV (c : Dev nD) (b : Ref sig .tc) : Buf (Elt F) ((c.tc : Thread nD τ).loc b) :=
  Pipeline.afterTail pcfgs (fun _ => adm m) (dats m hO) 0 (V0 m) [hostOps1] c b

set_option backward.isDefEq.respectTransparency.types false in
set_option maxHeartbeats 1600000 in
/-- The run: the arrays end at what the proof data say, the other buffers at what the host operations leave, the counters at
    zero. -/
theorem run_main : θ_run defs (onTc (τ := τ) (main (F := F))) (s₀ m ρ) (fun r =>
    Pipeline.FramePost (Pipeline.pin pcfgs fun _ => adm m) (dats m hO) 0 (tailV m hO) r ∧ r.2.sem = fun _ => 0) :=
  Pipeline.θ_run_frameP_around (Q' := _) pcfgs (fun _ => adm m) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := suffix_sub) (hfresh := suffix_fresh) (hkeep := suffix_keeps)
    (hmain := hmain m) (hA := A_eq m hO) (hpf := V_pre m) (hΦ := fun _ _ => rfl)

/-- What the operations after the kernel do not write, and no window stages, ends as the kernel found it. -/
theorem tailV_of_unwritten (c : Dev nD) (b : Ref sig .tc) (hb : ∀ w, Pipeline.arrRef spec0 w ≠ b)
    (h : (hostOps1 : List (HloOp τ sig (Elt F))).Forall fun op => Proc.devRef .tc b ∉ op.writes) :
    tailV m hO c b = V m c b := by
  unfold tailV Pipeline.afterTail
  rw [StableHlo.after_of_forall_not_mem (b := Proc.devRef .tc b) _ _ (List.forall_iff_forall_mem.mp (by
      simpa only [List.flatten_cons, List.flatten_nil, List.append_nil] using h)),
    Pipeline.withArrays_of_ne _ c (V0 m c) _ b hb]

theorem tailV_main_arg0 (c : Dev nD) : tailV m hO c main_arg0 = m ((c : Thread nD τ).loc main_arg0) := by
  rw [tailV_of_unwritten m hO c main_arg0 (by decide) ?_, V_main_arg0]
  simp only [List.Forall, StableHlo.unary_writes, StableHlo.reshape_writes, Finset.mem_singleton]
  and_intros <;> exact StableHlo.devRef_ne_of_ne (by decide)

theorem tailV_main_arg1 (c : Dev nD) : tailV m hO c main_arg1 = m ((c : Thread nD τ).loc main_arg1) := by
  rw [tailV_of_unwritten m hO c main_arg1 (by decide) ?_, V_main_arg1]
  simp only [List.Forall, StableHlo.unary_writes, StableHlo.reshape_writes, Finset.mem_singleton]
  and_intros <;> exact StableHlo.devRef_ne_of_ne (by decide)

/-- A buffer of the whole program that is no array of the pipeline is among those the run leaves alone. -/
theorem rest_mem (b : Ref sig .tc) (hs : b.isScoped = false) (ha : ∀ w, (spec0 w).arr.view.ref ≠ b) :
    b ∈ Pipeline.restRefs sig (Pipeline.pin pcfgs (fun _ => adm m) 0).spec :=
  Pipeline.mem_restRefs_of (win := spec0) b hs ha

/-- The frame with the result named: the result buffer ends at what the host operations leave there, the arguments end
    unchanged, every counter ends at zero. -/
theorem run_named : θ_run defs (onTc (τ := τ) (main (F := F))) ⟨m, fun _ => 0, ρ⟩ (fun r => (∀ c : Dev nD,
      r.2.mem ((c.tc : Thread nD τ).loc main_v151) = tailV m hO c main_v151
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).2 main_v151 (rest_mem m main_v151 rfl (by decide)),
    ((h.1 c).2 main_arg0 (rest_mem m main_arg0 rfl (by decide))).trans (tailV_main_arg0 m hO c),
    ((h.1 c).2 main_arg1 (rest_mem m main_arg1 rfl (by decide))).trans (tailV_main_arg1 m hO c)⟩, h.2⟩) (run_main m ρ hO)

end Cert.KernelIdeal.Body

end
-- ==== Proof.KernelIdealTables.lean ====
/-
  What the host operations leave in the buffers the kernel reads, one step at a time: each buffer as its operations compute it from
  the earlier buffers it is made of.
-/
module

public import proofs.«01_k».proof.Proof.KernelIdealFrame
public import proofs.«01_k».proof.Proof.Words
public import Idealize.ShloMosaic.Lib.StableHlo.RunRead

@[expose] public section

set_option maxRecDepth 16384
set_option maxHeartbeats 1600000

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (c : Dev nD)

/-- The rois' column `k`, scaled to cells and rounded. -/
abbrev cells (r : FVec F S256x5 .f32) (off : Fin 2 → ℕ) (h : S256x5.Slices off S256x1) : FVec F S256 .f32 :=
  Host.roundeven (mulf (shapeCast S256 (extractStridedSlice S256x1 off r h) shapeCasts_S256x1_S256)
    (broadcastInDim S256 ![] bcast_S_S256 (constant S_ .f32 0x3D800000#32)))

/-- The length of a side, at least one cell. -/
abbrev extent (hi lo : FVec F S256 .f32) : FVec F S256 .f32 :=
  maximumf (addf (subf hi lo) (broadcastInDim S256 ![] bcast_S_S256 (constant S_ .f32 0x3F800000#32)))
    (broadcastInDim S256 ![] bcast_S_S256 (constant S_ .f32 0x3F800000#32))

/-- A seventh of it. -/
abbrev bin (len : FVec F S256 .f32) : FVec F S256 .f32 :=
  Host.divf len (broadcastInDim S256 ![] bcast_S_S256 (constant S_ .f32 0x40E00000#32))

/-- The seven bins' numbers in a row. -/
abbrev binRow : FVec F S1x7 .f32 := broadcastInDim S1x7 ![1] bcast_S7_S1x7_1 (sitofp .f32 (iotaInDim S7 32 0))

/-- A number per roi, for each of its seven bins. -/
abbrev perRoi {α : Type} (x : S256.Idx → α) : S256x7.Idx → α :=
  broadcastInDim S256x7 ![0, 1] bcast_S256x1_S256x7_0_1 (broadcastInDim S256x1 ![0] bcast_S256_S256x1_0 x)

/-- Clipped between zero and the image's side `n`. -/
abbrev clipped (n : BitVec 32) (x : FVec F S256x7 .f32) : FVec F S256x7 .f32 :=
  minimumf (broadcastInDim S256x7 ![] bcast_S_S256x7 (sitofp .f32 (constantI S_ 32 n)))
    (maximumf (broadcastInDim S256x7 ![] bcast_S_S256x7 (constant S_ .f32 0x00000000#32)) x)

/-- Where the bins start along one axis. -/
abbrev starts (n : BitVec 32) (b lo : FVec F S256 .f32) : FVec F S256x7 .f32 :=
  clipped n (addf (Host.floor (mulf (broadcastInDim S256x7 ![0, 1] bcast_S1x7_S256x7_0_1 binRow) (perRoi b))) (perRoi lo))

/-- Where they end. -/
abbrev ends (n : BitVec 32) (b lo : FVec F S256 .f32) : FVec F S256x7 .f32 :=
  clipped n (addf (Host.ceil (mulf (broadcastInDim S256x7 ![0, 1] bcast_S1x7_S256x7_0_1
    (addf binRow (broadcastInDim S1x7 ![] bcast_S_S1x7 (constant S_ .f32 0x3F800000#32)))) (perRoi b))) (perRoi lo))

/-- Words clipped between zero and `n`. -/
abbrev wclip {s : Shape} (h : S_.BroadcastsInDim s (![] : Fin 0 → Fin s.rank)) (n : BitVec 32) (x : IVec s 32) : IVec s 32 :=
  minsi (broadcastInDim s ![] h (constantI S_ 32 n)) (maxsi (broadcastInDim s ![] h (constantI S_ 32 0#32)) x)

/-- A number per candidate, for every roi. -/
abbrev perCand {α : Type} (x : S32.Idx → α) : S256x32.Idx → α :=
  broadcastInDim S256x32 ![0, 1] bcast_S1x32_S256x32_0_1 (broadcastInDim S1x32 ![1] bcast_S32_S1x32_1 x)

/-- The bins' numbers as indices, a negative one counted from the end. -/
abbrev binIdx (j : IVec S32 32) : IVec S32x1 32 :=
  broadcastInDim S32x1 ![0] bcast_S32_S32x1_0
    (select (cmpi .slt j (broadcastInDim S32 ![] bcast_S_S32 (constantI S_ 32 0#32)))
      (addi j (broadcastInDim S32 ![] bcast_S_S32 (constantI S_ 32 7#32))) j)

theorem V_v1 : V m c main_v1 = truncf .bf16 (transpose S2x30x40x256 [0, 2, 3, 1] (m ((c : Thread nD τ).loc main_arg0)) transposes_S2x256x30x40_S2x30x40x256_0_2_3_1) bitsLt_bf16_f32 := by
  unfold V V0 prefixOps
  after_reads_simp <;> rfl

theorem V_v4 : V m c main_v4 = fptosi 32 (shapeCast S256 (extractStridedSlice S256x1 ![0, 0] (m ((c : Thread nD τ).loc main_arg1)) slices_S256x5_S256x1_0_0) shapeCasts_S256x1_S256) := by
  unfold V V0 prefixOps
  after_reads_simp <;> rfl

theorem V_v9 : V m c main_v9 = cells (m ((c : Thread nD τ).loc main_arg1)) ![0, 1] slices_S256x5_S256x1_0_1 := by
  unfold V V0 prefixOps
  after_reads_simp <;> rfl

theorem V_v14 : V m c main_v14 = cells (m ((c : Thread nD τ).loc main_arg1)) ![0, 2] slices_S256x5_S256x1_0_2 := by
  unfold V V0 prefixOps
  after_reads_simp <;> rfl

theorem V_v19 : V m c main_v19 = cells (m ((c : Thread nD τ).loc main_arg1)) ![0, 3] slices_S256x5_S256x1_0_3 := by
  unfold V V0 prefixOps
  after_reads_simp <;> rfl

theorem V_v24 : V m c main_v24 = cells (m ((c : Thread nD τ).loc main_arg1)) ![0, 4] slices_S256x5_S256x1_0_4 := by
  unfold V V0 prefixOps
  after_reads_simp <;> rfl

theorem V_v36 : V m c main_v36 = bin (extent (V m c main_v24) (V m c main_v14)) := by
  unfold V V0 prefixOps
  after_reads_simp <;> rfl

theorem V_v38 : V m c main_v38 = bin (extent (V m c main_v19) (V m c main_v9)) := by
  unfold V V0 prefixOps
  after_reads_simp <;> rfl

theorem V_v84 : V m c main_v84 = fptosi 32 (starts 30#32 (V m c main_v36) (V m c main_v14)) := by
  unfold V V0 prefixOps
  after_reads_simp <;> rfl

theorem V_v85 : V m c main_v85 = fptosi 32 (ends 30#32 (V m c main_v36) (V m c main_v14)) := by
  unfold V V0 prefixOps
  after_reads_simp <;> rfl

theorem V_v86 : V m c main_v86 = fptosi 32 (starts 40#32 (V m c main_v38) (V m c main_v9)) := by
  unfold V V0 prefixOps
  after_reads_simp <;> rfl

theorem V_v87 : V m c main_v87 = fptosi 32 (ends 40#32 (V m c main_v38) (V m c main_v9)) := by
  unfold V V0 prefixOps
  after_reads_simp <;> rfl

theorem V_v88 : V m c main_v88 = wclip bcast_S_S256x7 26#32 (V m c main_v84) := by
  unfold V V0 prefixOps
  after_reads_simp <;> rfl

theorem V_v90 : V m c main_v90 = wclip bcast_S_S256 39#32 (fptosi 32 (V m c main_v9)) := by
  unfold V V0 prefixOps
  after_reads_simp <;> rfl

theorem V_v94 : V m c main_v94 = Host.shli (Host.shrsi (V m c main_v90) (broadcastInDim S256 ![] bcast_S_S256 (constantI S_ 32 3#32)))
    (broadcastInDim S256 ![] bcast_S_S256 (constantI S_ 32 3#32)) := by
  unfold V V0 prefixOps
  after_reads_simp

theorem V_v95 : V m c main_v95 = wclip bcast_S_S256 16#32 (V m c main_v94) := by
  unfold V V0 prefixOps
  after_reads_simp
  simp only [StableHlo.TRef.toBuf, StableHlo.TRef.ofBuf, cast_eq, id]

/-- The candidates' bins: eight lists of candidates after one another. -/
theorem V_v103 : V m c main_v103 = fun x : S32.Idx => BitVec.ofNat 32 ((x 0).val % 8) := by
  unfold V V0 prefixOps
  after_reads_simp
  funext x
  obtain ⟨k, hk⟩ : ∃ k : Fin 32, x 0 = k := ⟨x 0, rfl⟩
  simp only [StableHlo.TRef.toBuf, StableHlo.TRef.ofBuf, cast_eq, id, select, cmpi, andi, addi, Host.remsi, iotaInDim, broadcastInDim, constantI, hk]
  exact Words.rem_eight k

/-- The candidates' places in their lists. -/
theorem V_v104 : V m c main_v104 = fun x : S32.Idx => BitVec.ofNat 32 ((x 0).val / 8) := by
  unfold V V0 prefixOps
  after_reads_simp
  funext x
  obtain ⟨k, hk⟩ : ∃ k : Fin 32, x 0 = k := ⟨x 0, rfl⟩
  simp only [StableHlo.TRef.toBuf, StableHlo.TRef.ofBuf, cast_eq, id, select, cmpi, andi, subi, signi, Host.remsi, Host.divsi, iotaInDim, broadcastInDim, constantI, hk]
  exact Words.div_eight k

theorem V_v113 : V m c main_v113 = Host.gather gather_S256x7_S32x1_S256x32_0_1_n_n_1_1_2561 (subi (V m c main_v86) (perRoi (V m c main_v95))) (binIdx (minsi (V m c main_v103) (broadcastInDim S32 ![] bcast_S_S32 (constantI S_ 32 6#32)))) := by
  unfold V V0 prefixOps
  after_reads_simp <;> rfl

theorem V_v120 : V m c main_v120 = Host.gather gather_S256x7_S32x1_S256x32_0_1_n_n_1_1_2561 (subi (V m c main_v87) (perRoi (V m c main_v95))) (binIdx (minsi (V m c main_v103) (broadcastInDim S32 ![] bcast_S_S32 (constantI S_ 32 6#32)))) := by
  unfold V V0 prefixOps
  after_reads_simp <;> rfl

theorem V_v135 : V m c main_v135 = select (andi (cmpi .slt (V m c main_v113) (V m c main_v120)) (perCand (cmpi .slt (V m c main_v103) (broadcastInDim S32 ![] bcast_S_S32 (constantI S_ 32 7#32)))))
    (select (cmpi .slt (addi (V m c main_v113) (perCand (V m c main_v104))) (V m c main_v120)) (addi (V m c main_v113) (perCand (V m c main_v104))) (V m c main_v113))
    (broadcastInDim S256x32 ![] bcast_S_S256x32 (constantI S_ 32 4294967295#32)) := by
  unfold V V0 prefixOps
  after_reads_simp <;> rfl

theorem V_v142 : V m c main_v142 = uitofp .bf16 (cmpi .eq (broadcastInDim S256x32x24 ![0, 1, 2] bcast_S256x32x1_S256x32x24_0_1_2 (broadcastInDim S256x32x1 ![0, 1] bcast_S256x32_S256x32x1_0_1 (V m c main_v135)))
    (broadcastInDim S256x32x24 ![0, 1, 2] bcast_S1x1x24_S256x32x24_0_1_2 (broadcastInDim S1x1x24 ![2] bcast_S24_S1x1x24_2 (iotaInDim S24 32 0)))) := by
  unfold V V0 prefixOps
  after_reads_simp <;> rfl

theorem V_v143 : V m c main_v143 = shapeCast S1792 (V m c main_v88) shapeCasts_S256x7_S1792 := by
  unfold V V0 prefixOps
  after_reads_simp <;> rfl

theorem V_v145 : V m c main_v145 = shapeCast S1792 (subi (V m c main_v84) (V m c main_v88)) shapeCasts_S256x7_S1792 := by
  unfold V V0 prefixOps
  after_reads_simp <;> rfl

theorem V_v147 : V m c main_v147 = shapeCast S1792 (subi (V m c main_v85) (V m c main_v88)) shapeCasts_S256x7_S1792 := by
  unfold V V0 prefixOps
  after_reads_simp <;> rfl

end Cert.KernelIdeal.Body

end
-- ==== Proof.KernelIdealBounds.lean ====
/-
  The tables name slabs inside the images: the row and column words because the host clips them, the image words because
  the rois are assumed to name one of the two images.
-/
module

public import proofs.«01_k».proof.Proof.KernelIdealTables
public import proofs.«01_k».proof.Proof.Gen.Pre_batches_exist

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ)

/-- The precondition at one roi: its image number is zero or one. -/
theorem batch_of_pre (x : FVec F S2x256x30x40 .f32) (r : FVec F S256x5 .f32)
    (h : Cert.Pre_batches_exist.fn (F := F) x r = fun _ => 1#1) (i : S256.Idx) :
    BatchOk (fptosi 32 (shapeCast S256 (extractStridedSlice S256x1 ![0, 0] r slices_S256x5_S256x1_0_0) shapeCasts_S256x1_S256) i) := by
  have h1 := congrFun h i
  unfold Cert.Pre_batches_exist.fn at h1
  have h2 := (WordCmp.andi_sge_zero_slt_ofNat (k := 2) (by norm_num) _).symm.trans h1
  have h3 := (WordCmp.ofBool_decide_eq_one_iff _).mp h2
  exact h3

theorem row_bound (c : Dev nD) (x : S256x7.Idx) : (V m c main_v88 x : BitVec 32).toNat ≤ 26 := by
  rw [V_v88]; exact Words.clip_le 26 (by norm_num) _

theorem col_bound (c : Dev nD) (x : S256.Idx) : ∃ v : BitVec 32, v.toNat < 40 ∧ V m c main_v95 x = Words.base v := by
  refine ⟨V m c main_v90 x, ?_, ?_⟩
  · rw [V_v90]; exact Nat.lt_of_le_of_lt (Words.clip_le 39 (by norm_num) _) (by norm_num)
  · rw [V_v95, V_v94]; rfl

theorem tblOk (h : ∀ c : Dev nD, Cert.Pre_batches_exist.fn (F := F) (m ((c.tc : Thread nD τ).loc main_arg0))
    (m ((c.tc : Thread nD τ).loc main_arg1)) = fun _ => 1#1) : TblOk m where
  batch x := by
    have := batch_of_pre _ _ (h 0) x
    rw [← V_v4 m 0] at this
    exact this
  row x := by
    have : RowOk (V m 0 main_v143 x) := by
      rw [V_v143]
      have := row_bound m 0 (Shape.reshapeEquiv shapeCasts_S256x7_S1792 x)
      exact Nat.add_le_add_right this 4
    exact this
  col x := by
    obtain ⟨v, hv, e⟩ := col_bound m 0 x
    have hs := Words.base_spec hv
    have : ColOk (V m 0 main_v95 x) := by rw [e]; exact ⟨hs.1, by omega⟩
    exact this

end Cert.KernelIdeal.Body

end
-- ==== Proof.ReferenceFrame.lean ====
/-
  The reference runs to its end with its arguments unchanged and every counter at zero: it declares no semaphore.
-/
module

public import proofs.«01_k».proof.Proof.Gen.ReferenceIdeal.Run
public import Idealize.ShloMosaic.Lib.Quiescent

@[expose] public section

noncomputable section

namespace Cert.ReferenceIdeal.Body

open Cert.ReferenceIdeal Cert.ReferenceIdeal.Gen
open Idealize.ShloMosaic Idealize.ShloMosaic.TcCoe Idealize.SL.Sem

variable {F : FTy → Type} [FloatOps F]

/-- The reference's frame. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Value.run m ρ)

end Cert.ReferenceIdeal.Body

end
-- ==== Proof.Bins.lean ====
/-
  Where the bins of a region lie, along one axis of an image, over the extended reals. A region's first and last cell
  are integers or infinities; its extent, at least one, is cut into seven; bin `j` runs from the floor of `j` sevenths to
  the ceiling of `j + 1` sevenths, moved to the region's first cell and clipped to the image. Every bound of a bin is
  then a natural number, whatever the region; a bin of a region of at most twenty-two cells has at most four cells; and a
  bin with a cell in it lies at and after the region's first cell, clipped to the image.
-/
module

public import proofs.«01_k».proof.Proof.Words
public import Idealize.ShloMosaic.PureOps.Ideal
public import Mathlib.Tactic.FinCases
public import Mathlib.Tactic.Linarith
public import Mathlib.Tactic.IntervalCases

@[expose] public section

noncomputable section

namespace Cert.Bins

open Idealize.ShloMosaic

/-- A natural number among the extended reals. -/
abbrev nat (n : ℕ) : EReal := ((n : ℝ) : EReal)

/-- An integer or an infinity. -/
def IsCell (x : EReal) : Prop := x = ⊥ ∨ x = ⊤ ∨ ∃ k : ℤ, x = ((k : ℝ) : EReal)

theorem isCell_round (f : ℝ → ℤ) (x : EReal) : IsCell (Ideal.liftRound f x) := by
  induction x using EReal.rec with
  | bot => exact Or.inl rfl
  | top => exact Or.inr (Or.inl rfl)
  | coe r => exact Or.inr (Or.inr ⟨f r, rfl⟩)

/-- A region's extent is a natural number. -/
theorem extent_nat {hi lo : EReal} (h1 : IsCell hi) (h2 : IsCell lo) (N : ℕ) (h : hi - lo ≤ nat N) :
    ∃ n : ℕ, 1 ≤ n ∧ n ≤ N + 1 ∧ max (hi - lo + 1) 1 = nat n := by
  have one : ∀ x : EReal, x = ⊥ → ∃ n : ℕ, 1 ≤ n ∧ n ≤ N + 1 ∧ max (x + 1) 1 = nat n := fun x hx =>
    ⟨1, le_rfl, by omega, by rw [hx, EReal.bot_add]; simp⟩
  have top : ∀ x : EReal, x = ⊤ → x ≤ nat N → False := fun x hx hN => by
    rw [hx, top_le_iff] at hN
    exact EReal.coe_ne_top _ hN
  rcases h1 with rfl | rfl | ⟨k, rfl⟩
  · exact one _ (by rw [sub_eq_add_neg, EReal.bot_add])
  · rcases h2 with rfl | rfl | ⟨k', rfl⟩
    · exact (top _ (by simp) h).elim
    · exact one _ (by simp)
    · exact (top _ (by simp) h).elim
  · rcases h2 with rfl | rfl | ⟨k', rfl⟩
    · exact (top _ (by simp) h).elim
    · exact one _ (by simp)
    · have e : ((k : ℝ) : EReal) - ((k' : ℝ) : EReal) = (((k - k' : ℤ) : ℝ) : EReal) := by
        rw [← EReal.coe_sub]; push_cast; rfl
      rw [e] at h ⊢
      have h' : k - k' ≤ N := by
        have := EReal.coe_le_coe_iff.mp h
        exact_mod_cast this
      refine ⟨(max (k - k' + 1) 1).toNat, by omega, by omega, ?_⟩
      have e2 : (((max (k - k' + 1) 1).toNat : ℕ) : ℝ) = ((max (k - k' + 1) 1 : ℤ) : ℝ) := by
        have : (((max (k - k' + 1) 1).toNat : ℕ) : ℤ) = max (k - k' + 1) 1 := by omega
        exact_mod_cast this
      show _ = (((_ : ℕ) : ℝ) : EReal)
      rw [e2]
      have one' : (1 : EReal) = (((1 : ℤ) : ℝ) : EReal) := by norm_num
      rw [one', ← EReal.coe_add, ← Int.cast_add]
      rcases le_total (k - k' + 1) 1 with hl | hl
      · rw [max_eq_right hl, max_eq_right (EReal.coe_le_coe_iff.mpr (by exact_mod_cast hl))]
      · rw [max_eq_left hl, max_eq_left (EReal.coe_le_coe_iff.mpr (by exact_mod_cast hl))]

/-- A cell moved by `s` and clipped to `N` cells. -/
theorem clip_nat (N : ℕ) (s : ℤ) {lo : EReal} (h : IsCell lo) :
    ∃ w : ℕ, w ≤ N ∧ min (nat N) (max 0 (((s : ℝ) : EReal) + lo)) = nat w
      ∧ ((lo = ⊥ ∧ w = 0) ∨ (lo = ⊤ ∧ w = N) ∨ ∃ k : ℤ, lo = ((k : ℝ) : EReal) ∧ (w : ℤ) = min (N : ℤ) (max 0 (s + k))) := by
  have hN0 : (0 : EReal) ≤ nat N := by
    have : (0 : ℝ) ≤ (N : ℝ) := Nat.cast_nonneg N
    exact EReal.coe_nonneg.mpr this
  rcases h with rfl | rfl | ⟨k, rfl⟩
  · refine ⟨0, by omega, ?_, Or.inl ⟨rfl, rfl⟩⟩
    rw [EReal.add_bot, max_eq_left bot_le, min_eq_right hN0]
    simp [nat]
  · refine ⟨N, le_rfl, ?_, Or.inr (Or.inl ⟨rfl, rfl⟩)⟩
    rw [EReal.coe_add_top, max_eq_right le_top, min_eq_left le_top]
  · refine ⟨(min (N : ℤ) (max 0 (s + k))).toNat, by omega, ?_, Or.inr (Or.inr ⟨k, rfl, by omega⟩)⟩
    have e2 : (((min (N : ℤ) (max 0 (s + k))).toNat : ℕ) : ℝ) = ((min (N : ℤ) (max 0 (s + k)) : ℤ) : ℝ) := by
      have : (((min (N : ℤ) (max 0 (s + k))).toNat : ℕ) : ℤ) = min (N : ℤ) (max 0 (s + k)) := by omega
      exact_mod_cast this
    show _ = (((_ : ℕ) : ℝ) : EReal)
    rw [e2, ← EReal.coe_add, ← Int.cast_add]
    have hz : max (0 : EReal) ((((s + k : ℤ)) : ℝ) : EReal) = (((max 0 (s + k) : ℤ) : ℝ) : EReal) := by
      rcases le_total 0 (s + k) with hl | hl
      · rw [max_eq_right hl, max_eq_right (by exact_mod_cast hl)]
      · rw [max_eq_left hl, max_eq_left (by exact_mod_cast hl)]; simp
    rw [hz]
    rcases le_total (N : ℤ) (max 0 (s + k)) with hl | hl
    · rw [min_eq_left hl, min_eq_left (EReal.coe_le_coe_iff.mpr (by exact_mod_cast hl))]; simp [nat]
    · rw [min_eq_right hl, min_eq_right (EReal.coe_le_coe_iff.mpr (by exact_mod_cast hl))]

theorem floor_sevenths (j n : ℕ) : ⌊(j : ℝ) * ((n : ℝ) / 7)⌋ = ((j * n / 7 : ℕ) : ℤ) := by
  have h1 : 7 * (j * n / 7) ≤ j * n := Nat.mul_div_le _ _
  have h2 : j * n < 7 * (j * n / 7) + 7 := by omega
  have h1' : (7 : ℝ) * ((j * n / 7 : ℕ) : ℝ) ≤ (j : ℝ) * n := by exact_mod_cast h1
  have h2' : (j : ℝ) * n < 7 * ((j * n / 7 : ℕ) : ℝ) + 7 := by exact_mod_cast h2
  rw [Int.floor_eq_iff]
  constructor
  · rw [Int.cast_natCast]; linarith
  · rw [Int.cast_natCast]; linarith

theorem ceil_sevenths (j n : ℕ) : ⌈((j : ℝ) + 1) * ((n : ℝ) / 7)⌉ = ((((j + 1) * n + 6) / 7 : ℕ) : ℤ) := by
  have h1 : 7 * (((j + 1) * n + 6) / 7) ≤ (j + 1) * n + 6 := Nat.mul_div_le _ _
  have h2 : (j + 1) * n ≤ 7 * (((j + 1) * n + 6) / 7) := by omega
  have h1'' : 7 * (((j + 1) * n + 6) / 7) < (j + 1) * n + 7 := by omega
  have h1' : (7 : ℝ) * ((((j + 1) * n + 6) / 7 : ℕ) : ℝ) < ((j : ℝ) + 1) * n + 7 := by exact_mod_cast h1''
  have h2' : ((j : ℝ) + 1) * n ≤ 7 * ((((j + 1) * n + 6) / 7 : ℕ) : ℝ) := by exact_mod_cast h2
  rw [Int.ceil_eq_iff]
  constructor
  · rw [Int.cast_natCast]; linarith
  · rw [Int.cast_natCast]; linarith

/-- A bin's cells, counted from the region's first. -/
theorem sevenths : ∀ n : Fin 23, ∀ j : Fin 7, j.val * n.val / 7 ≤ ((j.val + 1) * n.val + 6) / 7
    ∧ ((j.val + 1) * n.val + 6) / 7 ≤ j.val * n.val / 7 + 4 ∧ ((j.val + 1) * n.val + 6) / 7 ≤ n.val := by
  decide

theorem toInt_fptosi (x : EReal) : (Ideal.fptosi 32 x).toInt = Ideal.toIntClamped (-(2 ^ 31 : ℕ)) ((2 ^ 31 : ℕ) - 1) x := by
  have hb : -(2 ^ 31 : ℤ) ≤ Ideal.toIntClamped (-(2 ^ 31 : ℕ)) ((2 ^ 31 : ℕ) - 1) x
      ∧ Ideal.toIntClamped (-(2 ^ 31 : ℕ)) ((2 ^ 31 : ℕ) - 1) x < (2 ^ 31 : ℤ) := by
    induction x using EReal.rec with
    | bot =>
      show -(2 ^ 31 : ℤ) ≤ (-(2 ^ 31 : ℕ) : ℤ) ∧ (-(2 ^ 31 : ℕ) : ℤ) < (2 ^ 31 : ℤ)
      norm_num
    | top =>
      show -(2 ^ 31 : ℤ) ≤ ((2 ^ 31 : ℕ) - 1 : ℤ) ∧ ((2 ^ 31 : ℕ) - 1 : ℤ) < (2 ^ 31 : ℤ)
      norm_num
    | coe r =>
      show -(2 ^ 31 : ℤ) ≤ max (-(2 ^ 31 : ℕ) : ℤ) (min ((2 ^ 31 : ℕ) - 1 : ℤ) _) ∧ max (-(2 ^ 31 : ℕ) : ℤ) (min ((2 ^ 31 : ℕ) - 1 : ℤ) _) < (2 ^ 31 : ℤ)
      constructor
      · exact le_max_of_le_left (by norm_num)
      · exact max_lt (by norm_num) (min_lt_of_left_lt (by norm_num))
  unfold Ideal.fptosi
  rw [BitVec.toInt_ofInt]
  exact Int.bmod_eq_of_le (by norm_num; exact hb.1) (by norm_num; exact hb.2)

theorem clamped_int (lo hi k : ℤ) : Ideal.toIntClamped lo hi ((k : ℝ) : EReal) = max lo (min hi k) := by
  show max lo (min hi (if 0 ≤ (k : ℝ) then ⌊(k : ℝ)⌋ else ⌈(k : ℝ)⌉)) = _
  rw [Int.floor_intCast, Int.ceil_intCast, ite_self]

/-- A small natural number as a word. -/
theorem fptosi_nat (w : ℕ) (h : w < 64) : Ideal.fptosi 32 (nat w) = BitVec.ofNat 32 w := by
  refine BitVec.eq_of_toInt_eq ?_
  have e : nat w = (((w : ℤ) : ℝ) : EReal) := by simp [nat]
  rw [toInt_fptosi, e, clamped_int, BitVec.toInt_eq_toNat_cond, BitVec.toNat_ofNat]
  split_ifs <;> omega

/-- A region's first cell as a word, clipped to the cells `0` to `M`. -/
theorem clip_word (M : ℕ) (hM : M < 2 ^ 31) {lo : EReal} (h : IsCell lo) :
    ∃ v : ℕ, v ≤ M ∧ (IntOp.minsi (BitVec.ofNat 32 M) (IntOp.maxsi 0#32 (Ideal.fptosi 32 lo))).toNat = v
      ∧ ((lo = ⊥ ∧ v = 0) ∨ (lo = ⊤ ∧ v = M) ∨ ∃ k : ℤ, lo = ((k : ℝ) : EReal) ∧ (v : ℤ) = min (M : ℤ) (max 0 k)) := by
  rw [Words.clip_toNat M hM, toInt_fptosi]
  rcases h with rfl | rfl | ⟨k, rfl⟩
  · refine ⟨0, by omega, ?_, Or.inl ⟨rfl, rfl⟩⟩
    rw [show Ideal.toIntClamped (-(2 ^ 31 : ℕ)) ((2 ^ 31 : ℕ) - 1) ⊥ = (-(2 ^ 31 : ℕ) : ℤ) from rfl]
    omega
  · refine ⟨M, le_rfl, ?_, Or.inr (Or.inl ⟨rfl, rfl⟩)⟩
    rw [show Ideal.toIntClamped (-(2 ^ 31 : ℕ)) ((2 ^ 31 : ℕ) - 1) ⊤ = ((2 ^ 31 : ℕ) - 1 : ℤ) from rfl]
    omega
  · refine ⟨(min (M : ℤ) (max 0 k)).toNat, by omega, ?_, Or.inr (Or.inr ⟨k, rfl, by omega⟩)⟩
    rw [clamped_int]
    omega

/-- Where bin `j` starts. -/
def startOf (N j b lo : EReal) : EReal := min N (max 0 (Ideal.liftRound Int.floor (j * b) + lo))
/-- Where it ends. -/
def endOf (N j b lo : EReal) : EReal := min N (max 0 (Ideal.liftRound Int.ceil ((j + 1) * b) + lo))

/-- The bins of a region that starts at `lo` and has `n` cells, on an axis of `M + 1` cells. -/
theorem bins_spec (M : ℕ) (hM : M < 40) {n : ℕ} (hn : n ≤ 22) {lo : EReal} (hlo : IsCell lo) (j : Fin 7) :
    ∃ ws we : ℕ, startOf (nat (M + 1)) (nat j.val) (((n : ℝ) / 7 : ℝ) : EReal) lo = nat ws
      ∧ endOf (nat (M + 1)) (nat j.val) (((n : ℝ) / 7 : ℝ) : EReal) lo = nat we
      ∧ ws ≤ we ∧ we ≤ M + 1 ∧ (ws < we → we ≤ ws + 4)
      ∧ (IntOp.minsi (BitVec.ofNat 32 M) (IntOp.maxsi 0#32 (Ideal.fptosi 32 lo))).toNat ≤ ws
      ∧ (ws < we → we ≤ (IntOp.minsi (BitVec.ofNat 32 M) (IntOp.maxsi 0#32 (Ideal.fptosi 32 lo))).toNat + n) := by
  obtain ⟨s1, s2, s3⟩ := sevenths ⟨n, by omega⟩ j
  simp only at s1 s2 s3
  obtain ⟨ws, w1, w2, w3⟩ := clip_nat (M + 1) ((j.val * n / 7 : ℕ) : ℤ) hlo
  obtain ⟨we, e1, e2, e3⟩ := clip_nat (M + 1) ((((j.val + 1) * n + 6) / 7 : ℕ) : ℤ) hlo
  obtain ⟨v, v1, v2, v3⟩ := clip_word M (by omega) hlo
  have a1 : Ideal.liftRound Int.floor (nat j.val * (((n : ℝ) / 7 : ℝ) : EReal)) = ((((j.val * n / 7 : ℕ) : ℤ) : ℝ) : EReal) := by
    rw [← EReal.coe_mul, ← floor_sevenths]; rfl
  have a2 : Ideal.liftRound Int.ceil ((nat j.val + 1) * (((n : ℝ) / 7 : ℝ) : EReal)) = (((((j.val + 1) * n + 6) / 7 : ℕ) : ℤ) : ℝ) := by
    rw [← ceil_sevenths]
    have : nat j.val + 1 = (((j.val : ℝ) + 1 : ℝ) : EReal) := by rw [EReal.coe_add]; rfl
    rw [this, ← EReal.coe_mul]; rfl
  refine ⟨ws, we, ?_, ?_, ?_⟩
  · unfold startOf; rw [a1]; exact w2
  · unfold endOf; rw [a2]; exact e2
  rw [v2]
  generalize j.val * n / 7 = s at *
  generalize ((j.val + 1) * n + 6) / 7 = e at *
  rcases w3 with ⟨rfl, hw⟩ | ⟨rfl, hw⟩ | ⟨k, rfl, hw⟩
  · rcases e3 with ⟨_, he⟩ | ⟨h, _⟩ | ⟨k', h, _⟩
    · rcases v3 with ⟨_, hv⟩ | ⟨h, _⟩ | ⟨k', h, _⟩
      · omega
      · exact absurd h bot_ne_top
      · exact absurd h.symm (EReal.coe_ne_bot _)
    · exact absurd h bot_ne_top
    · exact absurd h.symm (EReal.coe_ne_bot _)
  · rcases e3 with ⟨h, _⟩ | ⟨_, he⟩ | ⟨k', h, _⟩
    · exact absurd h top_ne_bot
    · rcases v3 with ⟨h, _⟩ | ⟨_, hv⟩ | ⟨k', h, _⟩
      · exact absurd h top_ne_bot
      · omega
      · exact absurd h.symm (EReal.coe_ne_top _)
    · exact absurd h.symm (EReal.coe_ne_top _)
  · rcases e3 with ⟨h, _⟩ | ⟨h, _⟩ | ⟨k', h, he⟩
    · exact absurd h (EReal.coe_ne_bot _)
    · exact absurd h (EReal.coe_ne_top _)
    · rcases v3 with ⟨h', _⟩ | ⟨h', _⟩ | ⟨k'', h', hv⟩
      · exact absurd h' (EReal.coe_ne_bot _)
      · exact absurd h' (EReal.coe_ne_top _)
      · have k1 : k = k' := by exact_mod_cast EReal.coe_eq_coe_iff.mp h
        have k2 : k = k'' := by exact_mod_cast EReal.coe_eq_coe_iff.mp h'
        subst k1 k2
        push_cast at hw he
        omega

/-- A positive normal float's value. -/
theorem ofBits_normal (b : BitVec 32) (E M : ℕ) (h1 : (BitVec.extractLsb' 23 8 b).toNat = E) (hE : E ≠ 255) (hE0 : E ≠ 0)
    (h2 : (BitVec.extractLsb' 0 23 b).toNat = M) (h3 : (BitVec.extractLsb' 31 1 b == 1#1) = false) (v : ℝ)
    (hv : (1 * ((2 ^ 23 + M : ℕ) : ℝ) * (2 : ℝ) ^ ((E : ℤ) - (2 ^ (8 - 1) - 1) - (23 : ℕ))) = v) : Ideal.ofBits .f32 b = (v : EReal) := by
  unfold Ideal.ofBits
  simp only [Ideal.ieee]
  rw [if_neg (by rw [h1]; exact hE), if_neg (by rw [h1]; exact hE0), h1, h2, ← hv]
  simp only [h3, Nat.reduceAdd, Bool.false_eq_true, if_false]

theorem ofBits_one : Ideal.ofBits .f32 1065353216#32 = 1 :=
  ofBits_normal _ 127 0 rfl (by decide) (by decide) rfl rfl _ (by norm_num)
theorem ofBits_seven : Ideal.ofBits .f32 1088421888#32 = ((7 : ℝ) : EReal) :=
  ofBits_normal _ 129 6291456 rfl (by decide) (by decide) rfl rfl _ (by norm_num)
theorem ofBits_sixteen : Ideal.ofBits .f32 1098907648#32 = nat 16 :=
  ofBits_normal _ 131 0 rfl (by decide) (by decide) rfl rfl _ (by norm_num)
theorem ofBits_twentyone : Ideal.ofBits .f32 1101529088#32 = nat 21 :=
  ofBits_normal _ 131 2621440 rfl (by decide) (by decide) rfl rfl _ (by norm_num)
theorem ofBits_thirty : Ideal.ofBits .f32 0x41F00000#32 = nat 30 :=
  ofBits_normal _ 131 7340032 rfl (by decide) (by decide) rfl rfl _ (by norm_num)
theorem ofBits_forty : Ideal.ofBits .f32 0x42200000#32 = nat 40 :=
  ofBits_normal _ 132 2097152 rfl (by decide) (by decide) rfl rfl _ (by norm_num)

/-- A seventh of an extent. -/
theorem seventh (n : ℕ) : Ideal.div (nat n) (Ideal.ofBits .f32 1088421888#32) = (((n : ℝ) / 7 : ℝ) : EReal) := by
  rw [ofBits_seven]
  unfold Ideal.div
  rw [if_neg (by exact_mod_cast (by norm_num : (7 : ℝ) ≠ 0)), ← EReal.coe_inv, ← EReal.coe_mul, div_eq_mul_inv]

/-- How many cells a bin has: a seventh of the region's extent. -/
def binOf (hi lo : EReal) : EReal := Ideal.div (max (hi - lo + 1) 1) (Ideal.ofBits .f32 1088421888#32)

end Cert.Bins

end
-- ==== Proof.Pool.lean ====
/-
  Max pooling over one bin, and why taking it in pieces gives the same. `pooled` is the greatest entry of an image over
  the rows `hs ≤ y < he` and the columns `ws ≤ x < we`, and `result` is that, or zero where the bin is empty. The kernel
  takes four rows from `hl` on, at four candidate columns, and fills the rows that are not the bin's with a value below
  every entry: `four_candidates` says that this is `result`.
-/
module

public import Mathlib.Data.EReal.Basic
public import Mathlib.Data.Finset.Lattice.Fold
public import Mathlib.Data.Fintype.Basic
public import Mathlib.Data.Finset.Fold
public import Mathlib.Tactic.FinCases

@[expose] public section

noncomputable section

namespace Cert.Pool

/-- The greatest entry over a bin's rows and columns; `⊥` over an empty bin. -/
def pooled (f : Fin 30 → Fin 40 → EReal) (hs he ws we : ℕ) : EReal :=
  Finset.univ.sup fun y : Fin 30 => Finset.univ.sup fun x : Fin 40 =>
    if hs ≤ y.val ∧ y.val < he ∧ ws ≤ x.val ∧ x.val < we then f y x else ⊥

/-- The same, or zero where the bin is empty. -/
def result (f : Fin 30 → Fin 40 → EReal) (hs he ws we : ℕ) : EReal :=
  if pooled f hs he ws we = ⊥ then 0 else pooled f hs he ws we

variable {f : Fin 30 → Fin 40 → EReal} {hs he ws we : ℕ}

theorem le_pooled (y : Fin 30) (x : Fin 40) (h : hs ≤ y.val ∧ y.val < he ∧ ws ≤ x.val ∧ x.val < we) :
    f y x ≤ pooled f hs he ws we := by
  have h1 := Finset.le_sup (f := fun x : Fin 40 => if hs ≤ y.val ∧ y.val < he ∧ ws ≤ x.val ∧ x.val < we then f y x else ⊥)
    (Finset.mem_univ x)
  have h2 := Finset.le_sup (f := fun y : Fin 30 => Finset.univ.sup fun x : Fin 40 =>
    if hs ≤ y.val ∧ y.val < he ∧ ws ≤ x.val ∧ x.val < we then f y x else ⊥) (Finset.mem_univ y)
  simp only [if_pos h] at h1
  exact h1.trans h2

theorem pooled_le {z : EReal} (h : ∀ (y : Fin 30) (x : Fin 40), hs ≤ y.val → y.val < he → ws ≤ x.val → x.val < we → f y x ≤ z) :
    pooled f hs he ws we ≤ z := by
  refine Finset.sup_le fun y _ => Finset.sup_le fun x _ => ?_
  split
  · rename_i hm
    exact h y x hm.1 hm.2.1 hm.2.2.1 hm.2.2.2
  · exact bot_le

theorem result_empty (h : ¬(hs < he ∧ ws < we)) : result f hs he ws we = 0 := by
  unfold result
  rw [if_pos]
  refine le_bot_iff.mp (pooled_le fun y x h1 h2 h3 h4 => ?_)
  exact absurd ⟨by omega, by omega⟩ h

/-- The greatest of four rows at a column, those outside the bin filled with `low`. -/
def rowMax (low : EReal) (hl hs he : ℕ) (g : Fin 4 → EReal) : EReal :=
  (Finset.univ : Finset (Fin 4)).fold max ⊥ fun l => if hs ≤ hl + l.val ∧ hl + l.val < he then g l else low

theorem rowMax_le {low z : EReal} {hl : ℕ} {g : Fin 4 → EReal} (hlow : low ≤ z)
    (h : ∀ l : Fin 4, hs ≤ hl + l.val → hl + l.val < he → g l ≤ z) : rowMax low hl hs he g ≤ z := by
  unfold rowMax
  rw [Finset.fold_max_le]
  refine ⟨bot_le, fun l _ => ?_⟩
  split
  · rename_i hm
    exact h l hm.1 hm.2
  · exact hlow

theorem le_rowMax {low : EReal} {hl : ℕ} {g : Fin 4 → EReal} (l : Fin 4) (h1 : hs ≤ hl + l.val) (h2 : hl + l.val < he) :
    g l ≤ rowMax low hl hs he g := by
  unfold rowMax
  rw [Finset.le_fold_max]
  exact Or.inr ⟨l, Finset.mem_univ _, by rw [if_pos ⟨h1, h2⟩]⟩

/-- The `k`-th candidate column of a bin: its `k`-th column, or its first where it has no `k`-th. -/
def cand (ws we k : ℕ) : ℕ := if ws + k < we then ws + k else ws

/-- The greatest over four candidate columns of four rows, cut off at `cut`, is the pooled value. -/
theorem four_candidates {low cut : EReal} {hl x0 : ℕ} (hcut : low ≤ cut) (hc0 : cut < 0) (hf : ∀ y x, cut < f y x)
    (hhl : hl + 4 ≤ 30) (hx0 : x0 + 24 ≤ 40) (e1 : hl ≤ hs) (e2 : hs < he → he ≤ hl + 4) (e3 : x0 ≤ ws)
    (e4 : ws < we → we ≤ x0 + 24 ∧ we ≤ ws + 4)
    (g : Fin 4 → Fin 24 → EReal) (hg : ∀ l w, g l w = f ⟨hl + l.val, by omega⟩ ⟨x0 + w.val, by omega⟩)
    (D : Fin 4 → EReal) (hD0 : ¬ ws < we → ∀ k, D k = 0)
    (hD1 : ws < we → ∀ (k : Fin 4) (p : Fin 24), x0 + p.val = cand ws we k.val → D k = rowMax low hl hs he fun l => g l p)
    (v : EReal) (hv : v = max (max (D 0) (D 1)) (max (D 2) (D 3))) :
    (if cut < v then v else 0) = result f hs he ws we := by
  have hDv : ∀ k, D k ≤ v := by
    intro k
    rw [hv]
    fin_cases k
    · exact le_max_of_le_left (le_max_left _ _)
    · exact le_max_of_le_left (le_max_right _ _)
    · exact le_max_of_le_right (le_max_left _ _)
    · exact le_max_of_le_right (le_max_right _ _)
  have hvD : ∀ z, (∀ k, D k ≤ z) → v ≤ z := fun z h => by
    rw [hv]
    exact max_le (max_le (h 0) (h 1)) (max_le (h 2) (h 3))
  by_cases hw : ws < we
  swap
  · have v0 : v = 0 := le_antisymm (hvD 0 fun k => (hD0 hw k).le) (by rw [← hD0 hw 0]; exact hDv 0)
    rw [result_empty (fun h => hw h.2), v0, if_pos hc0]
  obtain ⟨e5, e6⟩ := e4 hw
  have pos : ∀ k : Fin 4, ∃ p : Fin 24, x0 + p.val = cand ws we k.val ∧ ws ≤ cand ws we k.val ∧ cand ws we k.val < we := by
    intro k
    have : ws ≤ cand ws we k.val ∧ cand ws we k.val < we := by unfold cand; split <;> omega
    exact ⟨⟨cand ws we k.val - x0, by omega⟩, by show x0 + (cand ws we k.val - x0) = _; omega, this⟩
  by_cases hh : hs < he
  swap
  · have vl : v ≤ low := hvD low fun k => by
      obtain ⟨p, hp, _⟩ := pos k
      rw [hD1 hw k p hp]
      exact rowMax_le le_rfl fun l h1 h2 => absurd hh (by omega)
    rw [result_empty (fun h => hh h.1), if_neg (not_lt.mpr (vl.trans hcut))]
  have e7 := e2 hh
  have big : cut < pooled f hs he ws we :=
    (hf ⟨hs, by omega⟩ ⟨ws, by omega⟩).trans_le (le_pooled _ _ ⟨le_rfl, hh, le_rfl, hw⟩)
  have vp : v = pooled f hs he ws we := by
    refine le_antisymm (hvD _ fun k => ?_) (pooled_le fun y x h1 h2 h3 h4 => ?_)
    · obtain ⟨p, hp, h3, h4⟩ := pos k
      rw [hD1 hw k p hp]
      refine rowMax_le (hcut.trans big.le) fun l h1 h2 => ?_
      rw [hg]
      exact le_pooled _ _ ⟨h1, h2, by show ws ≤ x0 + p.val; omega, by show x0 + p.val < we; omega⟩
    · have hk : x.val - ws < 4 := by omega
      have hp : x.val - x0 < 24 := by omega
      have hl4 : y.val - hl < 4 := by omega
      have hc : x0 + (⟨x.val - x0, hp⟩ : Fin 24).val = cand ws we (⟨x.val - ws, hk⟩ : Fin 4).val := by
        unfold cand
        show x0 + (x.val - x0) = if ws + (x.val - ws) < we then ws + (x.val - ws) else ws
        rw [if_pos (by omega)]
        omega
      refine le_trans ?_ (hDv ⟨x.val - ws, hk⟩)
      rw [hD1 hw _ _ hc]
      have key := le_rowMax (low := low) (hs := hs) (he := he) (hl := hl) (g := fun l => g l ⟨x.val - x0, hp⟩) ⟨y.val - hl, hl4⟩
        (by show hs ≤ hl + (y.val - hl); omega) (by show hl + (y.val - hl) < he; omega)
      refine le_trans (le_of_eq ?_) key
      show f y x = g ⟨y.val - hl, hl4⟩ ⟨x.val - x0, hp⟩
      rw [hg]
      congr 1 <;> refine Fin.ext ?_
      · show y.val = hl + (y.val - hl); omega
      · show x.val = x0 + (x.val - x0); omega
  rw [vp, if_pos big]
  unfold result
  rw [if_neg (ne_bot_of_gt big)]

end Cert.Pool

end
-- ==== Proof.KernelIdealBin.lean ====
/-
  What the kernel computes for one bin, over the extended reals. `k0_pay7` takes the greatest of four rows, filling those
  outside the bin with a low value, picks four candidate columns by products with rows of zeros and ones, and cuts off
  what is not above `cut`. Read at an element it is the `result` of Pool.lean.
-/
module

public import proofs.«01_k».proof.Proof.Gen.KernelIdeal.Skeleton
public import proofs.«01_k».proof.Proof.Pool
public import Idealize.ShloMosaic.PureOps.Ideal
public import Idealize.ShloMosaic.PureOps.Ideal.Laws
public import Idealize.ShloMosaic.Lib.ValueIdx
public import Idealize.ShloMosaic.Lib.Pointwise
public import Idealize.ShloMosaic.Lib.WordCmp

@[expose] public section

set_option maxRecDepth 16384

noncomputable section

namespace Cert.KernelIdeal.Body

open Cert.KernelIdeal Cert.KernelIdeal.Gen
open Idealize.ShloMosaic hiding ix1 ix2 ix3 ix4
open Idealize.ShloMosaic.TcCoe
open Idealize.ShloMosaic.ValueIdx

/-- What a bin's greatest entry has to exceed. -/
def cut : EReal := Ideal.ofBits .f32 0xFCF0BDC2#32
/-- What the rows outside a bin are filled with. -/
def low : EReal := Ideal.ofBits .bf16 0xFF62#16

theorem ofBits_neg_inf_bf16 : Ideal.ofBits .bf16 0xFF80#16 = ⊥ := by simp [Ideal.ofBits, Ideal.ieee]

theorem cut_neg : cut < 0 := by
  simp [cut, Ideal.ofBits, Ideal.ieee]
  have h : (0 : ℝ) < 15777218 * 2 ^ 99 := by norm_num
  exact_mod_cast h

theorem low_le_cut : low ≤ cut := by
  simp [cut, low, Ideal.ofBits, Ideal.ieee]
  have h : (15777218 : ℝ) * 2 ^ 99 ≤ 226 * 2 ^ 120 := by norm_num
  exact_mod_cast h

/-- Whether a row of the slab is the bin's, decided on words. -/
theorem inRow_select {α : Type} (hl hs he l : ℕ) (h1 : hl ≤ hs) (h2 : hl ≤ he) (h3 : hs < 64) (h4 : he < 64) (h5 : l < 4) (x y : α) :
    Scalar.select (IntOp.andi (IntOp.cmpi .sge (BitVec.ofNat 32 l) (BitVec.ofNat 32 (hs - hl)))
      (IntOp.cmpi .slt (BitVec.ofNat 32 l) (BitVec.ofNat 32 (he - hl)))) x y
      = if hs ≤ hl + l ∧ hl + l < he then x else y := by
  rw [WordCmp.cmpi_sge_ofNat (by norm_num; omega) (by norm_num; omega), WordCmp.cmpi_slt_ofNat (by norm_num; omega) (by norm_num; omega)]
  have e : (hs ≤ hl + l ∧ hl + l < he) ↔ (hs - hl ≤ l ∧ l < he - hl) := by omega
  simp only [e]
  by_cases a : hs - hl ≤ l <;> by_cases b : l < he - hl <;> simp [a, b, IntOp.andi, Scalar.select]

/-- The bin row at bin `b`, from the four candidates it is picked from. -/
theorem bin_apply (hot : FVec Ideal S32x24 .bf16) (slab : Vec Ideal S1x4x24x256 .bf16) (lo hi : BitVec 32) (b : Fin 7) (ch : Fin 256)
    (hl hs he : ℕ) (h1 : hl ≤ hs) (h2 : hl ≤ he) (h3 : hs < 64) (h4 : he < 64)
    (elo : lo = BitVec.ofNat 32 (hs - hl)) (ehi : hi = BitVec.ofNat 32 (he - hl))
    (D : Fin 4 → EReal) (hD : ∀ k : Fin 4, D k = ∑ w : Fin 24, hot (ix2 (n0 := 32) ⟨8 * k.val + b.val, by omega⟩ w)
      * Pool.rowMax low hl hs he fun l => slab (ix4 (n0 := 1) 0 l w ch)) :
    k0_pay7 (F := Ideal) (iota .tc S4x1x1 32 [0] iota_S4x1x1_d0_w32) hot slab lo hi (ix2 b ch)
      = if cut < max (max (D 0) (D 1)) (max (D 2) (D 3)) then max (max (D 0) (D 1)) (max (D 2) (D 3)) else 0 := by
  subst elo ehi
  pointwise [k0_pay7]
  simp only [fun (l : Fin 4) (x y : EReal) => inRow_select hl hs he l.val h1 h2 h3 h4 l.isLt x y, ofBits_neg_inf_bf16]
  have q0 : (⟨8 * (0 : Fin 4).val + b.val, by show 8 * 0 + b.val < 32; omega⟩ : Fin 32) = ⟨b.val, by omega⟩ :=
    Fin.ext (show 8 * 0 + b.val = b.val by omega)
  rw [hD 0, hD 1, hD 2, hD 3, q0]
  rfl

end Cert.KernelIdeal.Body

end
-- ==== Proof.KernelIdealFit.lean ====
/-
  The precondition of the value claim, read off the rois and the features: every roi names one of the two images, no roi
  is more than 17 cells wide or 22 cells high, and every feature lies strictly between the kernel's lowest stand-in and
  infinity.
-/
module

public import proofs.«01_k».proof.Proof.KernelIdealBounds
public import proofs.«01_k».proof.Proof.Bins
public import proofs.«01_k».proof.Proof.KernelIdealBin
public import proofs.«01_k».proof.Proof.Gen.Pre_rois_fit
public import Idealize.ShloMosaic.Lib.ReduceAll
public import Idealize.ShloMosaic.Lib.Pointwise

@[expose] public section

noncomputable section

namespace Cert.KernelIdeal.Body

open Cert.KernelIdeal Cert.KernelIdeal.Gen
open Idealize.ShloMosaic hiding ix1 ix2 ix3 ix4
open Idealize.ShloMosaic.ValueIdx

/-- Cell `k` of roi `r`: the coordinate over sixteen, rounded half to even. -/
def cell (x : FVec Ideal S256x5 .f32) (r : Fin 256) (k : Fin 5) : EReal :=
  Ideal.liftRound Ideal.roundHalfEven (x (ix2 r k) * Ideal.ofBits .f32 1031798784#32)

theorem ofBits_inf : Ideal.ofBits .f32 2139095040#32 = ⊤ := by
  simp [Ideal.ofBits, Ideal.ieee]

instance : Subsingleton (Cert.Pre_rois_fit.S_).Idx := ⟨fun _ _ => funext fun d => d.elim0⟩

/-- The precondition at a roi. -/
theorem fit_roi (a0 : FVec Ideal S2x256x30x40 .f32) (a1 : FVec Ideal S256x5 .f32)
    (h : Cert.Pre_rois_fit.fn (F := Ideal) a0 a1 = fun _ => 1#1) (r : Fin 256) :
    IntOp.andi (IntOp.cmpi .sge (Ideal.fptosi 32 (a1 (ix2 r 0))) 0#32) (IntOp.cmpi .slt (Ideal.fptosi 32 (a1 (ix2 r 0))) 2#32) = 1#1
      ∧ cell a1 r 3 - cell a1 r 1 ≤ Bins.nat 16 ∧ cell a1 r 4 - cell a1 r 2 ≤ Bins.nat 21 := by
  obtain ⟨ha, -⟩ := IntOp.andi_eq_one.1 (congrFun h ValueIdx.ix0)
  have h1 := Host.reduce_andi_all _ _ _ _ _ ha (ix1 r)
  pointwise [Cert.Pre_rois_fit.fn_round] at h1
  obtain ⟨h2, h5⟩ := IntOp.andi_eq_one.1 h1
  obtain ⟨h3, h4⟩ := IntOp.andi_eq_one.1 h2
  rw [WordCmp.ofBool_decide_eq_one_iff] at h4 h5
  rw [← Bins.ofBits_sixteen, ← Bins.ofBits_twentyone]
  exact ⟨h3, h4, h5⟩

/-- The precondition at a feature. -/
theorem fit_feature (a0 : FVec Ideal S2x256x30x40 .f32) (a1 : FVec Ideal S256x5 .f32)
    (h : Cert.Pre_rois_fit.fn (F := Ideal) a0 a1 = fun _ => 1#1) (i : S2x256x30x40.Idx) : cut < a0 i ∧ a0 i < ⊤ := by
  obtain ⟨-, hb⟩ := IntOp.andi_eq_one.1 (congrFun h ValueIdx.ix0)
  have h1 := Host.reduce_andi_all _ _ _ _ _ hb i
  pointwise [] at h1
  obtain ⟨h2, h3⟩ := IntOp.andi_eq_one.1 h1
  rw [WordCmp.ofBool_decide_eq_one_iff] at h2 h3
  rw [← ofBits_inf]
  exact ⟨h2, h3⟩

/-- The images exist. -/
theorem batches_of_fit (a0 : FVec Ideal S2x256x30x40 .f32) (a1 : FVec Ideal S256x5 .f32)
    (h : Cert.Pre_rois_fit.fn (F := Ideal) a0 a1 = fun _ => 1#1) : Cert.Pre_batches_exist.fn (F := Ideal) a0 a1 = fun _ => 1#1 := by
  funext i
  rw [ValueIdx.eq_ix1 i]
  unfold Cert.Pre_batches_exist.fn
  pointwise []
  exact (fit_roi a0 a1 h _).1

/-- The rows of roi `r`'s bin `a`. -/
theorem rows_spec (a0 : FVec Ideal S2x256x30x40 .f32) (a1 : FVec Ideal S256x5 .f32)
    (h : Cert.Pre_rois_fit.fn (F := Ideal) a0 a1 = fun _ => 1#1) (r : Fin 256) (a : Fin 7) :
    ∃ hs he : ℕ, Bins.startOf (Bins.nat 30) (Bins.nat a.val) (Bins.binOf (cell a1 r 4) (cell a1 r 2)) (cell a1 r 2) = Bins.nat hs
      ∧ Bins.endOf (Bins.nat 30) (Bins.nat a.val) (Bins.binOf (cell a1 r 4) (cell a1 r 2)) (cell a1 r 2) = Bins.nat he
      ∧ hs ≤ he ∧ he ≤ 30 ∧ (hs < he → he ≤ hs + 4) := by
  obtain ⟨n, n1, n2, n3⟩ := Bins.extent_nat (Bins.isCell_round _ _) (Bins.isCell_round _ _) 21 (fit_roi a0 a1 h r).2.2
  obtain ⟨hs, he, b1, b2, b3, b4, b5, -, -⟩ := Bins.bins_spec 29 (by omega) (n := n) (by omega) (lo := cell a1 r 2) (Bins.isCell_round _ _) a
  refine ⟨hs, he, ?_, ?_, b3, b4, b5⟩
  · unfold Bins.binOf
    rw [show max (cell a1 r 4 - cell a1 r 2 + 1) 1 = Bins.nat n from n3, Bins.seventh]; exact b1
  · unfold Bins.binOf
    rw [show max (cell a1 r 4 - cell a1 r 2 + 1) 1 = Bins.nat n from n3, Bins.seventh]; exact b2

/-- The columns of roi `r`'s bin `b`, which a slab of 24 columns from the roi's first holds. -/
theorem cols_spec (a0 : FVec Ideal S2x256x30x40 .f32) (a1 : FVec Ideal S256x5 .f32)
    (h : Cert.Pre_rois_fit.fn (F := Ideal) a0 a1 = fun _ => 1#1) (r : Fin 256) (b : Fin 7) :
    ∃ ws we : ℕ, Bins.startOf (Bins.nat 40) (Bins.nat b.val) (Bins.binOf (cell a1 r 3) (cell a1 r 1)) (cell a1 r 1) = Bins.nat ws
      ∧ Bins.endOf (Bins.nat 40) (Bins.nat b.val) (Bins.binOf (cell a1 r 3) (cell a1 r 1)) (cell a1 r 1) = Bins.nat we
      ∧ ws ≤ we ∧ we ≤ 40 ∧ (ws < we → we ≤ ws + 4)
      ∧ (IntOp.minsi 39#32 (IntOp.maxsi 0#32 (Ideal.fptosi 32 (cell a1 r 1)))).toNat ≤ ws
      ∧ (ws < we → we ≤ (IntOp.minsi 39#32 (IntOp.maxsi 0#32 (Ideal.fptosi 32 (cell a1 r 1)))).toNat + 17) := by
  obtain ⟨n, n1, n2, n3⟩ := Bins.extent_nat (Bins.isCell_round _ _) (Bins.isCell_round _ _) 16 (fit_roi a0 a1 h r).2.1
  obtain ⟨ws, we, b1, b2, b3, b4, b5, b6, b7⟩ := Bins.bins_spec 39 (by omega) (n := n) (by omega) (lo := cell a1 r 1) (Bins.isCell_round _ _) b
  refine ⟨ws, we, ?_, ?_, b3, b4, b5, b6, fun hh => (b7 hh).trans (Nat.add_le_add_left n2 _)⟩
  · unfold Bins.binOf
    rw [show max (cell a1 r 3 - cell a1 r 1 + 1) 1 = Bins.nat n from n3, Bins.seventh]; exact b1
  · unfold Bins.binOf
    rw [show max (cell a1 r 3 - cell a1 r 1 + 1) 1 = Bins.nat n from n3, Bins.seventh]; exact b2

end Cert.KernelIdeal.Body

end
-- ==== Proof.KernelIdealWords.lean ====
/-
  The words of the host's tables, as naturals. Where a roi's bins start and end are the naturals of Bins.lean; the slab of
  a bin starts at the first row (column) or as late as it fits; candidate `8 k + b` names the column of the slab that the
  `k`-th column of bin `b` is, so its row of zeros and ones has its one there, and is zero for a bin with no column.
-/
module

public import proofs.«01_k».proof.Proof.KernelIdealFit

@[expose] public section

noncomputable section

namespace Cert.KernelIdeal.Body

open Cert.KernelIdeal Cert.KernelIdeal.Gen
open Idealize.ShloMosaic hiding ix1 ix2 ix3 ix4
open Idealize.ShloMosaic.TcCoe
open Idealize.ShloMosaic.ValueIdx

/-- Columns of the table picked by index. -/
theorem gather_bins {α : Type} (x : S256x7.Idx → α) (idx : IVec S32x1 32) (r : Fin 256) (q : Fin 32) :
    Host.gather gather_S256x7_S32x1_S256x32_0_1_n_n_1_1_2561 x idx (ix2 r q)
      = x (ix2 r ⟨min (idx (ix2 q 0)).toInt.toNat 6, by omega⟩) := by
  unfold Host.gather
  congr 1
  funext a
  refine Fin.ext ?_
  show gather_S256x7_S32x1_S256x32_0_1_n_n_1_1_2561.start (ix2 r q) idx a + gather_S256x7_S32x1_S256x32_0_1_n_n_1_1_2561.batchCoord (ix2 r q) a
      + gather_S256x7_S32x1_S256x32_0_1_n_n_1_1_2561.offCoord (ix2 r q) a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · unfold GatherDims.start
    rw [dif_neg (by decide)]
    unfold GatherDims.offCoord
    rw [dif_pos (by decide)]
    simp only [Nat.zero_add]
    rfl
  · rw [GatherDims.offCoord_eq_zero _ _ _ (by decide)]
    unfold GatherDims.start
    rw [dif_pos (by decide)]
    simp only [Nat.add_zero]
    have hsi : gather_S256x7_S32x1_S256x32_0_1_n_n_1_1_2561.siIdx (ix2 r q)
        ⟨List.idxOf (1 : Fin 2) gather_S256x7_S32x1_S256x32_0_1_n_n_1_1_2561.startIndexMap, by decide⟩ = ix2 q 0 := by
      funext b; refine Fin.ext ?_
      match b with
      | ⟨0, _⟩ => rfl
      | ⟨1, _⟩ => rfl
    exact congrArg (fun i => min (idx i).toInt.toNat 6) hsi

theorem sitofp_nat (j : ℕ) (h : j < 64) : (FloatOps.sitofp .f32 (BitVec.ofNat 32 j) : Ideal .f32) = Bins.nat j := by
  show (((BitVec.ofNat 32 j).toInt : ℝ) : EReal) = _
  have : (BitVec.ofNat 32 j).toInt = (j : ℤ) := by
    rw [BitVec.toInt_eq_toNat_cond, BitVec.toNat_ofNat]; split_ifs <;> omega
  rw [this]; simp [Bins.nat]

theorem subi_ofNat {a b : ℕ} (h : b ≤ a) (ha : a < 2 ^ 32) :
    IntOp.subi (BitVec.ofNat 32 a) (BitVec.ofNat 32 b) = BitVec.ofNat 32 (a - b) := by
  refine BitVec.eq_of_toNat_eq ?_
  show (BitVec.ofNat 32 a - BitVec.ofNat 32 b).toNat = _
  rw [BitVec.toNat_sub, BitVec.toNat_ofNat, BitVec.toNat_ofNat, BitVec.toNat_ofNat]
  omega

/-- The index of a candidate's bin. -/
theorem bin_word : ∀ b : Fin 7, (Scalar.select (IntOp.cmpi .slt (IntOp.minsi (BitVec.ofNat 32 b.val) 6#32) 0#32)
    (IntOp.addi (IntOp.minsi (BitVec.ofNat 32 b.val) 6#32) 7#32) (IntOp.minsi (BitVec.ofNat 32 b.val) 6#32)).toInt.toNat = b.val := by
  decide

theorem bin_lt_seven : ∀ b : Fin 7, IntOp.cmpi .slt (BitVec.ofNat 32 b.val) 7#32 = 1#1 := by decide

/-- A candidate's entry at a column of the slab: one where the candidate is that column, else zero. -/
theorem cand_scalar (s e k w : ℕ) (hs : s < 64) (he : e < 64) (hk : k < 4) (hw : w < 24) :
    (FloatOps.uitofp .bf16 (IntOp.cmpi .eq (Scalar.select (IntOp.andi (IntOp.cmpi .slt (BitVec.ofNat 32 s) (BitVec.ofNat 32 e)) 1#1)
      (Scalar.select (IntOp.cmpi .slt (IntOp.addi (BitVec.ofNat 32 s) (BitVec.ofNat 32 k)) (BitVec.ofNat 32 e))
        (IntOp.addi (BitVec.ofNat 32 s) (BitVec.ofNat 32 k)) (BitVec.ofNat 32 s)) 4294967295#32) (BitVec.ofNat 32 w)) : Ideal .bf16)
      = if s < e ∧ Pool.cand s e k = w then (1 : EReal) else 0 := by
  have one : (FloatOps.uitofp .bf16 1#1 : Ideal .bf16) = (1 : EReal) := by
    show (((1#1 : BitVec 1).toNat : ℝ) : EReal) = 1
    simp
  have zero : (FloatOps.uitofp .bf16 0#1 : Ideal .bf16) = (0 : EReal) := by
    show (((0#1 : BitVec 1).toNat : ℝ) : EReal) = 0
    simp
  have ite : ∀ p : Prop, ∀ _ : Decidable p, (FloatOps.uitofp .bf16 (BitVec.ofBool (decide p)) : Ideal .bf16) = if p then (1 : EReal) else 0 := by
    intro p _
    by_cases h : p
    · simp only [h, decide_true, if_true]; exact one
    · simp only [h, decide_false, if_false]; exact zero
  rw [WordCmp.addi_ofNat, WordCmp.cmpi_slt_ofNat (by norm_num; omega) (by norm_num; omega),
    WordCmp.cmpi_slt_ofNat (by norm_num; omega) (by norm_num; omega)]
  by_cases h : s < e
  · have h1 : Scalar.select (BitVec.ofBool (decide (s + k < e))) (BitVec.ofNat 32 (s + k)) (BitVec.ofNat 32 s)
        = BitVec.ofNat 32 (Pool.cand s e k) := by
      unfold Pool.cand
      by_cases h' : s + k < e <;> simp [h', Scalar.select]
    have hc : Pool.cand s e k < 128 := by unfold Pool.cand; split <;> omega
    rw [h1, show Scalar.select (IntOp.andi (BitVec.ofBool (decide (s < e))) 1#1) (BitVec.ofNat 32 (Pool.cand s e k)) 4294967295#32
      = BitVec.ofNat 32 (Pool.cand s e k) from by simp [h, IntOp.andi, Scalar.select],
      WordCmp.cmpi_eq_ofNat (by norm_num; omega) (by norm_num; omega), ite]
    simp only [h, true_and]
  · rw [show ∀ x, Scalar.select (IntOp.andi (BitVec.ofBool (decide (s < e))) 1#1) x 4294967295#32
      = BitVec.ofNat 32 4294967295 from fun x => by simp [h, IntOp.andi, Scalar.select],
      WordCmp.cmpi_eq_ofNat (by norm_num) (by norm_num; omega), ite, if_neg (by omega), if_neg (fun hh => h hh.1)]

variable (m : (ℓ : Loc nD τ sig) → Buf (Elt Ideal) ℓ) (c : Dev nD)

/-- The rois the kernel is given. -/
abbrev roisOf : FVec Ideal S256x5 .f32 := m ((c : Thread nD τ).loc main_arg1)

theorem row_start (r : Fin 256) (a : Fin 7) : V m c main_v84 (ix2 r a) = Ideal.fptosi 32 (Bins.startOf (Bins.nat 30) (Bins.nat a.val)
    (Bins.binOf (cell (roisOf m c) r 4) (cell (roisOf m c) r 2)) (cell (roisOf m c) r 2)) := by
  rw [V_v84, V_v36, V_v24, V_v14]
  pointwise []
  rw [sitofp_nat 30 (by omega)]
  erw [sitofp_nat a.val (by omega)]
  rfl

theorem row_end (r : Fin 256) (a : Fin 7) : V m c main_v85 (ix2 r a) = Ideal.fptosi 32 (Bins.endOf (Bins.nat 30) (Bins.nat a.val)
    (Bins.binOf (cell (roisOf m c) r 4) (cell (roisOf m c) r 2)) (cell (roisOf m c) r 2)) := by
  rw [V_v85, V_v36, V_v24, V_v14]
  pointwise []
  rw [sitofp_nat 30 (by omega)]
  erw [sitofp_nat a.val (by omega)]
  rfl

theorem col_start (r : Fin 256) (b : Fin 7) : V m c main_v86 (ix2 r b) = Ideal.fptosi 32 (Bins.startOf (Bins.nat 40) (Bins.nat b.val)
    (Bins.binOf (cell (roisOf m c) r 3) (cell (roisOf m c) r 1)) (cell (roisOf m c) r 1)) := by
  rw [V_v86, V_v38, V_v19, V_v9]
  pointwise []
  rw [sitofp_nat 40 (by omega)]
  erw [sitofp_nat b.val (by omega)]
  rfl

theorem col_end (r : Fin 256) (b : Fin 7) : V m c main_v87 (ix2 r b) = Ideal.fptosi 32 (Bins.endOf (Bins.nat 40) (Bins.nat b.val)
    (Bins.binOf (cell (roisOf m c) r 3) (cell (roisOf m c) r 1)) (cell (roisOf m c) r 1)) := by
  rw [V_v87, V_v38, V_v19, V_v9]
  pointwise []
  rw [sitofp_nat 40 (by omega)]
  erw [sitofp_nat b.val (by omega)]
  rfl

/-- The slab's first column. -/
theorem slab_col (r : Fin 256) : V m c main_v95 (ix1 r)
    = Words.base (IntOp.minsi 39#32 (IntOp.maxsi 0#32 (Ideal.fptosi 32 (cell (roisOf m c) r 1)))) := by
  rw [V_v95, V_v94, V_v90, V_v9]
  pointwise []
  rfl

/-- The slab's first row. -/
theorem slab_row (r : Fin 256) (a : Fin 7) (hs : ℕ) (h : hs < 64) (e : V m c main_v84 (ix2 r a) = BitVec.ofNat 32 hs) :
    V m c main_v88 (ix2 r a) = BitVec.ofNat 32 (min hs 26) := by
  rw [V_v88]
  pointwise []
  rw [e]
  refine BitVec.eq_of_toNat_eq ?_
  refine (Words.clip_toNat 26 (by norm_num) _).trans ?_
  rw [BitVec.toInt_eq_toNat_cond, BitVec.toNat_ofNat, BitVec.toNat_ofNat]
  split_ifs <;> omega

/-- The candidates' rows of zeros and ones. -/
theorem cand_word (r : Fin 256) (k : Fin 4) (b : Fin 7) (w : Fin 24) (x0 ws we : ℕ) (h1 : x0 ≤ ws) (h2 : ws ≤ we) (h3 : we < 64)
    (e0 : V m c main_v95 (ix1 r) = BitVec.ofNat 32 x0) (e1 : V m c main_v86 (ix2 r b) = BitVec.ofNat 32 ws)
    (e2 : V m c main_v87 (ix2 r b) = BitVec.ofNat 32 we) :
    V m c main_v142 (ix3 (n1 := 32) r ⟨8 * k.val + b.val, by omega⟩ w)
      = if ws - x0 < we - x0 ∧ Pool.cand (ws - x0) (we - x0) k.val = w.val then (1 : EReal) else 0 := by
  have hg : ∀ x : IVec S256x7 32, Host.gather gather_S256x7_S32x1_S256x32_0_1_n_n_1_1_2561 x (binIdx
      (minsi (fun x : S32.Idx => BitVec.ofNat 32 ((x 0).val % 8)) (broadcastInDim S32 ![] bcast_S_S32 (constantI S_ 32 6#32))))
      (ix2 (n1 := 32) r ⟨8 * k.val + b.val, by omega⟩) = x (ix2 r b) := by
    intro x
    refine (gather_bins x _ r ⟨8 * k.val + b.val, by omega⟩).trans (congrArg x (congrArg (ix2 r) (Fin.ext ?_)))
    have hm : (8 * k.val + b.val) % 8 = b.val := by omega
    have := bin_word b
    rw [← hm] at this
    show min _ 6 = b.val
    refine (congrArg (fun n => min n 6) this).trans ?_
    omega
  rw [V_v142, V_v135, V_v113, V_v120, V_v103, V_v104]
  pointwise []
  generalize h86 : Host.gather _ (subi (V m c main_v86) _) _ _ = g86
  generalize h87 : Host.gather _ (subi (V m c main_v87) _) _ _ = g87
  have s86 : g86 = BitVec.ofNat 32 (ws - x0) := by
    refine h86.symm.trans ((hg _).trans ?_)
    pointwise []
    rw [e1, ← subi_ofNat h1 (by omega), ← e0]; rfl
  have s87 : g87 = BitVec.ofNat 32 (we - x0) := by
    refine h87.symm.trans ((hg _).trans ?_)
    pointwise []
    rw [e2, ← subi_ofNat (h1.trans h2) (by omega), ← e0]; rfl
  rw [s86, s87, show (8 * k.val + b.val) % 8 = b.val by omega, show (8 * k.val + b.val) / 8 = k.val by omega, bin_lt_seven b]
  exact cand_scalar (ws - x0) (we - x0) k.val w.val (by omega) (by omega) k.isLt w.isLt

end Cert.KernelIdeal.Body

end
-- ==== Proof.KernelIdealSlab.lean ====
/-
  What one grid step leaves in its output block, read region by region. The block is written by thirty-two stores, one
  per region; `roiBlock` says what the store of any one region holds, and `step_block` that the block as a whole is made
  of them.
-/
module

public import proofs.«01_k».proof.Proof.KernelIdealBody
public import Idealize.ShloMosaic.Lib.Writes
public import Idealize.ShloMosaic.Lib.ValueIdxCore
public import Mathlib.Tactic.FinCases

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

/-- Where the word of region `rr` of step `i` stands in a table with one word per region. -/
def roff (i : grid0.Coords) (rr : BitVec 32) : Fin 1 → ℕ :=
  ![(Scalar.indexCast (Scalar.addi (Scalar.muli (BitVec.ofNat 32 (i 0).val) 32#32) rr) : Index).toNat]
/-- Where the word of bin row `kk` of that region stands in a table with one word per region and bin row. -/
def koff (i : grid0.Coords) (rr kk : BitVec 32) : Fin 1 → ℕ :=
  ![(Scalar.indexCast (Scalar.addi (Scalar.muli (Scalar.addi (Scalar.muli (BitVec.ofNat 32 (i 0).val) 32#32) rr) 7#32) kk)
    : Index).toNat]

theorem roff_val (i : grid0.Coords) {rr : BitVec 32} (h : rr.toNat < 32) : roff i rr 0 = 32 * (i 0).val + rr.toNat := by
  have hi : (i 0).val < 8 := (i 0).isLt
  show (Scalar.addi (Scalar.muli (BitVec.ofNat 32 (i 0).val) 32#32) rr).toNat = _
  show (BitVec.ofNat 32 (i 0).val * 32#32 + rr).toNat = _
  simp only [BitVec.toNat_add, BitVec.toNat_mul, BitVec.toNat_ofNat]
  omega

theorem koff_val (i : grid0.Coords) {rr kk : BitVec 32} (h : rr.toNat < 32) (hk : kk.toNat < 7) :
    koff i rr kk 0 = 7 * (32 * (i 0).val + rr.toNat) + kk.toNat := by
  have hi : (i 0).val < 8 := (i 0).isLt
  show ((BitVec.ofNat 32 (i 0).val * 32#32 + rr) * 7#32 + kk).toNat = _
  simp only [BitVec.toNat_add, BitVec.toNat_mul, BitVec.toNat_ofNat]
  omega

theorem roff_inb (i : grid0.Coords) (rr : BitVec 32) (h : rr.toNat < 32) : ∀ a, roff i rr a + S1.size a ≤ S256.size a := by
  intro a
  have hi : (i 0).val < 8 := (i 0).isLt
  obtain rfl : a = 0 := Subsingleton.elim _ _
  rw [roff_val i h]
  show _ + 1 ≤ 256
  omega

theorem koff_inb (i : grid0.Coords) (rr kk : BitVec 32) (h : rr.toNat < 32) (hk : kk.toNat < 7) :
    ∀ a, koff i rr kk a + S1.size a ≤ S1792.size a := by
  intro a
  have hi : (i 0).val < 8 := (i 0).isLt
  obtain rfl : a = 0 := Subsingleton.elim _ _
  rw [koff_val i h hk]
  show _ + 1 ≤ 1792
  omega

theorem hot_inb (rr : BitVec 32) (h : rr.toNat < 32) :
    ∀ a, (![rr.toNat, 0, 0] : Fin 3 → ℕ) a + S1x32x24.size a ≤ S32x32x24.size a := by
  intro a
  fin_cases a
  · show rr.toNat + 1 ≤ 32
    omega
  · exact le_refl 32
  · exact le_refl 24

section
variable (c : Dev nD) (i : grid0.Coords)
  (arg1 : Memref sig .tc .smem S256 .i32) (harg1 : arg1.IsWhole) (arg2 : Memref sig .tc .smem S1792 .i32) (harg2 : arg2.IsWhole)
  (arg3 : Memref sig .tc .smem S1792 .i32) (harg3 : arg3.IsWhole) (arg4 : Memref sig .tc .smem S1792 .i32) (harg4 : arg4.IsWhole)
  (arg5 : Memref sig .tc .smem S256 .i32) (harg5 : arg5.IsWhole) (arg6 : Memref sig .tc .vmem S2x30x40x256 .bf16) (harg6 : arg6.IsWhole)
  (arg7 : Memref sig .tc .vmem S32x32x24 .bf16) (harg7 : arg7.IsWhole) (arg8 : Memref sig .tc .vmem S32x49x256 .bf16) (harg8 : arg8.IsWhole)
  (f1 : Bf (F := F) c arg1) (f2 : Bf (F := F) c arg2) (f3 : Bf (F := F) c arg3) (f4 : Bf (F := F) c arg4) (f5 : Bf (F := F) c arg5)
  (f6 : Bf (F := F) c arg6) (f7 : Bf (F := F) c arg7)
  (hb : ∀ x, BatchOk (arg1.view.read (Elt F) f1 x)) (hh : ∀ x, RowOk (arg2.view.read (Elt F) f2 x))
  (hx : ∀ x, ColOk (arg5.view.read (Elt F) f5 x))

/-- The word of a region. -/
def rword (M : Memref sig .tc .smem S256 .i32) (f : Bf (F := F) c M) (rr : BitVec 32) (h : rr.toNat < 32) : BitVec 32 :=
  View.readAt (Elt F) M.view (Rect.unit (s := S256) (roff i rr) S1.size (roff_inb i rr h)).toLoadRect f (Shape.Idx.first (s := S1) (by decide : 0 < S1.numel))
/-- The word of a region's bin row. -/
def kword (M : Memref sig .tc .smem S1792 .i32) (f : Bf (F := F) c M) (rr kk : BitVec 32) (h : rr.toNat < 32) (hk : kk.toNat < 7) :
    BitVec 32 :=
  View.readAt (Elt F) M.view (Rect.unit (s := S1792) (koff i rr kk) S1.size (koff_inb i rr kk h hk)).toLoadRect f (Shape.Idx.first (s := S1) (by decide : 0 < S1.numel))
/-- The slab of four rows and twenty-four columns of a bin row. -/
def slabOf (rr kk : BitVec 32) (h : rr.toNat < 32) (hk : kk.toNat < 7) : Vec F S1x4x24x256 .bf16 :=
  View.readAt (Elt F) arg6.view (Rect.unit (s := S2x30x40x256) ![(rword c i arg1 f1 rr h).toNat, (kword c i arg2 f2 rr kk h hk).toNat,
    (rword c i arg5 f5 rr h).toNat, 0] S1x4x24x256.size (slab_inb (hb _) (hh _) (hx _))).toLoadRect f6
/-- The rows of the table of candidates of a region. -/
def hotOf (rr : BitVec 32) (h : rr.toNat < 32) : FVec F S32x24 .bf16 :=
  shapeCast S32x24 (View.readAt (Elt F) arg7.view (Rect.unit (s := S32x32x24) ![rr.toNat, 0, 0] S1x32x24.size (hot_inb rr h)).toLoadRect f7)
    shapeCasts_S1x32x24_S32x24
/-- The seven bins of a bin row. -/
def binRowOf (rr kk : BitVec 32) (h : rr.toNat < 32) (hk : kk.toNat < 7) : FVec F S7x256 .bf16 :=
  k0_pay7 (iota .tc S4x1x1 32 [0] iota_S4x1x1_d0_w32) (hotOf c arg7 f7 rr h)
    (slabOf c i arg1 arg2 arg5 arg6 f1 f2 f5 f6 hb hh hx rr kk h hk) (kword c i arg3 f3 rr kk h hk) (kword c i arg4 f4 rr kk h hk)
/-- What is stored for a region: its seven bin rows one after another. -/
def roiBlock (rr : BitVec 32) (h : rr.toNat < 32) : Vec F S1x49x256 .bf16 :=
  let b (kk : BitVec 32) (hk : kk.toNat < 7) : FVec F S7x256 .bf16 :=
    binRowOf c i arg1 arg2 arg3 arg4 arg5 arg6 arg7 f1 f2 f3 f4 f5 f6 f7 hb hh hx rr kk h hk
  shapeCast S1x49x256 (concatenate S49x256 0 [⟨S7x256, b 0#32 (by decide)⟩, ⟨S7x256, b 1#32 (by decide)⟩,
    ⟨S7x256, b 2#32 (by decide)⟩, ⟨S7x256, b 3#32 (by decide)⟩, ⟨S7x256, b 4#32 (by decide)⟩, ⟨S7x256, b 5#32 (by decide)⟩,
    ⟨S7x256, b 6#32 (by decide)⟩] concatenates_S7x256_S7x256_S7x256_S7x256_S7x256_S7x256_S7x256_S49x256_d0) shapeCasts_S49x256_S1x49x256

/-- The store of region `rr`. -/
def piece (rr : Fin 32) : View.Piece (Elt F) S32x49x256 .bf16 :=
  ⟨Rect.unit (s := S32x49x256) ![rr.val, 0, 0] S1x49x256.size (by
      intro a
      fin_cases a
      · show rr.val + 1 ≤ 32
        omega
      · exact le_refl 49
      · exact le_refl 256),
    roiBlock c i arg1 arg2 arg3 arg4 arg5 arg6 arg7 f1 f2 f3 f4 f5 f6 f7 hb hh hx (BitVec.ofNat 32 rr.val)
      (by have := rr.isLt; rw [BitVec.toNat_ofNat]; omega)⟩

theorem stores_1 : kernelRun.sl.H8_1 c i arg1 arg2 arg3 arg4 arg5 arg6 arg7 f1 f2 f3 f4 f5 f6 f7 hb hh hx = piece c i arg1 arg2 arg3 arg4 arg5 arg6 arg7 f1 f2 f3 f4 f5 f6 f7 hb hh hx 0 :: [] := rfl
theorem stores_2 : kernelRun.sl.H8_2 c i arg1 arg2 arg3 arg4 arg5 arg6 arg7 f1 f2 f3 f4 f5 f6 f7 hb hh hx = piece c i arg1 arg2 arg3 arg4 arg5 arg6 arg7 f1 f2 f3 f4 f5 f6 f7 hb hh hx 1 :: kernelRun.sl.H8_1 c i arg1 arg2 arg3 arg4 arg5 arg6 arg7 f1 f2 f3 f4 f5 f6 f7 hb hh hx := rfl
theorem stores_3 : kernelRun.sl.H8_3 c i arg1 arg2 arg3 arg4 arg5 arg6 arg7 f1 f2 f3 f4 f5 f6 f7 hb hh hx = piece c i arg1 arg2 arg3 arg4 arg5 arg6 arg7 f1 f2 f3 f4 f5 f6 f7 hb hh hx 2 :: kernelRun.sl.H8_2 c i arg1 arg2 arg3 arg4 arg5 arg6 arg7 f1 f2 f3 f4 f5 f6 f7 hb hh hx := rfl
theorem stores_4 : kernelRun.sl.H8_4 c i arg1 arg2 arg3 arg4 arg5 arg6 arg7 f1 f2 f3 f4 f5 f6 f7 hb hh hx = piece c i arg1 arg2 arg3 arg4 arg5 arg6 arg7 f1 f2 f3 f4 f5 f6 f7 hb hh hx 3 :: kernelRun.sl.H8_3 c i arg1 arg2 arg3 arg4 arg5 arg6 arg7 f1 f2 f3 f4 f5 f6 f7 hb hh hx := rfl
theorem stores_5 : kernelRun.sl.H8_5 c i arg1 arg2 arg3 arg4 arg5 arg6 arg7 f1 f2 f3 f4 f5 f6 f7 hb hh hx = piece c i arg1 arg2 arg3 arg4 arg5 arg6 arg7 f1 f2 f3 f4 f5 f6 f7 hb hh hx 4 :: kernelRun.sl.H8_4 c i arg1 arg2 arg3 arg4 arg5 arg6 arg7 f1 f2 f3 f4 f5 f6 f7 hb hh hx := rfl
theorem stores_6 : kernelRun.sl.H8_6 c i arg1 arg2 arg3 arg4 arg5 arg6 arg7 f1 f2 f3 f4 f5 f6 f7 hb hh hx = piece c i arg1 arg2 arg3 arg4 arg5 arg6 arg7 f1 f2 f3 f4 f5 f6 f7 hb hh hx 5 :: kernelRun.sl.H8_5 c i arg1 arg2 arg3 arg4 arg5 arg6 arg7 f1 f2 f3 f4 f5 f6 f7 hb hh hx := rfl
theorem stores_7 : kernelRun.sl.H8_7 c i arg1 arg2 arg3 arg4 arg5 arg6 arg7 f1 f2 f3 f4 f5 f6 f7 hb hh hx = piece c i arg1 arg2 arg3 arg4 arg5 arg6 arg7 f1 f2 f3 f4 f5 f6 f7 hb hh hx 6 :: kernelRun.sl.H8_6 c i arg1 arg2 arg3 arg4 arg5 arg6 arg7 f1 f2 f3 f4 f5 f6 f7 hb hh hx := rfl
theorem stores_8 : kernelRun.sl.H8_8 c i arg1 arg2 arg3 arg4 arg5 arg6 arg7 f1 f2 f3 f4 f5 f6 f7 hb hh hx = piece c i arg1 arg2 arg3 arg4 arg5 arg6 arg7 f1 f2 f3 f4 f5 f6 f7 hb hh hx 7 :: kernelRun.sl.H8_7 c i arg1 arg2 arg3 arg4 arg5 arg6 arg7 f1 f2 f3 f4 f5 f6 f7 hb hh hx := rfl
theorem stores_9 : kernelRun.sl.H8_9 c i arg1 arg2 arg3 arg4 arg5 arg6 arg7 f1 f2 f3 f4 f5 f6 f7 hb hh hx = piece c i arg1 arg2 arg3 arg4 arg5 arg6 arg7 f1 f2 f3 f4 f5 f6 f7 hb hh hx 8 :: kernelRun.sl.H8_8 c i arg1 arg2 arg3 arg4 arg5 arg6 arg7 f1 f2 f3 f4 f5 f6 f7 hb hh hx := rfl
theorem stores_10 : kernelRun.sl.H8_10 c i arg1 arg2 arg3 arg4 arg5 arg6 arg7 f1 f2 f3 f4 f5 f6 f7 hb hh hx = piece c i arg1 arg2 arg3 arg4 arg5 arg6 arg7 f1 f2 f3 f4 f5 f6 f7 hb hh hx 9 :: kernelRun.sl.H8_9 c i arg1 arg2 arg3 arg4 arg5 arg6 arg7 f1 f2 f3 f4 f5 f6 f7 hb hh hx := rfl
theorem stores_11 : kernelRun.sl.H8_11 c i arg1 arg2 arg3 arg4 arg5 arg6 arg7 f1 f2 f3 f4 f5 f6 f7 hb hh hx = piece c i arg1 arg2 arg3 arg4 arg5 arg6 arg7 f1 f2 f3 f4 f5 f6 f7 hb hh hx 10 :: kernelRun.sl.H8_10 c i arg1 arg2 arg3 arg4 arg5 arg6 arg7 f1 f2 f3 f4 f5 f6 f7 hb hh hx := rfl
theorem stores_12 : kernelRun.sl.H8_12 c i arg1 arg2 arg3 arg4 arg5 arg6 arg7 f1 f2 f3 f4 f5 f6 f7 hb hh hx = piece c i arg1 arg2 arg3 arg4 arg5 arg6 arg7 f1 f2 f3 f4 f5 f6 f7 hb hh hx 11 :: kernelRun.sl.H8_11 c i arg1 arg2 arg3 arg4 arg5 arg6 arg7 f1 f2 f3 f4 f5 f6 f7 hb hh hx := rfl
theorem stores_13 : kernelRun.sl.H8_13 c i arg1 arg2 arg3 arg4 arg5 arg6 arg7 f1 f2 f3 f4 f5 f6 f7 hb hh hx = piece c i arg1 arg2 arg3 arg4 arg5 arg6 arg7 f1 f2 f3 f4 f5 f6 f7 hb hh hx 12 :: kernelRun.sl.H8_12 c i arg1 arg2 arg3 arg4 arg5 arg6 arg7 f1 f2 f3 f4 f5 f6 f7 hb hh hx := rfl
theorem stores_14 : kernelRun.sl.H8_14 c i arg1 arg2 arg3 arg4 arg5 arg6 arg7 f1 f2 f3 f4 f5 f6 f7 hb hh hx = piece c i arg1 arg2 arg3 arg4 arg5 arg6 arg7 f1 f2 f3 f4 f5 f6 f7 hb hh hx 13 :: kernelRun.sl.H8_13 c i arg1 arg2 arg3 arg4 arg5 arg6 arg7 f1 f2 f3 f4 f5 f6 f7 hb hh hx := rfl
theorem stores_15 : kernelRun.sl.H8_15 c i arg1 arg2 arg3 arg4 arg5 arg6 arg7 f1 f2 f3 f4 f5 f6 f7 hb hh hx = piece c i arg1 arg2 arg3 arg4 arg5 arg6 arg7 f1 f2 f3 f4 f5 f6 f7 hb hh hx 14 :: kernelRun.sl.H8_14 c i arg1 arg2 arg3 arg4 arg5 arg6 arg7 f1 f2 f3 f4 f5 f6 f7 hb hh hx := rfl
theorem stores_16 : kernelRun.sl.H8_16 c i arg1 arg2 arg3 arg4 arg5 arg6 arg7 f1 f2 f3 f4 f5 f6 f7 hb hh hx = piece c i arg1 arg2 arg3 arg4 arg5 arg6 arg7 f1 f2 f3 f4 f5 f6 f7 hb hh hx 15 :: kernelRun.sl.H8_15 c i arg1 arg2 arg3 arg4 arg5 arg6 arg7 f1 f2 f3 f4 f5 f6 f7 hb hh hx := rfl
theorem stores_17 : kernelRun.sl.H8_17 c i arg1 arg2 arg3 arg4 arg5 arg6 arg7 f1 f2 f3 f4 f5 f6 f7 hb hh hx = piece c i arg1 arg2 arg3 arg4 arg5 arg6 arg7 f1 f2 f3 f4 f5 f6 f7 hb hh hx 16 :: kernelRun.sl.H8_16 c i arg1 arg2 arg3 arg4 arg5 arg6 arg7 f1 f2 f3 f4 f5 f6 f7 hb hh hx := rfl
theorem stores_18 : kernelRun.sl.H8_18 c i arg1 arg2 arg3 arg4 arg5 arg6 arg7 f1 f2 f3 f4 f5 f6 f7 hb hh hx = piece c i arg1 arg2 arg3 arg4 arg5 arg6 arg7 f1 f2 f3 f4 f5 f6 f7 hb hh hx 17 :: kernelRun.sl.H8_17 c i arg1 arg2 arg3 arg4 arg5 arg6 arg7 f1 f2 f3 f4 f5 f6 f7 hb hh hx := rfl
theorem stores_19 : kernelRun.sl.H8_19 c i arg1 arg2 arg3 arg4 arg5 arg6 arg7 f1 f2 f3 f4 f5 f6 f7 hb hh hx = piece c i arg1 arg2 arg3 arg4 arg5 arg6 arg7 f1 f2 f3 f4 f5 f6 f7 hb hh hx 18 :: kernelRun.sl.H8_18 c i arg1 arg2 arg3 arg4 arg5 arg6 arg7 f1 f2 f3 f4 f5 f6 f7 hb hh hx := rfl
theorem stores_20 : kernelRun.sl.H8_20 c i arg1 arg2 arg3 arg4 arg5 arg6 arg7 f1 f2 f3 f4 f5 f6 f7 hb hh hx = piece c i arg1 arg2 arg3 arg4 arg5 arg6 arg7 f1 f2 f3 f4 f5 f6 f7 hb hh hx 19 :: kernelRun.sl.H8_19 c i arg1 arg2 arg3 arg4 arg5 arg6 arg7 f1 f2 f3 f4 f5 f6 f7 hb hh hx := rfl
theorem stores_21 : kernelRun.sl.H8_21 c i arg1 arg2 arg3 arg4 arg5 arg6 arg7 f1 f2 f3 f4 f5 f6 f7 hb hh hx = piece c i arg1 arg2 arg3 arg4 arg5 arg6 arg7 f1 f2 f3 f4 f5 f6 f7 hb hh hx 20 :: kernelRun.sl.H8_20 c i arg1 arg2 arg3 arg4 arg5 arg6 arg7 f1 f2 f3 f4 f5 f6 f7 hb hh hx := rfl
theorem stores_22 : kernelRun.sl.H8_22 c i arg1 arg2 arg3 arg4 arg5 arg6 arg7 f1 f2 f3 f4 f5 f6 f7 hb hh hx = piece c i arg1 arg2 arg3 arg4 arg5 arg6 arg7 f1 f2 f3 f4 f5 f6 f7 hb hh hx 21 :: kernelRun.sl.H8_21 c i arg1 arg2 arg3 arg4 arg5 arg6 arg7 f1 f2 f3 f4 f5 f6 f7 hb hh hx := rfl
theorem stores_23 : kernelRun.sl.H8_23 c i arg1 arg2 arg3 arg4 arg5 arg6 arg7 f1 f2 f3 f4 f5 f6 f7 hb hh hx = piece c i arg1 arg2 arg3 arg4 arg5 arg6 arg7 f1 f2 f3 f4 f5 f6 f7 hb hh hx 22 :: kernelRun.sl.H8_22 c i arg1 arg2 arg3 arg4 arg5 arg6 arg7 f1 f2 f3 f4 f5 f6 f7 hb hh hx := rfl
theorem stores_24 : kernelRun.sl.H8_24 c i arg1 arg2 arg3 arg4 arg5 arg6 arg7 f1 f2 f3 f4 f5 f6 f7 hb hh hx = piece c i arg1 arg2 arg3 arg4 arg5 arg6 arg7 f1 f2 f3 f4 f5 f6 f7 hb hh hx 23 :: kernelRun.sl.H8_23 c i arg1 arg2 arg3 arg4 arg5 arg6 arg7 f1 f2 f3 f4 f5 f6 f7 hb hh hx := rfl
theorem stores_25 : kernelRun.sl.H8_25 c i arg1 arg2 arg3 arg4 arg5 arg6 arg7 f1 f2 f3 f4 f5 f6 f7 hb hh hx = piece c i arg1 arg2 arg3 arg4 arg5 arg6 arg7 f1 f2 f3 f4 f5 f6 f7 hb hh hx 24 :: kernelRun.sl.H8_24 c i arg1 arg2 arg3 arg4 arg5 arg6 arg7 f1 f2 f3 f4 f5 f6 f7 hb hh hx := rfl
theorem stores_26 : kernelRun.sl.H8_26 c i arg1 arg2 arg3 arg4 arg5 arg6 arg7 f1 f2 f3 f4 f5 f6 f7 hb hh hx = piece c i arg1 arg2 arg3 arg4 arg5 arg6 arg7 f1 f2 f3 f4 f5 f6 f7 hb hh hx 25 :: kernelRun.sl.H8_25 c i arg1 arg2 arg3 arg4 arg5 arg6 arg7 f1 f2 f3 f4 f5 f6 f7 hb hh hx := rfl
theorem stores_27 : kernelRun.sl.H8_27 c i arg1 arg2 arg3 arg4 arg5 arg6 arg7 f1 f2 f3 f4 f5 f6 f7 hb hh hx = piece c i arg1 arg2 arg3 arg4 arg5 arg6 arg7 f1 f2 f3 f4 f5 f6 f7 hb hh hx 26 :: kernelRun.sl.H8_26 c i arg1 arg2 arg3 arg4 arg5 arg6 arg7 f1 f2 f3 f4 f5 f6 f7 hb hh hx := rfl
theorem stores_28 : kernelRun.sl.H8_28 c i arg1 arg2 arg3 arg4 arg5 arg6 arg7 f1 f2 f3 f4 f5 f6 f7 hb hh hx = piece c i arg1 arg2 arg3 arg4 arg5 arg6 arg7 f1 f2 f3 f4 f5 f6 f7 hb hh hx 27 :: kernelRun.sl.H8_27 c i arg1 arg2 arg3 arg4 arg5 arg6 arg7 f1 f2 f3 f4 f5 f6 f7 hb hh hx := rfl
theorem stores_29 : kernelRun.sl.H8_29 c i arg1 arg2 arg3 arg4 arg5 arg6 arg7 f1 f2 f3 f4 f5 f6 f7 hb hh hx = piece c i arg1 arg2 arg3 arg4 arg5 arg6 arg7 f1 f2 f3 f4 f5 f6 f7 hb hh hx 28 :: kernelRun.sl.H8_28 c i arg1 arg2 arg3 arg4 arg5 arg6 arg7 f1 f2 f3 f4 f5 f6 f7 hb hh hx := rfl
theorem stores_30 : kernelRun.sl.H8_30 c i arg1 arg2 arg3 arg4 arg5 arg6 arg7 f1 f2 f3 f4 f5 f6 f7 hb hh hx = piece c i arg1 arg2 arg3 arg4 arg5 arg6 arg7 f1 f2 f3 f4 f5 f6 f7 hb hh hx 29 :: kernelRun.sl.H8_29 c i arg1 arg2 arg3 arg4 arg5 arg6 arg7 f1 f2 f3 f4 f5 f6 f7 hb hh hx := rfl
theorem stores_31 : kernelRun.sl.H8_31 c i arg1 arg2 arg3 arg4 arg5 arg6 arg7 f1 f2 f3 f4 f5 f6 f7 hb hh hx = piece c i arg1 arg2 arg3 arg4 arg5 arg6 arg7 f1 f2 f3 f4 f5 f6 f7 hb hh hx 30 :: kernelRun.sl.H8_30 c i arg1 arg2 arg3 arg4 arg5 arg6 arg7 f1 f2 f3 f4 f5 f6 f7 hb hh hx := rfl
theorem stores_32 : kernelRun.sl.H8_32 c i arg1 arg2 arg3 arg4 arg5 arg6 arg7 f1 f2 f3 f4 f5 f6 f7 hb hh hx = piece c i arg1 arg2 arg3 arg4 arg5 arg6 arg7 f1 f2 f3 f4 f5 f6 f7 hb hh hx 31 :: kernelRun.sl.H8_31 c i arg1 arg2 arg3 arg4 arg5 arg6 arg7 f1 f2 f3 f4 f5 f6 f7 hb hh hx := rfl

end

end Cert.KernelIdeal.Body

end
-- ==== Proof.KernelIdealBlock.lean ====
/-
  The block of one grid step as a whole: an element of it is the element of its region's store.
-/
module

public import proofs.«01_k».proof.Proof.KernelIdealSlab
public import Idealize.ShloMosaic.Lib.ValueIdxCore
public import Mathlib.Tactic.FinCases
public import Mathlib.Tactic.SplitIfs

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

section
variable (c : Dev nD) (i : grid0.Coords)
  (arg1 : Memref sig .tc .smem S256 .i32) (harg1 : arg1.IsWhole) (arg2 : Memref sig .tc .smem S1792 .i32) (harg2 : arg2.IsWhole)
  (arg3 : Memref sig .tc .smem S1792 .i32) (harg3 : arg3.IsWhole) (arg4 : Memref sig .tc .smem S1792 .i32) (harg4 : arg4.IsWhole)
  (arg5 : Memref sig .tc .smem S256 .i32) (harg5 : arg5.IsWhole) (arg6 : Memref sig .tc .vmem S2x30x40x256 .bf16) (harg6 : arg6.IsWhole)
  (arg7 : Memref sig .tc .vmem S32x32x24 .bf16) (harg7 : arg7.IsWhole) (arg8 : Memref sig .tc .vmem S32x49x256 .bf16) (harg8 : arg8.IsWhole)
  (f1 : Bf (F := F) c arg1) (f2 : Bf (F := F) c arg2) (f3 : Bf (F := F) c arg3) (f4 : Bf (F := F) c arg4) (f5 : Bf (F := F) c arg5)
  (f6 : Bf (F := F) c arg6) (f7 : Bf (F := F) c arg7)
  (hb : ∀ x, BatchOk (arg1.view.read (Elt F) f1 x)) (hh : ∀ x, RowOk (arg2.view.read (Elt F) f2 x))
  (hx : ∀ x, ColOk (arg5.view.read (Elt F) f5 x))

/-- The stores of the first `n` regions, the last first. -/
def upTo : ℕ → List (View.Piece (Elt F) S32x49x256 .bf16)
  | 0 => []
  | n + 1 => if h : n < 32 then piece c i arg1 arg2 arg3 arg4 arg5 arg6 arg7 f1 f2 f3 f4 f5 f6 f7 hb hh hx ⟨n, h⟩ :: upTo n else upTo n

theorem mem_upTo (n : ℕ) : ∀ p ∈ upTo c i arg1 arg2 arg3 arg4 arg5 arg6 arg7 f1 f2 f3 f4 f5 f6 f7 hb hh hx n, ∃ rr, p = piece c i arg1 arg2 arg3 arg4 arg5 arg6 arg7 f1 f2 f3 f4 f5 f6 f7 hb hh hx rr := by
  induction n with
  | zero => intro p hp; cases hp
  | succ n ih =>
    intro p hp
    unfold upTo at hp
    split_ifs at hp with h
    · rcases List.mem_cons.mp hp with rfl | hp
      · exact ⟨_, rfl⟩
      · exact ih p hp
    · exact ih p hp

theorem upTo_mem (n : ℕ) (rr : Fin 32) (h : rr.val < n) : piece c i arg1 arg2 arg3 arg4 arg5 arg6 arg7 f1 f2 f3 f4 f5 f6 f7 hb hh hx rr ∈ upTo c i arg1 arg2 arg3 arg4 arg5 arg6 arg7 f1 f2 f3 f4 f5 f6 f7 hb hh hx n := by
  induction n with
  | zero => omega
  | succ n ih =>
    unfold upTo
    split_ifs with hn
    · by_cases e : rr.val = n
      · have : rr = ⟨n, hn⟩ := Fin.ext e
        rw [this]
        exact List.mem_cons_self
      · exact List.mem_cons_of_mem _ (ih (by omega))
    · exact ih (by have := rr.isLt; omega)

theorem upTo_cons (n : ℕ) (h : n < 32) : upTo c i arg1 arg2 arg3 arg4 arg5 arg6 arg7 f1 f2 f3 f4 f5 f6 f7 hb hh hx (n + 1) = piece c i arg1 arg2 arg3 arg4 arg5 arg6 arg7 f1 f2 f3 f4 f5 f6 f7 hb hh hx ⟨n, h⟩ :: upTo c i arg1 arg2 arg3 arg4 arg5 arg6 arg7 f1 f2 f3 f4 f5 f6 f7 hb hh hx n := by
  rw [upTo, dif_pos h]

theorem all_0 : ([] : List (View.Piece (Elt F) S32x49x256 .bf16)) = upTo c i arg1 arg2 arg3 arg4 arg5 arg6 arg7 f1 f2 f3 f4 f5 f6 f7 hb hh hx 0 := rfl
theorem all_1 : kernelRun.sl.H8_1 c i arg1 arg2 arg3 arg4 arg5 arg6 arg7 f1 f2 f3 f4 f5 f6 f7 hb hh hx = upTo c i arg1 arg2 arg3 arg4 arg5 arg6 arg7 f1 f2 f3 f4 f5 f6 f7 hb hh hx 1 :=
  (stores_1 c i arg1 arg2 arg3 arg4 arg5 arg6 arg7 f1 f2 f3 f4 f5 f6 f7 hb hh hx).trans ((congrArg (List.cons _) (all_0 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 0 (by decide)).symm)
theorem all_2 : kernelRun.sl.H8_2 c i arg1 arg2 arg3 arg4 arg5 arg6 arg7 f1 f2 f3 f4 f5 f6 f7 hb hh hx = upTo c i arg1 arg2 arg3 arg4 arg5 arg6 arg7 f1 f2 f3 f4 f5 f6 f7 hb hh hx 2 :=
  (stores_2 c i arg1 arg2 arg3 arg4 arg5 arg6 arg7 f1 f2 f3 f4 f5 f6 f7 hb hh hx).trans ((congrArg (List.cons _) (all_1 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 1 (by decide)).symm)
theorem all_3 : kernelRun.sl.H8_3 c i arg1 arg2 arg3 arg4 arg5 arg6 arg7 f1 f2 f3 f4 f5 f6 f7 hb hh hx = upTo c i arg1 arg2 arg3 arg4 arg5 arg6 arg7 f1 f2 f3 f4 f5 f6 f7 hb hh hx 3 :=
  (stores_3 c i arg1 arg2 arg3 arg4 arg5 arg6 arg7 f1 f2 f3 f4 f5 f6 f7 hb hh hx).trans ((congrArg (List.cons _) (all_2 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 2 (by decide)).symm)
theorem all_4 : kernelRun.sl.H8_4 c i arg1 arg2 arg3 arg4 arg5 arg6 arg7 f1 f2 f3 f4 f5 f6 f7 hb hh hx = upTo c i arg1 arg2 arg3 arg4 arg5 arg6 arg7 f1 f2 f3 f4 f5 f6 f7 hb hh hx 4 :=
  (stores_4 c i arg1 arg2 arg3 arg4 arg5 arg6 arg7 f1 f2 f3 f4 f5 f6 f7 hb hh hx).trans ((congrArg (List.cons _) (all_3 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 3 (by decide)).symm)
theorem all_5 : kernelRun.sl.H8_5 c i arg1 arg2 arg3 arg4 arg5 arg6 arg7 f1 f2 f3 f4 f5 f6 f7 hb hh hx = upTo c i arg1 arg2 arg3 arg4 arg5 arg6 arg7 f1 f2 f3 f4 f5 f6 f7 hb hh hx 5 :=
  (stores_5 c i arg1 arg2 arg3 arg4 arg5 arg6 arg7 f1 f2 f3 f4 f5 f6 f7 hb hh hx).trans ((congrArg (List.cons _) (all_4 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 4 (by decide)).symm)
theorem all_6 : kernelRun.sl.H8_6 c i arg1 arg2 arg3 arg4 arg5 arg6 arg7 f1 f2 f3 f4 f5 f6 f7 hb hh hx = upTo c i arg1 arg2 arg3 arg4 arg5 arg6 arg7 f1 f2 f3 f4 f5 f6 f7 hb hh hx 6 :=
  (stores_6 c i arg1 arg2 arg3 arg4 arg5 arg6 arg7 f1 f2 f3 f4 f5 f6 f7 hb hh hx).trans ((congrArg (List.cons _) (all_5 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 5 (by decide)).symm)
theorem all_7 : kernelRun.sl.H8_7 c i arg1 arg2 arg3 arg4 arg5 arg6 arg7 f1 f2 f3 f4 f5 f6 f7 hb hh hx = upTo c i arg1 arg2 arg3 arg4 arg5 arg6 arg7 f1 f2 f3 f4 f5 f6 f7 hb hh hx 7 :=
  (stores_7 c i arg1 arg2 arg3 arg4 arg5 arg6 arg7 f1 f2 f3 f4 f5 f6 f7 hb hh hx).trans ((congrArg (List.cons _) (all_6 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 6 (by decide)).symm)
theorem all_8 : kernelRun.sl.H8_8 c i arg1 arg2 arg3 arg4 arg5 arg6 arg7 f1 f2 f3 f4 f5 f6 f7 hb hh hx = upTo c i arg1 arg2 arg3 arg4 arg5 arg6 arg7 f1 f2 f3 f4 f5 f6 f7 hb hh hx 8 :=
  (stores_8 c i arg1 arg2 arg3 arg4 arg5 arg6 arg7 f1 f2 f3 f4 f5 f6 f7 hb hh hx).trans ((congrArg (List.cons _) (all_7 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 7 (by decide)).symm)
theorem all_9 : kernelRun.sl.H8_9 c i arg1 arg2 arg3 arg4 arg5 arg6 arg7 f1 f2 f3 f4 f5 f6 f7 hb hh hx = upTo c i arg1 arg2 arg3 arg4 arg5 arg6 arg7 f1 f2 f3 f4 f5 f6 f7 hb hh hx 9 :=
  (stores_9 c i arg1 arg2 arg3 arg4 arg5 arg6 arg7 f1 f2 f3 f4 f5 f6 f7 hb hh hx).trans ((congrArg (List.cons _) (all_8 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 8 (by decide)).symm)
theorem all_10 : kernelRun.sl.H8_10 c i arg1 arg2 arg3 arg4 arg5 arg6 arg7 f1 f2 f3 f4 f5 f6 f7 hb hh hx = upTo c i arg1 arg2 arg3 arg4 arg5 arg6 arg7 f1 f2 f3 f4 f5 f6 f7 hb hh hx 10 :=
  (stores_10 c i arg1 arg2 arg3 arg4 arg5 arg6 arg7 f1 f2 f3 f4 f5 f6 f7 hb hh hx).trans ((congrArg (List.cons _) (all_9 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 9 (by decide)).symm)
theorem all_11 : kernelRun.sl.H8_11 c i arg1 arg2 arg3 arg4 arg5 arg6 arg7 f1 f2 f3 f4 f5 f6 f7 hb hh hx = upTo c i arg1 arg2 arg3 arg4 arg5 arg6 arg7 f1 f2 f3 f4 f5 f6 f7 hb hh hx 11 :=
  (stores_11 c i arg1 arg2 arg3 arg4 arg5 arg6 arg7 f1 f2 f3 f4 f5 f6 f7 hb hh hx).trans ((congrArg (List.cons _) (all_10 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 10 (by decide)).symm)
theorem all_12 : kernelRun.sl.H8_12 c i arg1 arg2 arg3 arg4 arg5 arg6 arg7 f1 f2 f3 f4 f5 f6 f7 hb hh hx = upTo c i arg1 arg2 arg3 arg4 arg5 arg6 arg7 f1 f2 f3 f4 f5 f6 f7 hb hh hx 12 :=
  (stores_12 c i arg1 arg2 arg3 arg4 arg5 arg6 arg7 f1 f2 f3 f4 f5 f6 f7 hb hh hx).trans ((congrArg (List.cons _) (all_11 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 11 (by decide)).symm)
theorem all_13 : kernelRun.sl.H8_13 c i arg1 arg2 arg3 arg4 arg5 arg6 arg7 f1 f2 f3 f4 f5 f6 f7 hb hh hx = upTo c i arg1 arg2 arg3 arg4 arg5 arg6 arg7 f1 f2 f3 f4 f5 f6 f7 hb hh hx 13 :=
  (stores_13 c i arg1 arg2 arg3 arg4 arg5 arg6 arg7 f1 f2 f3 f4 f5 f6 f7 hb hh hx).trans ((congrArg (List.cons _) (all_12 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 12 (by decide)).symm)
theorem all_14 : kernelRun.sl.H8_14 c i arg1 arg2 arg3 arg4 arg5 arg6 arg7 f1 f2 f3 f4 f5 f6 f7 hb hh hx = upTo c i arg1 arg2 arg3 arg4 arg5 arg6 arg7 f1 f2 f3 f4 f5 f6 f7 hb hh hx 14 :=
  (stores_14 c i arg1 arg2 arg3 arg4 arg5 arg6 arg7 f1 f2 f3 f4 f5 f6 f7 hb hh hx).trans ((congrArg (List.cons _) (all_13 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 13 (by decide)).symm)
theorem all_15 : kernelRun.sl.H8_15 c i arg1 arg2 arg3 arg4 arg5 arg6 arg7 f1 f2 f3 f4 f5 f6 f7 hb hh hx = upTo c i arg1 arg2 arg3 arg4 arg5 arg6 arg7 f1 f2 f3 f4 f5 f6 f7 hb hh hx 15 :=
  (stores_15 c i arg1 arg2 arg3 arg4 arg5 arg6 arg7 f1 f2 f3 f4 f5 f6 f7 hb hh hx).trans ((congrArg (List.cons _) (all_14 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 14 (by decide)).symm)
theorem all_16 : kernelRun.sl.H8_16 c i arg1 arg2 arg3 arg4 arg5 arg6 arg7 f1 f2 f3 f4 f5 f6 f7 hb hh hx = upTo c i arg1 arg2 arg3 arg4 arg5 arg6 arg7 f1 f2 f3 f4 f5 f6 f7 hb hh hx 16 :=
  (stores_16 c i arg1 arg2 arg3 arg4 arg5 arg6 arg7 f1 f2 f3 f4 f5 f6 f7 hb hh hx).trans ((congrArg (List.cons _) (all_15 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 15 (by decide)).symm)
theorem all_17 : kernelRun.sl.H8_17 c i arg1 arg2 arg3 arg4 arg5 arg6 arg7 f1 f2 f3 f4 f5 f6 f7 hb hh hx = upTo c i arg1 arg2 arg3 arg4 arg5 arg6 arg7 f1 f2 f3 f4 f5 f6 f7 hb hh hx 17 :=
  (stores_17 c i arg1 arg2 arg3 arg4 arg5 arg6 arg7 f1 f2 f3 f4 f5 f6 f7 hb hh hx).trans ((congrArg (List.cons _) (all_16 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 16 (by decide)).symm)
theorem all_18 : kernelRun.sl.H8_18 c i arg1 arg2 arg3 arg4 arg5 arg6 arg7 f1 f2 f3 f4 f5 f6 f7 hb hh hx = upTo c i arg1 arg2 arg3 arg4 arg5 arg6 arg7 f1 f2 f3 f4 f5 f6 f7 hb hh hx 18 :=
  (stores_18 c i arg1 arg2 arg3 arg4 arg5 arg6 arg7 f1 f2 f3 f4 f5 f6 f7 hb hh hx).trans ((congrArg (List.cons _) (all_17 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 17 (by decide)).symm)
theorem all_19 : kernelRun.sl.H8_19 c i arg1 arg2 arg3 arg4 arg5 arg6 arg7 f1 f2 f3 f4 f5 f6 f7 hb hh hx = upTo c i arg1 arg2 arg3 arg4 arg5 arg6 arg7 f1 f2 f3 f4 f5 f6 f7 hb hh hx 19 :=
  (stores_19 c i arg1 arg2 arg3 arg4 arg5 arg6 arg7 f1 f2 f3 f4 f5 f6 f7 hb hh hx).trans ((congrArg (List.cons _) (all_18 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 18 (by decide)).symm)
theorem all_20 : kernelRun.sl.H8_20 c i arg1 arg2 arg3 arg4 arg5 arg6 arg7 f1 f2 f3 f4 f5 f6 f7 hb hh hx = upTo c i arg1 arg2 arg3 arg4 arg5 arg6 arg7 f1 f2 f3 f4 f5 f6 f7 hb hh hx 20 :=
  (stores_20 c i arg1 arg2 arg3 arg4 arg5 arg6 arg7 f1 f2 f3 f4 f5 f6 f7 hb hh hx).trans ((congrArg (List.cons _) (all_19 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 19 (by decide)).symm)
theorem all_21 : kernelRun.sl.H8_21 c i arg1 arg2 arg3 arg4 arg5 arg6 arg7 f1 f2 f3 f4 f5 f6 f7 hb hh hx = upTo c i arg1 arg2 arg3 arg4 arg5 arg6 arg7 f1 f2 f3 f4 f5 f6 f7 hb hh hx 21 :=
  (stores_21 c i arg1 arg2 arg3 arg4 arg5 arg6 arg7 f1 f2 f3 f4 f5 f6 f7 hb hh hx).trans ((congrArg (List.cons _) (all_20 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 20 (by decide)).symm)
theorem all_22 : kernelRun.sl.H8_22 c i arg1 arg2 arg3 arg4 arg5 arg6 arg7 f1 f2 f3 f4 f5 f6 f7 hb hh hx = upTo c i arg1 arg2 arg3 arg4 arg5 arg6 arg7 f1 f2 f3 f4 f5 f6 f7 hb hh hx 22 :=
  (stores_22 c i arg1 arg2 arg3 arg4 arg5 arg6 arg7 f1 f2 f3 f4 f5 f6 f7 hb hh hx).trans ((congrArg (List.cons _) (all_21 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 21 (by decide)).symm)
theorem all_23 : kernelRun.sl.H8_23 c i arg1 arg2 arg3 arg4 arg5 arg6 arg7 f1 f2 f3 f4 f5 f6 f7 hb hh hx = upTo c i arg1 arg2 arg3 arg4 arg5 arg6 arg7 f1 f2 f3 f4 f5 f6 f7 hb hh hx 23 :=
  (stores_23 c i arg1 arg2 arg3 arg4 arg5 arg6 arg7 f1 f2 f3 f4 f5 f6 f7 hb hh hx).trans ((congrArg (List.cons _) (all_22 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 22 (by decide)).symm)
theorem all_24 : kernelRun.sl.H8_24 c i arg1 arg2 arg3 arg4 arg5 arg6 arg7 f1 f2 f3 f4 f5 f6 f7 hb hh hx = upTo c i arg1 arg2 arg3 arg4 arg5 arg6 arg7 f1 f2 f3 f4 f5 f6 f7 hb hh hx 24 :=
  (stores_24 c i arg1 arg2 arg3 arg4 arg5 arg6 arg7 f1 f2 f3 f4 f5 f6 f7 hb hh hx).trans ((congrArg (List.cons _) (all_23 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 23 (by decide)).symm)
theorem all_25 : kernelRun.sl.H8_25 c i arg1 arg2 arg3 arg4 arg5 arg6 arg7 f1 f2 f3 f4 f5 f6 f7 hb hh hx = upTo c i arg1 arg2 arg3 arg4 arg5 arg6 arg7 f1 f2 f3 f4 f5 f6 f7 hb hh hx 25 :=
  (stores_25 c i arg1 arg2 arg3 arg4 arg5 arg6 arg7 f1 f2 f3 f4 f5 f6 f7 hb hh hx).trans ((congrArg (List.cons _) (all_24 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 24 (by decide)).symm)
theorem all_26 : kernelRun.sl.H8_26 c i arg1 arg2 arg3 arg4 arg5 arg6 arg7 f1 f2 f3 f4 f5 f6 f7 hb hh hx = upTo c i arg1 arg2 arg3 arg4 arg5 arg6 arg7 f1 f2 f3 f4 f5 f6 f7 hb hh hx 26 :=
  (stores_26 c i arg1 arg2 arg3 arg4 arg5 arg6 arg7 f1 f2 f3 f4 f5 f6 f7 hb hh hx).trans ((congrArg (List.cons _) (all_25 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 25 (by decide)).symm)
theorem all_27 : kernelRun.sl.H8_27 c i arg1 arg2 arg3 arg4 arg5 arg6 arg7 f1 f2 f3 f4 f5 f6 f7 hb hh hx = upTo c i arg1 arg2 arg3 arg4 arg5 arg6 arg7 f1 f2 f3 f4 f5 f6 f7 hb hh hx 27 :=
  (stores_27 c i arg1 arg2 arg3 arg4 arg5 arg6 arg7 f1 f2 f3 f4 f5 f6 f7 hb hh hx).trans ((congrArg (List.cons _) (all_26 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 26 (by decide)).symm)
theorem all_28 : kernelRun.sl.H8_28 c i arg1 arg2 arg3 arg4 arg5 arg6 arg7 f1 f2 f3 f4 f5 f6 f7 hb hh hx = upTo c i arg1 arg2 arg3 arg4 arg5 arg6 arg7 f1 f2 f3 f4 f5 f6 f7 hb hh hx 28 :=
  (stores_28 c i arg1 arg2 arg3 arg4 arg5 arg6 arg7 f1 f2 f3 f4 f5 f6 f7 hb hh hx).trans ((congrArg (List.cons _) (all_27 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 27 (by decide)).symm)
theorem all_29 : kernelRun.sl.H8_29 c i arg1 arg2 arg3 arg4 arg5 arg6 arg7 f1 f2 f3 f4 f5 f6 f7 hb hh hx = upTo c i arg1 arg2 arg3 arg4 arg5 arg6 arg7 f1 f2 f3 f4 f5 f6 f7 hb hh hx 29 :=
  (stores_29 c i arg1 arg2 arg3 arg4 arg5 arg6 arg7 f1 f2 f3 f4 f5 f6 f7 hb hh hx).trans ((congrArg (List.cons _) (all_28 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 28 (by decide)).symm)
theorem all_30 : kernelRun.sl.H8_30 c i arg1 arg2 arg3 arg4 arg5 arg6 arg7 f1 f2 f3 f4 f5 f6 f7 hb hh hx = upTo c i arg1 arg2 arg3 arg4 arg5 arg6 arg7 f1 f2 f3 f4 f5 f6 f7 hb hh hx 30 :=
  (stores_30 c i arg1 arg2 arg3 arg4 arg5 arg6 arg7 f1 f2 f3 f4 f5 f6 f7 hb hh hx).trans ((congrArg (List.cons _) (all_29 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 29 (by decide)).symm)
theorem all_31 : kernelRun.sl.H8_31 c i arg1 arg2 arg3 arg4 arg5 arg6 arg7 f1 f2 f3 f4 f5 f6 f7 hb hh hx = upTo c i arg1 arg2 arg3 arg4 arg5 arg6 arg7 f1 f2 f3 f4 f5 f6 f7 hb hh hx 31 :=
  (stores_31 c i arg1 arg2 arg3 arg4 arg5 arg6 arg7 f1 f2 f3 f4 f5 f6 f7 hb hh hx).trans ((congrArg (List.cons _) (all_30 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 30 (by decide)).symm)
theorem all_32 : kernelRun.sl.H8_32 c i arg1 arg2 arg3 arg4 arg5 arg6 arg7 f1 f2 f3 f4 f5 f6 f7 hb hh hx = upTo c i arg1 arg2 arg3 arg4 arg5 arg6 arg7 f1 f2 f3 f4 f5 f6 f7 hb hh hx 32 :=
  (stores_32 c i arg1 arg2 arg3 arg4 arg5 arg6 arg7 f1 f2 f3 f4 f5 f6 f7 hb hh hx).trans ((congrArg (List.cons _) (all_31 c i arg1 arg2 arg3 arg4 arg5 arg6 arg7 f1 f2 f3 f4 f5 f6 f7 hb hh hx)).trans (upTo_cons c i arg1 arg2 arg3 arg4 arg5 arg6 arg7 f1 f2 f3 f4 f5 f6 f7 hb hh hx 31 (by decide)).symm)

/-- The block after the step is made of the thirty-two stores. -/
theorem stores : kernelRun.sl.H8_32 c i arg1 arg2 arg3 arg4 arg5 arg6 arg7 f1 f2 f3 f4 f5 f6 f7 hb hh hx = upTo c i arg1 arg2 arg3 arg4 arg5 arg6 arg7 f1 f2 f3 f4 f5 f6 f7 hb hh hx 32 := all_32 c i arg1 arg2 arg3 arg4 arg5 arg6 arg7 f1 f2 f3 f4 f5 f6 f7 hb hh hx

/-- The block a step leaves, element by element: that of the region's store. -/
def blockAt (y : S32x49x256.Idx) : Elt F .bf16 :=
  roiBlock c i arg1 arg2 arg3 arg4 arg5 arg6 arg7 f1 f2 f3 f4 f5 f6 f7 hb hh hx (BitVec.ofNat 32 (y 0).val)
    (by have := (y 0).isLt; have : S32x49x256.size 0 = 32 := rfl; rw [BitVec.toNat_ofNat]; omega)
    (ValueIdx.ix3 (n0 := 1) (n1 := 49) (n2 := 256) 0 (y 1) (y 2))

theorem piece_apply (rr : Fin 32) (x : (piece c i arg1 arg2 arg3 arg4 arg5 arg6 arg7 f1 f2 f3 f4 f5 f6 f7 hb hh hx rr).1.shape.Idx) :
    (piece c i arg1 arg2 arg3 arg4 arg5 arg6 arg7 f1 f2 f3 f4 f5 f6 f7 hb hh hx rr).2 x = blockAt c i arg1 arg2 arg3 arg4 arg5 arg6 arg7 f1 f2 f3 f4 f5 f6 f7 hb hh hx ((piece c i arg1 arg2 arg3 arg4 arg5 arg6 arg7 f1 f2 f3 f4 f5 f6 f7 hb hh hx rr).1.emb x) := by
  have h0 : (((piece c i arg1 arg2 arg3 arg4 arg5 arg6 arg7 f1 f2 f3 f4 f5 f6 f7 hb hh hx rr).1.emb x) 0) = rr := by
    apply Fin.ext
    show rr.val + 1 * (x 0).val = rr.val
    have : (x 0).val < 1 := (x 0).isLt
    omega
  have hx' : x = ValueIdx.ix3 (n0 := 1) (n1 := 49) (n2 := 256) 0 (((piece c i arg1 arg2 arg3 arg4 arg5 arg6 arg7 f1 f2 f3 f4 f5 f6 f7 hb hh hx rr).1.emb x) 1) (((piece c i arg1 arg2 arg3 arg4 arg5 arg6 arg7 f1 f2 f3 f4 f5 f6 f7 hb hh hx rr).1.emb x) 2) := by
    funext a
    apply Fin.ext
    fin_cases a
    · have : (x 0).val < 1 := (x 0).isLt
      show (x 0).val = 0
      omega
    · show (x 1).val = 0 + 1 * (x 1).val
      omega
    · show (x 2).val = 0 + 1 * (x 2).val
      omega
  unfold blockAt
  simp only [h0]
  exact congrArg _ hx'

theorem mem_piece (y : S32x49x256.Idx) : y ∈ (piece c i arg1 arg2 arg3 arg4 arg5 arg6 arg7 f1 f2 f3 f4 f5 f6 f7 hb hh hx (y 0)).1.set := by
  refine (piece c i arg1 arg2 arg3 arg4 arg5 arg6 arg7 f1 f2 f3 f4 f5 f6 f7 hb hh hx (y 0)).1.mem_set.mpr fun a => ?_
  fin_cases a
  · exact ⟨0, Nat.one_pos, (Nat.add_zero _).symm⟩
  · exact ⟨(y 1).val, (y 1).isLt, by show (y 1).val = 0 + 1 * (y 1).val; omega⟩
  · exact ⟨(y 2).val, (y 2).isLt, by show (y 2).val = 0 + 1 * (y 2).val; omega⟩

theorem upTo_read (f : arg8.view.ty.Contents (Elt F)) (y : S32x49x256.Idx) :
    arg8.view.read (Elt F) (arg8.view.writes (Elt F) f (upTo c i arg1 arg2 arg3 arg4 arg5 arg6 arg7 f1 f2 f3 f4 f5 f6 f7 hb hh hx 32)) y = blockAt c i arg1 arg2 arg3 arg4 arg5 arg6 arg7 f1 f2 f3 f4 f5 f6 f7 hb hh hx y := by
  refine View.read_writes_apply_of_pieces (v := arg8.view) (f := f) (blockAt c i arg1 arg2 arg3 arg4 arg5 arg6 arg7 f1 f2 f3 f4 f5 f6 f7 hb hh hx) (upTo c i arg1 arg2 arg3 arg4 arg5 arg6 arg7 f1 f2 f3 f4 f5 f6 f7 hb hh hx 32) ?_ y
    ⟨_, upTo_mem c i arg1 arg2 arg3 arg4 arg5 arg6 arg7 f1 f2 f3 f4 f5 f6 f7 hb hh hx 32 (y 0) (y 0).isLt, mem_piece c i arg1 arg2 arg3 arg4 arg5 arg6 arg7 f1 f2 f3 f4 f5 f6 f7 hb hh hx y⟩
  intro p hp x
  obtain ⟨rr, rfl⟩ := mem_upTo c i arg1 arg2 arg3 arg4 arg5 arg6 arg7 f1 f2 f3 f4 f5 f6 f7 hb hh hx 32 p hp
  exact piece_apply c i arg1 arg2 arg3 arg4 arg5 arg6 arg7 f1 f2 f3 f4 f5 f6 f7 hb hh hx rr x

/-- An element of the block a step leaves is the element of its region's store. -/
theorem step_block (y : S32x49x256.Idx) :
    arg8.view.read (Elt F) (kernelRun c i arg1 harg1 arg2 harg2 arg3 harg3 arg4 harg4 arg5 harg5 arg6 harg6 arg7 harg7 arg8 harg8
        f1 f2 f3 f4 f5 f6 f7 hb hh hx).1 y = blockAt c i arg1 arg2 arg3 arg4 arg5 arg6 arg7 f1 f2 f3 f4 f5 f6 f7 hb hh hx y := by
  have e : (kernelRun c i arg1 harg1 arg2 harg2 arg3 harg3 arg4 harg4 arg5 harg5 arg6 harg6 arg7 harg7 arg8 harg8
        f1 f2 f3 f4 f5 f6 f7 hb hh hx).1 = arg8.view.writes (Elt F) arg8.view.junk (kernelRun.sl.H8_32 c i arg1 arg2 arg3 arg4 arg5 arg6 arg7 f1 f2 f3 f4 f5 f6 f7 hb hh hx) := by
    delta kernelRun; rfl
  rw [e, stores c i arg1 arg2 arg3 arg4 arg5 arg6 arg7 f1 f2 f3 f4 f5 f6 f7 hb hh hx]
  exact upTo_read c i arg1 arg2 arg3 arg4 arg5 arg6 arg7 arg8 f1 f2 f3 f4 f5 f6 f7 hb hh hx _ y

end

end Cert.KernelIdeal.Body

end
-- ==== Proof.KernelIdealOut.lean ====
/-
  What the kernel's program leaves in its result. The output array is the blocks of the eight grid points one after
  another, and the three host operations after the kernel only lay it out again, so an element of the result is an
  element of one region's store.
-/
module

public import proofs.«01_k».proof.Proof.KernelIdealFrame
public import proofs.«01_k».proof.Proof.KernelIdealBlock
public import Idealize.ShloMosaic.PureOps.Ideal
public import Idealize.ShloMosaic.Lib.Pipeline.Covers
public import Idealize.ShloMosaic.Lib.StableHlo.RunRead
public import Idealize.ShloMosaic.Lib.Pipeline.Value
public import Idealize.ShloMosaic.Lib.Pipeline.ValueKit.Geometry

@[expose] public section

set_option maxRecDepth 16384

noncomputable section

namespace Cert.KernelIdeal.Body

open Cert.KernelIdeal Cert.KernelIdeal.Gen
open Idealize.ShloMosaic Idealize.ShloMosaic.TcCoe
open Idealize.ShloMosaic.ValueIdx

variable {F : FTy → Type} [FloatOps F]

section
variable (m : (ℓ : Loc nD τ sig) → Buf (Elt F) ℓ) (hO : TblOk m)

/-- The grid has eight points, and each is its one coordinate. -/
theorem N_eq : (cfgM m).N = 8 := rfl
theorem coords_val (t : Fin (cfgM m).N) : (((cfgM m).grid.coords t) 0).val = t.val := by
  have h : ∀ t : Fin grid0.N, ((grid0.coords t) 0).val = t.val := by decide +kernel
  exact h t

/-- The output array, element by element. -/
def outEl (c : Dev nD) (r : Fin 256) (p : Fin 49) (ch : Fin 256) : Elt F .bf16 :=
  outAt m hO c ⟨r.val / 32, by rw [N_eq]; omega⟩ (ix3 (n0 := 32) (n1 := 49) (n2 := 256) ⟨r.val % 32, by omega⟩ p ch)
/-- The output array. -/
def outArr (c : Dev nD) (i : S256x49x256.Idx) : Elt F .bf16 := outEl m hO c (i 0) (i 1) (i 2)

/-- Where an element of a point's block stands in the array. -/
def place (t : Fin (cfgM m).N) (y : S32x49x256.Idx) : S256x49x256.Idx := (((cfgM m).win 2).blk t).view.emb y

theorem place_0 (t : Fin (cfgM m).N) (y : S32x49x256.Idx) : (place m t y 0).val = 32 * t.val + (y 0).val := by
  have h : (place m t y 0).val = ((cfgM m).win 2).index t (0 : Fin 3) * 32 + (y 0).val :=
    Pipeline.Window.rect_emb_val ((cfgM m).win 2) t y (0 : Fin 3)
  have h2 : ((cfgM m).win 2).index t (0 : Fin 3) = t.val := by
    have : ((cfgM m).win 2).index t (0 : Fin 3) = (BitVec.ofNat 32 (((cfgM m).grid.coords t) 0).val).toNat := rfl
    rw [this, coords_val, BitVec.toNat_ofNat]
    have : t.val < 8 := t.isLt
    omega
  rw [h, h2]
  omega
theorem place_1 (t : Fin (cfgM m).N) (y : S32x49x256.Idx) : place m t y 1 = y 1 := by
  have h : (place m t y 1).val = ((cfgM m).win 2).index t (1 : Fin 3) * 49 + (y 1).val :=
    Pipeline.Window.rect_emb_val ((cfgM m).win 2) t y (1 : Fin 3)
  have h2 : ((cfgM m).win 2).index t (1 : Fin 3) = 0 := rfl
  rw [h2] at h
  exact Fin.ext (h.trans (by omega))
theorem place_2 (t : Fin (cfgM m).N) (y : S32x49x256.Idx) : place m t y 2 = y 2 := by
  have h : (place m t y 2).val = ((cfgM m).win 2).index t (2 : Fin 3) * 256 + (y 2).val :=
    Pipeline.Window.rect_emb_val ((cfgM m).win 2) t y (2 : Fin 3)
  have h2 : ((cfgM m).win 2).index t (2 : Fin 3) = 0 := rfl
  rw [h2] at h
  exact Fin.ext (h.trans (by omega))

theorem outEl_at (c : Dev nD) (t : Fin (cfgM m).N) (y : S32x49x256.Idx) (r : Fin 256) (hr : r.val = 32 * t.val + (y 0).val) :
    outEl m hO c r (y 1) (y 2) = outAt m hO c t y := by
  have hy : (y 0).val < 32 := (y 0).isLt
  have ht : t.val < 8 := t.isLt
  have a1 : (⟨r.val / 32, by rw [N_eq]; omega⟩ : Fin (cfgM m).N) = t := Fin.ext (show r.val / 32 = t.val by omega)
  have a2 : (⟨r.val % 32, by omega⟩ : Fin 32) = y 0 := Fin.ext (show r.val % 32 = (y 0).val by omega)
  unfold outEl
  rw [a1, a2]
  exact congrArg _ (eq_ix3 y).symm

theorem outArr_place (c : Dev nD) (t : Fin (cfgM m).N) (y : S32x49x256.Idx) :
    outArr m hO c (place m t y) = outAt m hO c t y := by
  unfold outArr
  rw [place_1, place_2]
  exact outEl_at m hO c t y _ (place_0 m t y)

theorem nblk_0 : ((cfgM m).win 2).nblk (0 : Fin 3) = 8 := by show (256 + 32 - 1) / 32 = 8; norm_num
theorem nblk_1 : ((cfgM m).win 2).nblk (1 : Fin 3) = 1 := by show (49 + 49 - 1) / 49 = 1; norm_num
theorem nblk_2 : ((cfgM m).win 2).nblk (2 : Fin 3) = 1 := by show (256 + 256 - 1) / 256 = 1; norm_num

/-- The output's blocks cover it. -/
theorem covers : ((cfgM m).win 2).Covers := by
  refine ((cfgM m).win 2).covers_of_indexMap_surj rfl ?_ fun β =>
    ⟨fun a => ⟨(β (0 : Fin 3)).val, lt_of_lt_of_eq (β (0 : Fin 3)).isLt ((nblk_0 m).trans ?_)⟩, fun a => ?_⟩
  · intro a
    fin_cases a
    · show 0 < 32; omega
    · show 0 < 49; omega
    · show 0 < 256; omega
  · obtain rfl : a = (0 : Fin 1) := Subsingleton.elim (α := Fin 1) _ _
    rfl
  · fin_cases a
    · have h : (β (0 : Fin 3)).val < 8 := lt_of_lt_of_eq (β (0 : Fin 3)).isLt (nblk_0 m)
      show (BitVec.ofNat 32 (β (0 : Fin 3)).val).toNat = (β (0 : Fin 3)).val
      rw [BitVec.toNat_ofNat]; omega
    · have h : (β (1 : Fin 3)).val < 1 := lt_of_lt_of_eq (β (1 : Fin 3)).isLt (nblk_1 m)
      show 0 = (β (1 : Fin 3)).val
      omega
    · have h : (β (2 : Fin 3)).val < 1 := lt_of_lt_of_eq (β (2 : Fin 3)).isLt (nblk_2 m)
      show 0 = (β (2 : Fin 3)).val
      omega

theorem arr_eq (c : Dev nD) : (dats m hO 0 c).arrAt 2 (cfgM m).N = outArr m hO c := by
  refine (dats m hO 0 c).arrAt_eq_of_covers 2 _ (covers m) (fun t hf y => ?_)
  rw [after_2]
  exact (outArr_place m hO c t y).symm
end

variable (m : (ℓ : Loc nD τ sig) → Buf (Elt Ideal) ℓ) (hO : TblOk m)

/-- The result, element by element. -/
theorem tail_apply (c : Dev nD) (r ch : Fin 256) (a b : Fin 7) :
    tailV m hO c main_v151 (ix4 r ch a b) = (outArr m hO c
      (ix3 (n0 := 256) (n1 := 49) (n2 := 256) r ⟨7 * a.val + b.val, by omega⟩ ch)) := by
  unfold tailV Pipeline.afterTail
  simp only [List.flatten_cons, List.flatten_nil, List.append_nil]
  after_reads_simp
  have hA := (Pipeline.withArrays_arr (Pipeline.pin pcfgs (fun _ => adm m) 0).spec (show Function.Injective (Pipeline.arrRef spec0) by decide) c (V0 m c)
    (fun w => (dats m hO 0 c).arrAt w (Pipeline.pin pcfgs (fun _ => adm m) 0).N) 2).trans (arr_eq m hO c)
  refine (congrFun (congrArg (fun A => extf (F := Ideal) FTy.f32 (transpose S256x256x7x7 [0, 3, 1, 2]
      (fun i => shapeCast S256x7x7x256 A shapeCasts_S256x49x256_S256x7x7x256 i)
      transposes_S256x7x7x256_S256x256x7x7_0_3_1_2) bitsLt_bf16_f32) hA) (ix4 r ch a b)).trans ?_
  refine (transpose_apply (k := ix4 r a b ch) [0, 3, 1, 2] (shapeCast S256x7x7x256 (outArr m hO c) shapeCasts_S256x49x256_S256x7x7x256)
    transposes_S256x7x7x256_S256x256x7x7_0_3_1_2 (ix4 r ch a b) (fun c => by fin_cases c <;> rfl)).trans ?_
  refine shapeCast_apply _ _ _ _ ?_
  rw [Shape.rowMajor_val_three, Shape.rowMajor_val_four]
  show (r.val * 49 + (7 * a.val + b.val)) * 256 + ch.val = ((r.val * 7 + a.val) * 7 + b.val) * 256 + ch.val
  omega

end Cert.KernelIdeal.Body

end
-- ==== Proof.KernelIdealEntry.lean ====
/-
  What one bin row of one region is computed from. The words that the kernel reads from its tables are the entries of
  the tables at the region (and the bin row); the slab it reads is cut from the images where those words say; the rows
  of candidates are the region's. So an element of the output array is an element of the bin row computed from them.
-/
module

public import proofs.«01_k».proof.Proof.KernelIdealOut
public import proofs.«01_k».proof.Proof.KernelIdealTables

@[expose] public section

set_option maxRecDepth 16384

noncomputable section

namespace Cert.KernelIdeal.Body

open Cert.KernelIdeal Cert.KernelIdeal.Gen
open Idealize.ShloMosaic Idealize.ShloMosaic.TcCoe
open Idealize.ShloMosaic.ValueIdx

variable {F : FTy → Type} [FloatOps F]

/-- Seven bin rows one after another, read at bin `b` of row `a`. -/
theorem rows_apply {α : Type} (x : Fin 7 → S7x256.Idx → α) (a b : Fin 7) (ch : Fin 256) (p : Fin 49) (hp : p.val = 7 * a.val + b.val) :
    concatenate S49x256 0 [⟨S7x256, x 0⟩, ⟨S7x256, x 1⟩, ⟨S7x256, x 2⟩, ⟨S7x256, x 3⟩, ⟨S7x256, x 4⟩, ⟨S7x256, x 5⟩, ⟨S7x256, x 6⟩]
      concatenates_S7x256_S7x256_S7x256_S7x256_S7x256_S7x256_S7x256_S49x256_d0 (ix2 p ch) = x a (ix2 b ch) := by
  refine concatenate_apply_piece 0 _ _ (ix2 p ch) a.val (by have := a.isLt; show a.val < 7; omega) S7x256 (x a) ?_ rfl (7 * a.val) ?_
    (ix2 b ch) ?_ ?_
  · fin_cases a <;> rfl
  · fin_cases a <;> rfl
  · intro e he
    fin_cases e
    · exact absurd rfl he
    · rfl
  · exact hp.symm

section
variable (c : Dev nD) (i : grid0.Coords)
  (arg1 : Memref sig .tc .smem S256 .i32) (arg2 : Memref sig .tc .smem S1792 .i32)
  (arg3 : Memref sig .tc .smem S1792 .i32) (arg4 : Memref sig .tc .smem S1792 .i32)
  (arg5 : Memref sig .tc .smem S256 .i32) (arg6 : Memref sig .tc .vmem S2x30x40x256 .bf16)
  (arg7 : Memref sig .tc .vmem S32x32x24 .bf16)
  (f1 : Bf (F := F) c arg1) (f2 : Bf (F := F) c arg2) (f3 : Bf (F := F) c arg3) (f4 : Bf (F := F) c arg4) (f5 : Bf (F := F) c arg5)
  (f6 : Bf (F := F) c arg6) (f7 : Bf (F := F) c arg7)
  (hb : ∀ x, BatchOk (arg1.view.read (Elt F) f1 x)) (hh : ∀ x, RowOk (arg2.view.read (Elt F) f2 x))
  (hx : ∀ x, ColOk (arg5.view.read (Elt F) f5 x))

theorem rword_eq (M : Memref sig .tc .smem S256 .i32) (f : Bf (F := F) c M) (rr : BitVec 32) (h : rr.toNat < 32)
    (r : Fin 256) (hr : r.val = 32 * (i 0).val + rr.toNat) : rword c i M f rr h = M.view.read (Elt F) f (ix1 r) := by
  unfold rword
  rw [View.readAt_apply]
  refine congrArg _ (funext fun a => Fin.ext ?_)
  obtain rfl : a = 0 := Subsingleton.elim _ _
  show roff i rr 0 + 1 * 0 = r.val
  rw [roff_val i h, hr]
  omega

theorem kword_eq (M : Memref sig .tc .smem S1792 .i32) (f : Bf (F := F) c M) (rr kk : BitVec 32) (h : rr.toNat < 32)
    (hk : kk.toNat < 7) (r : Fin 1792) (hr : r.val = 7 * (32 * (i 0).val + rr.toNat) + kk.toNat) :
    kword c i M f rr kk h hk = M.view.read (Elt F) f (ix1 r) := by
  unfold kword
  rw [View.readAt_apply]
  refine congrArg _ (funext fun a => Fin.ext ?_)
  obtain rfl : a = 0 := Subsingleton.elim _ _
  show koff i rr kk 0 + 1 * 0 = r.val
  rw [koff_val i h hk, hr]
  omega

theorem slabOf_apply (rr kk : BitVec 32) (h : rr.toNat < 32) (hk : kk.toNat < 7) (l : Fin 4) (w : Fin 24) (ch : Fin 256)
    (bi : Fin 2) (y : Fin 30) (x : Fin 40) (e0 : bi.val = (rword c i arg1 f1 rr h).toNat)
    (e1 : y.val = (kword c i arg2 f2 rr kk h hk).toNat + l.val) (e2 : x.val = (rword c i arg5 f5 rr h).toNat + w.val) :
    slabOf c i arg1 arg2 arg5 arg6 f1 f2 f5 f6 hb hh hx rr kk h hk (ix4 (n0 := 1) (n1 := 4) (n2 := 24) (n3 := 256) 0 l w ch)
      = arg6.view.read (Elt F) f6 (ix4 bi y x ch) := by
  unfold slabOf
  rw [View.readAt_apply]
  refine congrArg _ (funext fun a => Fin.ext ?_)
  fin_cases a
  · show (rword c i arg1 f1 rr h).toNat + 1 * 0 = bi.val
    omega
  · show (kword c i arg2 f2 rr kk h hk).toNat + 1 * l.val = y.val
    omega
  · show (rword c i arg5 f5 rr h).toNat + 1 * w.val = x.val
    omega
  · show 0 + 1 * ch.val = ch.val
    omega

theorem hotOf_apply (rr : BitVec 32) (h : rr.toNat < 32) (q : Fin 32) (w : Fin 24) :
    hotOf c arg7 f7 rr h (ix2 q w) = arg7.view.read (Elt F) f7 (ix3 (n0 := 32) ⟨rr.toNat, h⟩ q w) := by
  unfold hotOf
  refine (shapeCast_apply _ _ _ (ix3 (n0 := 1) (n1 := 32) (n2 := 24) 0 q w) ?_).trans ?_
  · rw [Shape.rowMajor_val_three, Shape.rowMajor_val_two]
    show (0 * 32 + q.val) * 24 + w.val = q.val * 24 + w.val
    omega
  rw [View.readAt_apply]
  refine congrArg _ (funext fun a => Fin.ext ?_)
  fin_cases a
  · show rr.toNat + 1 * 0 = rr.toNat
    omega
  · show 0 + 1 * q.val = q.val
    omega
  · show 0 + 1 * w.val = w.val
    omega

/-- An element of a region's store: of bin row `a`, bin `b`. -/
theorem roiBlock_apply (rr : BitVec 32) (h : rr.toNat < 32) (a b : Fin 7) (ch : Fin 256) (p : Fin 49) (hp : p.val = 7 * a.val + b.val) :
    roiBlock c i arg1 arg2 arg3 arg4 arg5 arg6 arg7 f1 f2 f3 f4 f5 f6 f7 hb hh hx rr h (ix3 (n0 := 1) 0 p ch)
      = binRowOf c i arg1 arg2 arg3 arg4 arg5 arg6 arg7 f1 f2 f3 f4 f5 f6 f7 hb hh hx rr (BitVec.ofNat 32 a.val) h
          (by have := a.isLt; rw [BitVec.toNat_ofNat]; omega) (ix2 b ch) := by
  unfold roiBlock
  refine (shapeCast_apply _ _ _ (ix2 p ch) ?_).trans ?_
  · rw [Shape.rowMajor_val_three, Shape.rowMajor_val_two]
    show p.val * 256 + ch.val = (0 * 49 + p.val) * 256 + ch.val
    omega
  refine (rows_apply (fun k : Fin 7 => binRowOf c i arg1 arg2 arg3 arg4 arg5 arg6 arg7 f1 f2 f3 f4 f5 f6 f7 hb hh hx rr
    (BitVec.ofNat 32 k.val) h (by have := k.isLt; rw [BitVec.toNat_ofNat]; omega)) a b ch p hp)
end

variable (m : (ℓ : Loc nD τ sig) → Buf (Elt F) ℓ) (hO : TblOk m)

theorem iblk_0 (c : Dev nD) (t : Fin (cfgM m).N) (y : S2x30x40x256.Idx) : iblk m c 0 t y = V m c main_v1 y := by
  show V m c main_v1 ((((cfgM m).win 0).blk t).view.emb y) = V m c main_v1 y
  refine congrArg _ (funext fun a => Fin.ext ?_)
  refine (Pipeline.Window.rect_emb_val ((cfgM m).win 0) t y a).trans ?_
  have h2 : ∀ a : Fin 4, ((cfgM m).win 0).index t a = 0 := fun a => by fin_cases a <;> rfl
  rw [show ((cfgM m).win 0).index t a = 0 from h2 a]
  omega

theorem iblk_1 (c : Dev nD) (t : Fin (cfgM m).N) (r : Fin 256) (rr : Fin 32) (hr : r.val = 32 * t.val + rr.val) (q : Fin 32) (w : Fin 24) :
    iblk m c 1 t (ix3 rr q w) = V m c main_v142 (ix3 r q w) := by
  show V m c main_v142 ((((cfgM m).win 1).blk t).view.emb (ix3 rr q w)) = V m c main_v142 (ix3 r q w)
  refine congrArg _ (funext fun a => Fin.ext ?_)
  refine (Pipeline.Window.rect_emb_val ((cfgM m).win 1) t (ix3 rr q w) a).trans ?_
  have ht : t.val < 8 := t.isLt
  fin_cases a
  · have h2 : ((cfgM m).win 1).index t (0 : Fin 3) = t.val := by
      have : ((cfgM m).win 1).index t (0 : Fin 3) = (BitVec.ofNat 32 (((cfgM m).grid.coords t) 0).val).toNat := rfl
      rw [this, coords_val, BitVec.toNat_ofNat]
      omega
    show ((cfgM m).win 1).index t (0 : Fin 3) * 32 + rr.val = r.val
    rw [h2, hr]
    omega
  · show 0 * 32 + q.val = q.val
    omega
  · show 0 * 24 + w.val = w.val
    omega

theorem outAt_eq (c : Dev nD) (t : Fin (cfgM m).N) (y : S32x49x256.Idx) : outAt m hO c t y
    = blockAt c (grid0.coords t) tbM0 tbM1 tbM2 tbM3 tbM4 (ms0 m t) (ms1 m t) (tbl m 0) (tbl m 1) (tbl m 2) (tbl m 3) (tbl m 4)
        ((hs0 m t).unread (iblk m c 0 t)) ((hs1 m t).unread (iblk m c 1 t)) hO.batch hO.row hO.col y := by
  unfold outAt runAt
  exact step_block ..

theorem tbl_0 (x : S256.Idx) : tbM0.view.read (Elt F) (tbl m 0) x = V m 0 main_v4 x := rfl
theorem tbl_1 (x : S1792.Idx) : tbM1.view.read (Elt F) (tbl m 1) x = V m 0 main_v143 x := rfl
theorem tbl_2 (x : S1792.Idx) : tbM2.view.read (Elt F) (tbl m 2) x = V m 0 main_v145 x := rfl
theorem tbl_3 (x : S1792.Idx) : tbM3.view.read (Elt F) (tbl m 3) x = V m 0 main_v147 x := rfl
theorem tbl_4 (x : S256.Idx) : tbM4.view.read (Elt F) (tbl m 4) x = V m 0 main_v95 x := rfl

/-- An element of the output array, as an element of the bin row it belongs to: the row's candidates, its slab, and the
    two words that say which of the slab's rows are its own. -/
theorem entry (c : Dev nD) (r : Fin 256) (a b : Fin 7) (ch : Fin 256) :
    ∃ (hot : FVec F S32x24 .bf16) (slab : Vec F S1x4x24x256 .bf16),
      (∀ q w, hot (ix2 q w) = V m c main_v142 (ix3 r q w)) ∧
      (∀ (bi : Fin 2) (l : Fin 4) (w : Fin 24) (y : Fin 30) (x : Fin 40), bi.val = (V m c main_v4 (ix1 r) : BitVec 32).toNat →
        y.val = (V m c main_v88 (ix2 r a) : BitVec 32).toNat + l.val → x.val = (V m c main_v95 (ix1 r) : BitVec 32).toNat + w.val →
        slab (ix4 (n0 := 1) (n1 := 4) (n2 := 24) (n3 := 256) 0 l w ch) = V m c main_v1 (ix4 bi y x ch)) ∧
      outArr m hO c (ix3 (n0 := 256) (n1 := 49) (n2 := 256) r ⟨7 * a.val + b.val, by omega⟩ ch)
        = k0_pay7 (iota .tc S4x1x1 32 [0] iota_S4x1x1_d0_w32) hot slab (subi (V m c main_v84) (V m c main_v88) (ix2 r a))
            (subi (V m c main_v85) (V m c main_v88) (ix2 r a)) (ix2 b ch) := by
  obtain rfl : c = 0 := Subsingleton.elim _ _
  have hr8 : r.val / 32 < 8 := by omega
  let t : Fin (cfgM m).N := ⟨r.val / 32, hr8⟩
  let rr : BitVec 32 := BitVec.ofNat 32 (r.val % 32)
  have hrv : rr.toNat = r.val % 32 := by show (BitVec.ofNat 32 (r.val % 32)).toNat = _; rw [BitVec.toNat_ofNat]; omega
  have hrr : rr.toNat < 32 := by omega
  have htc : (grid0.coords t 0).val = r.val / 32 := coords_val m t
  have hk : (BitVec.ofNat 32 a.val).toNat = a.val := by rw [BitVec.toNat_ofNat]; omega
  have e1 : r.val = 32 * (grid0.coords t 0).val + rr.toNat := by rw [htc, hrv]; omega
  let r7 : Fin 1792 := ⟨7 * r.val + a.val, by omega⟩
  have e7 : r7.val = 7 * (32 * (grid0.coords t 0).val + rr.toNat) + (BitVec.ofNat 32 a.val).toNat := by
    rw [hk, htc, hrv]; show 7 * r.val + a.val = _; omega
  have cast7 : ∀ x : IVec S256x7 32, shapeCast S1792 x shapeCasts_S256x7_S1792 (ix1 r7) = x (ix2 r a) := fun x => by
    refine shapeCast_apply _ _ _ _ ?_
    rw [Shape.rowMajor_val_two, Shape.rowMajor_val_one]
    show r.val * 7 + a.val = 7 * r.val + a.val
    omega
  refine ⟨hotOf 0 (ms1 m t) ((hs1 m t).unread (iblk m 0 1 t)) rr hrr,
    slabOf 0 (grid0.coords t) tbM0 tbM1 tbM4 (ms0 m t) (tbl m 0) (tbl m 1) (tbl m 4) ((hs0 m t).unread (iblk m 0 0 t))
      hO.batch hO.row hO.col rr (BitVec.ofNat 32 a.val) hrr (by rw [hk]; exact a.isLt), ?_, ?_, ?_⟩
  · intro q w
    rw [hotOf_apply]
    refine (congrFun ((hs1 m t).read_unread _) _).trans ?_
    exact iblk_1 m 0 t r ⟨rr.toNat, hrr⟩ (by show r.val = 32 * (r.val / 32) + rr.toNat; omega) q w
  · intro bi l w y x e0 ey ex
    refine (slabOf_apply (e0 := ?_) (e1 := ?_) (e2 := ?_) (y := y) (x := x) (bi := bi) ..).trans ?_
    · rw [rword_eq 0 (grid0.coords t) tbM0 (tbl m 0) rr hrr r e1, tbl_0]
      exact e0
    · rw [kword_eq 0 (grid0.coords t) tbM1 (tbl m 1) rr (BitVec.ofNat 32 a.val) hrr _ r7 e7, tbl_1]
      refine ey.trans (congrArg (fun z : BitVec 32 => z.toNat + l.val) ?_)
      rw [V_v143]
      exact (cast7 _).symm
    · rw [rword_eq 0 (grid0.coords t) tbM4 (tbl m 4) rr hrr r e1, tbl_4]
      exact ex
    refine (congrFun ((hs0 m t).read_unread _) _).trans ?_
    exact iblk_0 m 0 t _
  · have l1 : kword 0 (grid0.coords t) tbM2 (tbl m 2) rr (BitVec.ofNat 32 a.val) hrr (by rw [hk]; exact a.isLt)
        = subi (V m 0 main_v84) (V m 0 main_v88) (ix2 r a) := by
      rw [kword_eq 0 (grid0.coords t) tbM2 (tbl m 2) rr (BitVec.ofNat 32 a.val) hrr _ r7 e7, tbl_2]
      rw [V_v145]
      exact cast7 _
    have l2 : kword 0 (grid0.coords t) tbM3 (tbl m 3) rr (BitVec.ofNat 32 a.val) hrr (by rw [hk]; exact a.isLt)
        = subi (V m 0 main_v85) (V m 0 main_v88) (ix2 r a) := by
      rw [kword_eq 0 (grid0.coords t) tbM3 (tbl m 3) rr (BitVec.ofNat 32 a.val) hrr _ r7 e7, tbl_3]
      rw [V_v147]
      exact cast7 _
    rw [← l1, ← l2]
    have o : outArr m hO 0 (ix3 (n0 := 256) (n1 := 49) (n2 := 256) r ⟨7 * a.val + b.val, by omega⟩ ch)
        = outAt m hO 0 t (ix3 (n0 := 32) (n1 := 49) (n2 := 256) ⟨r.val % 32, by omega⟩ ⟨7 * a.val + b.val, by omega⟩ ch) := by
      unfold outArr outEl
      rfl
    rw [o, outAt_eq]
    unfold blockAt
    exact roiBlock_apply 0 (grid0.coords t) tbM0 tbM1 tbM2 tbM3 tbM4 (ms0 m t) (ms1 m t) (tbl m 0) (tbl m 1) (tbl m 2) (tbl m 3) (tbl m 4)
      ((hs0 m t).unread (iblk m 0 0 t)) ((hs1 m t).unread (iblk m 0 1 t)) hO.batch hO.row hO.col rr hrr a b ch ⟨7 * a.val + b.val, by omega⟩ rfl

end Cert.KernelIdeal.Body

end
-- ==== Proof.KernelIdealValue.lean ====
/-
  The kernel's result, element by element: the greatest feature of the bin, or zero for an empty bin.
-/
module

public import proofs.«01_k».proof.Proof.KernelIdealWords
public import proofs.«01_k».proof.Proof.KernelIdealEntry

@[expose] public section

noncomputable section

namespace Cert.KernelIdeal.Body

open Cert.KernelIdeal Cert.KernelIdeal.Gen
open Idealize.ShloMosaic hiding ix1 ix2 ix3 ix4
open Idealize.ShloMosaic.TcCoe
open Idealize.ShloMosaic.ValueIdx

variable (m : (ℓ : Loc nD τ sig) → Buf (Elt Ideal) ℓ) (c : Dev nD)

/-- The features the kernel is given. -/
abbrev featuresOf : FVec Ideal S2x256x30x40 .f32 := m ((c : Thread nD τ).loc main_arg0)

/-- The images' rows laid with the channels last, as the kernel reads them. -/
theorem feature_apply (bi : Fin 2) (y : Fin 30) (x : Fin 40) (ch : Fin 256) :
    V m c main_v1 (ix4 bi y x ch) = featuresOf m c (ix4 bi ch y x) := by
  rw [V_v1]
  pointwise []
  rfl

theorem batch_apply (r : Fin 256) : V m c main_v4 (ix1 r) = Ideal.fptosi 32 (roisOf m c (ix2 r 0)) := by
  rw [V_v4]
  pointwise []
  rfl

/-- The kernel's result at an element. -/
theorem kernel_apply (hO : TblOk m) (h : Cert.Pre_rois_fit.fn (F := Ideal) (featuresOf m c) (roisOf m c) = fun _ => 1#1)
    (r ch : Fin 256) (a b : Fin 7) (bi : Fin 2) (hbi : bi.val = (Ideal.fptosi 32 (roisOf m c (ix2 r 0))).toNat) (hs he ws we : ℕ)
    (r1 : Bins.startOf (Bins.nat 30) (Bins.nat a.val) (Bins.binOf (cell (roisOf m c) r 4) (cell (roisOf m c) r 2)) (cell (roisOf m c) r 2) = Bins.nat hs)
    (r2 : Bins.endOf (Bins.nat 30) (Bins.nat a.val) (Bins.binOf (cell (roisOf m c) r 4) (cell (roisOf m c) r 2)) (cell (roisOf m c) r 2) = Bins.nat he)
    (r3 : hs ≤ he) (r4 : he ≤ 30) (r5 : hs < he → he ≤ hs + 4)
    (c1 : Bins.startOf (Bins.nat 40) (Bins.nat b.val) (Bins.binOf (cell (roisOf m c) r 3) (cell (roisOf m c) r 1)) (cell (roisOf m c) r 1) = Bins.nat ws)
    (c2 : Bins.endOf (Bins.nat 40) (Bins.nat b.val) (Bins.binOf (cell (roisOf m c) r 3) (cell (roisOf m c) r 1)) (cell (roisOf m c) r 1) = Bins.nat we)
    (c3 : ws ≤ we) (c4 : we ≤ 40) (c5 : ws < we → we ≤ ws + 4)
    (c6 : (IntOp.minsi 39#32 (IntOp.maxsi 0#32 (Ideal.fptosi 32 (cell (roisOf m c) r 1)))).toNat ≤ ws)
    (c7 : ws < we → we ≤ (IntOp.minsi 39#32 (IntOp.maxsi 0#32 (Ideal.fptosi 32 (cell (roisOf m c) r 1)))).toNat + 17) :
    tailV m hO c main_v151 (ix4 r ch a b) = Pool.result (fun y x => featuresOf m c (ix4 bi ch y x)) hs he ws we := by
  have w84 : V m c main_v84 (ix2 r a) = BitVec.ofNat 32 hs := by rw [row_start, r1, Bins.fptosi_nat hs (by omega)]
  have w85 : V m c main_v85 (ix2 r a) = BitVec.ofNat 32 he := by rw [row_end, r2, Bins.fptosi_nat he (by omega)]
  have w86 : V m c main_v86 (ix2 r b) = BitVec.ofNat 32 ws := by rw [col_start, c1, Bins.fptosi_nat ws (by omega)]
  have w87 : V m c main_v87 (ix2 r b) = BitVec.ofNat 32 we := by rw [col_end, c2, Bins.fptosi_nat we (by omega)]
  have w88 := slab_row m c r a hs (by omega) w84
  have w95 := slab_col m c r
  have w4 := batch_apply m c r
  have hv : (IntOp.minsi 39#32 (IntOp.maxsi 0#32 (Ideal.fptosi 32 (cell (roisOf m c) r 1)))).toNat < 40 :=
    Nat.lt_of_le_of_lt (Words.clip_le 39 (by norm_num) _) (by norm_num)
  obtain ⟨b1, b2, b3, b4⟩ := Words.base_spec hv
  obtain ⟨x0, hx0⟩ : ∃ x0 : ℕ, (Words.base (IntOp.minsi 39#32 (IntOp.maxsi 0#32 (Ideal.fptosi 32 (cell (roisOf m c) r 1))))).toNat = x0 := ⟨_, rfl⟩
  have w95' : V m c main_v95 (ix1 r) = BitVec.ofNat 32 x0 := by
    rw [w95, ← hx0, BitVec.ofNat_toNat, BitVec.setWidth_eq]
  rw [hx0] at b1 b2 b3 b4
  obtain ⟨hot, slab, h1, h2, h3⟩ := entry m hO c r a b ch
  rw [tail_apply, h3]
  have n88 : (V m c main_v88 (ix2 r a) : BitVec 32).toNat = min hs 26 := by rw [w88, BitVec.toNat_ofNat]; omega
  have n95 : (V m c main_v95 (ix1 r) : BitVec 32).toNat = x0 := by rw [w95', BitVec.toNat_ofNat]; omega
  have n4 : bi.val = (V m c main_v4 (ix1 r) : BitVec 32).toNat := by rw [w4]; exact hbi
  let g : Fin 4 → Fin 24 → EReal := fun l w => slab (ix4 (n0 := 1) (n1 := 4) (n2 := 24) (n3 := 256) 0 l w ch)
  have hg : ∀ (l : Fin 4) (w : Fin 24), g l w
      = (fun (y : Fin 30) (x : Fin 40) => featuresOf m c (ix4 bi ch y x)) ⟨min hs 26 + l.val, by omega⟩ ⟨x0 + w.val, by omega⟩ := by
    intro l w
    refine (h2 bi l w ⟨min hs 26 + l.val, by omega⟩ ⟨x0 + w.val, by omega⟩ n4 (by rw [n88]) (by rw [n95])).trans ?_
    exact feature_apply m c bi _ _ ch
  let D : Fin 4 → EReal := fun k => ∑ w : Fin 24, hot (ix2 (n0 := 32) ⟨8 * k.val + b.val, by omega⟩ w)
      * Pool.rowMax low (min hs 26) hs he fun l => g l w
  have hhot : ∀ (k : Fin 4) (w : Fin 24), hot (ix2 (n0 := 32) ⟨8 * k.val + b.val, by omega⟩ w)
      = if ws - x0 < we - x0 ∧ Pool.cand (ws - x0) (we - x0) k.val = w.val then (1 : EReal) else 0 := fun k w =>
    (h1 _ w).trans (cand_word m c r k b w x0 ws we (b3.trans c6) c3 (by omega) w95' w86 w87)
  rw [bin_apply hot slab _ _ b ch (min hs 26) hs he (by omega) (by omega) (by omega) (by omega) ?_ ?_ D (fun k => rfl)]
  · refine Pool.four_candidates low_le_cut cut_neg (fun y x => (fit_feature _ _ h _).1) (hl := min hs 26) (x0 := x0)
      (by omega) (by omega) (by omega) (by omega) (b3.trans c6) (fun hh => ⟨?_, c5 hh⟩) g hg D ?_ ?_ _ rfl
    · have := c7 hh
      omega
    · intro hn k
      refine Finset.sum_eq_zero fun w _ => ?_
      rw [hhot, if_neg (by omega), zero_mul]
    · intro hh k p hp
      have hx : x0 ≤ ws := b3.trans c6
      have hcand : Pool.cand (ws - x0) (we - x0) k.val = p.val := by
        unfold Pool.cand at hp ⊢
        split_ifs at hp ⊢ <;> omega
      show ∑ w : Fin 24, _ = _
      rw [Finset.sum_eq_single p]
      · rw [hhot, if_pos ⟨by omega, hcand⟩, one_mul]
      · intro w _ hw
        rw [hhot, if_neg, zero_mul]
        rintro ⟨-, hw'⟩
        exact hw (Fin.ext (by omega))
      · intro hp'
        exact absurd (Finset.mem_univ p) hp'
  · show IntOp.subi (V m c main_v84 (ix2 r a)) (V m c main_v88 (ix2 r a)) = _
    rw [w84, w88, subi_ofNat (by omega) (by omega)]
  · show IntOp.subi (V m c main_v85 (ix2 r a)) (V m c main_v88 (ix2 r a)) = _
    rw [w85, w88, subi_ofNat (by omega) (by omega)]

end Cert.KernelIdeal.Body

end
-- ==== Proof.ReferenceMasks.lean ====
/-
  The reference's masks and features, element by element: a row (column) of the image is a bin's where it lies between the
  bin's bounds, and a roi's features are those of the image it names.
-/
module

public import proofs.«01_k».proof.Proof.KernelIdealWords
public import proofs.«01_k».proof.Proof.Gen.ReferenceIdeal.Run

@[expose] public section

set_option maxRecDepth 16384

noncomputable section

namespace Cert.ReferenceIdeal.Body

open Cert.ReferenceIdeal Cert.ReferenceIdeal.Gen Cert.ReferenceIdeal.Value
open Idealize.ShloMosaic hiding ix1 ix2 ix3 ix4
open Idealize.ShloMosaic.TcCoe
open Idealize.ShloMosaic.ValueIdx Idealize.SL.Sem
open Cert.KernelIdeal.Body (cell sitofp_nat)

variable (V0 : Valuation τ sig (Elt Ideal))

/-- The rois the reference is given. -/
abbrev roisOf : FVec Ideal S256x5 .f32 := V0 (Proc.devRef .tc main_arg1)
/-- The features it is given. -/
abbrev featuresOf : FVec Ideal S2x256x30x40 .f32 := V0 (Proc.devRef .tc main_arg0)

theorem between_mask (y s e : ℕ) (S E : EReal) (hS : S = Bins.nat s) (hE : E = Bins.nat e) :
    IntOp.andi (BitVec.ofBool (decide (S ≤ Bins.nat y))) (BitVec.ofBool (decide (Bins.nat y < E))) = BitVec.ofBool (decide (s ≤ y ∧ y < e)) := by
  have h1 : S ≤ Bins.nat y ↔ s ≤ y := by
    rw [hS, EReal.coe_le_coe_iff, Nat.cast_le]
  have h2 : Bins.nat y < E ↔ y < e := by
    rw [hE, EReal.coe_lt_coe_iff, Nat.cast_lt]
  simp only [h1, h2]
  by_cases a : s ≤ y <;> by_cases b : y < e <;> simp [a, b, IntOp.andi]

theorem row_mask (r : Fin 256) (a : Fin 7) (y : Fin 30) (hs he : ℕ)
    (r1 : Bins.startOf (Bins.nat 30) (Bins.nat a.val) (Bins.binOf (cell (roisOf V0) r 4) (cell (roisOf V0) r 2)) (cell (roisOf V0) r 2) = Bins.nat hs)
    (r2 : Bins.endOf (Bins.nat 30) (Bins.nat a.val) (Bins.binOf (cell (roisOf V0) r 4) (cell (roisOf V0) r 2)) (cell (roisOf V0) r 2) = Bins.nat he) :
    res_main_v95 V0 (ix3 r a y) = BitVec.ofBool (decide (hs ≤ y.val ∧ y.val < he)) := by
  pointwise [res_main_v95, res_main_v83, res_main_v37, res_main_v34, res_main_v12, id]
  erw [sitofp_nat a.val (by omega), sitofp_nat y.val (by omega), Bins.ofBits_thirty]
  generalize hS : min (Bins.nat 30) (max 0 (Ideal.liftRound Int.floor _ + _)) = S
  generalize hE : min (Bins.nat 30) (max 0 (Ideal.liftRound Int.ceil _ + _)) = E
  exact between_mask y.val hs he S E (hS.symm.trans r1) (hE.symm.trans r2)

theorem col_mask (r : Fin 256) (b : Fin 7) (x : Fin 40) (ws we : ℕ)
    (c1 : Bins.startOf (Bins.nat 40) (Bins.nat b.val) (Bins.binOf (cell (roisOf V0) r 3) (cell (roisOf V0) r 1)) (cell (roisOf V0) r 1) = Bins.nat ws)
    (c2 : Bins.endOf (Bins.nat 40) (Bins.nat b.val) (Bins.binOf (cell (roisOf V0) r 3) (cell (roisOf V0) r 1)) (cell (roisOf V0) r 1) = Bins.nat we) :
    res_main_v106 V0 (ix3 r b x) = BitVec.ofBool (decide (ws ≤ x.val ∧ x.val < we)) := by
  pointwise [res_main_v106, res_main_v84, res_main_v38, res_main_v36, res_main_v7, id]
  erw [sitofp_nat b.val (by omega), sitofp_nat x.val (by omega), Bins.ofBits_forty]
  generalize hS : min (Bins.nat 40) (max 0 (Ideal.liftRound Int.floor _ + _)) = S
  generalize hE : min (Bins.nat 40) (max 0 (Ideal.liftRound Int.ceil _ + _)) = E
  exact between_mask x.val ws we S E (hS.symm.trans c1) (hE.symm.trans c2)

/-- Features picked by image. -/
theorem gather_image {α : Type} (x : S2x256x30x40.Idx → α) (idx : IVec S256x1 32) (r ch : Fin 256) (y : Fin 30) (xx : Fin 40) :
    Host.gather gather_S2x256x30x40_S256x1_S256x256x30x40_123_0_n_n_0_1_12563040 x idx (ix4 r ch y xx)
      = x (ix4 ⟨min (idx (ix2 r 0)).toInt.toNat 1, by omega⟩ ch y xx) := by
  unfold Host.gather
  congr 1
  funext a
  refine Fin.ext ?_
  show gather_S2x256x30x40_S256x1_S256x256x30x40_123_0_n_n_0_1_12563040.start (ix4 r ch y xx) idx a
      + gather_S2x256x30x40_S256x1_S256x256x30x40_123_0_n_n_0_1_12563040.batchCoord (ix4 r ch y xx) a
      + gather_S2x256x30x40_S256x1_S256x256x30x40_123_0_n_n_0_1_12563040.offCoord (ix4 r ch y xx) a = _
  rw [GatherDims.batchCoord_eq_zero _ _ _ List.not_mem_nil]
  have ha : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases ha with rfl | rfl | rfl | rfl
  · rw [GatherDims.offCoord_eq_zero _ _ _ (by decide)]
    unfold GatherDims.start
    rw [dif_pos (by decide)]
    simp only [Nat.add_zero]
    have hsi : gather_S2x256x30x40_S256x1_S256x256x30x40_123_0_n_n_0_1_12563040.siIdx (ix4 r ch y xx)
        ⟨List.idxOf (0 : Fin 4) gather_S2x256x30x40_S256x1_S256x256x30x40_123_0_n_n_0_1_12563040.startIndexMap, by decide⟩ = ix2 r 0 := by
      funext b; refine Fin.ext ?_
      match b with
      | ⟨0, _⟩ => rfl
      | ⟨1, _⟩ => rfl
    exact congrArg (fun i => min (idx i).toInt.toNat 1) hsi
  all_goals
    unfold GatherDims.start
    rw [dif_neg (by decide)]
    unfold GatherDims.offCoord
    rw [dif_pos (by decide)]
    simp only [Nat.zero_add]
    rfl

theorem image_word : ∀ bi : Fin 2, (Scalar.select (IntOp.cmpi .slt (BitVec.ofNat 32 bi.val) 0#32)
    (IntOp.addi (BitVec.ofNat 32 bi.val) 2#32) (BitVec.ofNat 32 bi.val)).toInt.toNat = bi.val := by
  decide

/-- A roi's features are those of its image. -/
theorem image_apply (r ch : Fin 256) (y : Fin 30) (x : Fin 40) (bi : Fin 2) (hbi : bi.val = (Ideal.fptosi 32 (roisOf V0 (ix2 r 0))).toNat) :
    res_main_v113 V0 (ix4 r ch y x) = featuresOf V0 (ix4 bi ch y x) := by
  unfold res_main_v113
  refine (gather_image _ _ r ch y x).trans (congrArg (fun k => featuresOf V0 (ix4 k ch y x)) (Fin.ext ?_))
  have hw : Ideal.fptosi 32 (roisOf V0 (ix2 r 0)) = BitVec.ofNat 32 bi.val := by
    rw [hbi, BitVec.ofNat_toNat, BitVec.setWidth_eq]
  have := image_word bi
  rw [← hw] at this
  refine (congrArg (fun n => min n 1) (Eq.trans ?_ this)).trans (by omega)
  pointwise [res_main_v2]
  rfl

end Cert.ReferenceIdeal.Body

end
-- ==== Proof.ReferencePool.lean ====
/-
  The reference's result, element by element: the greatest feature of the bin, or zero for an empty bin.
-/
module

public import proofs.«01_k».proof.Proof.ReferenceMasks
public import Idealize.ShloMosaic.Lib.Pipeline.Value

@[expose] public section

set_option maxRecDepth 16384

noncomputable section

namespace Cert.ReferenceIdeal.Body

open Cert.ReferenceIdeal Cert.ReferenceIdeal.Gen Cert.ReferenceIdeal.Value
open Idealize.ShloMosaic hiding ix1 ix2 ix3 ix4
open Idealize.ShloMosaic.TcCoe
open Idealize.ShloMosaic.ValueIdx Idealize.SL.Sem
open Cert.KernelIdeal.Body (cell sitofp_nat)

variable (V0 : Valuation τ sig (Elt Ideal))

theorem ofBits_neg_inf : Ideal.ofBits .f32 4286578688#32 = ⊥ := by simp [Ideal.ofBits, Ideal.ieee]

/-- The greatest feature of each row in one of the seven bins' columns. -/
abbrev colPiece (off : Fin 3 → ℕ) (h : S256x7x40.Slices off S256x1x40) : FVec Ideal S256x256x30x1 .f32 :=
  broadcastInDim S256x256x30x1 ![0, 1, 2] bcast_S256x256x30_S256x256x30x1_0_1_2 (Host.reduce FloatOps.maximumf (select (broadcastInDim S256x256x30x40 ![0, 1, 2, 3] bcast_S256x1x1x40_S256x256x30x40_0_1_2_3 (broadcastInDim S256x1x1x40 ![0, 3] bcast_S256x40_S256x1x1x40_0_3 (shapeCast _ (extractStridedSlice S256x1x40 off (res_main_v106 V0) h) shapeCasts_S256x1x40_S256x40))) (res_main_v113 V0) (broadcastInDim S256x256x30x40 ![] bcast_S_S256x256x30x40 (constant S_ .f32 0xFF800000#32))) (constant S_ .f32 0xFF800000#32) reducesTo_S256x256x30x40_S256x256x30_d3 h_S_)

theorem colPiece_apply (b : Fin 7) (h : S256x7x40.Slices ![0, b.val, 0] S256x1x40) (r ch : Fin 256) (y : Fin 30) :
    colPiece V0 ![0, b.val, 0] h (ix4 (n3 := 1) r ch y 0) = Finset.univ.sup fun x : Fin 40 =>
      Scalar.select (α := EReal) (res_main_v106 V0 (ix3 r b x)) (res_main_v113 V0 (ix4 r ch y x)) ⊥ := by
  pointwise []
  rw [ofBits_neg_inf]
  rfl

/-- The greatest feature of each column in one of the seven bins' rows. -/
abbrev rowPiece (off : Fin 3 → ℕ) (h : S256x7x30.Slices off S256x1x30) : FVec Ideal S256x256x1x7 .f32 :=
  broadcastInDim S256x256x1x7 ![0, 1, 3] bcast_S256x256x7_S256x256x1x7_0_1_3 (Host.reduce FloatOps.maximumf (select (broadcastInDim S256x256x30x7 ![0, 1, 2, 3] bcast_S256x1x30x1_S256x256x30x7_0_1_2_3 (broadcastInDim S256x1x30x1 ![0, 2] bcast_S256x30_S256x1x30x1_0_2 (shapeCast _ (extractStridedSlice S256x1x30 off (res_main_v95 V0) h) shapeCasts_S256x1x30_S256x30))) (res_main_v156 V0) (broadcastInDim S256x256x30x7 ![] bcast_S_S256x256x30x7 (constant S_ .f32 0xFF800000#32))) (constant S_ .f32 0xFF800000#32) reducesTo_S256x256x30x7_S256x256x7_d2 h_S_)

theorem rowPiece_apply (a b : Fin 7) (h : S256x7x30.Slices ![0, a.val, 0] S256x1x30) (r ch : Fin 256) :
    rowPiece V0 ![0, a.val, 0] h (ix4 (n2 := 1) r ch 0 b) = Finset.univ.sup fun y : Fin 30 =>
      Scalar.select (α := EReal) (res_main_v95 V0 (ix3 r a y)) (res_main_v156 V0 (ix4 r ch y b)) ⊥ := by
  pointwise []
  rw [ofBits_neg_inf]
  rfl

theorem slice_cols : ∀ b : Fin 7, S256x7x40.Slices ![0, b.val, 0] S256x1x40 := by decide
theorem slice_rows : ∀ a : Fin 7, S256x7x30.Slices ![0, a.val, 0] S256x1x30 := by decide

theorem cols_eq : res_main_v156 V0 = concatenate S256x256x30x7 3 [⟨S256x256x30x1, colPiece V0 ![0, (0 : Fin 7).val, 0] (slice_cols 0)⟩,
    ⟨S256x256x30x1, colPiece V0 ![0, (1 : Fin 7).val, 0] (slice_cols 1)⟩, ⟨S256x256x30x1, colPiece V0 ![0, (2 : Fin 7).val, 0] (slice_cols 2)⟩,
    ⟨S256x256x30x1, colPiece V0 ![0, (3 : Fin 7).val, 0] (slice_cols 3)⟩, ⟨S256x256x30x1, colPiece V0 ![0, (4 : Fin 7).val, 0] (slice_cols 4)⟩,
    ⟨S256x256x30x1, colPiece V0 ![0, (5 : Fin 7).val, 0] (slice_cols 5)⟩, ⟨S256x256x30x1, colPiece V0 ![0, (6 : Fin 7).val, 0] (slice_cols 6)⟩]
    concatenates_S256x256x30x1_S256x256x30x1_S256x256x30x1_S256x256x30x1_S256x256x30x1_S256x256x30x1_S256x256x30x1_S256x256x30x7_d3 := rfl

theorem rows_eq : res_main_v199 V0 = concatenate S256x256x7x7 2 [⟨S256x256x1x7, rowPiece V0 ![0, (0 : Fin 7).val, 0] (slice_rows 0)⟩,
    ⟨S256x256x1x7, rowPiece V0 ![0, (1 : Fin 7).val, 0] (slice_rows 1)⟩, ⟨S256x256x1x7, rowPiece V0 ![0, (2 : Fin 7).val, 0] (slice_rows 2)⟩,
    ⟨S256x256x1x7, rowPiece V0 ![0, (3 : Fin 7).val, 0] (slice_rows 3)⟩, ⟨S256x256x1x7, rowPiece V0 ![0, (4 : Fin 7).val, 0] (slice_rows 4)⟩,
    ⟨S256x256x1x7, rowPiece V0 ![0, (5 : Fin 7).val, 0] (slice_rows 5)⟩, ⟨S256x256x1x7, rowPiece V0 ![0, (6 : Fin 7).val, 0] (slice_rows 6)⟩]
    concatenates_S256x256x1x7_S256x256x1x7_S256x256x1x7_S256x256x1x7_S256x256x1x7_S256x256x1x7_S256x256x1x7_S256x256x7x7_d2 := rfl

theorem cols_apply (r ch : Fin 256) (y : Fin 30) (b : Fin 7) : res_main_v156 V0 (ix4 r ch y b)
    = colPiece V0 ![0, b.val, 0] (slice_cols b) (ix4 (n3 := 1) r ch y 0) := by
  rw [cols_eq]
  refine concatenate_apply_piece 3 _ _ (ix4 r ch y b) b.val (by have := b.isLt; show b.val < 7; omega) S256x256x30x1
    (colPiece V0 ![0, b.val, 0] (slice_cols b)) ?_ rfl b.val ?_ (ix4 (n3 := 1) r ch y 0) ?_ ?_
  · fin_cases b <;> rfl
  · fin_cases b <;> rfl
  · intro e he
    fin_cases e
    · rfl
    · rfl
    · rfl
    · exact absurd rfl he
  · show b.val + 0 = b.val
    omega

theorem rows_apply (r ch : Fin 256) (a b : Fin 7) : res_main_v199 V0 (ix4 r ch a b)
    = rowPiece V0 ![0, a.val, 0] (slice_rows a) (ix4 (n2 := 1) r ch 0 b) := by
  rw [rows_eq]
  refine concatenate_apply_piece 2 _ _ (ix4 r ch a b) a.val (by have := a.isLt; show a.val < 7; omega) S256x256x1x7
    (rowPiece V0 ![0, a.val, 0] (slice_rows a)) ?_ rfl a.val ?_ (ix4 (n2 := 1) r ch 0 b) ?_ ?_
  · fin_cases a <;> rfl
  · fin_cases a <;> rfl
  · intro e he
    fin_cases e
    · rfl
    · rfl
    · exact absurd rfl he
    · rfl
  · show a.val + 0 = a.val
    omega

theorem select_mask (p : Prop) [Decidable p] (x y : EReal) : Scalar.select (BitVec.ofBool (decide p)) x y = if p then x else y := by
  by_cases h : p <;> simp [h, Scalar.select]

/-- The maximum over the bin, before empty bins are given their zero. -/
theorem pooled_apply (r ch : Fin 256) (a b : Fin 7) (bi : Fin 2) (hbi : bi.val = (Ideal.fptosi 32 (roisOf V0 (ix2 r 0))).toNat) (hs he ws we : ℕ)
    (r1 : Bins.startOf (Bins.nat 30) (Bins.nat a.val) (Bins.binOf (cell (roisOf V0) r 4) (cell (roisOf V0) r 2)) (cell (roisOf V0) r 2) = Bins.nat hs)
    (r2 : Bins.endOf (Bins.nat 30) (Bins.nat a.val) (Bins.binOf (cell (roisOf V0) r 4) (cell (roisOf V0) r 2)) (cell (roisOf V0) r 2) = Bins.nat he)
    (c1 : Bins.startOf (Bins.nat 40) (Bins.nat b.val) (Bins.binOf (cell (roisOf V0) r 3) (cell (roisOf V0) r 1)) (cell (roisOf V0) r 1) = Bins.nat ws)
    (c2 : Bins.endOf (Bins.nat 40) (Bins.nat b.val) (Bins.binOf (cell (roisOf V0) r 3) (cell (roisOf V0) r 1)) (cell (roisOf V0) r 1) = Bins.nat we) :
    res_main_v199 V0 (ix4 r ch a b) = Pool.pooled (fun y x => featuresOf V0 (ix4 bi ch y x)) hs he ws we := by
  refine ((rows_apply V0 r ch a b).trans (rowPiece_apply V0 a b (slice_rows a) r ch)).trans ?_
  unfold Pool.pooled
  show @Eq EReal _ _
  refine Finset.sup_congr rfl fun y _ => ?_
  rw [row_mask V0 r a y hs he r1 r2, select_mask]
  refine (congrArg (fun z : EReal => if hs ≤ y.val ∧ y.val < he then z else ⊥)
    ((cols_apply V0 r ch y b).trans (colPiece_apply V0 b (slice_cols b) r ch y))).trans ?_
  have inner : ∀ x : Fin 40, Scalar.select (α := EReal) (res_main_v106 V0 (ix3 r b x)) (res_main_v113 V0 (ix4 r ch y x)) ⊥
      = if ws ≤ x.val ∧ x.val < we then featuresOf V0 (ix4 bi ch y x) else ⊥ := by
    intro x
    rw [col_mask V0 r b x ws we c1 c2, select_mask, image_apply V0 r ch y x bi hbi]
  simp only [inner]
  by_cases hy : hs ≤ y.val ∧ y.val < he
  · rw [if_pos hy]
    refine Finset.sup_congr rfl fun x _ => ?_
    simp only [hy.1, hy.2, true_and]
  · rw [if_neg hy]
    symm
    refine (Finset.sup_eq_bot_iff _ _).mpr fun x _ => if_neg fun h => hy ⟨h.1, h.2.1⟩

/-- A maximum that is not infinite, or zero in place of the one over nothing. -/
theorem finite_or_zero (P : EReal) (h : P < ⊤) :
    (if (FloatOps.absf (F := Ideal) (φ := .f32) P : EReal) < ⊤ then P else 0) = if P = ⊥ then 0 else P := by
  induction P using EReal.rec with
  | bot =>
    rw [if_pos rfl, if_neg]
    intro h'
    exact absurd h' (by show ¬ max (⊥ : EReal) (-⊥) < ⊤; simp)
  | top => exact absurd h (lt_irrefl _)
  | coe x =>
    rw [if_neg (EReal.coe_ne_bot x), if_pos]
    show max (x : EReal) (-(x : EReal)) < ⊤
    exact max_lt (EReal.coe_lt_top _) (by rw [← EReal.coe_neg]; exact EReal.coe_lt_top _)

/-- The reference's result at an element. -/
theorem reference_apply (h : ∀ i, featuresOf V0 i < ⊤) (r ch : Fin 256) (a b : Fin 7) (bi : Fin 2)
    (hbi : bi.val = (Ideal.fptosi 32 (roisOf V0 (ix2 r 0))).toNat) (hs he ws we : ℕ)
    (r1 : Bins.startOf (Bins.nat 30) (Bins.nat a.val) (Bins.binOf (cell (roisOf V0) r 4) (cell (roisOf V0) r 2)) (cell (roisOf V0) r 2) = Bins.nat hs)
    (r2 : Bins.endOf (Bins.nat 30) (Bins.nat a.val) (Bins.binOf (cell (roisOf V0) r 4) (cell (roisOf V0) r 2)) (cell (roisOf V0) r 2) = Bins.nat he)
    (c1 : Bins.startOf (Bins.nat 40) (Bins.nat b.val) (Bins.binOf (cell (roisOf V0) r 3) (cell (roisOf V0) r 1)) (cell (roisOf V0) r 1) = Bins.nat ws)
    (c2 : Bins.endOf (Bins.nat 40) (Bins.nat b.val) (Bins.binOf (cell (roisOf V0) r 3) (cell (roisOf V0) r 1)) (cell (roisOf V0) r 1) = Bins.nat we) :
    (select (cmpf .olt (Host.absf (res_main_v199 V0)) (broadcastInDim S256x256x7x7 ![] bcast_S_S256x256x7x7 (constant S_ .f32 0x7F800000#32)))
      (res_main_v199 V0) (broadcastInDim S256x256x7x7 ![] bcast_S_S256x256x7x7 (constant S_ .f32 0x00000000#32)) : FVec Ideal S256x256x7x7 .f32)
      (ix4 r ch a b) = Pool.result (fun y x => featuresOf V0 (ix4 bi ch y x)) hs he ws we := by
  pointwise []
  rw [Cert.KernelIdeal.Body.ofBits_inf]
  refine (congrArg (fun P : EReal => if (FloatOps.absf (F := Ideal) (φ := .f32) P : EReal) < ⊤ then P else 0)
    (pooled_apply V0 r ch a b bi hbi hs he ws we r1 r2 c1 c2)).trans ?_
  unfold Pool.result
  refine finite_or_zero _ ?_
  refine (Finset.sup_lt_iff bot_lt_top).mpr fun y _ => (Finset.sup_lt_iff bot_lt_top).mpr fun x _ => ?_
  split
  · exact h _
  · exact bot_lt_top

end Cert.ReferenceIdeal.Body

end
-- ==== Proof.Equation.lean ====
/-
  The kernel and the reference give the same result where every roi fits: both are the greatest feature of each bin, or
  zero for an empty bin.
-/
module

public import proofs.«01_k».proof.Proof.KernelIdealValue
public import proofs.«01_k».proof.Proof.ReferencePool

@[expose] public section

noncomputable section

namespace Cert.Equation

open Idealize.ShloMosaic hiding ix1 ix2 ix3 ix4
open Idealize.ShloMosaic.ValueIdx
open Idealize.SL.Sem

/-- The reference's result array, of its arguments. -/
abbrev referenceOut (V0 : Valuation Cert.ReferenceIdeal.τ Cert.ReferenceIdeal.sig (Elt Ideal)) : FVec Ideal Cert.ReferenceIdeal.S256x256x7x7 .f32 :=
  select (cmpf .olt (Host.absf (Cert.ReferenceIdeal.Value.res_main_v199 V0))
      (broadcastInDim Cert.ReferenceIdeal.S256x256x7x7 ![] Cert.ReferenceIdeal.Gen.bcast_S_S256x256x7x7 (constant Cert.ReferenceIdeal.S_ .f32 0x7F800000#32)))
    (Cert.ReferenceIdeal.Value.res_main_v199 V0)
    (broadcastInDim Cert.ReferenceIdeal.S256x256x7x7 ![] Cert.ReferenceIdeal.Gen.bcast_S_S256x256x7x7 (constant Cert.ReferenceIdeal.S_ .f32 0x00000000#32))

/-- The kernel's result array is the reference's. -/
theorem outputs_eq (m : (ℓ : Loc Cert.KernelIdeal.nD Cert.KernelIdeal.τ Cert.KernelIdeal.sig) → Buf (Elt Ideal) ℓ)
    (c : Dev Cert.KernelIdeal.nD) (hO : Cert.KernelIdeal.Body.TblOk m)
    (h : Cert.Pre_rois_fit.fn (F := Ideal) (Cert.KernelIdeal.Body.featuresOf m c) (Cert.KernelIdeal.Body.roisOf m c) = fun _ => 1#1)
    (V0 : Valuation Cert.ReferenceIdeal.τ Cert.ReferenceIdeal.sig (Elt Ideal))
    (h0 : Cert.ReferenceIdeal.Body.featuresOf V0 = Cert.KernelIdeal.Body.featuresOf m c)
    (h1 : Cert.ReferenceIdeal.Body.roisOf V0 = Cert.KernelIdeal.Body.roisOf m c) :
    referenceOut V0 = Cert.KernelIdeal.Body.tailV m hO c Cert.KernelIdeal.main_v151 := by
  funext i
  obtain ⟨r, ch, a, b, rfl⟩ : ∃ (r ch : Fin 256) (a b : Fin 7), i = ix4 r ch a b := ⟨i 0, i 1, i 2, i 3, ValueIdx.eq_ix4 i⟩
  obtain ⟨hs, he, r1, r2, r3, r4, r5⟩ := Cert.KernelIdeal.Body.rows_spec _ _ h r a
  obtain ⟨ws, we, c1, c2, c3, c4, c5, c6, c7⟩ := Cert.KernelIdeal.Body.cols_spec _ _ h r b
  have hb := (WordCmp.andi_sge_zero_slt_ofNat (k := 2) (by norm_num) _).symm.trans (Cert.KernelIdeal.Body.fit_roi _ _ h r).1
  have hb2 := (WordCmp.ofBool_decide_eq_one_iff _).mp hb
  rw [Cert.KernelIdeal.Body.kernel_apply m c hO h r ch a b ⟨_, hb2⟩ rfl hs he ws we r1 r2 r3 r4 r5 c1 c2 c3 c4 c5 c6 c7]
  rw [← h1] at r1 r2 c1 c2
  refine (Cert.ReferenceIdeal.Body.reference_apply V0 (fun i => by rw [h0]; exact (Cert.KernelIdeal.Body.fit_feature _ _ h i).2) r ch a b
    ⟨_, hb2⟩ (by rw [h1]) hs he ws we r1 r2 c1 c2).trans ?_
  rw [h0]

end Cert.Equation

end
-- ==== Proof.lean ====
/-
  The claims, assembled from the modules under Proof/.
-/
module

public import proofs.«01_k».proof.Defs
public import proofs.«01_k».proof.Proof.KernelBounds
public import proofs.«01_k».proof.Proof.KernelIdealBounds
public import proofs.«01_k».proof.Proof.ReferenceFrame
public import proofs.«01_k».proof.Proof.Equation
public import proofs.«01_k».proof.Proof.Gen.Pre_rois_fit

@[expose] public section

noncomputable section

namespace Cert.Proof

open Idealize.ShloMosaic Idealize.SL.Sem

/-- Rois that fit name images that exist. -/
theorem tables_ok (m : (ℓ : Loc Cert.KernelIdeal.nD Cert.KernelIdeal.τ Cert.KernelIdeal.sig) → Buf (Elt Ideal) ℓ)
    (h : Cert.Pre_KernelIdeal_rois_fit m) : Cert.KernelIdeal.Body.TblOk m :=
  Cert.KernelIdeal.Body.tblOk m fun c => Cert.KernelIdeal.Body.batches_of_fit _ _ (h c)

/-- The kernel over the extended reals equals the reference. -/
theorem equal : Cert.algebraic_KernelIdeal_ReferenceIdeal_pre_rois_fit := fun m g m' g' h ha =>
  ⟨fun c => Cert.KernelIdeal.Body.tailV m (tables_ok m h) c Cert.KernelIdeal.main_v151,
    (θ_run _ _ _).mono (fun _ r => r.1) (Cert.KernelIdeal.Body.run_named m g (tables_ok m h)),
    (θ_run _ _ _).mono (fun _ r c => ⟨(r c).1.trans
      (Cert.Equation.outputs_eq m c (tables_ok m h) (h c) (Idealize.ShloMosaic.StableHlo.launchContents m' c) (ha c).1 (ha c).2), (r c).2⟩)
      (Cert.ReferenceIdeal.Value.run m' g')⟩

theorem claim : Cert.Claim := ⟨Cert.Kernel.Gen.facts, Cert.KernelIdeal.Gen.facts, Cert.ReferenceIdeal.Gen.facts,
  Cert.Pre_batches_exist.Gen.facts, Cert.Pre_rois_fit.Gen.facts,
  fun m ρ h => (θ_run _ _ _).mono (fun _ r => ⟨fun c => (r.1 c).2, r.2⟩) (Cert.Kernel.Body.run_named m ρ (Cert.Kernel.Body.tblOk m h)),
  fun m ρ h => (θ_run _ _ _).mono (fun _ r => ⟨fun c => (r.1 c).2, r.2⟩) (Cert.KernelIdeal.Body.run_named m ρ (Cert.KernelIdeal.Body.tblOk m h)),
  fun m ρ h => (θ_run _ _ _).mono (fun _ r => ⟨fun c => (r.1 c).2, r.2⟩) (Cert.KernelIdeal.Body.run_named m ρ (tables_ok m h)),
  fun m ρ _ => Cert.ReferenceIdeal.Body.frame m ρ,
  fun m ρ _ => Cert.ReferenceIdeal.Body.frame m ρ,
  trivial,
  equal⟩

end Cert.Proof

end
